-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mem_finite [hPre_mem_finite : Cert.Pre_mem_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mem_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_mem_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_mem_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mem_finite [hPre_mem_finite : Cert.Pre_mem_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mem_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_mem_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_mem_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_down_finite [hPre_down_finite : Cert.Pre_down_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_down_finite [hPre_down_finite : Cert.Pre_down_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gate_up_finite [hPre_gate_up_finite : Cert.Pre_gate_up_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gate_up_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_gate_up_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_gate_up_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_gate_up_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_gate_up_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gate_up_finite [hPre_gate_up_finite : Cert.Pre_gate_up_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gate_up_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_gate_up_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_gate_up_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_gate_up_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_gate_up_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_out_finite [hPre_out_finite : Cert.Pre_out_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_out_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).1 = (fun _ => 1#1)
    ∧ (Cert.Pre_out_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.1 = (fun _ => 1#1)
    ∧ (Cert.Pre_out_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2.1 = (fun _ => 1#1)
    ∧ (Cert.Pre_out_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_out_finite [hPre_out_finite : Cert.Pre_out_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_out_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).1 = (fun _ => 1#1)
    ∧ (Cert.Pre_out_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.1 = (fun _ => 1#1)
    ∧ (Cert.Pre_out_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2.1 = (fun _ => 1#1)
    ∧ (Cert.Pre_out_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))).2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_in_finite [hPre_in_finite : Cert.Pre_in_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_in_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_in_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_in_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_in_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_in_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_in_finite [hPre_in_finite : Cert.Pre_in_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_in_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_in_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_in_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_in_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_in_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_kv_finite [hPre_kv_finite : Cert.Pre_kv_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_kv_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_kv_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_kv_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_kv_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.1 = (fun _ => 1#1)
    ∧ (Cert.Pre_kv_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_kv_finite [hPre_kv_finite : Cert.Pre_kv_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_kv_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_kv_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_kv_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_kv_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.1 = (fun _ => 1#1)
    ∧ (Cert.Pre_kv_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_mem_fwd_finite [hPre_mem_fwd_finite : Cert.Pre_mem_fwd_finite.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_mem_fwd_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).1 = (fun _ => 1#1)
    ∧ (Cert.Pre_mem_fwd_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_mem_fwd_finite [hPre_mem_fwd_finite : Cert.Pre_mem_fwd_finite.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_mem_fwd_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).1 = (fun _ => 1#1)
    ∧ (Cert.Pre_mem_fwd_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_dmn_finite [hPre_dmn_finite : Cert.Pre_dmn_finite.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_dmn_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).1 = (fun _ => 1#1)
    ∧ (Cert.Pre_dmn_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.1 = (fun _ => 1#1)
    ∧ (Cert.Pre_dmn_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.2.1 = (fun _ => 1#1)
    ∧ (Cert.Pre_dmn_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.2.2.1 = (fun _ => 1#1)
    ∧ (Cert.Pre_dmn_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.2.2.2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_dmn_finite [hPre_dmn_finite : Cert.Pre_dmn_finite.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_dmn_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))).1 = (fun _ => 1#1)
    ∧ (Cert.Pre_dmn_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))).2.1 = (fun _ => 1#1)
    ∧ (Cert.Pre_dmn_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))).2.2.1 = (fun _ => 1#1)
    ∧ (Cert.Pre_dmn_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))).2.2.2.1 = (fun _ => 1#1)
    ∧ (Cert.Pre_dmn_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4))).2.2.2.2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mem_finite [hKernelIdeal : Cert.KernelIdeal.Facts] [hPre_mem_finite : Cert.Pre_mem_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mem_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mem_finite [hReferenceIdeal : Cert.ReferenceIdeal.Facts] [hPre_mem_finite : Cert.Pre_mem_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mem_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_down_finite [hKernel2Ideal : Cert.Kernel2Ideal.Facts] [hPre_down_finite : Cert.Pre_down_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_down_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_down_finite [hReference2Ideal : Cert.Reference2Ideal.Facts] [hPre_down_finite : Cert.Pre_down_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_down_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_gate_up_finite [hKernel3Ideal : Cert.Kernel3Ideal.Facts] [hPre_gate_up_finite : Cert.Pre_gate_up_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gate_up_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_gate_up_finite [hReference3Ideal : Cert.Reference3Ideal.Facts] [hPre_gate_up_finite : Cert.Pre_gate_up_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gate_up_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_out_finite [hKernel10Ideal : Cert.Kernel10Ideal.Facts] [hPre_out_finite : Cert.Pre_out_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_out_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_out_finite [hReference10Ideal : Cert.Reference10Ideal.Facts] [hPre_out_finite : Cert.Pre_out_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_out_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_in_finite [hKernel11Ideal : Cert.Kernel11Ideal.Facts] [hPre_in_finite : Cert.Pre_in_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_in_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_in_finite [hReference11Ideal : Cert.Reference11Ideal.Facts] [hPre_in_finite : Cert.Pre_in_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_in_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_kv_finite [hKernel15Ideal : Cert.Kernel15Ideal.Facts] [hPre_kv_finite : Cert.Pre_kv_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_kv_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_kv_finite [hReference15Ideal : Cert.Reference15Ideal.Facts] [hPre_kv_finite : Cert.Pre_kv_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_kv_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_mem_fwd_finite [hKernel20Ideal : Cert.Kernel20Ideal.Facts] [hPre_mem_fwd_finite : Cert.Pre_mem_fwd_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_mem_fwd_finite m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_mem_fwd_finite [hReference20Ideal : Cert.Reference20Ideal.Facts] [hPre_mem_fwd_finite : Cert.Pre_mem_fwd_finite.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_mem_fwd_finite m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Kernel21Ideal_pre_dmn_finite [hKernel21Ideal : Cert.Kernel21Ideal.Facts] [hPre_dmn_finite : Cert.Pre_dmn_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_dmn_finite m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Reference21Ideal_pre_dmn_finite [hReference21Ideal : Cert.Reference21Ideal.Facts] [hPre_dmn_finite : Cert.Pre_dmn_finite.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_dmn_finite m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15))
      ∧ r.2.sem = fun _ => 0)

def preserves_Kernel_KernelIdeal : Prop :=
  True

def algebraic_KernelIdeal_ReferenceIdeal_pre_mem_finite [hKernelIdeal : Cert.KernelIdeal.Facts] [hReferenceIdeal : Cert.ReferenceIdeal.Facts] [hPre_mem_finite : Cert.Pre_mem_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mem_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_down_finite [hKernel2Ideal : Cert.Kernel2Ideal.Facts] [hReference2Ideal : Cert.Reference2Ideal.Facts] [hPre_down_finite : Cert.Pre_down_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_down_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_gate_up_finite [hKernel3Ideal : Cert.Kernel3Ideal.Facts] [hReference3Ideal : Cert.Reference3Ideal.Facts] [hPre_gate_up_finite : Cert.Pre_gate_up_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gate_up_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_out_finite [hKernel10Ideal : Cert.Kernel10Ideal.Facts] [hReference10Ideal : Cert.Reference10Ideal.Facts] [hPre_out_finite : Cert.Pre_out_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_out_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v20) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_in_finite [hKernel11Ideal : Cert.Kernel11Ideal.Facts] [hReference11Ideal : Cert.Reference11Ideal.Facts] [hPre_in_finite : Cert.Pre_in_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_in_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v31) = v1 c
          ∧ r.2.mem ((c.tc : Thread Cert.Reference13Ideal.nD Cert.Reference13Ideal.τ).loc Cert.Reference13Ideal.main_v35) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_kv_finite [hKernel15Ideal : Cert.Kernel15Ideal.Facts] [hReference15Ideal : Cert.Reference15Ideal.Facts] [hPre_kv_finite : Cert.Pre_kv_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_kv_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v39) = v0 c
          ∧ r.2.mem ((c.tc : Thread Cert.Reference15Ideal.nD Cert.Reference15Ideal.τ).loc Cert.Reference15Ideal.main_v22) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v19_0)) (v1 : (c : Dev Cert.Kernel16Ideal.nD) → Buf (Elt Ideal) ((c.tc : Thread Cert.Kernel16Ideal.nD Cert.Kernel16Ideal.τ).loc Cert.Kernel16Ideal.main_v19_1)) (v2 : (c : Dev Cert.Kernel16Ideal.nD) → Buf (Elt Ideal) ((c.tc : Thread Cert.Kernel16Ideal.nD Cert.Kernel16Ideal.τ).loc Cert.Kernel16Ideal.main_v19_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v19_0) = v0 c
          ∧ r.2.mem ((c.tc : Thread Cert.Kernel16Ideal.nD Cert.Kernel16Ideal.τ).loc Cert.Kernel16Ideal.main_v19_1) = v1 c
          ∧ r.2.mem ((c.tc : Thread Cert.Kernel16Ideal.nD Cert.Kernel16Ideal.τ).loc Cert.Kernel16Ideal.main_v19_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_v47) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v19_0)) (v1 : (c : Dev Cert.Kernel17Ideal.nD) → Buf (Elt Ideal) ((c.tc : Thread Cert.Kernel17Ideal.nD Cert.Kernel17Ideal.τ).loc Cert.Kernel17Ideal.main_v19_1)) (v2 : (c : Dev Cert.Kernel17Ideal.nD) → Buf (Elt Ideal) ((c.tc : Thread Cert.Kernel17Ideal.nD Cert.Kernel17Ideal.τ).loc Cert.Kernel17Ideal.main_v19_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v19_0) = v0 c
          ∧ r.2.mem ((c.tc : Thread Cert.Kernel17Ideal.nD Cert.Kernel17Ideal.τ).loc Cert.Kernel17Ideal.main_v19_1) = v1 c
          ∧ r.2.mem ((c.tc : Thread Cert.Kernel17Ideal.nD Cert.Kernel17Ideal.τ).loc Cert.Kernel17Ideal.main_v19_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_v47) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_pre_mem_fwd_finite [hKernel20Ideal : Cert.Kernel20Ideal.Facts] [hReference20Ideal : Cert.Reference20Ideal.Facts] [hPre_mem_fwd_finite : Cert.Pre_mem_fwd_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_mem_fwd_finite m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v30) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal_pre_dmn_finite [hKernel21Ideal : Cert.Kernel21Ideal.Facts] [hReference21Ideal : Cert.Reference21Ideal.Facts] [hPre_dmn_finite : Cert.Pre_dmn_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_dmn_finite m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v38) = v0 c
          ∧ r.2.mem ((c.tc : Thread Cert.Reference21Ideal.nD Cert.Reference21Ideal.τ).loc Cert.Reference21Ideal.main_v21) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)) (v4 : (c : Dev Cert.Kernel22Ideal.nD) → Buf (Elt Ideal) ((c.tc : Thread Cert.Kernel22Ideal.nD Cert.Kernel22Ideal.τ).loc Cert.Kernel22Ideal.main_v0_4)) (v5 : (c : Dev Cert.Kernel22Ideal.nD) → Buf (Elt Ideal) ((c.tc : Thread Cert.Kernel22Ideal.nD Cert.Kernel22Ideal.τ).loc Cert.Kernel22Ideal.main_v0_5)) (v6 : (c : Dev Cert.Kernel22Ideal.nD) → Buf (Elt Ideal) ((c.tc : Thread Cert.Kernel22Ideal.nD Cert.Kernel22Ideal.τ).loc Cert.Kernel22Ideal.main_v0_6)) (v7 : (c : Dev Cert.Kernel22Ideal.nD) → Buf (Elt Ideal) ((c.tc : Thread Cert.Kernel22Ideal.nD Cert.Kernel22Ideal.τ).loc Cert.Kernel22Ideal.main_v0_7)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_v0_4) = v4 c
          ∧ r.2.mem ((c.tc : Thread Cert.Kernel22Ideal.nD Cert.Kernel22Ideal.τ).loc Cert.Kernel22Ideal.main_v0_5) = v5 c
          ∧ r.2.mem ((c.tc : Thread Cert.Kernel22Ideal.nD Cert.Kernel22Ideal.τ).loc Cert.Kernel22Ideal.main_v0_6) = v6 c
          ∧ r.2.mem ((c.tc : Thread Cert.Kernel22Ideal.nD Cert.Kernel22Ideal.τ).loc Cert.Kernel22Ideal.main_v0_7) = v7 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v37) = v1 c
          ∧ r.2.mem ((c.tc : Thread Cert.Reference22Ideal.nD Cert.Reference22Ideal.τ).loc Cert.Reference22Ideal.main_v40) = v2 c
          ∧ r.2.mem ((c.tc : Thread Cert.Reference22Ideal.nD Cert.Reference22Ideal.τ).loc Cert.Reference22Ideal.main_v43) = v3 c
          ∧ r.2.mem ((c.tc : Thread Cert.Reference22Ideal.nD Cert.Reference22Ideal.τ).loc Cert.Reference22Ideal.main_v78) = v4 c
          ∧ r.2.mem ((c.tc : Thread Cert.Reference22Ideal.nD Cert.Reference22Ideal.τ).loc Cert.Reference22Ideal.main_v81) = v5 c
          ∧ r.2.mem ((c.tc : Thread Cert.Reference22Ideal.nD Cert.Reference22Ideal.τ).loc Cert.Reference22Ideal.main_v84) = v6 c
          ∧ r.2.mem ((c.tc : Thread Cert.Reference22Ideal.nD Cert.Reference22Ideal.τ).loc Cert.Reference22Ideal.main_v87) = v7 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_mem_finite : Cert.Pre_mem_finite.Facts) (hPre_down_finite : Cert.Pre_down_finite.Facts) (hPre_gate_up_finite : Cert.Pre_gate_up_finite.Facts) (hPre_out_finite : Cert.Pre_out_finite.Facts) (hPre_in_finite : Cert.Pre_in_finite.Facts) (hPre_kv_finite : Cert.Pre_kv_finite.Facts) (hPre_mem_fwd_finite : Cert.Pre_mem_fwd_finite.Facts) (hPre_dmn_finite : Cert.Pre_dmn_finite.Facts),
    quiescent_Kernel (hKernel := hKernel)
    ∧ quiescent_KernelIdeal (hKernelIdeal := hKernelIdeal)
    ∧ quiescent_KernelIdeal_pre_mem_finite (hKernelIdeal := hKernelIdeal) (hPre_mem_finite := hPre_mem_finite)
    ∧ quiescent_ReferenceIdeal (hReferenceIdeal := hReferenceIdeal)
    ∧ quiescent_ReferenceIdeal_pre_mem_finite (hReferenceIdeal := hReferenceIdeal) (hPre_mem_finite := hPre_mem_finite)
    ∧ quiescent_Kernel2 (hKernel2 := hKernel2)
    ∧ quiescent_Kernel2Ideal (hKernel2Ideal := hKernel2Ideal)
    ∧ quiescent_Kernel2Ideal_pre_down_finite (hKernel2Ideal := hKernel2Ideal) (hPre_down_finite := hPre_down_finite)
    ∧ quiescent_Reference2Ideal (hReference2Ideal := hReference2Ideal)
    ∧ quiescent_Reference2Ideal_pre_down_finite (hReference2Ideal := hReference2Ideal) (hPre_down_finite := hPre_down_finite)
    ∧ quiescent_Kernel3 (hKernel3 := hKernel3)
    ∧ quiescent_Kernel3Ideal (hKernel3Ideal := hKernel3Ideal)
    ∧ quiescent_Kernel3Ideal_pre_gate_up_finite (hKernel3Ideal := hKernel3Ideal) (hPre_gate_up_finite := hPre_gate_up_finite)
    ∧ quiescent_Reference3Ideal (hReference3Ideal := hReference3Ideal)
    ∧ quiescent_Reference3Ideal_pre_gate_up_finite (hReference3Ideal := hReference3Ideal) (hPre_gate_up_finite := hPre_gate_up_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_out_finite (hKernel10Ideal := hKernel10Ideal) (hPre_out_finite := hPre_out_finite)
    ∧ quiescent_Reference10Ideal (hReference10Ideal := hReference10Ideal)
    ∧ quiescent_Reference10Ideal_pre_out_finite (hReference10Ideal := hReference10Ideal) (hPre_out_finite := hPre_out_finite)
    ∧ quiescent_Kernel11 (hKernel11 := hKernel11)
    ∧ quiescent_Kernel11Ideal (hKernel11Ideal := hKernel11Ideal)
    ∧ quiescent_Kernel11Ideal_pre_in_finite (hKernel11Ideal := hKernel11Ideal) (hPre_in_finite := hPre_in_finite)
    ∧ quiescent_Reference11Ideal (hReference11Ideal := hReference11Ideal)
    ∧ quiescent_Reference11Ideal_pre_in_finite (hReference11Ideal := hReference11Ideal) (hPre_in_finite := hPre_in_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_kv_finite (hKernel15Ideal := hKernel15Ideal) (hPre_kv_finite := hPre_kv_finite)
    ∧ quiescent_Reference15Ideal (hReference15Ideal := hReference15Ideal)
    ∧ quiescent_Reference15Ideal_pre_kv_finite (hReference15Ideal := hReference15Ideal) (hPre_kv_finite := hPre_kv_finite)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_mem_fwd_finite (hKernel20Ideal := hKernel20Ideal) (hPre_mem_fwd_finite := hPre_mem_fwd_finite)
    ∧ quiescent_Reference20Ideal (hReference20Ideal := hReference20Ideal)
    ∧ quiescent_Reference20Ideal_pre_mem_fwd_finite (hReference20Ideal := hReference20Ideal) (hPre_mem_fwd_finite := hPre_mem_fwd_finite)
    ∧ quiescent_Kernel21 (hKernel21 := hKernel21)
    ∧ quiescent_Kernel21Ideal (hKernel21Ideal := hKernel21Ideal)
    ∧ quiescent_Kernel21Ideal_pre_dmn_finite (hKernel21Ideal := hKernel21Ideal) (hPre_dmn_finite := hPre_dmn_finite)
    ∧ quiescent_Reference21Ideal (hReference21Ideal := hReference21Ideal)
    ∧ quiescent_Reference21Ideal_pre_dmn_finite (hReference21Ideal := hReference21Ideal) (hPre_dmn_finite := hPre_dmn_finite)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_mem_finite (hKernelIdeal := hKernelIdeal) (hReferenceIdeal := hReferenceIdeal) (hPre_mem_finite := hPre_mem_finite)
    ∧ preserves_Kernel2_Kernel2Ideal
    ∧ algebraic_Kernel2Ideal_Reference2Ideal_pre_down_finite (hKernel2Ideal := hKernel2Ideal) (hReference2Ideal := hReference2Ideal) (hPre_down_finite := hPre_down_finite)
    ∧ preserves_Kernel3_Kernel3Ideal
    ∧ algebraic_Kernel3Ideal_Reference3Ideal_pre_gate_up_finite (hKernel3Ideal := hKernel3Ideal) (hReference3Ideal := hReference3Ideal) (hPre_gate_up_finite := hPre_gate_up_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_out_finite (hKernel10Ideal := hKernel10Ideal) (hReference10Ideal := hReference10Ideal) (hPre_out_finite := hPre_out_finite)
    ∧ preserves_Kernel11_Kernel11Ideal
    ∧ algebraic_Kernel11Ideal_Reference11Ideal_pre_in_finite (hKernel11Ideal := hKernel11Ideal) (hReference11Ideal := hReference11Ideal) (hPre_in_finite := hPre_in_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_kv_finite (hKernel15Ideal := hKernel15Ideal) (hReference15Ideal := hReference15Ideal) (hPre_kv_finite := hPre_kv_finite)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_mem_fwd_finite (hKernel20Ideal := hKernel20Ideal) (hReference20Ideal := hReference20Ideal) (hPre_mem_fwd_finite := hPre_mem_fwd_finite)
    ∧ preserves_Kernel21_Kernel21Ideal
    ∧ algebraic_Kernel21Ideal_Reference21Ideal_pre_dmn_finite (hKernel21Ideal := hKernel21Ideal) (hReference21Ideal := hReference21Ideal) (hPre_dmn_finite := hPre_dmn_finite)
    ∧ preserves_Kernel22_Kernel22Ideal
    ∧ algebraic_Kernel22Ideal_Reference22Ideal (hKernel22Ideal := hKernel22Ideal) (hReference22Ideal := hReference22Ideal)
-- ==== Pre_dmn_finite.lean ====
abbrev S512x512 : Shape := ⟨2, ![512, 512]⟩
abbrev S1024x512 : Shape := ⟨2, ![1024, 512]⟩
abbrev S512x1024 : Shape := ⟨2, ![512, 1024]⟩
abbrev S1x1024 : Shape := ⟨2, ![1, 1024]⟩
abbrev S_ : Shape := ⟨0, ![]⟩

class Facts : Prop where
  bitsLt_bf16_f32 : FTy.bits .bf16 < FTy.bits .f32
  bcast_S_S512x512 : S_.BroadcastsInDim S512x512 (![] : Fin 0 → Fin S512x512.rank)
  bcast_S_S1024x512 : S_.BroadcastsInDim S1024x512 (![] : Fin 0 → Fin S1024x512.rank)
  bcast_S_S512x1024 : S_.BroadcastsInDim S512x1024 (![] : Fin 0 → Fin S512x1024.rank)
  bcast_S_S1x1024 : S_.BroadcastsInDim S1x1024 (![] : Fin 0 → Fin S1x1024.rank)

variable [Facts]

def fn {F : FTy → Type} [FloatOps F] (main_arg0 : FVec F S512x512 .bf16) (main_arg1 : FVec F S1024x512 .bf16) (main_arg2 : FVec F S512x1024 .f32) (main_arg3 : FVec F S1x1024 .f32) (main_arg4 : FVec F S512x1024 .f32) : IVec S512x512 1 × IVec S1024x512 1 × IVec S512x1024 1 × IVec S1x1024 1 × IVec S512x1024 1 :=
  let main_v0 : FVec F S512x512 .f32 := (extf .f32 · bitsLt_bf16_f32) main_arg0
  let main_v1 : FVec F S512x512 .f32 := Host.absf main_v0
  let main_cst : FVec F S_ .f32 := constant S_ .f32 0x7F800000#32
  let main_v2 : FVec F S512x512 .f32 := broadcastInDim S512x512 ![] bcast_S_S512x512 main_cst
  let main_v3 : IVec S512x512 1 := cmpf .olt main_v1 main_v2
  let main_v4 : FVec F S1024x512 .f32 := (extf .f32 · bitsLt_bf16_f32) main_arg1
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_v8 : FVec F S512x1024 .f32 := Host.absf main_arg2
  let main_cst_1 : FVec F S_ .f32 := constant S_ .f32 0x7F800000#32
  let main_v9 : FVec F S512x1024 .f32 := broadcastInDim S512x1024 ![] bcast_S_S512x1024 main_cst_1
  let main_v10 : IVec S512x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S512x1024 .f32 := Host.absf main_arg4
  let main_cst_3 : FVec F S_ .f32 := constant S_ .f32 0x7F800000#32
  let main_v15 : FVec F S512x1024 .f32 := broadcastInDim S512x1024 ![] bcast_S_S512x1024 main_cst_3
  let main_v16 : IVec S512x1024 1 := cmpf .olt main_v14 main_v15
  (main_v3, main_v7, main_v10, main_v13, main_v16)
-- ==== Pre_down_finite.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4096x2816 .bf16) (main_arg1 : FVec F S4096x2816 .bf16) (main_arg2 : FVec F S2816x1024 .bf16) (main_arg3 : FVec F S1x1024 .f32) (main_arg4 : FVec F S4096x1024 .f32) : IVec S4096x2816 1 × IVec S4096x2816 1 × IVec S2816x1024 1 × IVec S1x1024 1 × IVec S4096x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S1x1024 .f32 := Host.absf main_arg3
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_v15 : FVec F S4096x1024 .f32 := Host.absf main_arg4
  let main_cst_3 : FVec F S_ .f32 := constant S_ .f32 0x7F800000#32
  let main_v16 : FVec F S4096x1024 .f32 := broadcastInDim S4096x1024 ![] bcast_S_S4096x1024 main_cst_3
  let main_v17 : IVec S4096x1024 1 := cmpf .olt main_v15 main_v16
  (main_v3, main_v7, main_v11, main_v14, main_v17)
-- ==== Pre_gate_up_finite.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .bf16) (main_arg1 : FVec F S5632x1024 .bf16) (main_arg2 : FVec F S4096x1024 .f32) (main_arg3 : FVec F S1x1024 .f32) (main_arg4 : FVec F S4096x1024 .f32) : IVec S4096x5632 1 × IVec S5632x1024 1 × IVec S4096x1024 1 × IVec S1x1024 1 × IVec S4096x1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S5632x1024 .f32 := (extf .f32 · bitsLt_bf16_f32) main_arg1
  let main_v5 : FVec F S5632x1024 .f32 := Host.absf main_v4
  let main_cst_0 : FVec F S_ .f32 := constant S_ .f32 0x7F800000#32
  let main_v6 : FVec F S5632x1024 .f32 := broadcastInDim S5632x1024 ![] bcast_S_S5632x1024 main_cst_0
  let main_v7 : IVec S5632x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_in_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S4096x1024 .bf16) (main_arg1 : FVec F S1024x1024 .bf16) (main_arg2 : FVec F S4096x1024 .f32) (main_arg3 : FVec F S1x1024 .f32) (main_arg4 : FVec F S4096x1024 .f32) : IVec S4096x1024 1 × IVec S1024x1024 1 × IVec S4096x1024 1 × IVec S1x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_kv_finite.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  bcast_S_S1536x1024 : S_.BroadcastsInDim S1536x1024 (![] : Fin 0 → Fin S1536x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1536 .bf16) (main_arg1 : FVec F S1536x1024 .bf16) (main_arg2 : FVec F S4096x1024 .f32) (main_arg3 : FVec F S1x1024 .f32) (main_arg4 : FVec F S4096x1024 .f32) : IVec S4096x1536 1 × IVec S1536x1024 1 × IVec S4096x1024 1 × IVec S1x1024 1 × IVec S4096x1024 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_v4 : FVec F S1536x1024 .f32 := (extf .f32 · bitsLt_bf16_f32) main_arg1
  let main_v5 : FVec F S1536x1024 .f32 := Host.absf main_v4
  let main_cst_0 : FVec F S_ .f32 := constant S_ .f32 0x7F800000#32
  let main_v6 : FVec F S1536x1024 .f32 := broadcastInDim S1536x1024 ![] bcast_S_S1536x1024 main_cst_0
  let main_v7 : IVec S1536x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_mem_finite.lean ====
abbrev S4096x1024 : Shape := ⟨2, ![4096, 1024]⟩
abbrev S512x512 : Shape := ⟨2, ![512, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S512x512 : S_.BroadcastsInDim S512x512 (![] : Fin 0 → Fin S512x512.rank)

variable [Facts]

def fn {F : FTy → Type} [FloatOps F] (main_arg0 : FVec F S4096x1024 .bf16) (main_arg1 : FVec F S512x512 .bf16) (main_arg2 : FVec F S4096x1024 .bf16) (main_arg3 : FVec F S4096x1024 .bf16) : IVec S4096x1024 1 × IVec S512x512 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S512x512 .f32 := (extf .f32 · bitsLt_bf16_f32) main_arg1
  let main_v5 : FVec F S512x512 .f32 := Host.absf main_v4
  let main_cst_0 : FVec F S_ .f32 := constant S_ .f32 0x7F800000#32
  let main_v6 : FVec F S512x512 .f32 := broadcastInDim S512x512 ![] bcast_S_S512x512 main_cst_0
  let main_v7 : IVec S512x512 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  (main_v3, main_v7, main_v11)
-- ==== Pre_mem_fwd_finite.lean ====
abbrev S4096x1024 : Shape := ⟨2, ![4096, 1024]⟩
abbrev S512x512 : Shape := ⟨2, ![512, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S512x512 : S_.BroadcastsInDim S512x512 (![] : Fin 0 → Fin S512x512.rank)

variable [Facts]

def fn {F : FTy → Type} [FloatOps F] (main_arg0 : FVec F S4096x1024 .bf16) (main_arg1 : FVec F S512x512 .bf16) (main_arg2 : FVec F S4096x1024 .bf16) : IVec S4096x1024 1 × IVec S512x512 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S512x512 .f32 := (extf .f32 · bitsLt_bf16_f32) main_arg1
  let main_v5 : FVec F S512x512 .f32 := Host.absf main_v4
  let main_cst_0 : FVec F S_ .f32 := constant S_ .f32 0x7F800000#32
  let main_v6 : FVec F S512x512 .f32 := broadcastInDim S512x512 ![] bcast_S_S512x512 main_cst_0
  let main_v7 : IVec S512x512 1 := cmpf .olt main_v5 main_v6
  (main_v3, main_v7)
-- ==== Pre_out_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S4096x1024 .bf16) (main_arg1 : FVec F S1024x1024 .bf16) (main_arg2 : FVec F S1x1024 .f32) (main_arg3 : FVec F S4096x1024 .f32) : IVec S4096x1024 1 × IVec S1024x1024 1 × IVec S1x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x1024 .f32 := Host.absf main_arg2
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  (main_v3, main_v7, main_v10, main_v13)
-- ==== Kernel.lean ====
abbrev S4096x1024 : Shape := ⟨2, ![4096, 1024]⟩
abbrev S512x512 : Shape := ⟨2, ![512, 512]⟩
abbrev S2048x256 : Shape := ⟨2, ![2048, 256]⟩
abbrev S256x512 : Shape := ⟨2, ![256, 512]⟩
abbrev S1x128 : Shape := ⟨2, ![1, 128]⟩
abbrev S2048x128 : Shape := ⟨2, ![2048, 128]⟩
abbrev S256x128 : Shape := ⟨2, ![256, 128]⟩
abbrev S2048 : Shape := ⟨1, ![2048]⟩
abbrev S2048x1 : Shape := ⟨2, ![2048, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S512x512, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S512x512, .f32⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S256x512, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x512, .f32⟩
  | .local _ .vmem, ⟨9, _⟩ => ⟨S256x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x1024 : Shape := ⟨2, ![4096, 1024]⟩
abbrev S512x512 : Shape := ⟨2, ![512, 512]⟩
abbrev S4096x256 : Shape := ⟨2, ![4096, 256]⟩
abbrev S2x2048x256 : Shape := ⟨3, ![2, 2048, 256]⟩
abbrev S2x256x512 : Shape := ⟨3, ![2, 256, 512]⟩
abbrev S2x2048x4x64 : Shape := ⟨4, ![2, 2048, 4, 64]⟩
abbrev S2x256x256 : Shape := ⟨3, ![2, 256, 256]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S2x4x64x256 : Shape := ⟨4, ![2, 4, 64, 256]⟩
abbrev S2x4x256x64 : Shape := ⟨4, ![2, 4, 256, 64]⟩
abbrev S2x4x2048x64 : Shape := ⟨4, ![2, 4, 2048, 64]⟩
abbrev S4096x768 : Shape := ⟨2, ![4096, 768]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x512, .bf16⟩
  | .hbm, ⟨2, _⟩ => ⟨S4096x1024, .bf16⟩
  | .hbm, ⟨3, _⟩ => ⟨S4096x1024, .bf16⟩
  | .hbm, ⟨4, _⟩ => ⟨S4096x256, .bf16⟩
  | .hbm, ⟨5, _⟩ => ⟨S4096x256, .f32⟩
  | .hbm, ⟨6, _⟩ => ⟨S2x2048x256, .f32⟩
  | .hbm, ⟨7, _⟩ => ⟨S512x512, .f32⟩
  | .hbm, ⟨8, _⟩ => ⟨S2x256x512, .f32⟩
  | .hbm, ⟨9, _⟩ => ⟨S4096x256, .bf16⟩
  | .hbm, ⟨10, _⟩ => ⟨S4096x256, .f32⟩
  | .hbm, ⟨11, _⟩ => ⟨S2x2048x256, .f32⟩
  | .hbm, ⟨12, _⟩ => ⟨S2x2048x4x64, .f32⟩
  | .hbm, ⟨13, _⟩ => ⟨S2x256x256, .f32⟩
  | .hbm, ⟨14, _⟩ => ⟨S2x256x4x64, .f32⟩
  | .hbm, ⟨15, _⟩ => ⟨S2x256x256, .f32⟩
  | .hbm, ⟨16, _⟩ => ⟨S2x256x4x64, .f32⟩
  | .hbm, ⟨17, _⟩ => ⟨S2x4x2048x256, .f32⟩
  | .hbm, ⟨18, _⟩ => ⟨S_, .f32⟩
  | .hbm, ⟨19, _⟩ => ⟨S2x4x2048x256, .f32⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x256, .f32⟩
  | .hbm, ⟨25, _⟩ => ⟨S2x4x2048x256, .i1⟩
  | .hbm, ⟨26, _⟩ => ⟨S2x4x2048x256, .f32⟩
  | .hbm, ⟨27, _⟩ => ⟨S_, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S2x4x2048, .i1⟩
  | .hbm, ⟨35, _⟩ => ⟨S_, .f32⟩
  | .hbm, ⟨36, _⟩ => ⟨S2x4x2048, .f32⟩
  | .hbm, ⟨37, _⟩ => ⟨S2x4x2048, .i1⟩
  | .hbm, ⟨38, _⟩ => ⟨S_, .f32⟩
  | .hbm, ⟨39, _⟩ => ⟨S2x4x2048, .f32⟩
  | .hbm, ⟨40, _⟩ => ⟨S_, .f32⟩
  | .hbm, ⟨41, _⟩ => ⟨S2x4x2048, .f32⟩
  | .hbm, ⟨42, _⟩ => ⟨S_, .f32⟩
  | .hbm, ⟨43, _⟩ => ⟨S2x4x2048, .f32⟩
  | .hbm, ⟨44, _⟩ => ⟨S2x4x2048, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x256, .f32⟩
  | .hbm, ⟨50, _⟩ => ⟨S_, .f32⟩
  | .hbm, ⟨51, _⟩ => ⟨S2x4x2048, .f32⟩
  | .hbm, ⟨52, _⟩ => ⟨S2x4x2048x1, .f32⟩
  | .hbm, ⟨53, _⟩ => ⟨S2x4x2048x256, .f32⟩
  | .hbm, ⟨54, _⟩ => ⟨S2x4x2048x256, .f32⟩
  | .hbm, ⟨55, _⟩ => ⟨S2x4x2048x1, .f32⟩
  | .hbm, ⟨56, _⟩ => ⟨S_, .f32⟩
  | .hbm, ⟨57, _⟩ => ⟨S2x4x2048x1, .f32⟩
  | .hbm, ⟨58, _⟩ => ⟨S2x4x2048x1, .f32⟩
  | .hbm, ⟨59, _⟩ => ⟨S2x4x64x2048, .f32⟩
  | .hbm, ⟨60, _⟩ => ⟨S2x2048x4x64, .f32⟩
  | .hbm, ⟨61, _⟩ => ⟨S2x2048x256, .f32⟩
  | .hbm, ⟨62, _⟩ => ⟨S2x2048x4x64, .f32⟩
  | .hbm, ⟨63, _⟩ => ⟨S2x4x64x2048, .f32⟩
  | .hbm, ⟨64, _⟩ => ⟨S2x4x2048x256, .f32⟩
  | .hbm, ⟨65, _⟩ => ⟨S2x4x64x256, .f32⟩
  | .hbm, ⟨66, _⟩ => ⟨S2x256x4x64, .f32⟩
  | .hbm, ⟨67, _⟩ => ⟨S2x4x2048x256, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x1, .f32⟩
  | .hbm, ⟨73, _⟩ => ⟨S2x4x2048x1, .f32⟩
  | .hbm, ⟨74, _⟩ => ⟨S2x4x2048x256, .f32⟩
  | .hbm, ⟨75, _⟩ => ⟨S2x4x2048x256, .f32⟩
  | .hbm, ⟨76, _⟩ => ⟨S_, .f32⟩
  | .hbm, ⟨77, _⟩ => ⟨S2x4x2048, .f32⟩
  | .hbm, ⟨78, _⟩ => ⟨S2x4x2048x256, .f32⟩
  | .hbm, ⟨79, _⟩ => ⟨S2x4x2048x256, .f32⟩
  | .hbm, ⟨80, _⟩ => ⟨S2x4x2048x256, .f32⟩
  | .hbm, ⟨81, _⟩ => ⟨S_, .f32⟩
  | .hbm, ⟨82, _⟩ => ⟨S2x4x2048x256, .f32⟩
  | .hbm, ⟨83, _⟩ => ⟨S2x4x2048x256, .f32⟩
  | .hbm, ⟨84, _⟩ => ⟨S2x4x256x64, .f32⟩
  | .hbm, ⟨85, _⟩ => ⟨S2x256x4x64, .f32⟩
  | .hbm, ⟨86, _⟩ => ⟨S2x4x2048x64, .f32⟩
  | .hbm, ⟨87, _⟩ => ⟨S2x2048x4x64, .f32⟩
  | .hbm, ⟨88, _⟩ => ⟨S2x256x256, .f32⟩
  | .hbm, ⟨89, _⟩ => ⟨S_, .f32⟩
  | .hbm, ⟨90, _⟩ => ⟨S2x256x512, .f32⟩
  | .hbm, ⟨91, _⟩ => ⟨S2x256x256, .f32⟩
  | .hbm, ⟨92, _⟩ => ⟨S_, .f32⟩
  | .hbm, ⟨93, _⟩ => ⟨S2x256x512, .f32⟩
  | .hbm, ⟨94, _⟩ => ⟨S2x256x512, .f32⟩
  | .hbm, ⟨95, _⟩ => ⟨S2x2048x256, .f32⟩
  | .hbm, ⟨96, _⟩ => ⟨S4096x256, .f32⟩
  | .hbm, ⟨97, _⟩ => ⟨S4096x256, .bf16⟩
  | .hbm, ⟨98, _⟩ => ⟨S4096x768, .bf16⟩
  | .hbm, ⟨99, _⟩ => ⟨S4096x1024, .bf16⟩
  | .hbm, ⟨100, _⟩ => ⟨S512x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S4096x5632 : Shape := ⟨2, ![4096, 5632]⟩
abbrev S512x1024 : Shape := ⟨2, ![512, 1024]⟩
abbrev S512x2816 : Shape := ⟨2, ![512, 2816]⟩
abbrev S512x5632 : Shape := ⟨2, ![512, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S256x2816 : Shape := ⟨2, ![256, 2816]⟩

abbrev nBuf : Space → Nat
  | .hbm => 23
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S2816x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S4096x5632, .bf16⟩
  | .hbm, ⟨22, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S2816x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x1024, .bf16⟩
  | .local _ .vmem, ⟨11, _⟩ => ⟨S512x1024, .bf16⟩
  | .local _ .vmem, ⟨12, _⟩ => ⟨S512x5632, .bf16⟩
  | .local _ .vmem, ⟨13, _⟩ => ⟨S512x5632, .bf16⟩
  | .local _ .vmem, ⟨14, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S1x1024, .f32⟩
  | .hbm, ⟨4, _⟩ => ⟨S4096x1024, .f32⟩
  | .hbm, ⟨5, _⟩ => ⟨S4096x5632, .bf16⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S_, .f32⟩
  | .hbm, ⟨71, _⟩ => ⟨S4096x5632, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S_, .f32⟩
  | .hbm, ⟨77, _⟩ => ⟨S4096x5632, .f32⟩
  | .hbm, ⟨78, _⟩ => ⟨S4096x5632, .f32⟩
  | .hbm, ⟨79, _⟩ => ⟨S4096x1024, .bf16⟩
  | .hbm, ⟨80, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== Kernel3.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S5632x1024, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S5632x1024 : Shape := ⟨2, ![5632, 1024]⟩
abbrev S4096x2816 : Shape := ⟨2, ![4096, 2816]⟩
abbrev S2048x1024 : Shape := ⟨2, ![2048, 1024]⟩
abbrev S256x1024 : Shape := ⟨2, ![256, 1024]⟩
abbrev S2048x256 : Shape := ⟨2, ![2048, 256]⟩
abbrev S2048 : Shape := ⟨1, ![2048]⟩
abbrev S2048x1 : Shape := ⟨2, ![2048, 1]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .hbm, ⟨6, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x1024, .bf16⟩
  | .local _ .vmem, ⟨14, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S4096x1024 : Shape := ⟨2, ![4096, 1024]⟩
abbrev S1x1024 : Shape := ⟨2, ![1, 1024]⟩
abbrev S5632x1024 : Shape := ⟨2, ![5632, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S5632x1024, .f32⟩
  | .hbm, ⟨19, _⟩ => ⟨S1024x5632, .f32⟩
  | .hbm, ⟨20, _⟩ => ⟨S4096x5632, .f32⟩
  | .hbm, ⟨21, _⟩ => ⟨S4096x2816, .f32⟩
  | .hbm, ⟨22, _⟩ => ⟨S4096x2816, .bf16⟩
  | .hbm, ⟨23, _⟩ => ⟨S4096x2816, .f32⟩
  | .hbm, ⟨24, _⟩ => ⟨S4096x2816, .bf16⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S4096x1024, .f32⟩
  | .hbm, ⟨20, _⟩ => ⟨S4096x1024, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S8x128 : Shape := ⟨2, ![8, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S_, .f32⟩
  | .hbm, ⟨52, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel14.lean ====
abbrev S4096x1536 : Shape := ⟨2, ![4096, 1536]⟩
abbrev S4096x1024 : Shape := ⟨2, ![4096, 1024]⟩
abbrev S1536x1024 : Shape := ⟨2, ![1536, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S512x1536 : Shape := ⟨2, ![512, 1536]⟩
abbrev S512x1024 : Shape := ⟨2, ![512, 1024]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1536x1024, .f32⟩
  | .hbm, ⟨6, _⟩ => ⟨S1024x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1536, .f32⟩
  | .hbm, ⟨27, _⟩ => ⟨S4096x1536, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel16.lean ====
abbrev S4096x1024 : Shape := ⟨2, ![4096, 1024]⟩
abbrev S1x1024 : Shape := ⟨2, ![1, 1024]⟩
abbrev S1024x1024 : Shape := ⟨2, ![1024, 1024]⟩
abbrev S2x2048 : Shape := ⟨2, ![2, 2048]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S4096x32 : Shape := ⟨2, ![4096, 32]⟩
abbrev S4096x128 : Shape := ⟨2, ![4096, 128]⟩
abbrev S4096x768 : Shape := ⟨2, ![4096, 768]⟩
abbrev S512x1024 : Shape := ⟨2, ![512, 1024]⟩
abbrev S512x128 : Shape := ⟨2, ![512, 128]⟩
abbrev S512x768 : Shape := ⟨2, ![512, 768]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x768 : Shape := ⟨2, ![256, 768]⟩
abbrev S1x768 : Shape := ⟨2, ![1, 768]⟩

abbrev nBuf : Space → Nat
  | .hbm => 28
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S2x2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2x2048, .f32⟩
  | .hbm, ⟨13, _⟩ => ⟨S2x2048x1, .f32⟩
  | .hbm, ⟨14, _⟩ => ⟨S1x1x32, .f32⟩
  | .hbm, ⟨15, _⟩ => ⟨S2x2048x32, .f32⟩
  | .hbm, ⟨16, _⟩ => ⟨S2x2048x32, .f32⟩
  | .hbm, ⟨17, _⟩ => ⟨S2x2048x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x128, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S4096x1024, .bf16⟩
  | .hbm, ⟨26, _⟩ => ⟨S4096x1024, .bf16⟩
  | .hbm, ⟨27, _⟩ => ⟨S4096x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x768, .f32⟩
  | .local _ .vmem, ⟨13, _⟩ => ⟨S512x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4096x1024 : Shape := ⟨2, ![4096, 1024]⟩
abbrev S1x1024 : Shape := ⟨2, ![1, 1024]⟩
abbrev S1024x1024 : Shape := ⟨2, ![1024, 1024]⟩
abbrev S2x2048 : Shape := ⟨2, ![2, 2048]⟩
abbrev S_ : Shape := ⟨0, ![]⟩
abbrev S4096 : Shape := ⟨1, ![4096]⟩
abbrev S4096x1 : Shape := ⟨2, ![4096, 1]⟩
abbrev S4096x768 : Shape := ⟨2, ![4096, 768]⟩
abbrev S2x2048x12x64 : Shape := ⟨4, ![2, 2048, 12, 64]⟩
abbrev S32 : Shape := ⟨1, ![32]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x12x32 : Shape := ⟨4, ![2, 2048, 12, 32]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S2x2048, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S4096x1024, .f32⟩
  | .hbm, ⟨21, _⟩ => ⟨S4096x1024, .bf16⟩
  | .hbm, ⟨22, _⟩ => ⟨S4096x1024, .bf16⟩
  | .hbm, ⟨23, _⟩ => ⟨S4096x768, .f32⟩
  | .hbm, ⟨24, _⟩ => ⟨S2x2048x12x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2x2048, .f32⟩
  | .hbm, ⟨34, _⟩ => ⟨S2x2048x1, .f32⟩
  | .hbm, ⟨35, _⟩ => ⟨S1x1x32, .f32⟩
  | .hbm, ⟨36, _⟩ => ⟨S2x2048x32, .f32⟩
  | .hbm, ⟨37, _⟩ => ⟨S2x2048x32, .f32⟩
  | .hbm, ⟨38, _⟩ => ⟨S2x2048x32, .f32⟩
  | .hbm, ⟨39, _⟩ => ⟨S2x2048x32, .f32⟩
  | .hbm, ⟨40, _⟩ => ⟨S2x2048x1x32, .f32⟩
  | .hbm, ⟨41, _⟩ => ⟨S2x2048x32, .f32⟩
  | .hbm, ⟨42, _⟩ => ⟨S2x2048x1x32, .f32⟩
  | .hbm, ⟨43, _⟩ => ⟨S2x2048x12x32, .f32⟩
  | .hbm, ⟨44, _⟩ => ⟨S2x2048x12x32, .f32⟩
  | .hbm, ⟨45, _⟩ => ⟨S2x2048x12x32, .f32⟩
  | .hbm, ⟨46, _⟩ => ⟨S2x2048x12x32, .f32⟩
  | .hbm, ⟨47, _⟩ => ⟨S2x2048x12x32, .f32⟩
  | .hbm, ⟨48, _⟩ => ⟨S2x2048x12x32, .f32⟩
  | .hbm, ⟨49, _⟩ => ⟨S2x2048x12x32, .f32⟩
  | .hbm, ⟨50, _⟩ => ⟨S2x2048x12x32, .f32⟩
  | .hbm, ⟨51, _⟩ => ⟨S2x2048x12x32, .f32⟩
  | .hbm, ⟨52, _⟩ => ⟨S2x2048x12x32, .f32⟩
  | .hbm, ⟨53, _⟩ => ⟨S2x2048x12x32, .f32⟩
  | .hbm, ⟨54, _⟩ => ⟨S2x2048x12x32, .f32⟩
  | .hbm, ⟨55, _⟩ => ⟨S2x2048x12x64, .f32⟩
  | .hbm, ⟨56, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S1536x1024 : Shape := ⟨2, ![1536, 1024]⟩
abbrev S2x2048 : Shape := ⟨2, ![2, 2048]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S4096x32 : Shape := ⟨2, ![4096, 32]⟩
abbrev S4096x128 : Shape := ⟨2, ![4096, 128]⟩
abbrev S4096x1536 : Shape := ⟨2, ![4096, 1536]⟩
abbrev S4096x768 : Shape := ⟨2, ![4096, 768]⟩
abbrev S512x1024 : Shape := ⟨2, ![512, 1024]⟩
abbrev S512x128 : Shape := ⟨2, ![512, 128]⟩
abbrev S512x1536 : Shape := ⟨2, ![512, 1536]⟩
abbrev S512x768 : Shape := ⟨2, ![512, 768]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S256x768 : Shape := ⟨2, ![256, 768]⟩
abbrev S1x768 : Shape := ⟨2, ![1, 768]⟩

abbrev nBuf : Space → Nat
  | .hbm => 28
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1536x1024, .bf16⟩
  | .hbm, ⟨3, _⟩ => ⟨S2x2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2x2048, .f32⟩
  | .hbm, ⟨13, _⟩ => ⟨S2x2048x1, .f32⟩
  | .hbm, ⟨14, _⟩ => ⟨S1x1x32, .f32⟩
  | .hbm, ⟨15, _⟩ => ⟨S2x2048x32, .f32⟩
  | .hbm, ⟨16, _⟩ => ⟨S2x2048x32, .f32⟩
  | .hbm, ⟨17, _⟩ => ⟨S2x2048x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x128, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S4096x1536, .f32⟩
  | .hbm, ⟨26, _⟩ => ⟨S4096x1024, .bf16⟩
  | .hbm, ⟨27, _⟩ => ⟨S4096x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1536, .f32⟩
  | .local _ .vmem, ⟨9, _⟩ => ⟨S512x1536, .f32⟩
  | .local _ .vmem, ⟨10, _⟩ => ⟨S512x1024, .bf16⟩
  | .local _ .vmem, ⟨11, _⟩ => ⟨S512x1024, .bf16⟩
  | .local _ .vmem, ⟨12, _⟩ => ⟨S512x768, .f32⟩
  | .local _ .vmem, ⟨13, _⟩ => ⟨S512x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S4096x1024 : Shape := ⟨2, ![4096, 1024]⟩
abbrev S1x1024 : Shape := ⟨2, ![1, 1024]⟩
abbrev S1536x1024 : Shape := ⟨2, ![1536, 1024]⟩
abbrev S2x2048 : Shape := ⟨2, ![2, 2048]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S4096x768 : Shape := ⟨2, ![4096, 768]⟩
abbrev S2x2048x12x64 : Shape := ⟨4, ![2, 2048, 12, 64]⟩
abbrev S32 : Shape := ⟨1, ![32]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x1x32 : Shape := ⟨4, ![2, 2048, 1, 32]⟩
abbrev S2x2048x12x32 : Shape := ⟨4, ![2, 2048, 12, 32]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1536x1024, .bf16⟩
  | .hbm, ⟨3, _⟩ => ⟨S2x2048, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1536x1024, .f32⟩
  | .hbm, ⟨20, _⟩ => ⟨S1024x1536, .f32⟩
  | .hbm, ⟨21, _⟩ => ⟨S4096x1536, .f32⟩
  | .hbm, ⟨22, _⟩ => ⟨S4096x1024, .bf16⟩
  | .hbm, ⟨23, _⟩ => ⟨S4096x768, .f32⟩
  | .hbm, ⟨24, _⟩ => ⟨S2x2048x12x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2x2048, .f32⟩
  | .hbm, ⟨34, _⟩ => ⟨S2x2048x1, .f32⟩
  | .hbm, ⟨35, _⟩ => ⟨S1x1x32, .f32⟩
  | .hbm, ⟨36, _⟩ => ⟨S2x2048x32, .f32⟩
  | .hbm, ⟨37, _⟩ => ⟨S2x2048x32, .f32⟩
  | .hbm, ⟨38, _⟩ => ⟨S2x2048x32, .f32⟩
  | .hbm, ⟨39, _⟩ => ⟨S2x2048x32, .f32⟩
  | .hbm, ⟨40, _⟩ => ⟨S2x2048x1x32, .f32⟩
  | .hbm, ⟨41, _⟩ => ⟨S2x2048x32, .f32⟩
  | .hbm, ⟨42, _⟩ => ⟨S2x2048x1x32, .f32⟩
  | .hbm, ⟨43, _⟩ => ⟨S2x2048x12x32, .f32⟩
  | .hbm, ⟨44, _⟩ => ⟨S2x2048x12x32, .f32⟩
  | .hbm, ⟨45, _⟩ => ⟨S2x2048x12x32, .f32⟩
  | .hbm, ⟨46, _⟩ => ⟨S2x2048x12x32, .f32⟩
  | .hbm, ⟨47, _⟩ => ⟨S2x2048x12x32, .f32⟩
  | .hbm, ⟨48, _⟩ => ⟨S2x2048x12x32, .f32⟩
  | .hbm, ⟨49, _⟩ => ⟨S2x2048x12x32, .f32⟩
  | .hbm, ⟨50, _⟩ => ⟨S2x2048x12x32, .f32⟩
  | .hbm, ⟨51, _⟩ => ⟨S2x2048x12x32, .f32⟩
  | .hbm, ⟨52, _⟩ => ⟨S2x2048x12x32, .f32⟩
  | .hbm, ⟨53, _⟩ => ⟨S2x2048x12x32, .f32⟩
  | .hbm, ⟨54, _⟩ => ⟨S2x2048x12x32, .f32⟩
  | .hbm, ⟨55, _⟩ => ⟨S2x2048x12x64, .f32⟩
  | .hbm, ⟨56, _⟩ => ⟨S4096x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel18.lean ====
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x512, .bf16⟩
  | .hbm, ⟨3, _⟩ => ⟨S512x512, .bf16⟩
  | .hbm, ⟨4, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1024x512, .bf16⟩
  | .local _ .vmem, ⟨3, _⟩ => ⟨S512x512, .bf16⟩
  | .local _ .vmem, ⟨4, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference18Ideal.lean ====
abbrev S512x1024 : Shape := ⟨2, ![512, 1024]⟩
abbrev S1x1024 : Shape := ⟨2, ![1, 1024]⟩
abbrev S1024x512 : Shape := ⟨2, ![1024, 512]⟩
abbrev S_ : Shape := ⟨0, ![]⟩
abbrev S512 : Shape := ⟨1, ![512]⟩
abbrev S512x1 : Shape := ⟨2, ![512, 1]⟩
abbrev S512x512 : Shape := ⟨2, ![512, 512]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x512, .bf16⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x512, .f32⟩
  | .hbm, ⟨19, _⟩ => ⟨S512x512, .f32⟩
  | .hbm, ⟨20, _⟩ => ⟨S512x512, .bf16⟩
  | .hbm, ⟨21, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel19.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S512x512, .bf16⟩
  | .hbm, ⟨2, _⟩ => ⟨S1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S512x1024 : Shape := ⟨2, ![512, 1024]⟩
abbrev S512x512 : Shape := ⟨2, ![512, 512]⟩
abbrev S_ : Shape := ⟨0, ![]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x512, .bf16⟩
  | .hbm, ⟨2, _⟩ => ⟨S_, .f32⟩
  | .hbm, ⟨3, _⟩ => ⟨S1024x512, .f32⟩
  | .hbm, ⟨4, _⟩ => ⟨S512x1024, .f32⟩
  | .hbm, ⟨5, _⟩ => ⟨S512x512, .f32⟩
  | .hbm, ⟨6, _⟩ => ⟨S512x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x1024 : Shape := ⟨2, ![4096, 1024]⟩
abbrev S512x512 : Shape := ⟨2, ![512, 512]⟩
abbrev S2048x256 : Shape := ⟨2, ![2048, 256]⟩
abbrev S256x512 : Shape := ⟨2, ![256, 512]⟩
abbrev S1x128 : Shape := ⟨2, ![1, 128]⟩
abbrev S2048x128 : Shape := ⟨2, ![2048, 128]⟩
abbrev S256x128 : Shape := ⟨2, ![256, 128]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S512x512, .bf16⟩
  | .hbm, ⟨2, _⟩ => ⟨S4096x1024, .bf16⟩
  | .hbm, ⟨3, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S256x512, .bf16⟩
  | .local _ .vmem, ⟨4, _⟩ => ⟨S2048x256, .bf16⟩
  | .local _ .vmem, ⟨5, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x1024 : Shape := ⟨2, ![4096, 1024]⟩
abbrev S512x512 : Shape := ⟨2, ![512, 512]⟩
abbrev S4096x256 : Shape := ⟨2, ![4096, 256]⟩
abbrev S2x2048x256 : Shape := ⟨3, ![2, 2048, 256]⟩
abbrev S2x256x512 : Shape := ⟨3, ![2, 256, 512]⟩
abbrev S2x2048x4x64 : Shape := ⟨4, ![2, 2048, 4, 64]⟩
abbrev S2x256x256 : Shape := ⟨3, ![2, 256, 256]⟩
abbrev S2x256x4x64 : Shape := ⟨4, ![2, 256, 4, 64]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x64x2048 : Shape := ⟨4, ![2, 4, 64, 2048]⟩
abbrev S4096x768 : Shape := ⟨2, ![4096, 768]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x512, .bf16⟩
  | .hbm, ⟨2, _⟩ => ⟨S4096x1024, .bf16⟩
  | .hbm, ⟨3, _⟩ => ⟨S4096x256, .bf16⟩
  | .hbm, ⟨4, _⟩ => ⟨S4096x256, .f32⟩
  | .hbm, ⟨5, _⟩ => ⟨S2x2048x256, .f32⟩
  | .hbm, ⟨6, _⟩ => ⟨S512x512, .f32⟩
  | .hbm, ⟨7, _⟩ => ⟨S2x256x512, .f32⟩
  | .hbm, ⟨8, _⟩ => ⟨S2x2048x4x64, .f32⟩
  | .hbm, ⟨9, _⟩ => ⟨S2x256x256, .f32⟩
  | .hbm, ⟨10, _⟩ => ⟨S2x256x4x64, .f32⟩
  | .hbm, ⟨11, _⟩ => ⟨S2x256x256, .f32⟩
  | .hbm, ⟨12, _⟩ => ⟨S2x256x4x64, .f32⟩
  | .hbm, ⟨13, _⟩ => ⟨S2x4x2048x256, .f32⟩
  | .hbm, ⟨14, _⟩ => ⟨S_, .f32⟩
  | .hbm, ⟨15, _⟩ => ⟨S2x4x2048x256, .f32⟩
  | .hbm, ⟨16, _⟩ => ⟨S2x4x2048x256, .f32⟩
  | .hbm, ⟨17, _⟩ => ⟨S_, .f32⟩
  | .hbm, ⟨18, _⟩ => ⟨S2x4x2048, .f32⟩
  | .hbm, ⟨19, _⟩ => ⟨S_, .f32⟩
  | .hbm, ⟨20, _⟩ => ⟨S2x4x2048, .f32⟩
  | .hbm, ⟨21, _⟩ => ⟨S2x4x2048, .f32⟩
  | .hbm, ⟨22, _⟩ => ⟨S2x4x2048x1, .f32⟩
  | .hbm, ⟨23, _⟩ => ⟨S2x4x2048x256, .f32⟩
  | .hbm, ⟨24, _⟩ => ⟨S2x4x2048x256, .f32⟩
  | .hbm, ⟨25, _⟩ => ⟨S2x4x2048x256, .f32⟩
  | .hbm, ⟨26, _⟩ => ⟨S_, .f32⟩
  | .hbm, ⟨27, _⟩ => ⟨S2x4x2048, .f32⟩
  | .hbm, ⟨28, _⟩ => ⟨S2x4x2048x1, .f32⟩
  | .hbm, ⟨29, _⟩ => ⟨S2x4x2048x256, .f32⟩
  | .hbm, ⟨30, _⟩ => ⟨S2x4x2048x256, .f32⟩
  | .hbm, ⟨31, _⟩ => ⟨S2x4x64x2048, .f32⟩
  | .hbm, ⟨32, _⟩ => ⟨S2x2048x4x64, .f32⟩
  | .hbm, ⟨33, _⟩ => ⟨S2x2048x256, .f32⟩
  | .hbm, ⟨34, _⟩ => ⟨S4096x768, .bf16⟩
  | .hbm, ⟨35, _⟩ => ⟨S4096x256, .f32⟩
  | .hbm, ⟨36, _⟩ => ⟨S4096x256, .bf16⟩
  | .hbm, ⟨37, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel21.lean ====
abbrev S512x512 : Shape := ⟨2, ![512, 512]⟩
abbrev S1024x512 : Shape := ⟨2, ![1024, 512]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .bf16⟩
  | .hbm, ⟨1, _⟩ => ⟨S1024x512, .bf16⟩
  | .hbm, ⟨2, _⟩ => ⟨S512x1024, .f32⟩
  | .hbm, ⟨3, _⟩ => ⟨S1x1024, .f32⟩
  | .hbm, ⟨4, _⟩ => ⟨S512x1024, .f32⟩
  | .hbm, ⟨5, _⟩ => ⟨S512x1024, .f32⟩
  | .hbm, ⟨6, _⟩ => ⟨S1x1024, .f32⟩
  | .local _ .vmem, ⟨0, _⟩ => ⟨S512x512, .bf16⟩
  | .local _ .vmem, ⟨1, _⟩ => ⟨S1024x512, .bf16⟩
  | .local _ .vmem, ⟨2, _⟩ => ⟨S512x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S512x512 : Shape := ⟨2, ![512, 512]⟩
abbrev S1024x512 : Shape := ⟨2, ![1024, 512]⟩
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S1024x512, .bf16⟩
  | .hbm, ⟨2, _⟩ => ⟨S512x1024, .f32⟩
  | .hbm, ⟨3, _⟩ => ⟨S1x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S1024x512, .f32⟩
  | .hbm, ⟨25, _⟩ => ⟨S512x512, .f32⟩
  | .hbm, ⟨26, _⟩ => ⟨S512x512, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512, .f32⟩
  | .hbm, ⟨37, _⟩ => ⟨S512x1, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S512, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S512x1024, .f32⟩
  | .hbm, ⟨51, _⟩ => ⟨S512x1024, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel22.lean ====
abbrev S8x704x1024 : Shape := ⟨3, ![8, 704, 1024]⟩
abbrev S4x704x1024 : Shape := ⟨3, ![4, 704, 1024]⟩
abbrev S8x352x1024 : Shape := ⟨3, ![8, 352, 1024]⟩
abbrev S4x352x1024 : Shape := ⟨3, ![4, 352, 1024]⟩
abbrev S8x64x1024 : Shape := ⟨3, ![8, 64, 1024]⟩
abbrev S1x64x1024 : Shape := ⟨3, ![1, 64, 1024]⟩
abbrev S8x32x1024 : Shape := ⟨3, ![8, 32, 1024]⟩
abbrev S1x32x1024 : Shape := ⟨3, ![1, 32, 1024]⟩
abbrev S64x1024 : Shape := ⟨2, ![64, 1024]⟩
abbrev S32x1024 : Shape := ⟨2, ![32, 1024]⟩

abbrev nBuf : Space → Nat
  | .hbm => 24
  | .vmem => 32
  | .smem => 0
  | _ => 0

abbrev bufTy : (tb : Table) → Fin (tcTables nBuf tb) → BufTy
  | .hbm, ⟨0, _⟩ => ⟨S8x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S8x352x1024, .bf16⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S4x352x1024, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S4x704x1024, .f32⟩
  | .hbm, ⟨20, _⟩ => ⟨S4x352x1024, .f32⟩
  | .hbm, ⟨21, _⟩ => ⟨S4x352x1024, .f32⟩
  | .hbm, ⟨22, _⟩ => ⟨S4x352x1024, .f32⟩
  | .hbm, ⟨23, _⟩ => ⟨S4x352x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S8x32x1024, .bf16⟩
  | .local _ .vmem, ⟨9, _⟩ => ⟨S8x32x1024, .bf16⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x32x1024, .f32⟩
  | .local _ .vmem, ⟨25, _⟩ => ⟨S1x32x1024, .f32⟩
  | .local _ .vmem, ⟨26, _⟩ => ⟨S1x32x1024, .f32⟩
  | .local _ .vmem, ⟨27, _⟩ => ⟨S1x32x1024, .f32⟩
  | .local _ .vmem, ⟨28, _⟩ => ⟨S1x32x1024, .f32⟩
  | .local _ .vmem, ⟨29, _⟩ => ⟨S1x32x1024, .f32⟩
  | .local _ .vmem, ⟨30, _⟩ => ⟨S1x32x1024, .f32⟩
  | .local _ .vmem, ⟨31, _⟩ => ⟨S1x32x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c11_i32 : BitVec 32 := 11#32
  let v0 : BitVec 1 := Scalar.cmpi .slt arg0 c11_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c11_i32_0 : BitVec 32 := 11#32
  let v3 : BitVec 1 := Scalar.cmpi .slt arg0 c11_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_17 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_18 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_19 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_20 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_21 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_22 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_23 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference22Ideal.lean ====
abbrev S8x704x1024 : Shape := ⟨3, ![8, 704, 1024]⟩
abbrev S4x704x1024 : Shape := ⟨3, ![4, 704, 1024]⟩
abbrev S8x352x1024 : Shape := ⟨3, ![8, 352, 1024]⟩
abbrev S4x352x1024 : Shape := ⟨3, ![4, 352, 1024]⟩
abbrev S_ : Shape := ⟨0, ![]⟩
abbrev S704x1024 : Shape := ⟨2, ![704, 1024]⟩
abbrev S1x704x1024 : Shape := ⟨3, ![1, 704, 1024]⟩
abbrev S3x704x1024 : Shape := ⟨3, ![3, 704, 1024]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S8x352x1024, .bf16⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S4x352x1024, .f32⟩
  | .hbm, ⟨16, _⟩ => ⟨S8x704x1024, .f32⟩
  | .hbm, ⟨17, _⟩ => ⟨S_, .f32⟩
  | .hbm, ⟨18, _⟩ => ⟨S704x1024, .f32⟩
  | .hbm, ⟨19, _⟩ => ⟨S1x704x1024, .f32⟩
  | .hbm, ⟨20, _⟩ => ⟨S704x1024, .f32⟩
  | .hbm, ⟨21, _⟩ => ⟨S1x704x1024, .f32⟩
  | .hbm, ⟨22, _⟩ => ⟨S704x1024, .f32⟩
  | .hbm, ⟨23, _⟩ => ⟨S1x704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | .hbm, ⟨46, _⟩ => ⟨S704x1024, .f32⟩
  | .hbm, ⟨47, _⟩ => ⟨S_, .f32⟩
  | .hbm, ⟨48, _⟩ => ⟨S704x1024, .f32⟩
  | .hbm, ⟨49, _⟩ => ⟨S704x1024, .f32⟩
  | .hbm, ⟨50, _⟩ => ⟨S704x1024, .f32⟩
  | .hbm, ⟨51, _⟩ => ⟨S_, .f32⟩
  | .hbm, ⟨52, _⟩ => ⟨S704x1024, .f32⟩
  | .hbm, ⟨53, _⟩ => ⟨S704x1024, .f32⟩
  | .hbm, ⟨54, _⟩ => ⟨S704x1024, .f32⟩
  | .hbm, ⟨55, _⟩ => ⟨S_, .f32⟩
  | .hbm, ⟨56, _⟩ => ⟨S704x1024, .f32⟩
  | .hbm, ⟨57, _⟩ => ⟨S704x1024, .f32⟩
  | .hbm, ⟨58, _⟩ => ⟨S1x704x1024, .f32⟩
  | .hbm, ⟨59, _⟩ => ⟨S3x704x1024, .f32⟩
  | .hbm, ⟨60, _⟩ => ⟨S4x704x1024, .f32⟩
  | .hbm, ⟨61, _⟩ => ⟨S1x704x1024, .f32⟩
  | .hbm, ⟨62, _⟩ => ⟨S3x704x1024, .f32⟩
  | .hbm, ⟨63, _⟩ => ⟨S4x704x1024, .f32⟩
  | .hbm, ⟨64, _⟩ => ⟨S1x704x1024, .f32⟩
  | .hbm, ⟨65, _⟩ => ⟨S3x704x1024, .f32⟩
  | .hbm, ⟨66, _⟩ => ⟨S4x704x1024, .f32⟩
  | .hbm, ⟨67, _⟩ => ⟨S1x704x1024, .f32⟩
  | .hbm, ⟨68, _⟩ => ⟨S3x704x1024, .f32⟩
  | .hbm, ⟨69, _⟩ => ⟨S4x704x1024, .f32⟩
  | .hbm, ⟨70, _⟩ => ⟨S8x352x1024, .f32⟩
  | .hbm, ⟨71, _⟩ => ⟨S_, .f32⟩
  | .hbm, ⟨72, _⟩ => ⟨S352x1024, .f32⟩
  | .hbm, ⟨73, _⟩ => ⟨S1x352x1024, .f32⟩
  | .hbm, ⟨74, _⟩ => ⟨S352x1024, .f32⟩
  | .hbm, ⟨75, _⟩ => ⟨S1x352x1024, .f32⟩
  | .hbm, ⟨76, _⟩ => ⟨S352x1024, .f32⟩
  | .hbm, ⟨77, _⟩ => ⟨S1x352x1024, .f32⟩
  | .hbm, ⟨78, _⟩ => ⟨S352x1024, .f32⟩
  | .hbm, ⟨79, _⟩ => ⟨S_, .f32⟩
  | .hbm, ⟨80, _⟩ => ⟨S352x1024, .f32⟩
  | .hbm, ⟨81, _⟩ => ⟨S352x1024, .f32⟩
  | .hbm, ⟨82, _⟩ => ⟨S_, .f32⟩
  | .hbm, ⟨83, _⟩ => ⟨S352x1024, .f32⟩
  | .hbm, ⟨84, _⟩ => ⟨S352x1024, .f32⟩
  | .hbm, ⟨85, _⟩ => ⟨S352x1024, .f32⟩
  | .hbm, ⟨86, _⟩ => ⟨S_, .f32⟩
  | .hbm, ⟨87, _⟩ => ⟨S352x1024, .f32⟩
  | .hbm, ⟨88, _⟩ => ⟨S352x1024, .f32⟩
  | .hbm, ⟨89, _⟩ => ⟨S352x1024, .f32⟩
  | .hbm, ⟨90, _⟩ => ⟨S_, .f32⟩
  | .hbm, ⟨91, _⟩ => ⟨S352x1024, .f32⟩
  | .hbm, ⟨92, _⟩ => ⟨S352x1024, .f32⟩
  | .hbm, ⟨93, _⟩ => ⟨S352x1024, .f32⟩
  | .hbm, ⟨94, _⟩ => ⟨S_, .f32⟩
  | .hbm, ⟨95, _⟩ => ⟨S352x1024, .f32⟩
  | .hbm, ⟨96, _⟩ => ⟨S352x1024, .f32⟩
  | .hbm, ⟨97, _⟩ => ⟨S_, .f32⟩
  | .hbm, ⟨98, _⟩ => ⟨S352x1024, .f32⟩
  | .hbm, ⟨99, _⟩ => ⟨S352x1024, .f32⟩
  | .hbm, ⟨100, _⟩ => ⟨S352x1024, .f32⟩
  | .hbm, ⟨101, _⟩ => ⟨S_, .f32⟩
  | .hbm, ⟨102, _⟩ => ⟨S352x1024, .f32⟩
  | .hbm, ⟨103, _⟩ => ⟨S352x1024, .f32⟩
  | .hbm, ⟨104, _⟩ => ⟨S352x1024, .f32⟩
  | .hbm, ⟨105, _⟩ => ⟨S_, .f32⟩
  | .hbm, ⟨106, _⟩ => ⟨S352x1024, .f32⟩
  | .hbm, ⟨107, _⟩ => ⟨S352x1024, .f32⟩
  | .hbm, ⟨108, _⟩ => ⟨S352x1024, .f32⟩
  | .hbm, ⟨109, _⟩ => ⟨S_, .f32⟩
  | .hbm, ⟨110, _⟩ => ⟨S352x1024, .f32⟩
  | .hbm, ⟨111, _⟩ => ⟨S352x1024, .f32⟩
  | .hbm, ⟨112, _⟩ => ⟨S1x352x1024, .f32⟩
  | .hbm, ⟨113, _⟩ => ⟨S3x352x1024, .f32⟩
  | .hbm, ⟨114, _⟩ => ⟨S4x352x1024, .f32⟩
  | .hbm, ⟨115, _⟩ => ⟨S1x352x1024, .f32⟩
  | .hbm, ⟨116, _⟩ => ⟨S3x352x1024, .f32⟩
  | .hbm, ⟨117, _⟩ => ⟨S4x352x1024, .f32⟩
  | .hbm, ⟨118, _⟩ => ⟨S1x352x1024, .f32⟩
  | .hbm, ⟨119, _⟩ => ⟨S3x352x1024, .f32⟩
  | .hbm, ⟨120, _⟩ => ⟨S4x352x1024, .f32⟩
  | .hbm, ⟨121, _⟩ => ⟨S1x352x1024, .f32⟩
  | .hbm, ⟨122, _⟩ => ⟨S3x352x1024, .f32⟩
  | .hbm, ⟨123, _⟩ => ⟨S4x352x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_17 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]
-- ==== Proof.Coe.lean ====
/- Facts about extended reals that are finite numbers, shared by the value proofs: each operation of the ideal instance
   on finite arguments is the real operation, so a whole expression can be written as one real number. -/
module

public import Idealize.ShloMosaic.Lib.Pipeline.ValueKit
public import Idealize.ShloMosaic.Lib.IdealHost

@[expose] public section
noncomputable section
namespace Cert.Coe
open Idealize.ShloMosaic
open scoped BigOperators

/-- A finite sum of real numbers, taken in the extended reals, is the real sum. -/
theorem sum_coe {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The greatest of `n + 1` real numbers. -/
def mx {n : ℕ} (f : Fin (n + 1) → ℝ) : ℝ := Finset.univ.sup' ⟨0, Finset.mem_univ _⟩ f

/-- A maximum folded from `-∞` over real numbers is the greatest of them. -/
theorem fold_max_coe {n : ℕ} (f : Fin (n + 1) → ℝ) :
    Finset.univ.fold max (⊥ : EReal) (fun i => ((f i : ℝ) : EReal)) = ((mx f : ℝ) : EReal) := by
  have h : Finset.univ.fold max (⊥ : EReal) (fun i => ((f i : ℝ) : EReal))
      = Finset.univ.sup (fun i => ((f i : ℝ) : EReal)) := by
    rw [Finset.sup_def]; rfl
  rw [h]
  apply le_antisymm
  · refine Finset.sup_le fun i _ => EReal.coe_le_coe_iff.mpr ?_
    exact Finset.le_sup' f (Finset.mem_univ i)
  · obtain ⟨i, hi, he⟩ := Finset.exists_mem_eq_sup' (s := Finset.univ) ⟨(0 : Fin (n + 1)), Finset.mem_univ _⟩ f
    unfold mx
    rw [he]
    exact Finset.le_sup (f := fun i => ((f i : ℝ) : EReal)) hi

/-- A choice between two real numbers is a real number. -/
theorem ite_coe (p : Prop) [Decidable p] (a b : ℝ) :
    (if p then ((a : ℝ) : EReal) else ((b : ℝ) : EReal)) = ((if p then a else b : ℝ) : EReal) := by
  split <;> rfl

/-- A choice between a real number and zero is a real number. -/
theorem ite_zero_coe (p : Prop) [Decidable p] (a : ℝ) :
    (if p then ((a : ℝ) : EReal) else 0) = ((if p then a else 0 : ℝ) : EReal) := by
  split <;> simp

/-- A choice between zero and a real number is a real number. -/
theorem ite_coe_zero (p : Prop) [Decidable p] (a : ℝ) :
    (if p then 0 else ((a : ℝ) : EReal)) = ((if p then 0 else a : ℝ) : EReal) := by
  split <;> simp

/-- A sum of exponentials over a nonempty range is positive. -/
theorem sum_exp_pos {n : ℕ} (f : Fin (n + 1) → ℝ) : 0 < ∑ i, Real.exp (f i) :=
  Finset.sum_pos (fun i _ => Real.exp_pos _) ⟨0, Finset.mem_univ _⟩

/-- The quotient of two real numbers, the divisor not zero. -/
theorem div_real (a b : ℝ) (h : b ≠ 0) : Ideal.div (a : EReal) (b : EReal) = ((a / b : ℝ) : EReal) := by
  rw [Ideal.div_coe h, ← EReal.coe_mul, mul_one_div]

/-- A quotient by a sum of exponentials. -/
theorem div_sum_exp {n : ℕ} (a : ℝ) (f : Fin (n + 1) → ℝ) :
    Ideal.div (a : EReal) ((∑ i, Real.exp (f i) : ℝ) : EReal) = ((a / ∑ i, Real.exp (f i) : ℝ) : EReal) :=
  div_real _ _ (sum_exp_pos f).ne'

/-- The reciprocal of a sum of exponentials. -/
theorem one_div_sum_exp {n : ℕ} (f : Fin (n + 1) → ℝ) :
    Ideal.div 1 ((∑ i, Real.exp (f i) : ℝ) : EReal) = ((1 / ∑ i, Real.exp (f i) : ℝ) : EReal) := by
  rw [← EReal.coe_one, div_sum_exp]

/-- The reciprocal of the square of a sum of exponentials. -/
theorem one_div_sum_exp_sq {n : ℕ} (f : Fin (n + 1) → ℝ) :
    Ideal.div 1 (((∑ i, Real.exp (f i)) * ∑ i, Real.exp (f i) : ℝ) : EReal)
      = ((1 / ((∑ i, Real.exp (f i)) * ∑ i, Real.exp (f i)) : ℝ) : EReal) := by
  rw [← EReal.coe_one, div_real _ _ (mul_pos (sum_exp_pos f) (sum_exp_pos f)).ne']

/-- The bf16 pattern of one eighth. -/
theorem eighth_bf16 : Ideal.ofBits .bf16 0x3E00#16 = (((1 : ℝ) / 8 : ℝ) : EReal) := by
  simp [Ideal.ofBits, Ideal.ieee, -EReal.coe_mul]; norm_num

/-- The f32 pattern of one eighth. -/
theorem eighth_f32 : Ideal.ofBits .f32 0x3E000000#32 = (((1 : ℝ) / 8 : ℝ) : EReal) := by
  simp [Ideal.ofBits, Ideal.ieee, -EReal.coe_mul]; norm_num

/-- The f32 pattern of minus infinity. -/
theorem bot_f32 : Ideal.ofBits .f32 0xFF800000#32 = ⊥ := by
  simp [Ideal.ofBits, Ideal.ieee]

/-- The f32 pattern of plus infinity. -/
theorem top_f32 : Ideal.ofBits .f32 0x7F800000#32 = ⊤ := by
  simp [Ideal.ofBits, Ideal.ieee]

/-- The signed comparison of a small lane number with 64. -/
theorem slt_64 (n : ℕ) (h : n < 128) :
    IntOp.cmpi CmpIPredicate.slt (BitVec.ofNat 32 n) 64#32 = if n < 64 then 1#1 else 0#1 := by
  interval_cases n <;> rfl

/-- A selection by the comparison of a lane number with 64. -/
theorem select_lt {α : Type} (x : Fin 128) (a b : α) :
    Scalar.select (IntOp.cmpi CmpIPredicate.slt (BitVec.ofNat 32 (x : ℕ)) 64#32) a b = if (x : ℕ) < 64 then a else b := by
  rw [slt_64 _ x.isLt]; unfold Scalar.select; split <;> simp

/-- A selection by the comparison of a number below 128 with 64. -/
theorem select_lt_nat {α : Type} (n : ℕ) (h : n < 128) (a b : α) :
    Scalar.select (IntOp.cmpi CmpIPredicate.slt (BitVec.ofNat 32 n) 64#32) a b = if n < 64 then a else b :=
  select_lt ⟨n, h⟩ a b

/-- A selection by the negated comparison of a lane number with 64. -/
theorem select_ge {α : Type} (x : Fin 128) (a b : α) :
    Scalar.select (IntOp.xori (IntOp.cmpi CmpIPredicate.slt (BitVec.ofNat 32 (x : ℕ)) 64#32) 1#1) a b
      = if (x : ℕ) < 64 then b else a := by
  rw [slt_64 _ x.isLt]; unfold Scalar.select; split <;> simp [IntOp.xori]

/-- A sum over 128 lanes of which the upper half is zero. -/
theorem sum_lo (f : Fin 128 → ℝ) :
    (∑ x : Fin 128, if (x : ℕ) < 64 then f x else 0) = ∑ e : Fin 64, f ⟨e, by omega⟩ := by
  rw [Fin.sum_univ_add (a := 64) (b := 64) (f := fun x : Fin (64 + 64) => if (x : ℕ) < 64 then f x else 0)]
  rw [Finset.sum_eq_zero (f := fun i : Fin 64 => if ((Fin.natAdd 64 i : Fin (64 + 64)) : ℕ) < 64 then f (Fin.natAdd 64 i) else 0),
    add_zero]
  · refine Finset.sum_congr rfl fun x _ => ?_
    rw [if_pos (by simp)]; rfl
  · intro x _; rw [if_neg (by simp)]

/-- A sum over 128 lanes of which the lower half is zero. -/
theorem sum_hi (f : Fin 128 → ℝ) :
    (∑ x : Fin 128, if (x : ℕ) < 64 then 0 else f x) = ∑ e : Fin 64, f ⟨64 + e, by omega⟩ := by
  rw [Fin.sum_univ_add (a := 64) (b := 64) (f := fun x : Fin (64 + 64) => if (x : ℕ) < 64 then 0 else f x)]
  rw [Finset.sum_eq_zero (f := fun i : Fin 64 => if ((Fin.castAdd 64 i : Fin (64 + 64)) : ℕ) < 64 then 0 else f (Fin.castAdd 64 i)),
    zero_add]
  · refine Finset.sum_congr rfl fun x _ => ?_
    rw [if_neg (by simp)]; rfl
  · intro x _; rw [if_pos (by simp)]

/-- An extended real of absolute value below infinity is a real number. -/
theorem real_of_abs_lt (x : EReal) (h : max x (-x) < ⊤) : ∃ r : ℝ, x = (r : EReal) := by
  induction x using EReal.rec with
  | bot => simp at h
  | top => simp at h
  | coe r => exact ⟨r, rfl⟩

/-- A matrix of real numbers, by row and column number. -/
theorem real_mat {a b : ℕ} (x : Fin a → Fin b → EReal) (h : ∀ i j, ∃ r : ℝ, x i j = (r : EReal)) :
    ∃ Z : ℕ → ℕ → ℝ, ∀ i j, x i j = ((Z i j : ℝ) : EReal) := by
  choose f hf using h
  refine ⟨fun i j => if hij : i < a ∧ j < b then f ⟨i, hij.1⟩ ⟨j, hij.2⟩ else 0, fun i j => ?_⟩
  rw [hf i j]
  simp [i.isLt, j.isLt]

/-- A magnitude that compares below `+∞` belongs to a real number. -/
theorem real_of_cmpf {φ : FTy} (x : Ideal φ)
    (h : FloatOps.cmpf (F := Ideal) (φ := φ) .olt (FloatOps.absf (F := Ideal) x) (⊤ : EReal) = 1#1) :
    ∃ r : ℝ, (x : EReal) = (r : EReal) := by
  apply real_of_abs_lt
  by_contra hn
  revert h
  show ¬ (Ideal.cmp .olt (max (x : EReal) (-(x : EReal))) ⊤ = 1#1)
  simp only [Ideal.cmp, hn, decide_false]
  decide

/-- A matrix given on its own indices, read by row and column number. -/
theorem mat_of {R C : ℕ} (f : Fin R → Fin C → EReal) : ∃ Z : ℕ → ℕ → EReal, ∀ (a : Fin R) (b : Fin C), f a b = Z a b :=
  ⟨fun a b => if h : a < R ∧ b < C then f ⟨a, h.1⟩ ⟨b, h.2⟩ else 0, fun a b => by simp [a.isLt, b.isLt]⟩

end Cert.Coe
end
-- ==== Proof.MemSpec.lean ====
/- The gradient of softmax attention over a memory, as real formulas: queries `Q`, keys and values `K` (the values 256
   columns behind the keys), cotangent `Y`, all by row and column number; head `h` is the columns `64 h … 64 h + 63`. -/
module

public import proofs.«01_k».proof.Proof.Coe

@[expose] public section
noncomputable section
namespace Cert.MemSpec
open Cert.Coe
open scoped BigOperators

variable (Q K Y : ℕ → ℕ → ℝ)

/-- The scaled score of query `i` with key `n` in head `h`. -/
def sc (h i n : ℕ) : ℝ := ∑ e : Fin 64, Q i (64 * h + e) * (1 / 8) * K n (64 * h + e)

/-- The numerator of the softmax over the 256 keys. -/
def ex (h i n : ℕ) : ℝ := Real.exp (sc Q K h i n - mx (n := 255) fun k => sc Q K h i k)

/-- The softmax over the 256 keys. -/
def pr (h i n : ℕ) : ℝ := ex Q K h i n * (1 / ∑ k : Fin 256, ex Q K h i k)

/-- The cotangent of the softmax. -/
def dp (h i n : ℕ) : ℝ := ∑ e : Fin 64, Y i (64 * h + e) * K n (256 + (64 * h + e))

/-- The cotangent of the scaled scores. -/
def ds (h i n : ℕ) : ℝ := pr Q K h i n * (dp K Y h i n - ∑ k : Fin 256, dp K Y h i k * pr Q K h i k)

/-- The gradient of the queries, at column `c` of head `c / 64`. -/
def dq (i c : ℕ) : ℝ := (∑ n : Fin 256, ds Q K Y (c / 64) i n * K n c) * (1 / 8)

/-- The gradient of the keys, at column `c`. -/
def dk (n c : ℕ) : ℝ := ∑ i : Fin 2048, ds Q K Y (c / 64) i n * (Q i c * (1 / 8))

/-- The gradient of the values, at column `c`. -/
def dv (n c : ℕ) : ℝ := ∑ i : Fin 2048, pr Q K (c / 64) i n * Y i c

/-- The gradients of the keys and of the values, side by side. -/
def dkv (n c : ℕ) : ℝ := if c < 256 then dk Q K Y n c else dv Q K Y n (c - 256)

end Cert.MemSpec
end
-- ==== Proof.MemPay.lean ====
/- The pieces of the memory-attention backward kernel's body, on blocks of real numbers: each is the real formula of
   `MemSpec` at its head. -/
module

public import proofs.«01_k».proof.Proof.MemSpec
public import proofs.«01_k».proof.Proof.Gen.KernelIdeal.Value

@[expose] public section
set_option maxRecDepth 16384
noncomputable section
namespace Cert.KernelIdeal.Val
open Cert.KernelIdeal Cert.KernelIdeal.Gen Idealize.ShloMosaic Idealize.ShloMosaic.TcCoe Idealize.SL.Sem
open Idealize.ShloMosaic.Pipeline (Dat)
open Cert.Coe Cert.MemSpec
open scoped BigOperators

variable (x0 : Vec Ideal S2048x256 .bf16) (x1 : Vec Ideal S256x512 .bf16) (x2 : Vec Ideal S2048x256 .bf16) (Q K Y : ℕ → ℕ → ℝ)

variable (h0 : ∀ (a : Fin 2048) (b : Fin 256), x0 (ix2 a b) = ((Q a b : ℝ) : EReal))
  (h1 : ∀ (a : Fin 256) (b : Fin 512), x1 (ix2 a b) = ((K a b : ℝ) : EReal))
  (h2 : ∀ (a : Fin 2048) (b : Fin 256), x2 (ix2 a b) = ((Y a b : ℝ) : EReal))

/-- Column arithmetic of the heads 2 and 3. -/
theorem add64_2 (e : ℕ) : 128 + e = 64 * 2 + e := by omega
theorem add64_3 (e : ℕ) : 128 + (64 + e) = 64 * 3 + e := by omega
theorem add64v_2 (e : ℕ) : 384 + e = 256 + (64 * 2 + e) := by omega
theorem add64v_3 (e : ℕ) : 384 + (64 + e) = 256 + (64 * 3 + e) := by omega

include h0 in
/-- The first pair of heads, queries of its first head: scaled, zero elsewhere. -/
theorem q0 (a : Fin 2048) (c : Fin 128) :
    k0_pay10 x0 (ix2 a c) = ((if (c : ℕ) < 64 then Q a c * (1 / 8) else 0 : ℝ) : EReal) := by
  pointwise [k0_pay10, k0_pay6, k0_pay7]
  simp only [h0, select_lt, ← EReal.coe_mul, ← EReal.coe_add, ← EReal.coe_sub, ite_zero_coe, ite_coe_zero, sum_coe, eighth_bf16, eighth_f32]

include h0 in
/-- The first pair of heads, queries of its second head. -/
theorem q1 (a : Fin 2048) (c : Fin 128) :
    k0_pay20 k0_pay6 (k0_pay7 x0) (ix2 a c) = ((if (c : ℕ) < 64 then 0 else Q a c * (1 / 8) : ℝ) : EReal) := by
  pointwise [k0_pay20, k0_pay19, k0_pay6, k0_pay7]
  simp only [h0, select_ge, ← EReal.coe_mul, ← EReal.coe_add, ← EReal.coe_sub, ite_zero_coe, ite_coe_zero, sum_coe, eighth_bf16, eighth_f32]

include h0 in
/-- The second pair of heads, queries of its first head. -/
theorem q2 (a : Fin 2048) (c : Fin 128) :
    k0_pay32 x0 k0_pay6 (ix2 a c) = ((if (c : ℕ) < 64 then Q a (128 + c) * (1 / 8) else 0 : ℝ) : EReal) := by
  pointwise [k0_pay32, k0_pay6, k0_pay29]
  simp only [h0, select_lt, ← EReal.coe_mul, ← EReal.coe_add, ← EReal.coe_sub, ite_zero_coe, ite_coe_zero, sum_coe, eighth_bf16, eighth_f32]

include h0 in
/-- The second pair of heads, queries of its second head. -/
theorem q3 (a : Fin 2048) (c : Fin 128) :
    k0_pay39 k0_pay6 (k0_pay29 x0) (ix2 a c) = ((if (c : ℕ) < 64 then 0 else Q a (128 + c) * (1 / 8) : ℝ) : EReal) := by
  pointwise [k0_pay39, k0_pay38, k0_pay6, k0_pay29]
  simp only [h0, select_ge, ← EReal.coe_mul, ← EReal.coe_add, ← EReal.coe_sub, ite_zero_coe, ite_coe_zero, sum_coe, eighth_bf16, eighth_f32]

include h2 in
/-- The cotangent of head 0, zero elsewhere. -/
theorem y0 (a : Fin 2048) (c : Fin 128) :
    k0_pay12 x2 (ix2 a c) = ((if (c : ℕ) < 64 then Y a c else 0 : ℝ) : EReal) := by
  pointwise [k0_pay12, k0_pay5, k0_pay6]
  simp only [h2, select_lt, ← EReal.coe_mul, ← EReal.coe_add, ← EReal.coe_sub, ite_zero_coe, ite_coe_zero, sum_coe, eighth_bf16, eighth_f32]

include h2 in
/-- The cotangent of head 1. -/
theorem y1 (a : Fin 2048) (c : Fin 128) :
    k0_pay22 (k0_pay5 x2) k0_pay6 (ix2 a c) = ((if (c : ℕ) < 64 then 0 else Y a c : ℝ) : EReal) := by
  pointwise [k0_pay22, k0_pay19, k0_pay5, k0_pay6]
  simp only [h2, select_ge, ← EReal.coe_mul, ← EReal.coe_add, ← EReal.coe_sub, ite_zero_coe, ite_coe_zero, sum_coe, eighth_bf16, eighth_f32]

include h2 in
/-- The cotangent of head 2. -/
theorem y2 (a : Fin 2048) (c : Fin 128) :
    k0_pay34 (k0_pay5 x2) k0_pay6 (ix2 a c) = ((if (c : ℕ) < 64 then Y a (128 + c) else 0 : ℝ) : EReal) := by
  pointwise [k0_pay34, k0_pay5, k0_pay6]
  simp only [h2, select_lt, ← EReal.coe_mul, ← EReal.coe_add, ← EReal.coe_sub, ite_zero_coe, ite_coe_zero, sum_coe, eighth_bf16, eighth_f32]

include h2 in
/-- The cotangent of head 3. -/
theorem y3 (a : Fin 2048) (c : Fin 128) :
    k0_pay41 (k0_pay5 x2) k0_pay6 (ix2 a c) = ((if (c : ℕ) < 64 then 0 else Y a (128 + c) : ℝ) : EReal) := by
  pointwise [k0_pay41, k0_pay38, k0_pay5, k0_pay6]
  simp only [h2, select_ge, ← EReal.coe_mul, ← EReal.coe_add, ← EReal.coe_sub, ite_zero_coe, ite_coe_zero, sum_coe, eighth_bf16, eighth_f32]

include h1 in
/-- The keys of the first pair of heads. -/
theorem k0 (n : Fin 256) (c : Fin 128) :
    k0_pay8 x1 (ix2 n c) = ((K n c : ℝ) : EReal) := by
  pointwise [k0_pay8]
  simp only [h1]

include h1 in
/-- The values of the first pair of heads. -/
theorem v0 (n : Fin 256) (c : Fin 128) :
    k0_pay9 x1 (ix2 n c) = ((K n (256 + c) : ℝ) : EReal) := by
  pointwise [k0_pay9]
  simp only [h1]

include h1 in
/-- The keys of the second pair of heads. -/
theorem k1 (n : Fin 256) (c : Fin 128) :
    k0_pay30 x1 (ix2 n c) = ((K n (128 + c) : ℝ) : EReal) := by
  pointwise [k0_pay30]
  simp only [h1]

include h1 in
/-- The values of the second pair of heads. -/
theorem v1 (n : Fin 256) (c : Fin 128) :
    k0_pay31 x1 (ix2 n c) = ((K n (384 + c) : ℝ) : EReal) := by
  pointwise [k0_pay31]
  simp only [h1]

include h0 h1 in
/-- The softmax of head 0. -/
theorem p0 (a : Fin 2048) (b : Fin 256) :
    k0_pay11 x0 x1 (ix2 a b) = ((pr Q K 0 a b : ℝ) : EReal) := by
  pointwise [k0_pay11]
  simp only [q0 x0 Q h0, k0 x1 K h1, ← EReal.coe_mul, ← EReal.coe_add, ← EReal.coe_sub, ite_zero_coe, ite_coe_zero, sum_coe, eighth_bf16, eighth_f32, ite_mul, zero_mul, sum_lo, bot_f32, fold_max_coe, Ideal.exp_coe, one_div_sum_exp, pr, ex, sc, Nat.mul_zero, Nat.zero_add, Nat.mul_one]

include h1 h2 in
/-- The cotangent of the softmax of head 0. -/
theorem d0 (a : Fin 2048) (b : Fin 256) :
    k0_pay13 x2 x1 (ix2 a b) = ((dp K Y 0 a b : ℝ) : EReal) := by
  pointwise [k0_pay13]
  simp only [y0 x2 Y h2, v0 x1 K h1, ← EReal.coe_mul, ← EReal.coe_add, ← EReal.coe_sub, ite_zero_coe, ite_coe_zero, sum_coe, eighth_bf16, eighth_f32, ite_mul, zero_mul, sum_lo, dp, Nat.mul_zero, Nat.zero_add]

include h0 h1 h2 in
/-- Its sum against the softmax. -/
theorem t0 (a : Fin 2048) :
    k0_pay14 x2 x0 x1 (ix1 a) = ((∑ k : Fin 256, dp K Y 0 a k * pr Q K 0 a k : ℝ) : EReal) := by
  pointwise [k0_pay14]
  simp only [p0 x0 x1 Q K h0 h1, d0 x1 x2 K Y h1 h2, ← EReal.coe_mul, ← EReal.coe_add, ← EReal.coe_sub, ite_zero_coe, ite_coe_zero, sum_coe, eighth_bf16, eighth_f32]

include h0 h1 h2 in
/-- The cotangent of the scores of head 0. -/
theorem s0 (a : Fin 2048) (b : Fin 256) :
    k0_pay15 (k0_pay11 x0 x1) (k0_pay13 x2 x1) (k0_pay14 x2 x0 x1) (ix2 a b) = ((ds Q K Y 0 a b : ℝ) : EReal) := by
  pointwise [k0_pay15]
  simp only [p0 x0 x1 Q K h0 h1, d0 x1 x2 K Y h1 h2, t0 x0 x1 x2 Q K Y h0 h1 h2, ← EReal.coe_mul, ← EReal.coe_add, ← EReal.coe_sub, ite_zero_coe, ite_coe_zero, sum_coe, eighth_bf16, eighth_f32, ds]

include h0 h1 in
/-- The softmax of head 1. -/
theorem p1 (a : Fin 2048) (b : Fin 256) :
    k0_pay21 k0_pay6 (k0_pay7 x0) (k0_pay8 x1) (ix2 a b) = ((pr Q K 1 a b : ℝ) : EReal) := by
  pointwise [k0_pay21]
  simp only [q1 x0 Q h0, k0 x1 K h1, ← EReal.coe_mul, ← EReal.coe_add, ← EReal.coe_sub, ite_zero_coe, ite_coe_zero, sum_coe, eighth_bf16, eighth_f32, ite_mul, zero_mul, sum_hi, bot_f32, fold_max_coe, Ideal.exp_coe, one_div_sum_exp, pr, ex, sc, Nat.mul_zero, Nat.zero_add, Nat.mul_one]

include h0 h1 h2 in
/-- The cotangent of the scores of head 1. -/
theorem s1 (a : Fin 2048) (b : Fin 256) :
    k0_pay23 (k0_pay5 x2) k0_pay6 (k0_pay7 x0) (k0_pay8 x1) (k0_pay9 x1) (ix2 a b) = ((ds Q K Y 1 a b : ℝ) : EReal) := by
  pointwise [k0_pay23]
  simp only [y1 x2 Y h2, v0 x1 K h1, p1 x0 x1 Q K h0 h1, ← EReal.coe_mul, ← EReal.coe_add, ← EReal.coe_sub, ite_zero_coe, ite_coe_zero, sum_coe, eighth_bf16, eighth_f32, ite_mul, zero_mul, sum_hi, ds, dp, Nat.mul_one]

include h0 h1 in
/-- The softmax of head 2. -/
theorem p2 (a : Fin 2048) (b : Fin 256) :
    k0_pay33 x0 x1 k0_pay6 (ix2 a b) = ((pr Q K 2 a b : ℝ) : EReal) := by
  pointwise [k0_pay33]
  simp only [q2 x0 Q h0, k1 x1 K h1, ← EReal.coe_mul, ← EReal.coe_add, ← EReal.coe_sub, ite_zero_coe, ite_coe_zero, sum_coe, eighth_bf16, eighth_f32, ite_mul, zero_mul, sum_lo, bot_f32, fold_max_coe, Ideal.exp_coe, one_div_sum_exp, pr, ex, sc, Nat.mul_zero, Nat.zero_add, Nat.mul_one, add64_2]

include h0 h1 h2 in
/-- The cotangent of the scores of head 2. -/
theorem s2 (a : Fin 2048) (b : Fin 256) :
    k0_pay35 (k0_pay5 x2) x0 x1 k0_pay6 (ix2 a b) = ((ds Q K Y 2 a b : ℝ) : EReal) := by
  pointwise [k0_pay35]
  simp only [y2 x2 Y h2, v1 x1 K h1, p2 x0 x1 Q K h0 h1, ← EReal.coe_mul, ← EReal.coe_add, ← EReal.coe_sub, ite_zero_coe, ite_coe_zero, sum_coe, eighth_bf16, eighth_f32, ite_mul, zero_mul, sum_lo, ds, dp, Nat.mul_one, add64_2, add64v_2]

include h0 h1 in
/-- The softmax of head 3. -/
theorem p3 (a : Fin 2048) (b : Fin 256) :
    k0_pay40 k0_pay6 (k0_pay29 x0) (k0_pay30 x1) (ix2 a b) = ((pr Q K 3 a b : ℝ) : EReal) := by
  pointwise [k0_pay40]
  simp only [q3 x0 Q h0, k1 x1 K h1, ← EReal.coe_mul, ← EReal.coe_add, ← EReal.coe_sub, ite_zero_coe, ite_coe_zero, sum_coe, eighth_bf16, eighth_f32, ite_mul, zero_mul, sum_hi, bot_f32, fold_max_coe, Ideal.exp_coe, one_div_sum_exp, pr, ex, sc, Nat.mul_zero, Nat.zero_add, Nat.mul_one, add64_3]

include h0 h1 h2 in
/-- The cotangent of the scores of head 3. -/
theorem s3 (a : Fin 2048) (b : Fin 256) :
    k0_pay42 (k0_pay5 x2) k0_pay6 (k0_pay29 x0) (k0_pay30 x1) (k0_pay31 x1) (ix2 a b) = ((ds Q K Y 3 a b : ℝ) : EReal) := by
  pointwise [k0_pay42]
  simp only [y3 x2 Y h2, v1 x1 K h1, p3 x0 x1 Q K h0 h1, ← EReal.coe_mul, ← EReal.coe_add, ← EReal.coe_sub, ite_zero_coe, ite_coe_zero, sum_coe, eighth_bf16, eighth_f32, ite_mul, zero_mul, sum_hi, ds, dp, Nat.mul_one, add64_3, add64v_3]

include h0 h1 h2 in
/-- The query gradient of head 0, on its pair's 128 columns. -/
theorem g0 (a : Fin 2048) (c : Fin 128) : k0_pay16 (k0_pay8 x1) (k0_pay11 x0 x1) (k0_pay13 x2 x1) (k0_pay14 x2 x0 x1) (ix2 a c)
    = (((∑ n : Fin 256, ds Q K Y 0 a n * K n c) * (1 / 8) : ℝ) : EReal) := by
  pointwise [k0_pay16]
  simp only [s0 x0 x1 x2 Q K Y h0 h1 h2, k0 x1 K h1, ← EReal.coe_mul, ← EReal.coe_add, ← EReal.coe_sub, ite_zero_coe, ite_coe_zero, sum_coe, eighth_bf16, eighth_f32]

include h0 h1 h2 in
/-- The query gradient of head 1, on its pair's 128 columns. -/
theorem g1 (a : Fin 2048) (c : Fin 128) : k0_pay26 (k0_pay24 (k0_pay5 x2) k0_pay6 (k0_pay7 x0) (k0_pay8 x1) (k0_pay9 x1)) k0_pay25 (ix2 a c)
    = (((∑ n : Fin 256, ds Q K Y 1 a n * K n c) * (1 / 8) : ℝ) : EReal) := by
  pointwise [k0_pay26, k0_pay24, k0_pay25]
  simp only [s1 x0 x1 x2 Q K Y h0 h1 h2, k0 x1 K h1, ← EReal.coe_mul, ← EReal.coe_add, ← EReal.coe_sub, ite_zero_coe, ite_coe_zero, sum_coe, eighth_bf16, eighth_f32]

include h0 h1 h2 in
/-- The query gradient of head 2, on its pair's 128 columns. -/
theorem g2 (a : Fin 2048) (c : Fin 128) : k0_pay36 (k0_pay5 x2) x0 x1 k0_pay6 (ix2 a c)
    = (((∑ n : Fin 256, ds Q K Y 2 a n * K n (128 + c)) * (1 / 8) : ℝ) : EReal) := by
  pointwise [k0_pay36]
  simp only [s2 x0 x1 x2 Q K Y h0 h1 h2, k1 x1 K h1, ← EReal.coe_mul, ← EReal.coe_add, ← EReal.coe_sub, ite_zero_coe, ite_coe_zero, sum_coe, eighth_bf16, eighth_f32]

include h0 h1 h2 in
/-- The query gradient of head 3, on its pair's 128 columns. -/
theorem g3 (a : Fin 2048) (c : Fin 128) : k0_pay43 (k0_pay5 x2) k0_pay6 (k0_pay29 x0) (k0_pay30 x1) (k0_pay31 x1) (ix2 a c)
    = (((∑ n : Fin 256, ds Q K Y 3 a n * K n (128 + c)) * (1 / 8) : ℝ) : EReal) := by
  pointwise [k0_pay43]
  simp only [s3 x0 x1 x2 Q K Y h0 h1 h2, k1 x1 K h1, ← EReal.coe_mul, ← EReal.coe_add, ← EReal.coe_sub, ite_zero_coe, ite_coe_zero, sum_coe, eighth_bf16, eighth_f32]

include h0 h1 h2 in
/-- The key gradient of the heads 0 and 1, on their pair's 128 columns. -/
theorem dk0 (n : Fin 256) (c : Fin 128) : k0_pay27 (k0_pay17 (k0_pay10 x0) (k0_pay11 x0 x1) (k0_pay13 x2 x1) (k0_pay14 x2 x0 x1)) (k0_pay20 k0_pay6 (k0_pay7 x0)) (k0_pay23 (k0_pay5 x2) k0_pay6 (k0_pay7 x0) (k0_pay8 x1) (k0_pay9 x1)) (ix2 n c)
    = (((∑ i : Fin 2048, ds Q K Y 0 i n * (if (c : ℕ) < 64 then Q i c * (1 / 8) else 0))
        + ∑ i : Fin 2048, ds Q K Y 1 i n * (if (c : ℕ) < 64 then 0 else Q i c * (1 / 8)) : ℝ) : EReal) := by
  pointwise [k0_pay27, k0_pay17]
  simp only [s0 x0 x1 x2 Q K Y h0 h1 h2, s1 x0 x1 x2 Q K Y h0 h1 h2, q0 x0 Q h0, q1 x0 Q h0, ← EReal.coe_mul, ← EReal.coe_add, ← EReal.coe_sub, ite_zero_coe, ite_coe_zero, sum_coe, eighth_bf16, eighth_f32]

include h0 h1 h2 in
/-- The value gradient of the heads 0 and 1, on their pair's 128 columns. -/
theorem dv0 (n : Fin 256) (c : Fin 128) : k0_pay28 (k0_pay18 (k0_pay11 x0 x1) (k0_pay12 x2)) (k0_pay21 k0_pay6 (k0_pay7 x0) (k0_pay8 x1)) (k0_pay22 (k0_pay5 x2) k0_pay6) (ix2 n c)
    = (((∑ i : Fin 2048, pr Q K 0 i n * (if (c : ℕ) < 64 then Y i c else 0))
        + ∑ i : Fin 2048, pr Q K 1 i n * (if (c : ℕ) < 64 then 0 else Y i c) : ℝ) : EReal) := by
  pointwise [k0_pay28, k0_pay18]
  simp only [p0 x0 x1 Q K h0 h1, p1 x0 x1 Q K h0 h1, y0 x2 Y h2, y1 x2 Y h2, ← EReal.coe_mul, ← EReal.coe_add, ← EReal.coe_sub, ite_zero_coe, ite_coe_zero, sum_coe, eighth_bf16, eighth_f32]

include h0 h1 h2 in
/-- The key gradient of the heads 2 and 3, on their pair's 128 columns. -/
theorem dk1 (n : Fin 256) (c : Fin 128) : k0_pay44 (k0_pay5 x2) k0_pay6 (k0_pay29 x0) (k0_pay30 x1) (k0_pay31 x1) (k0_pay37 (k0_pay5 x2) x0 x1 k0_pay6) (ix2 n c)
    = (((∑ i : Fin 2048, ds Q K Y 2 i n * (if (c : ℕ) < 64 then Q i (128 + c) * (1 / 8) else 0))
        + ∑ i : Fin 2048, ds Q K Y 3 i n * (if (c : ℕ) < 64 then 0 else Q i (128 + c) * (1 / 8)) : ℝ) : EReal) := by
  pointwise [k0_pay44, k0_pay37]
  simp only [s2 x0 x1 x2 Q K Y h0 h1 h2, s3 x0 x1 x2 Q K Y h0 h1 h2, q2 x0 Q h0, q3 x0 Q h0, ← EReal.coe_mul, ← EReal.coe_add, ← EReal.coe_sub, ite_zero_coe, ite_coe_zero, sum_coe, eighth_bf16, eighth_f32]

include h0 h1 h2 in
/-- The value gradient of the heads 2 and 3, on their pair's 128 columns. -/
theorem dv1 (n : Fin 256) (c : Fin 128) : k0_pay45 (k0_pay5 x2) k0_pay6 (k0_pay29 x0) (k0_pay30 x1) (k0_pay33 x0 x1 k0_pay6) (k0_pay34 (k0_pay5 x2) k0_pay6) (ix2 n c)
    = (((∑ i : Fin 2048, pr Q K 2 i n * (if (c : ℕ) < 64 then Y i (128 + c) else 0))
        + ∑ i : Fin 2048, pr Q K 3 i n * (if (c : ℕ) < 64 then 0 else Y i (128 + c)) : ℝ) : EReal) := by
  pointwise [k0_pay45]
  simp only [p2 x0 x1 Q K h0 h1, p3 x0 x1 Q K h0 h1, y2 x2 Y h2, y3 x2 Y h2, ← EReal.coe_mul, ← EReal.coe_add, ← EReal.coe_sub, ite_zero_coe, ite_coe_zero, sum_coe, eighth_bf16, eighth_f32]

include h0 h1 h2 in
/-- The block of query gradients the body stores. -/
theorem out_q (a : Fin 2048) (c : Fin 256) : k0_pay1 (k0_pay36 (k0_pay5 x2) x0 x1 k0_pay6) (k0_pay43 (k0_pay5 x2) k0_pay6 (k0_pay29 x0) (k0_pay30 x1) (k0_pay31 x1)) (k0_pay46 k0_pay4 (k0_pay16 (k0_pay8 x1) (k0_pay11 x0 x1) (k0_pay13 x2 x1) (k0_pay14 x2 x0 x1)) (k0_pay26 (k0_pay24 (k0_pay5 x2) k0_pay6 (k0_pay7 x0) (k0_pay8 x1) (k0_pay9 x1)) k0_pay25)) (k0_pay47 k0_pay4) (ix2 a c)
    = ((dq Q K Y a c : ℝ) : EReal) := by
  pointwise [k0_pay1, k0_pay46, k0_pay47, k0_pay4]
  by_cases hc : (c : ℕ) < 128
  · rw [dif_pos hc, select_lt_nat _ hc, g0 x0 x1 x2 Q K Y h0 h1 h2, g1 x0 x1 x2 Q K Y h0 h1 h2, ite_coe, EReal.coe_eq_coe_iff]
    unfold dq
    split
    · rw [show (c : ℕ) / 64 = 0 by omega]
    · rw [show (c : ℕ) / 64 = 1 by omega]
  · have hk : 128 + ((c : ℕ) - 128) = c := by omega
    rw [dif_neg hc, select_lt_nat _ (by omega), g2 x0 x1 x2 Q K Y h0 h1 h2, g3 x0 x1 x2 Q K Y h0 h1 h2, ite_coe, EReal.coe_eq_coe_iff]
    unfold dq
    simp only [hk]
    split
    · rw [show (c : ℕ) / 64 = 2 by omega]
    · rw [show (c : ℕ) / 64 = 3 by omega]

include h0 h1 h2 in
/-- The block of key and value gradients the body stores. -/
theorem out_kv (n : Fin 256) (c : Fin 512) : k0_pay3 (k0_pay27 (k0_pay17 (k0_pay10 x0) (k0_pay11 x0 x1) (k0_pay13 x2 x1) (k0_pay14 x2 x0 x1)) (k0_pay20 k0_pay6 (k0_pay7 x0)) (k0_pay23 (k0_pay5 x2) k0_pay6 (k0_pay7 x0) (k0_pay8 x1) (k0_pay9 x1))) (k0_pay28 (k0_pay18 (k0_pay11 x0 x1) (k0_pay12 x2)) (k0_pay21 k0_pay6 (k0_pay7 x0) (k0_pay8 x1)) (k0_pay22 (k0_pay5 x2) k0_pay6)) (k0_pay44 (k0_pay5 x2) k0_pay6 (k0_pay29 x0) (k0_pay30 x1) (k0_pay31 x1) (k0_pay37 (k0_pay5 x2) x0 x1 k0_pay6)) (k0_pay45 (k0_pay5 x2) k0_pay6 (k0_pay29 x0) (k0_pay30 x1) (k0_pay33 x0 x1 k0_pay6) (k0_pay34 (k0_pay5 x2) k0_pay6)) (k0_pay2 (F := Ideal)) (ix2 n c)
    = ((dkv Q K Y n c : ℝ) : EReal) := by
  pointwise [k0_pay3, k0_pay2]
  simp only [dk0 x0 x1 x2 Q K Y h0 h1 h2, dk1 x0 x1 x2 Q K Y h0 h1 h2, dv0 x0 x1 x2 Q K Y h0 h1 h2, dv1 x0 x1 x2 Q K Y h0 h1 h2, ← EReal.coe_mul, ← EReal.coe_add, ← EReal.coe_sub, ite_zero_coe, ite_coe_zero, sum_coe, eighth_bf16, eighth_f32]
  by_cases h₁ : (c : ℕ) < 128
  · rw [dif_pos h₁, EReal.coe_eq_coe_iff, dkv, if_pos (by omega), dk]
    by_cases e : (c : ℕ) < 64
    · simp only [e, if_true, mul_zero, Finset.sum_const_zero, add_zero, show (c : ℕ) / 64 = 0 by omega]
    · simp only [e, if_false, mul_zero, Finset.sum_const_zero, zero_add, show (c : ℕ) / 64 = 1 by omega]
  rw [dif_neg h₁]
  by_cases h₂ : (c : ℕ) - 128 < 128
  · have hk : 128 + ((c : ℕ) - 128) = c := by omega
    rw [dif_pos h₂, EReal.coe_eq_coe_iff, dkv, if_pos (by omega), dk]
    simp only [hk]
    by_cases e : (c : ℕ) - 128 < 64
    · simp only [e, if_true, mul_zero, Finset.sum_const_zero, add_zero, show (c : ℕ) / 64 = 2 by omega]
    · simp only [e, if_false, mul_zero, Finset.sum_const_zero, zero_add, show (c : ℕ) / 64 = 3 by omega]
  rw [dif_neg h₂]
  by_cases h₃ : (c : ℕ) - 128 - 128 < 128
  · have hk : (c : ℕ) - 128 - 128 = c - 256 := by omega
    rw [dif_pos h₃, EReal.coe_eq_coe_iff, dkv, if_neg (by omega), dv]
    simp only [hk]
    by_cases e : (c : ℕ) - 256 < 64
    · simp only [e, if_true, mul_zero, Finset.sum_const_zero, add_zero, show ((c : ℕ) - 256) / 64 = 0 by omega]
    · simp only [e, if_false, mul_zero, Finset.sum_const_zero, zero_add, show ((c : ℕ) - 256) / 64 = 1 by omega]
  · have hk : 128 + ((c : ℕ) - 128 - 128 - 128) = c - 256 := by omega
    rw [dif_neg h₃, EReal.coe_eq_coe_iff, dkv, if_neg (by omega), dv]
    simp only [hk]
    by_cases e : (c : ℕ) - 128 - 128 - 128 < 64
    · simp only [e, if_true, mul_zero, Finset.sum_const_zero, add_zero, show ((c : ℕ) - 256) / 64 = 2 by omega]
    · simp only [e, if_false, mul_zero, Finset.sum_const_zero, zero_add, show ((c : ℕ) - 256) / 64 = 3 by omega]

end Cert.KernelIdeal.Val
end
-- ==== Proof.MemFinal.lean ====
/- The two arrays that the memory-attention backward kernel leaves, from finite arguments, as the real formulas of
   `MemSpec` over each sequence. -/
module

public import proofs.«01_k».proof.Proof.MemPay

@[expose] public section
set_option maxRecDepth 16384
noncomputable section
namespace Cert.MemSpec

/-- The part of an array that belongs to sequence `s`: `R` rows, columns from `o` on. -/
def sect (A : ℕ → ℕ → ℝ) (R o s : ℕ) : ℕ → ℕ → ℝ := fun a b => A (R * s + a) (o + b)

/-- The gradient of the queries of sequence `s`, from whole arrays. -/
def dqAt (Z KV DY : ℕ → ℕ → ℝ) (s i c : ℕ) : ℝ := dq (sect Z 2048 768 s) (sect KV 256 0 s) (sect DY 2048 768 s) i c

/-- The gradient of the keys and values of sequence `s`, from whole arrays. -/
def dkvAt (Z KV DY : ℕ → ℕ → ℝ) (s n c : ℕ) : ℝ := dkv (sect Z 2048 768 s) (sect KV 256 0 s) (sect DY 2048 768 s) n c

end Cert.MemSpec

namespace Cert.KernelIdeal.Val
open Cert.KernelIdeal Cert.KernelIdeal.Gen Idealize.ShloMosaic Idealize.ShloMosaic.TcCoe Idealize.SL.Sem
open Idealize.ShloMosaic.Pipeline (Dat)
open Cert.Coe Cert.MemSpec
open scoped BigOperators

/-- The block indices of every window at point `t`. -/
theorem idx : ∀ t : Fin cfg0.N, win0_0.index t = ![(t : ℕ), 3] ∧ win0_1.index t = ![(t : ℕ), 0] ∧ win0_2.index t = ![(t : ℕ), 3]
    ∧ win0_3.index t = ![(t : ℕ), 3] ∧ win0_4.index t = ![(t : ℕ), 0] :=
  (by decide +kernel : ∀ t : Fin grid0.N, win0_0.index t = ![(t : ℕ), 3] ∧ win0_1.index t = ![(t : ℕ), 0] ∧ win0_2.index t = ![(t : ℕ), 3]
    ∧ win0_3.index t = ![(t : ℕ), 3] ∧ win0_4.index t = ![(t : ℕ), 0])

variable (m : (ℓ : Loc nD τ sig) → Buf (Elt Ideal) ℓ) (c : Dev nD) (Z KV DY : ℕ → ℕ → ℝ)

variable (hz : ∀ (a : Fin 4096) (b : Fin 1024), m ((c : Thread nD τ).loc main_arg0) (ix2 a b) = ((Z a b : ℝ) : EReal))
  (hk : ∀ (a : Fin 512) (b : Fin 512), m ((c : Thread nD τ).loc main_arg1) (ix2 a b) = ((KV a b : ℝ) : EReal))
  (hy : ∀ (a : Fin 4096) (b : Fin 1024), m ((c : Thread nD τ).loc main_arg2) (ix2 a b) = ((DY a b : ℝ) : EReal))

/-- Two grid points. -/
theorem t_lt (t : Fin cfg0.N) : (t : ℕ) < 2 := lt_of_lt_of_eq t.isLt (by decide : grid0.N = 2)

include hz in
/-- The block of queries at a point. -/
theorem blk_z (t : Fin cfg0.N) (a : Fin 2048) (b : Fin 256) : iblk m c 0 t (ix2 a b) = ((sect Z 2048 768 t a b : ℝ) : EReal) := by
  have ht := t_lt t
  rw [sect, ← hz ⟨2048 * t + a, by omega⟩ ⟨768 + b, by omega⟩]
  blk_ext [iblk, V, idx t]

include hk in
/-- The block of keys and values at a point. -/
theorem blk_k (t : Fin cfg0.N) (a : Fin 256) (b : Fin 512) : iblk m c 1 t (ix2 a b) = ((sect KV 256 0 t a b : ℝ) : EReal) := by
  have ht := t_lt t
  rw [sect, ← hk ⟨256 * t + a, by omega⟩ ⟨0 + b, by omega⟩]
  blk_ext [iblk, V, idx t]

include hy in
/-- The block of the cotangent at a point. -/
theorem blk_y (t : Fin cfg0.N) (a : Fin 2048) (b : Fin 256) : iblk m c 2 t (ix2 a b) = ((sect DY 2048 768 t a b : ℝ) : EReal) := by
  have ht := t_lt t
  rw [sect, ← hy ⟨2048 * t + a, by omega⟩ ⟨768 + b, by omega⟩]
  blk_ext [iblk, V, idx t]

include hz hk hy in
/-- The gradient of `z`: the memory queries' columns are filled, the others are as they came in. -/
theorem final3 : (dats m 0 c).arrAt 3 cfg0.N = fun i : S4096x1024.Idx => if (i 1 : ℕ) < 768 then m ((c : Thread nD τ).loc main_arg3) i
    else ((dqAt Z KV DY ((i 0 : ℕ) / 2048) ((i 0 : ℕ) % 2048) ((i 1 : ℕ) - 768) : ℝ) : EReal) := by
  refine (dats m 0 c).arrAt_eq_of_coversWhere_of_agree 3 _ (fun β => β (1 : Fin _) = 3) (by decide +kernel) (fun t hf y => ?_) (fun j hj => ?_)
  · blk_simp
    rw [after0_3]; unfold outsAt0; frame_out
    have ht := t_lt t
    idx_vars y
    refine (out_q _ _ _ _ _ _ (blk_z m c Z hz t) (blk_k m c KV hk t) (blk_y m c DY hy t) _ _).trans ?_
    rw [(idx t).2.2.2.1]
    show _ = if 3 * 256 + (y1 : ℕ) < 768 then _ else
      ((dqAt Z KV DY (((t : ℕ) * 2048 + y0) / 2048) (((t : ℕ) * 2048 + y0) % 2048) (3 * 256 + (y1 : ℕ) - 768) : ℝ) : EReal)
    rw [if_neg (by omega), show ((t : ℕ) * 2048 + y0) / 2048 = t by omega, show ((t : ℕ) * 2048 + y0) % 2048 = y0 by omega,
      show 3 * 256 + (y1 : ℕ) - 768 = y1 by omega, dqAt]
  · blk_simp [Pipeline.Window.cell_apply] at hj ⊢
    have hb : (j 1 : ℕ) < 1024 := (j 1).isLt
    refine Eq.trans ?_ (if_pos (show (j 1 : ℕ) < 768 by omega)).symm
    show V m c main_v0_0 j = _
    unfold V
    after_results; try rfl

include hz hk hy in
/-- The gradient of the keys and values. -/
theorem final4 : (dats m 0 c).arrAt 4 cfg0.N = fun i : S512x512.Idx =>
    ((dkvAt Z KV DY ((i 0 : ℕ) / 256) ((i 0 : ℕ) % 256) (i 1 : ℕ) : ℝ) : EReal) := by
  refine (dats m 0 c).arrAt_eq_of_covers 4 _ (by decide +kernel) fun t hf y => ?_
  blk_simp
  rw [after0_4]; unfold outsAt0; frame_out
  idx_vars y
  refine (out_kv _ _ _ _ _ _ (blk_z m c Z hz t) (blk_k m c KV hk t) (blk_y m c DY hy t) _ _).trans ?_
  rw [(idx t).2.2.2.2]
  show _ = ((dkvAt Z KV DY (((t : ℕ) * 256 + y0) / 256) (((t : ℕ) * 256 + y0) % 256) (0 * 512 + (y1 : ℕ)) : ℝ) : EReal)
  rw [show ((t : ℕ) * 256 + y0) / 256 = t by omega, show ((t : ℕ) * 256 + y0) % 256 = y0 by omega,
    show 0 * 512 + (y1 : ℕ) = y1 by omega, dkvAt]

end Cert.KernelIdeal.Val
end
-- ==== Proof.MemRef.lean ====
/- The reference's gradients of the memory attention, from finite arguments, as the real formulas of `MemSpec`. -/
module

public import proofs.«01_k».proof.Proof.MemFinal
public import proofs.«01_k».proof.Proof.Gen.ReferenceIdeal.Run
public import proofs.«01_k».proof.Proof.Gen.ReferenceIdeal.Read

@[expose] public section
set_option maxRecDepth 16384
noncomputable section
namespace Cert.ReferenceIdeal.Val
open Cert.ReferenceIdeal Cert.ReferenceIdeal.Gen Cert.ReferenceIdeal.Read Idealize.ShloMosaic Idealize.ShloMosaic.TcCoe Idealize.SL.Sem
open Cert.Coe Cert.MemSpec
open scoped BigOperators

variable (x0 : Vec Ideal S4096x1024 .bf16) (x1 : Vec Ideal S512x512 .bf16) (x2 : Vec Ideal S4096x1024 .bf16) (Z KV DY : ℕ → ℕ → ℝ)

variable (hz : ∀ (a : Fin 4096) (b : Fin 1024), x0 (ix2 a b) = ((Z a b : ℝ) : EReal))
  (hk : ∀ (a : Fin 512) (b : Fin 512), x1 (ix2 a b) = ((KV a b : ℝ) : EReal))
  (hy : ∀ (a : Fin 4096) (b : Fin 1024), x2 (ix2 a b) = ((DY a b : ℝ) : EReal))

/-- The normaliser of the softmax is positive. -/
theorem den_pos (Q K : ℕ → ℕ → ℝ) (h i : ℕ) : 0 < ∑ k : Fin 256, ex Q K h i k := by
  simp only [ex]
  exact sum_exp_pos (n := 255) _

include hz in
/-- The queries by sequence, position, head and lane. -/
theorem r8 (s : Fin 2) (i : Fin 2048) (h : Fin 4) (e : Fin 64) :
    val_main_v8 x0 (ix4 s i h e) = (((sect Z 2048 768 s) i (64 * h + e) : ℝ) : EReal) := by
  rw [sect, ← hz ⟨2048 * s + i, by omega⟩ ⟨768 + (64 * h + e), by omega⟩]
  pointwise [val_main_v8, val_main_v2, val_main_v1, val_main_v0]
  blk_ext

include hy in
/-- The cotangent by sequence, head, lane and position. -/
theorem r48 (s : Fin 2) (h : Fin 4) (e : Fin 64) (i : Fin 2048) :
    val_main_v48 x2 (ix4 s h e i) = (((sect DY 2048 768 s) i (64 * h + e) : ℝ) : EReal) := by
  rw [sect, ← hy ⟨2048 * s + i, by omega⟩ ⟨768 + (64 * h + e), by omega⟩]
  pointwise [val_main_v48, val_main_v47, val_main_v7, val_main_v6, val_main_v5]
  blk_ext

include hk in
/-- The keys by sequence, row, head and lane. -/
theorem r10 (s : Fin 2) (n : Fin 256) (h : Fin 4) (e : Fin 64) :
    val_main_v10 x1 (ix4 s n h e) = (((sect KV 256 0 s) n (64 * h + e) : ℝ) : EReal) := by
  rw [sect, ← hk ⟨256 * s + n, by omega⟩ ⟨0 + (64 * h + e), by omega⟩]
  pointwise [val_main_v10, val_main_v9, val_main_v4, val_main_v3]
  blk_ext

include hk in
/-- The values by sequence, row, head and lane. -/
theorem r12 (s : Fin 2) (n : Fin 256) (h : Fin 4) (e : Fin 64) :
    val_main_v12 x1 (ix4 s n h e) = (((sect KV 256 0 s) n (256 + (64 * h + e)) : ℝ) : EReal) := by
  rw [sect, ← hk ⟨256 * s + n, by omega⟩ ⟨0 + (256 + (64 * h + e)), by omega⟩]
  pointwise [val_main_v12, val_main_v11, val_main_v4, val_main_v3]
  blk_ext

include hz hk in
/-- The scaled scores. -/
theorem r15 (s : Fin 2) (h : Fin 4) (i : Fin 2048) (n : Fin 256) :
    val_main_v15 x0 x1 (ix4 s h i n) = ((sc (sect Z 2048 768 s) (sect KV 256 0 s) h i n : ℝ) : EReal) := by
  unfold val_main_v15 val_main_v13 val_main_v14
  pointwise [val_main_cst]
  simp only [r8 x0 Z hz, r10 x1 KV hk, ← EReal.coe_mul, sum_coe, eighth_f32]
  rw [EReal.coe_eq_coe_iff, Finset.sum_mul]
  exact Finset.sum_congr rfl fun e _ => by ring

/-- The greatest score of a query. -/
theorem r16 (s : Fin 2) (h : Fin 4) (i : Fin 2048) :
    val_main_v16 x0 x1 (ix3 s h i) = Finset.fold max (⊥ : EReal) (fun n : Fin 256 => val_main_v15 x0 x1 (ix4 s h i n)) Finset.univ := by
  unfold val_main_v16
  generalize val_main_v15 x0 x1 = y
  pointwise [val_main_cst_0]
  rw [bot_f32]

/-- The greatest score is not below `-∞`. -/
theorem r23 (i : S2x4x2048.Idx) : val_main_v23 x0 x1 i = val_main_v16 x0 x1 i := by
  rw [val_main_v23_apply]
  generalize val_main_v16 x0 x1 i = y
  rw [val_main_v22_apply, val_main_cst_2_apply]
  exact (congrArg (max · y) bot_f32).trans (max_eq_right bot_le)

/-- The greatest score, spread over the keys. -/
theorem r34 (s : Fin 2) (h : Fin 4) (i : Fin 2048) (n : Fin 256) :
    val_main_v34 x0 x1 (ix4 s h i n) = val_main_v16 x0 x1 (ix3 s h i) := by
  rw [← r23]
  unfold val_main_v34 val_main_v33
  generalize val_main_v23 x0 x1 = y
  pointwise

include hz hk in
/-- The numerators of the softmax. -/
theorem r36 (s : Fin 2) (h : Fin 4) (i : Fin 2048) (n : Fin 256) :
    val_main_v36 x0 x1 (ix4 s h i n) = ((ex (sect Z 2048 768 s) (sect KV 256 0 s) h i n : ℝ) : EReal) := by
  unfold val_main_v36 val_main_v35
  pointwise
  rw [r34, r16]
  simp only [r15 x0 x1 Z KV hz hk]
  rw [fold_max_coe (n := 255) fun k => sc (sect Z 2048 768 s) (sect KV 256 0 s) h i k, ← EReal.coe_sub, Ideal.exp_coe, ex]

include hz hk in
/-- The normalisers of the softmax. -/
theorem r37 (s : Fin 2) (h : Fin 4) (i : Fin 2048) :
    val_main_v37 x0 x1 (ix3 s h i) = ((∑ k : Fin 256, ex (sect Z 2048 768 s) (sect KV 256 0 s) h i k : ℝ) : EReal) := by
  have e := r36 x0 x1 Z KV hz hk s h i
  unfold val_main_v37
  revert e
  generalize val_main_v36 x0 x1 = y
  intro e
  pointwise [val_main_cst_8]
  simp only [e, sum_coe]

include hz hk in
/-- The softmax. -/
theorem r40 (s : Fin 2) (h : Fin 4) (i : Fin 2048) (n : Fin 256) :
    val_main_v40 x0 x1 (ix4 s h i n) = ((pr (sect Z 2048 768 s) (sect KV 256 0 s) h i n : ℝ) : EReal) := by
  have e := r37 x0 x1 Z KV hz hk s h i
  unfold val_main_v40 val_main_v39 val_main_v38
  revert e
  generalize val_main_v37 x0 x1 = y
  intro e
  pointwise
  rw [e, r36 x0 x1 Z KV hz hk, div_real _ _ (den_pos _ _ _ _).ne', pr, mul_one_div]

include hz hk in
/-- The reciprocal squares of the normalisers, spread over the keys. -/
theorem r52 (s : Fin 2) (h : Fin 4) (i : Fin 2048) (n : Fin 256) :
    val_main_v52 x0 x1 (ix4 s h i n) = ((1 / ((∑ k : Fin 256, ex (sect Z 2048 768 s) (sect KV 256 0 s) h i k) * ∑ k : Fin 256, ex (sect Z 2048 768 s) (sect KV 256 0 s) h i k) : ℝ) : EReal) := by
  have e := r37 x0 x1 Z KV hz hk s h i
  unfold val_main_v52 val_main_v43 val_main_v42 val_main_v41 val_main_v38
  revert e
  generalize val_main_v37 x0 x1 = y
  intro e
  pointwise [val_main_cst_9]
  rw [e, ← EReal.coe_mul, ← EReal.coe_one, div_real _ _ (mul_pos (den_pos _ _ _ _) (den_pos _ _ _ _)).ne']

include hk hy in
/-- The cotangent of the softmax. -/
theorem r49 (s : Fin 2) (h : Fin 4) (i : Fin 2048) (n : Fin 256) :
    val_main_v49 x1 x2 (ix4 s h i n) = ((dp (sect KV 256 0 s) (sect DY 2048 768 s) h i n : ℝ) : EReal) := by
  unfold val_main_v49
  pointwise
  simp only [r48 x2 DY hy, r12 x1 KV hk, ← EReal.coe_mul, sum_coe, dp]

include hz hk hy in
/-- The gradient of the values. -/
theorem r50 (s : Fin 2) (h : Fin 4) (e : Fin 64) (n : Fin 256) :
    val_main_v50 x0 x1 x2 (ix4 s h e n) = ((∑ i : Fin 2048, pr (sect Z 2048 768 s) (sect KV 256 0 s) h i n * (sect DY 2048 768 s) i (64 * h + e) : ℝ) : EReal) := by
  unfold val_main_v50
  pointwise
  simp only [r48 x2 DY hy, r40 x0 x1 Z KV hz hk, ← EReal.coe_mul, sum_coe]
  rw [EReal.coe_eq_coe_iff]
  exact Finset.sum_congr rfl fun i _ => mul_comm _ _

include hz hk hy in
/-- The sum that the normaliser's own gradient takes. -/
theorem r55 (s : Fin 2) (h : Fin 4) (i : Fin 2048) :
    val_main_v55 x0 x1 x2 (ix3 s h i) = ((∑ n : Fin 256, dp (sect KV 256 0 s) (sect DY 2048 768 s) h i n *
      (1 / ((∑ k : Fin 256, ex (sect Z 2048 768 s) (sect KV 256 0 s) h i k) * ∑ k : Fin 256, ex (sect Z 2048 768 s) (sect KV 256 0 s) h i k)) * ex (sect Z 2048 768 s) (sect KV 256 0 s) h i n : ℝ) : EReal) := by
  have e : ∀ n : Fin 256, val_main_v54 x0 x1 x2 (ix4 s h i n) = ((dp (sect KV 256 0 s) (sect DY 2048 768 s) h i n *
      (1 / ((∑ k : Fin 256, ex (sect Z 2048 768 s) (sect KV 256 0 s) h i k) * ∑ k : Fin 256, ex (sect Z 2048 768 s) (sect KV 256 0 s) h i k)) * ex (sect Z 2048 768 s) (sect KV 256 0 s) h i n : ℝ) : EReal) := by
    intro n
    unfold val_main_v54 val_main_v53
    pointwise
    rw [r49 x1 x2 KV DY hk hy, r52 x0 x1 Z KV hz hk, r36 x0 x1 Z KV hz hk, ← EReal.coe_mul, ← EReal.coe_mul]
  unfold val_main_v55
  revert e
  generalize val_main_v54 x0 x1 x2 = y
  intro e
  pointwise [val_main_cst_10]
  simp only [e, sum_coe]

/-- That sum, negated and spread over the keys. -/
theorem r61 (s : Fin 2) (h : Fin 4) (i : Fin 2048) (n : Fin 256) :
    val_main_v61 x0 x1 x2 (ix4 s h i n) = -val_main_v55 x0 x1 x2 (ix3 s h i) := by
  unfold val_main_v61 val_main_v60 val_main_v57 val_main_v56
  generalize val_main_v55 x0 x1 x2 = y
  pointwise [val_main_cst_11]
  exact Finset.sum_singleton _ _

include hz hk hy in
/-- The cotangent of the unscaled scores. -/
theorem r65 (s : Fin 2) (h : Fin 4) (i : Fin 2048) (n : Fin 256) :
    val_main_v65 x0 x1 x2 (ix4 s h i n) = ((ds (sect Z 2048 768 s) (sect KV 256 0 s) (sect DY 2048 768 s) h i n * (1 / 8) : ℝ) : EReal) := by
  have e := r37 x0 x1 Z KV hz hk s h i
  have f : val_main_v59 x0 x1 x2 (ix4 s h i n) = ((dp (sect KV 256 0 s) (sect DY 2048 768 s) h i n / (∑ k : Fin 256, ex (sect Z 2048 768 s) (sect KV 256 0 s) h i k) : ℝ) : EReal) := by
    unfold val_main_v59 val_main_v58 val_main_v38
    revert e
    generalize val_main_v37 x0 x1 = y
    intro e
    pointwise
    rw [e, r49 x1 x2 KV DY hk hy, div_real _ _ (den_pos _ _ _ _).ne']
  unfold val_main_v65 val_main_v64 val_main_v63 val_main_v62
  pointwise [val_main_cst_12]
  rw [f, r61, r55 x0 x1 x2 Z KV DY hz hk hy, r36 x0 x1 Z KV hz hk, eighth_f32, ← EReal.coe_neg, ← EReal.coe_add, ← EReal.coe_mul, ← EReal.coe_mul,
    EReal.coe_eq_coe_iff, ds]
  simp only [pr]
  have hp := (den_pos (sect Z 2048 768 s) (sect KV 256 0 s) h i).ne'
  rw [← Finset.sum_congr rfl fun (n : Fin 256) _ => (show
    (1 / ∑ k : Fin 256, ex (sect Z 2048 768 s) (sect KV 256 0 s) h i k) * (dp (sect KV 256 0 s) (sect DY 2048 768 s) h i n * (ex (sect Z 2048 768 s) (sect KV 256 0 s) h i n * (1 / ∑ k : Fin 256, ex (sect Z 2048 768 s) (sect KV 256 0 s) h i k))) =
    dp (sect KV 256 0 s) (sect DY 2048 768 s) h i n * (1 / ((∑ k : Fin 256, ex (sect Z 2048 768 s) (sect KV 256 0 s) h i k) * ∑ k : Fin 256, ex (sect Z 2048 768 s) (sect KV 256 0 s) h i k)) * ex (sect Z 2048 768 s) (sect KV 256 0 s) h i n by field_simp),
    ← Finset.mul_sum]
  field_simp
  ring

include hz hk hy in
/-- The gradient of the keys. -/
theorem r66 (s : Fin 2) (h : Fin 4) (n : Fin 256) (e : Fin 64) :
    val_main_v66 x0 x1 x2 (ix4 s h n e) = ((∑ i : Fin 2048, ds (sect Z 2048 768 s) (sect KV 256 0 s) (sect DY 2048 768 s) h i n * ((sect Z 2048 768 s) i (64 * h + e) * (1 / 8)) : ℝ) : EReal) := by
  unfold val_main_v66
  pointwise
  simp only [r65 x0 x1 x2 Z KV DY hz hk hy, r8 x0 Z hz, ← EReal.coe_mul, sum_coe]
  rw [EReal.coe_eq_coe_iff]
  exact Finset.sum_congr rfl fun i _ => by ring

include hz hk hy in
/-- The gradient of the queries. -/
theorem r68 (s : Fin 2) (h : Fin 4) (i : Fin 2048) (e : Fin 64) :
    val_main_v68 x0 x1 x2 (ix4 s h i e) = (((∑ n : Fin 256, ds (sect Z 2048 768 s) (sect KV 256 0 s) (sect DY 2048 768 s) h i n * (sect KV 256 0 s) n (64 * h + e)) * (1 / 8) : ℝ) : EReal) := by
  unfold val_main_v68
  pointwise
  simp only [r65 x0 x1 x2 Z KV DY hz hk hy, r10 x1 KV hk, ← EReal.coe_mul, sum_coe]
  rw [EReal.coe_eq_coe_iff, Finset.sum_mul]
  exact Finset.sum_congr rfl fun i _ => by ring

include hz hk hy in
/-- The reference's gradient of the keys and values. -/
theorem r80 (i : Fin 512) (c : Fin 512) :
    val_main_v80 x0 x1 x2 (ix2 i c) = ((dkvAt Z KV DY ((i : ℕ) / 256) ((i : ℕ) % 256) c : ℝ) : EReal) := by
  have e50 := r50 x0 x1 x2 Z KV DY hz hk hy
  have e66 := r66 x0 x1 x2 Z KV DY hz hk hy
  unfold val_main_v80 val_main_v74 val_main_v73 val_main_v71 val_main_v70 val_main_v72 val_main_v51 val_main_v67
  revert e50 e66
  generalize val_main_v50 x0 x1 x2 = y
  generalize val_main_v66 x0 x1 x2 = z
  intro e50 e66
  pointwise [val_main_cst_13, val_main_cst_14]
  simp only [e50, e66]
  by_cases hc : (c : ℕ) < 256
  · rw [dif_neg (by omega), dif_pos (by omega), zero_add, EReal.coe_eq_coe_iff, dkvAt, dkv, if_pos hc, dk]
    simp only [Nat.div_add_mod]
  · rw [dif_pos (by omega), dif_neg (by omega), add_zero, EReal.coe_eq_coe_iff, dkvAt, dkv, if_neg hc, dv]
    simp only [Nat.div_add_mod]

include hz hk hy in
/-- The reference's gradient of the queries. -/
theorem r77 (i : Fin 4096) (c : Fin 256) :
    val_main_v77 x0 x1 x2 (ix2 i c) = ((dqAt Z KV DY ((i : ℕ) / 2048) ((i : ℕ) % 2048) c : ℝ) : EReal) := by
  have e68 := r68 x0 x1 x2 Z KV DY hz hk hy
  unfold val_main_v77 val_main_v76 val_main_v75 val_main_v69
  revert e68
  generalize val_main_v68 x0 x1 x2 = y
  intro e68
  pointwise
  simp only [e68, Nat.div_add_mod]
  rfl

end Cert.ReferenceIdeal.Val
end
-- ==== Proof.MemClaim.lean ====
/- The memory attention's gradient: the kernel's results are the reference's, from finite arguments. -/
module

public import proofs.«01_k».proof.Proof.MemRef
public import proofs.«01_k».proof.Proof.Gen.Pre_mem_finite
public import proofs.«01_k».proof.Defs
public import Idealize.ShloMosaic.Lib.Claim

@[expose] public section
set_option maxRecDepth 16384
noncomputable section
namespace Cert.MemClaim
open Idealize.ShloMosaic Idealize.ShloMosaic.TcCoe Idealize.SL.Sem
open Cert.Coe Cert.MemSpec

/-- Finite arguments are real numbers. -/
theorem reals (x0 x2 x3 : Vec Ideal Cert.Pre_mem_finite.S4096x1024 .bf16) (x1 : Vec Ideal Cert.Pre_mem_finite.S512x512 .bf16)
    (h : (Cert.Pre_mem_finite.fn (F := Ideal) x0 x1 x2 x3).1 = (fun _ => 1#1) ∧ (Cert.Pre_mem_finite.fn (F := Ideal) x0 x1 x2 x3).2.1 = (fun _ => 1#1)
      ∧ (Cert.Pre_mem_finite.fn (F := Ideal) x0 x1 x2 x3).2.2 = (fun _ => 1#1)) :
    ∃ Z KV DY : ℕ → ℕ → ℝ, (∀ (a : Fin 4096) (b : Fin 1024), x0 (ix2 a b) = ((Z a b : ℝ) : EReal))
      ∧ (∀ (a : Fin 512) (b : Fin 512), x1 (ix2 a b) = ((KV a b : ℝ) : EReal))
      ∧ (∀ (a : Fin 4096) (b : Fin 1024), x2 (ix2 a b) = ((DY a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2.1 (ix2 a b)
    rw [← top_f32]
    exact this)
  have e2 : ∀ a b, ∃ r : ℝ, x2 (ix2 a b) = (r : EReal) := fun a b => real_of_cmpf (φ := .f32) (x2 (ix2 a b)) (by
    have := congrFun h.2.2 (ix2 a b)
    rw [← top_f32]
    exact this)
  obtain ⟨Z, hZ⟩ := real_mat (fun a b => x0 (ix2 a b)) e0
  obtain ⟨KV, hKV⟩ := real_mat (fun a b => x1 (ix2 a b)) e1
  obtain ⟨DY, hDY⟩ := real_mat (fun a b => x2 (ix2 a b)) e2
  exact ⟨Z, KV, DY, hZ, hKV, hDY⟩

open Cert.ReferenceIdeal.Read in
/-- The reference's gradient of `z` at an index. -/
theorem r79 (x0 x2 x3 : Vec Ideal Cert.ReferenceIdeal.S4096x1024 .bf16) (x1 : Vec Ideal Cert.ReferenceIdeal.S512x512 .bf16) (i : Fin 4096) (c : Fin 1024) :
    val_main_v79 x0 x1 x2 x3 (ix2 i c) = if h : (c : ℕ) < 768 then x3 (ix2 i c) else val_main_v77 x0 x1 x2 (ix2 i ⟨(c : ℕ) - 768, by omega⟩) := by
  unfold val_main_v79
  generalize val_main_v77 x0 x1 x2 = y
  pointwise [val_main_v78]

set_option maxHeartbeats 1600000 in
/-- The kernel's results are the reference's. -/
theorem algebraic : Cert.algebraic_KernelIdeal_ReferenceIdeal_pre_mem_finite := by
  pair_intro
  · run_from Cert.KernelIdeal.Gen.run_main m g
  · run_from Cert.ReferenceIdeal.Value.run m' g'
    all_goals obtain ⟨Z, KV, DY, hZ, hK, hY⟩ := reals _ _ _ _ (hpre c)
    all_goals obtain ⟨a0, a1, a2, a3⟩ := hagree c
    · rw [ReferenceIdeal.Read.val_main_v79_eq, a0, a1, a2, a3, KernelIdeal.Val.final3 m c Z KV DY hZ hK hY]
      funext i
      idx_vars i
      rw [r79]
      split
      · exact (if_pos ‹_›).symm
      · refine Eq.trans ?_ (if_neg ‹_›).symm
        rw [ReferenceIdeal.Val.r77 _ _ _ Z KV DY hZ hK hY]
    · rw [ReferenceIdeal.Read.val_main_v80_eq, a0, a1, a2, KernelIdeal.Val.final4 m c Z KV DY hZ hK hY]
      funext i
      idx_vars i
      rw [ReferenceIdeal.Val.r80 _ _ _ Z KV DY hZ hK hY]

end Cert.MemClaim
end
-- ==== Proof.RmsSpec.lean ====
/- The root-mean-square norm of a row of 1024 numbers and its gradient, as formulas over real numbers given by row and
   column number, with the facts that read the float constants. -/
module

public import proofs.«01_k».proof.Proof.Coe

@[expose] public section
noncomputable section
namespace Cert.RmsSpec
open Idealize.ShloMosaic Cert.Coe
open scoped BigOperators

/-- The small number under the square root: the f32 nearest to `1e-6`. -/
def eps : ℝ := 8796093 / 8796093022208

/-- It is positive. -/
theorem eps_pos : 0 < eps := by unfold eps; norm_num

/-- The f32 pattern of `eps`. -/
theorem eps_f32 : Ideal.ofBits .f32 0x358637BD#32 = ((eps : ℝ) : EReal) := by
  simp [Ideal.ofBits, Ideal.ieee, eps, -EReal.coe_mul]; norm_num

/-- The f32 pattern of the row length. -/
theorem len_f32 : Ideal.ofBits .f32 0x44800000#32 = ((1024 : ℝ) : EReal) := by
  simp [Ideal.ofBits, Ideal.ieee, -EReal.coe_mul]; norm_num

/-- The f32 pattern of minus one half. -/
theorem neg_half_f32 : Ideal.ofBits .f32 0xBF000000#32 = ((-(1 / 2) : ℝ) : EReal) := by
  simp [Ideal.ofBits, Ideal.ieee, -EReal.coe_mul, -EReal.coe_neg]; norm_num

/-- The f32 pattern of one. -/
theorem one_f32 : Ideal.ofBits .f32 0x3F800000#32 = ((1 : ℝ) : EReal) := by
  simp [Ideal.ofBits, Ideal.ieee, -EReal.coe_mul]; norm_num

/-- The f32 pattern of zero. -/
theorem zero_f32 : Ideal.ofBits .f32 0x00000000#32 = ((0 : ℝ) : EReal) := by
  simp [Ideal.ofBits, Ideal.ieee]

/-- The mean square of row `i`, moved away from zero. -/
def ms (X : ℕ → ℕ → ℝ) (i : ℕ) : ℝ := (∑ k : Fin 1024, X i k * X i k) / 1024 + eps

/-- It is positive. -/
theorem ms_pos (X : ℕ → ℕ → ℝ) (i : ℕ) : 0 < ms X i :=
  add_pos_of_nonneg_of_pos (div_nonneg (Finset.sum_nonneg fun k _ => mul_self_nonneg _) (by norm_num)) eps_pos

/-- The reciprocal root mean square of row `i`. -/
def rr (X : ℕ → ℕ → ℝ) (i : ℕ) : ℝ := (Real.sqrt (ms X i))⁻¹

/-- The reciprocal square root of the ideal instance on a positive number. -/
theorem rsqrt_pos (r : ℝ) (h : 0 < r) : Ideal.rsqrt (r : EReal) = (((Real.sqrt r)⁻¹ : ℝ) : EReal) := by
  rw [Ideal.rsqrt_coe, if_neg (not_lt.mpr h.le), if_neg h.ne']

/-- The expression both programs compute for `rr`. -/
theorem rsqrt_ms (X : ℕ → ℕ → ℝ) (i : ℕ) :
    Ideal.rsqrt (Ideal.div ((∑ k : Fin 1024, X i k * X i k : ℝ) : EReal) ((1024 : ℝ) : EReal) + ((eps : ℝ) : EReal)) = ((rr X i : ℝ) : EReal) := by
  rw [div_real _ _ (by norm_num), ← EReal.coe_add]
  exact rsqrt_pos _ (ms_pos X i)

/-- A reciprocal square root over its argument is its cube. -/
theorem rr_div (X : ℕ → ℕ → ℝ) (i : ℕ) : rr X i / ms X i = rr X i * rr X i * rr X i := by
  have h : rr X i * rr X i = (ms X i)⁻¹ := by
    unfold rr
    rw [← mul_inv, Real.mul_self_sqrt (ms_pos X i).le]
  rw [h, div_eq_mul_inv, mul_comm]

/-- The inner product that the gradient of the norm subtracts, over the row length. -/
def proj (X G D : ℕ → ℕ → ℝ) (i : ℕ) : ℝ := (∑ k : Fin 1024, D i k * G 0 k * X i k) / 1024

/-- The gradient of `rms_norm X G` at `X`, from the cotangent `D`. -/
def dx (X G D : ℕ → ℕ → ℝ) (i k : ℕ) : ℝ := rr X i * (D i k * G 0 k) - X i k * (rr X i * rr X i * rr X i) * proj X G D i

/-- One row's share of the gradient at the gain. -/
def dgRow (X D : ℕ → ℕ → ℝ) (i k : ℕ) : ℝ := D i k * X i k * rr X i

/-- The gradient at the gain, over `n` rows. -/
def dg (n : ℕ) (X D : ℕ → ℕ → ℝ) (k : ℕ) : ℝ := ∑ i : Fin n, dgRow X D i k

/-- The rows from `s` on. -/
def rows (A : ℕ → ℕ → ℝ) (s : ℕ) : ℕ → ℕ → ℝ := fun a b => A (s + a) b

/-- The norm's scale of a row does not depend on where the block starts. -/
theorem rr_rows (X : ℕ → ℕ → ℝ) (s i : ℕ) : rr (rows X s) i = rr X (s + i) := rfl

theorem dx_rows (X G D : ℕ → ℕ → ℝ) (s i k : ℕ) : dx (rows X s) G (rows D s) i k = dx X G D (s + i) k := rfl

theorem dgRow_rows (X D : ℕ → ℕ → ℝ) (s i k : ℕ) : dgRow (rows X s) (rows D s) i k = dgRow X D (s + i) k := rfl

/-- A matrix product over `n` terms. -/
def mm (n : ℕ) (A B : ℕ → ℕ → ℝ) (i k : ℕ) : ℝ := ∑ f : Fin n, A i f * B f k

theorem mm_rows (n : ℕ) (A B : ℕ → ℕ → ℝ) (s : ℕ) : mm n (rows A s) B = rows (mm n A B) s := rfl

/-- The sum over `n` tiles of two halves of `h` rows is the sum over all rows. -/
theorem sum_tiles (n h : ℕ) (f : ℕ → ℝ) :
    (∑ t : Fin n, ((∑ a : Fin h, f (2 * h * t + a)) + ∑ a : Fin h, f (2 * h * t + h + a))) = ∑ i : Fin (n * (2 * h)), f i := by
  have e : ∀ t : ℕ, ((∑ a : Fin h, f (2 * h * t + a)) + ∑ a : Fin h, f (2 * h * t + h + a)) = ∑ a ∈ Finset.range (2 * h), f (2 * h * t + a) := by
    intro t
    rw [two_mul h, Finset.sum_range_add, ← two_mul, Finset.sum_range, Finset.sum_range]
    congr 1
    exact Finset.sum_congr rfl fun a _ => by rw [add_assoc]
  simp only [e]
  rw [Fin.sum_univ_eq_sum_range (fun t => ∑ a ∈ Finset.range (2 * h), f (2 * h * t + a)) n]
  rw [Fin.sum_univ_eq_sum_range (fun i => f i) (n * (2 * h))]
  clear e
  generalize 2 * h = H
  induction n with
  | zero => simp
  | succ n ih => rw [Finset.sum_range_succ, ih, Nat.succ_mul, Finset.sum_range_add, mul_comm H n]

end Cert.RmsSpec
end
-- ==== Proof.DownSpec.lean ====
/- The logistic gate and the down projection's gradient, as formulas over real numbers given by row and column number. -/
module

public import proofs.«01_k».proof.Proof.RmsSpec

@[expose] public section
noncomputable section
namespace Cert.DownSpec
open Idealize.ShloMosaic Cert.Coe Cert.RmsSpec
open scoped BigOperators

/-- The bf16 pattern of one. -/
theorem one_bf16 : Ideal.ofBits .bf16 0x3F80#16 = ((1 : ℝ) : EReal) := by
  simp [Ideal.ofBits, Ideal.ieee, -EReal.coe_mul]; norm_num

/-- The bf16 pattern of zero. -/
theorem zero_bf16 : Ideal.ofBits .bf16 0x0000#16 = ((0 : ℝ) : EReal) := by
  simp [Ideal.ofBits, Ideal.ieee]

/-- The logistic function. -/
def sg (x : ℝ) : ℝ := 1 / (1 + Real.exp (-x))

/-- Its denominator is positive. -/
theorem sg_pos (x : ℝ) : 0 < 1 + Real.exp (-x) := by positivity

/-- The expression both programs compute for the logistic function. -/
theorem sg_div (x : ℝ) : Ideal.div ((1 : ℝ) : EReal) ((1 + Real.exp (-x) : ℝ) : EReal) = ((sg x : ℝ) : EReal) :=
  div_real _ _ (sg_pos x).ne'

/-- The gate's output times the down weight. -/
def yv (Q U W : ℕ → ℕ → ℝ) (i k : ℕ) : ℝ := ∑ j : Fin 2816, Q i j * sg (Q i j) * U i j * W j k

/-- The cotangent of the gate's output. -/
def da (N W : ℕ → ℕ → ℝ) (i j : ℕ) : ℝ := ∑ k : Fin 1024, N i k * W j k

/-- The gradient at the gate's first half. -/
def dq (Q U A : ℕ → ℕ → ℝ) (i j : ℕ) : ℝ := A i j * U i j * sg (Q i j) * (1 + Q i j * (1 - sg (Q i j)))

/-- The gradient at the gate's second half. -/
def du (Q A : ℕ → ℕ → ℝ) (i j : ℕ) : ℝ := A i j * Q i j * sg (Q i j)

/-- Both halves side by side. -/
def dgu (Q U A : ℕ → ℕ → ℝ) (i c : ℕ) : ℝ := if c < 2816 then dq Q U A i c else du Q A i (c - 2816)

/-- The cotangent of the gate's output, of a block of rows. -/
theorem da_rows (N W : ℕ → ℕ → ℝ) (s i j : ℕ) : da (rows N s) W i j = da N W (s + i) j := rfl

end Cert.DownSpec
end
-- ==== Proof.DownRef.lean ====
/- The reference's gradients of the down projection and the gate, from finite arguments, as the real formulas of `DownSpec`. -/
module

public import proofs.«01_k».proof.Proof.DownSpec
public import proofs.«01_k».proof.Proof.Gen.Reference2Ideal.Run
public import proofs.«01_k».proof.Proof.Gen.Reference2Ideal.Read

@[expose] public section
set_option maxRecDepth 16384
noncomputable section
namespace Cert.Reference2Ideal.Val
open Cert.Reference2Ideal Cert.Reference2Ideal.Gen Cert.Reference2Ideal.Read Idealize.ShloMosaic Idealize.ShloMosaic.TcCoe Idealize.SL.Sem
open Cert.Coe Cert.RmsSpec Cert.DownSpec
open scoped BigOperators

variable (x0 x1 : Vec Ideal S4096x2816 .bf16) (x2 : Vec Ideal S2816x1024 .bf16) (x3 : Vec Ideal S1x1024 .f32)
  (x4 : Vec Ideal S4096x1024 .f32) (Q U W G D : ℕ → ℕ → ℝ)

variable (hQ : ∀ (a : Fin 4096) (b : Fin 2816), x0 (ix2 a b) = ((Q a b : ℝ) : EReal))
  (hU : ∀ (a : Fin 4096) (b : Fin 2816), x1 (ix2 a b) = ((U a b : ℝ) : EReal))
  (hW : ∀ (a : Fin 2816) (b : Fin 1024), x2 (ix2 a b) = ((W a b : ℝ) : EReal))
  (hG : ∀ (a : Fin 1) (b : Fin 1024), x3 (ix2 a b) = ((G 0 b : ℝ) : EReal))
  (hD : ∀ (a : Fin 4096) (b : Fin 1024), x4 (ix2 a b) = ((D a b : ℝ) : EReal))

include hQ in
/-- The first half of the gate's argument. -/
theorem r2 (i : Fin 4096) (j : Fin 2816) : val_main_v2 x0 x1 (ix2 i j) = ((Q i j : ℝ) : EReal) := by
  pointwise [val_main_v2, val_main_v1, val_main_v0]
  simp [hQ]

include hU in
/-- The second half of the gate's argument. -/
theorem r4 (i : Fin 4096) (j : Fin 2816) : val_main_v4 x0 x1 (ix2 i j) = ((U i j : ℝ) : EReal) := by
  pointwise [val_main_v4, val_main_v1, val_main_v0]
  simp [hU]

include hQ in
/-- The logistic function of the first half. -/
theorem r3s (i : Fin 4096) (j : Fin 2816) : val_main_v3_2 x0 x1 (ix2 i j) = ((sg (Q i j) : ℝ) : EReal) := by
  have e := r2 x0 x1 Q hQ
  unfold val_main_v3_2 val_main_call0_v3 val_main_call0_v1 val_main_call0_v0
  revert e
  generalize val_main_v2 x0 x1 = y
  intro e
  pointwise [val_main_call0_v2, val_main_call0_v4, val_main_call0_cst, val_main_call0_cst_0]
  rw [e, ← EReal.coe_one, ← EReal.coe_neg, Ideal.exp_coe, ← EReal.coe_add]
  exact sg_div _

include hQ in
/-- The gate's factor. -/
theorem r3q (i : Fin 4096) (j : Fin 2816) : val_main_v3_0 x0 x1 (ix2 i j) = ((Q i j * sg (Q i j) : ℝ) : EReal) := by
  have e := r2 x0 x1 Q hQ
  have e' := r3s x0 x1 Q hQ
  unfold val_main_v3_0
  revert e e'
  generalize val_main_v2 x0 x1 = y
  generalize val_main_v3_2 x0 x1 = z
  intro e e'
  pointwise
  rw [e, e', ← EReal.coe_mul]

include hQ in
/-- The logistic function's derivative. -/
theorem r3d (i : Fin 4096) (j : Fin 2816) : val_main_v3_1 x0 x1 (ix2 i j) = ((sg (Q i j) * (1 - sg (Q i j)) : ℝ) : EReal) := by
  have e' := r3s x0 x1 Q hQ
  unfold val_main_v3_1 val_main_call0_v7
  revert e'
  generalize val_main_v3_2 x0 x1 = z
  intro e'
  pointwise [val_main_call0_v6, val_main_call0_cst_1]
  rw [e', ← EReal.coe_one, ← EReal.coe_sub, ← EReal.coe_mul]

include hQ hU hW in
/-- The down projection of the gate's output. -/
theorem r7 (i : Fin 4096) (k : Fin 1024) : val_main_v7 x0 x1 x2 (ix2 i k) = ((yv Q U W i k : ℝ) : EReal) := by
  have e := r3q x0 x1 Q hQ
  have e' := r4 x0 x1 U hU
  unfold val_main_v7 val_main_v5
  revert e e'
  generalize val_main_v3_0 x0 x1 = y
  generalize val_main_v4 x0 x1 = z
  intro e e'
  pointwise [val_main_v6]
  simp only [e, e', hW, ← EReal.coe_mul, sum_coe]
  rfl

section norm
variable (Y : ℕ → ℕ → ℝ) (hY : ∀ (a : Fin 4096) (b : Fin 1024), val_main_v7 x0 x1 x2 (ix2 a b) = ((Y a b : ℝ) : EReal))

include hY in
/-- A row's sum of squares. -/
theorem r9 (i : Fin 4096) : val_main_v9 x0 x1 x2 (ix1 i) = ((∑ k : Fin 1024, Y i k * Y i k : ℝ) : EReal) := by
  unfold val_main_v9 val_main_v8
  revert hY
  generalize val_main_v7 x0 x1 x2 = y
  intro e
  pointwise [val_main_cst]
  simp only [e, ← EReal.coe_mul, sum_coe]

include hY in
/-- The mean square, moved away from zero. -/
theorem r14 (i : Fin 4096) (j : Fin 1) : val_main_v14 x0 x1 x2 (ix2 i j) = ((ms Y i : ℝ) : EReal) := by
  have e := r9 x0 x1 x2 Y hY
  unfold val_main_v14 val_main_v12 val_main_v10
  revert e
  generalize val_main_v9 x0 x1 x2 = y
  intro e
  pointwise [val_main_v13, val_main_cst_1, val_main_v11, val_main_cst_0]
  rw [e, eps_f32, len_f32, div_real _ _ (by norm_num), ← EReal.coe_add]
  rfl

include hY in
/-- The norm's scale. -/
theorem r15 (i : Fin 4096) (j : Fin 1) : val_main_v15 x0 x1 x2 (ix2 i j) = ((rr Y i : ℝ) : EReal) := by
  have e := r14 x0 x1 x2 Y hY
  unfold val_main_v15
  revert e
  generalize val_main_v14 x0 x1 x2 = y
  intro e
  pointwise
  rw [e]
  exact rsqrt_pos _ (ms_pos Y i)

include hY in
/-- The derivative of the norm's scale by the mean square. -/
theorem r18 (i : Fin 4096) (j : Fin 1) : val_main_v18 x0 x1 x2 (ix2 i j) = ((-(1 / 2) * (rr Y i * rr Y i * rr Y i) : ℝ) : EReal) := by
  have e8 := r14 x0 x1 x2 Y hY
  have e9 := r15 x0 x1 x2 Y hY
  unfold val_main_v18 val_main_v16
  revert e8 e9
  generalize val_main_v14 x0 x1 x2 = y
  generalize val_main_v15 x0 x1 x2 = z
  intro e8 e9
  pointwise [val_main_v17, val_main_cst_2]
  rw [e8, e9, neg_half_f32, div_real _ _ (ms_pos Y i).ne', rr_div, ← EReal.coe_mul]

include hY hD in
/-- The gradient at the gain. -/
theorem r25 (j : Fin 1) (k : Fin 1024) : val_main_v25 x0 x1 x2 x4 (ix2 j k) = ((dg 4096 Y D k : ℝ) : EReal) := by
  have e15 := r15 x0 x1 x2 Y hY
  unfold val_main_v25 val_main_v24 val_main_v23 val_main_v20 val_main_v19
  revert e15 hY
  generalize val_main_v7 x0 x1 x2 = y
  generalize val_main_v15 x0 x1 x2 = z
  intro e e15
  pointwise [val_main_cst_3]
  simp only [e, e15, hD, ← EReal.coe_mul, sum_coe]
  rw [EReal.coe_eq_coe_iff, dg]
  exact Finset.sum_congr rfl fun i _ => by rw [dgRow]; ring

include hG hD in
/-- The cotangent times the gain. -/
theorem r27 (i : Fin 4096) (k : Fin 1024) : val_main_v27 x3 x4 (ix2 i k) = ((D i k * G 0 k : ℝ) : EReal) := by
  pointwise [val_main_v27, val_main_v26]
  rw [hD, hG, ← EReal.coe_mul]

include hY hG hD in
/-- The inner product of a row with its cotangent. -/
theorem r29 (i : Fin 4096) : val_main_v29 x0 x1 x2 x3 x4 (ix1 i) = ((∑ k : Fin 1024, Y i k * (D i k * G 0 k) : ℝ) : EReal) := by
  have e27 := r27 x3 x4 G D hG hD
  unfold val_main_v29 val_main_v28
  revert e27 hY
  generalize val_main_v7 x0 x1 x2 = y
  generalize val_main_v27 x3 x4 = z
  intro e e27
  pointwise [val_main_cst_4]
  simp only [e, e27, ← EReal.coe_mul, sum_coe]

include hY hG hD in
/-- The share that comes through the mean square. -/
theorem r37 (i : Fin 4096) (k : Fin 1024) : val_main_v37 x0 x1 x2 x3 x4 (ix2 i k)
    = (((∑ k : Fin 1024, Y i k * (D i k * G 0 k)) * (-(1 / 2) * (rr Y i * rr Y i * rr Y i)) / 1024 : ℝ) : EReal) := by
  have e29 := r29 x0 x1 x2 x3 x4 G D hG hD Y hY
  have e18 := r18 x0 x1 x2 Y hY
  unfold val_main_v37 val_main_v36 val_main_v35 val_main_v33 val_main_v30
  revert e29 e18
  generalize val_main_v29 x0 x1 x2 x3 x4 = y
  generalize val_main_v18 x0 x1 x2 = z
  intro e29 e18
  pointwise [val_main_v34, val_main_cst_5, val_main_cst_6]
  simp only [e29, e18, len_f32, ← EReal.coe_mul]
  rw [div_real _ _ (by norm_num)]
  exact Finset.sum_singleton _ _

include hY hG hD in
/-- The gradient at the product. -/
theorem r41 (i : Fin 4096) (k : Fin 1024) : val_main_v41 x0 x1 x2 x3 x4 (ix2 i k) = ((dx Y G D i k : ℝ) : EReal) := by
  have e15 := r15 x0 x1 x2 Y hY
  have e27 := r27 x3 x4 G D hG hD
  have e37 := r37 x0 x1 x2 x3 x4 G D hG hD Y hY
  unfold val_main_v41 val_main_v40 val_main_v39 val_main_v38 val_main_v32 val_main_v31
  revert e15 e27 e37 hY
  generalize val_main_v7 x0 x1 x2 = y
  generalize val_main_v15 x0 x1 x2 = y'
  generalize val_main_v27 x3 x4 = z
  generalize val_main_v37 x0 x1 x2 x3 x4 = w
  intro e e15 e27 e37
  pointwise
  rw [e, e15, e27, e37]
  simp only [← EReal.coe_mul, ← EReal.coe_add]
  rw [EReal.coe_eq_coe_iff, dx, proj]
  have s : ∑ k : Fin 1024, Y i k * (D i k * G 0 k) = ∑ k : Fin 1024, D i k * G 0 k * Y i k :=
    Finset.sum_congr rfl fun k _ => mul_comm _ _
  rw [s]
  ring

include hY hG hD in
/-- The gradient at the product, as it is returned. -/
theorem r49 (i : Fin 4096) (k : Fin 1024) : val_main_v49 x0 x1 x2 x3 x4 (ix2 i k) = ((dx Y G D i k : ℝ) : EReal) :=
  r41 x0 x1 x2 x3 x4 G D hG hD Y hY i k

include hW hY hG hD in
/-- The cotangent of the gate's output. -/
theorem r42 (i : Fin 4096) (j : Fin 2816) : val_main_v42 x0 x1 x2 x3 x4 (ix2 i j) = ((da (dx Y G D) W i j : ℝ) : EReal) := by
  have e := r41 x0 x1 x2 x3 x4 G D hG hD Y hY
  unfold val_main_v42
  revert e
  generalize val_main_v41 x0 x1 x2 x3 x4 = y
  intro e
  pointwise [val_main_v6]
  simp only [e, hW, ← EReal.coe_mul, sum_coe]
  rfl

include hQ hU hW hY hG hD in
/-- The gradient at the gate's first half. -/
theorem r46 (i : Fin 4096) (j : Fin 2816) : val_main_v46 x0 x1 x2 x3 x4 (ix2 i j) = ((dq Q U (da (dx Y G D) W) i j : ℝ) : EReal) := by
  have e42 := r42 x0 x1 x2 x3 x4 W G D hW hG hD Y hY
  have e2 := r2 x0 x1 Q hQ
  have es := r3s x0 x1 Q hQ
  have ed := r3d x0 x1 Q hQ
  have e4 := r4 x0 x1 U hU
  unfold val_main_v46 val_main_call1_v2 val_main_call1_v1 val_main_call1_v0 val_main_v44
  revert e42 e2 es ed e4
  generalize val_main_v42 x0 x1 x2 x3 x4 = y
  generalize val_main_v2 x0 x1 = z
  generalize val_main_v3_2 x0 x1 = z1
  generalize val_main_v3_1 x0 x1 = z2
  generalize val_main_v4 x0 x1 = z3
  intro e42 e2 es ed e4
  pointwise
  rw [e42, e2, es, ed, e4]
  simp only [← EReal.coe_mul, ← EReal.coe_add]
  rw [EReal.coe_eq_coe_iff, dq]
  ring

include hQ hW hY hG hD in
/-- The gradient at the gate's second half. -/
theorem r43 (i : Fin 4096) (j : Fin 2816) : val_main_v43 x0 x1 x2 x3 x4 (ix2 i j) = ((du Q (da (dx Y G D) W) i j : ℝ) : EReal) := by
  have e42 := r42 x0 x1 x2 x3 x4 W G D hW hG hD Y hY
  have eq := r3q x0 x1 Q hQ
  unfold val_main_v43
  revert e42 eq
  generalize val_main_v42 x0 x1 x2 x3 x4 = y
  generalize val_main_v3_0 x0 x1 = z
  intro e42 eq
  pointwise
  rw [e42, eq, ← EReal.coe_mul, EReal.coe_eq_coe_iff, du]
  ring

include hQ hU hW hY hG hD in
/-- Both halves' gradients side by side. -/
theorem r50 (i : Fin 4096) (j : Fin 5632) : val_main_v50 x0 x1 x2 x3 x4 (ix2 i j) = ((dgu Q U (da (dx Y G D) W) i j : ℝ) : EReal) := by
  have e46 := r46 x0 x1 x2 x3 x4 Q U W G D hQ hU hW hG hD Y hY
  have e43 := r43 x0 x1 x2 x3 x4 Q W G D hQ hW hG hD Y hY
  unfold val_main_v50 val_main_v48 val_main_v47 val_main_v45
  revert e46 e43
  generalize val_main_v46 x0 x1 x2 x3 x4 = y
  generalize val_main_v43 x0 x1 x2 x3 x4 = z
  intro e46 e43
  rw [dgu]
  by_cases h : (j : ℕ) < 2816
  · rw [if_pos h, ← e46 i ⟨j, h⟩]
    pointwise [val_main_cst_7, val_main_cst_8]
    simp [h]
    exact (congrArg (· + _) (dif_neg (by omega))).trans (zero_add _)
  · rw [if_neg h, ← e43 i ⟨j - 2816, by omega⟩]
    pointwise [val_main_cst_7, val_main_cst_8]
    simp [h]
    exact dif_pos ⟨by omega, by omega⟩

end norm

end Cert.Reference2Ideal.Val
end
-- ==== Proof.DownVal.lean ====
/- The kernel of the down projection's gradient: the three arrays it leaves, from finite arguments. -/
module

public import proofs.«01_k».proof.Proof.DownSpec
public import proofs.«01_k».proof.Proof.Gen.Kernel2Ideal.Value

@[expose] public section
set_option maxRecDepth 16384
noncomputable section
namespace Cert.Kernel2Ideal.Val
open Cert.Kernel2Ideal Cert.Kernel2Ideal.Gen Idealize.ShloMosaic Idealize.ShloMosaic.TcCoe Idealize.SL.Sem
open Idealize.ShloMosaic.Pipeline (Dat)
open Cert.Coe Cert.RmsSpec Cert.DownSpec
open scoped BigOperators

section block
variable (x0 : Vec Ideal S256x1024 .bf16) (v0 : FVec Ideal S256x1024 .f32) (x1 : Vec Ideal S1x1024 .f32) (x2 : Vec Ideal S256x1024 .f32) (x3 : Vec Ideal S2816x1024 .bf16)
  (x4 x5 : Vec Ideal S256x2816 .bf16) (Y G D W Q U : ℕ → ℕ → ℝ)

variable (h0 : ∀ (a : Fin 256) (b : Fin 1024), x0 (ix2 a b) = ((Y a b : ℝ) : EReal))
  (hv : ∀ (a : Fin 256) (b : Fin 1024), v0 (ix2 a b) = ((Y a b : ℝ) : EReal))
  (h1 : ∀ (a : Fin 1) (b : Fin 1024), x1 (ix2 a b) = ((G 0 b : ℝ) : EReal))
  (h2 : ∀ (a : Fin 256) (b : Fin 1024), x2 (ix2 a b) = ((D a b : ℝ) : EReal))
  (h3 : ∀ (a : Fin 2816) (b : Fin 1024), x3 (ix2 a b) = ((W a b : ℝ) : EReal))
  (h4 : ∀ (a : Fin 256) (b : Fin 2816), x4 (ix2 a b) = ((Q a b : ℝ) : EReal))
  (h5 : ∀ (a : Fin 256) (b : Fin 2816), x5 (ix2 a b) = ((U a b : ℝ) : EReal))

include h0 in
/-- The first half's product, widened. -/
theorem p4 (a : Fin 256) (b : Fin 1024) : k0_pay4 x0 (ix2 a b) = ((Y a b : ℝ) : EReal) := by
  pointwise [k0_pay4]
  exact h0 a b

include h0 in
/-- The second half's product, widened. -/
theorem p8 (a : Fin 256) (b : Fin 1024) : k0_pay8 x0 (ix2 a b) = ((Y a b : ℝ) : EReal) := by
  pointwise [k0_pay8]
  exact h0 a b

include h0 in
/-- The norm's scale of a row of the first half. -/
theorem p5 (a : Fin 256) (b : Fin 1) : k0_pay5 x0 (ix2 a b) = ((rr Y a : ℝ) : EReal) := by
  pointwise [k0_pay5]
  simp only [p4 x0 Y h0, ← EReal.coe_mul, sum_coe, eps_f32, len_f32]
  exact rsqrt_ms Y a

include hv in
/-- The norm's scale of a row of the second half. -/
theorem p9 (a : Fin 256) (b : Fin 1) : k0_pay9 (F := Ideal) v0 (ix2 a b) = ((rr Y a : ℝ) : EReal) := by
  pointwise [k0_pay9]
  simp only [hv, ← EReal.coe_mul, sum_coe, eps_f32, len_f32]
  exact rsqrt_ms Y a

include h0 h1 h2 in
/-- The first half's gradient of the norm. -/
theorem p6 (a : Fin 256) (b : Fin 1024) : k0_pay6 x0 x1 x2 (ix2 a b) = ((dx Y G D a b : ℝ) : EReal) := by
  pointwise [k0_pay6]
  simp only [p4 x0 Y h0, p5 x0 Y h0, h1, h2, ← EReal.coe_mul, sum_coe, len_f32]
  rw [div_real _ _ (by norm_num), ← EReal.coe_mul, ← EReal.coe_sub]
  rfl

include hv h1 h2 in
/-- The second half's gradient of the norm. -/
theorem p10 (a : Fin 256) (b : Fin 1024) : k0_pay10 v0 x1 x2 (ix2 a b) = ((dx Y G D a b : ℝ) : EReal) := by
  pointwise [k0_pay10]
  simp only [hv, p9 v0 Y hv, h1, h2, ← EReal.coe_mul, sum_coe, len_f32]
  rw [div_real _ _ (by norm_num), ← EReal.coe_mul, ← EReal.coe_sub]
  rfl

include h0 h2 in
/-- The first half's share of the gradient at the gain. -/
theorem p7 (a : Fin 1) (b : Fin 1024) : k0_pay7 x0 x2 (ix2 a b) = ((∑ i : Fin 256, dgRow Y D i b : ℝ) : EReal) := by
  pointwise [k0_pay7]
  simp only [p4 x0 Y h0, p5 x0 Y h0, h2, ← EReal.coe_mul, sum_coe, zero_f32, zero_add]
  rfl

include hv h2 in
/-- Both halves' share is added to what is there. -/
theorem p12 (u : FVec Ideal S1x1024 .f32) (z : ℕ → ℝ) (hu : ∀ (a : Fin 1) (b : Fin 1024), u (ix2 a b) = ((z b : ℝ) : EReal)) (w : Vec Ideal S1x1024 .f32) (a : Fin 1) (b : Fin 1024) :
    k0_pay12 u v0 x2 w (ix2 a b) = w (ix2 a b) + ((z b + ∑ i : Fin 256, dgRow Y D i b : ℝ) : EReal) := by
  pointwise [k0_pay12]
  simp only [hv, hu, p9 v0 Y hv, h2, ← EReal.coe_mul, sum_coe, ← EReal.coe_add]
  rfl

include h0 h3 in
/-- The cotangent of the gate's output, first half. -/
theorem p13 (a : Fin 256) (b : Fin 2816) : k0_pay13 x0 x3 (ix2 a b) = ((da Y W a b : ℝ) : EReal) := by
  pointwise [k0_pay13]
  simp only [h0, h3, ← EReal.coe_mul, sum_coe]
  rfl

include h0 h3 in
/-- The cotangent of the gate's output, second half. -/
theorem p14 (a : Fin 256) (b : Fin 2816) : k0_pay14 x0 x3 (ix2 a b) = ((da Y W a b : ℝ) : EReal) := by
  pointwise [k0_pay14]
  simp only [h0, h3, ← EReal.coe_mul, sum_coe]
  rfl

include h4 in
/-- The denominator of the logistic function. -/
theorem p18 (a : Fin 256) (b : Fin 2816) : k0_pay18 x4 (ix2 a b) = ((1 + Real.exp (-(Q a b)) : ℝ) : EReal) := by
  pointwise [k0_pay18]
  simp only [h4, zero_sub, zero_bf16, one_bf16, ← EReal.coe_zero, ← EReal.coe_one, ← EReal.coe_sub, ← EReal.coe_neg, Ideal.exp_coe, ← EReal.coe_add]

include h4 in
/-- The logistic function. -/
theorem p15 (a : Fin 256) (b : Fin 2816) : k0_pay15 x4 (ix2 a b) = ((sg (Q a b) : ℝ) : EReal) := by
  pointwise [k0_pay15]
  simp only [h4, zero_sub, zero_bf16, one_bf16, ← EReal.coe_zero, ← EReal.coe_one, ← EReal.coe_sub, ← EReal.coe_neg, Ideal.exp_coe, ← EReal.coe_add]
  exact sg_div _

/-- The logistic function from its denominator. -/
theorem p1 (v : FVec Ideal S256x2816 .bf16) (e : ∀ (a : Fin 256) (b : Fin 2816), v (ix2 a b) = ((1 + Real.exp (-(Q a b)) : ℝ) : EReal)) (a : Fin 256) (b : Fin 2816) :
    k0_pay1 v (ix2 a b) = ((sg (Q a b) : ℝ) : EReal) := by
  pointwise [k0_pay1]
  simp only [e, one_bf16, ← EReal.coe_one]
  exact sg_div _

include h0 h3 h4 h5 in
/-- The first half's gradient at the gate's first half. -/
theorem p16 (a : Fin 256) (b : Fin 2816) : k0_pay16 x0 x3 x4 x5 (ix2 a b) = ((dq Q U (da Y W) a b : ℝ) : EReal) := by
  pointwise [k0_pay16]
  simp only [p13 x0 x3 Y W h0 h3, p15 x4 Q h4, h4, h5, one_bf16, ← EReal.coe_one, ← EReal.coe_sub, ← EReal.coe_mul, ← EReal.coe_add]
  rfl

include h0 h3 h4 in
/-- The first half's gradient at the gate's second half. -/
theorem p17 (a : Fin 256) (b : Fin 2816) : k0_pay17 x0 x3 x4 (ix2 a b) = ((du Q (da Y W) a b : ℝ) : EReal) := by
  pointwise [k0_pay17]
  simp only [p13 x0 x3 Y W h0 h3, p15 x4 Q h4, h4, ← EReal.coe_mul]
  rfl

include h4 h5 in
/-- The second half's gradient at the gate's first half. -/
theorem p2 (z : FVec Ideal S256x2816 .bf16) (A : ℕ → ℕ → ℝ) (hz : ∀ (a : Fin 256) (b : Fin 2816), z (ix2 a b) = ((A a b : ℝ) : EReal))
    (v : FVec Ideal S256x2816 .bf16) (e : ∀ (a : Fin 256) (b : Fin 2816), v (ix2 a b) = ((1 + Real.exp (-(Q a b)) : ℝ) : EReal)) (a : Fin 256) (b : Fin 2816) :
    k0_pay2 z x4 v x5 (ix2 a b) = ((dq Q U A a b : ℝ) : EReal) := by
  pointwise [k0_pay2]
  simp only [hz, p1 Q v e, h4, h5, one_bf16, ← EReal.coe_one, ← EReal.coe_sub, ← EReal.coe_mul, ← EReal.coe_add]
  rfl

include h4 in
/-- The second half's gradient at the gate's second half. -/
theorem p3 (z : FVec Ideal S256x2816 .bf16) (A : ℕ → ℕ → ℝ) (hz : ∀ (a : Fin 256) (b : Fin 2816), z (ix2 a b) = ((A a b : ℝ) : EReal))
    (v : FVec Ideal S256x2816 .bf16) (e : ∀ (a : Fin 256) (b : Fin 2816), v (ix2 a b) = ((1 + Real.exp (-(Q a b)) : ℝ) : EReal)) (a : Fin 256) (b : Fin 2816) :
    k0_pay3 z x4 v (ix2 a b) = ((du Q A a b : ℝ) : EReal) := by
  pointwise [k0_pay3]
  simp only [hz, p1 Q v e, h4, ← EReal.coe_mul]
  rfl

end block

/-- The gain's gradient starts at zero. -/
theorem p11 (a : Fin 1) (b : Fin 1024) : (k0_pay11 : FVec Ideal S1x1024 .f32) (ix2 a b) = 0 := by
  pointwise [k0_pay11]

/-- The block indices at point `t`. -/
theorem idx : ∀ t : Fin cfg0.N, win0_0.index t = ![(t : ℕ), 0] ∧ win0_1.index t = ![0, 0] ∧ win0_2.index t = ![(t : ℕ), 0] ∧ win0_3.index t = ![0, 0] ∧ win0_4.index t = ![(t : ℕ), 0] ∧ win0_5.index t = ![(t : ℕ), 0] ∧ win0_6.index t = ![(t : ℕ), 0] ∧ win0_7.index t = ![(t : ℕ), 0] ∧ win0_8.index t = ![0, 0] :=
  (by decide +kernel : ∀ t : Fin grid0.N, win0_0.index t = ![(t : ℕ), 0] ∧ win0_1.index t = ![0, 0] ∧ win0_2.index t = ![(t : ℕ), 0] ∧ win0_3.index t = ![0, 0] ∧ win0_4.index t = ![(t : ℕ), 0] ∧ win0_5.index t = ![(t : ℕ), 0] ∧ win0_6.index t = ![(t : ℕ), 0] ∧ win0_7.index t = ![(t : ℕ), 0] ∧ win0_8.index t = ![0, 0])

/-- Eight grid points. -/
theorem t_lt (t : Fin cfg0.N) : (t : ℕ) < 8 := lt_of_lt_of_eq t.isLt (by decide : grid0.N = 8)

/-- The lower half of a loaded block. -/
theorem ld_bf16_1024_0 (u : Vec Ideal S512x1024 .bf16) (F : ℕ → ℕ → ℝ) (s : ℕ) (e : ∀ (a : Fin 512) (b : Fin 1024), u (ix2 a b) = ((rows F s a b : ℝ) : EReal)) (a : Fin 256) (b : Fin 1024) :
    View.ld u (Rect.unit (s := S512x1024) ![0, 0] ![256, 1024] inb_S512x1024_S256x1024_0_0) (ix2 a b) = ((rows F (s + 0) a b : ℝ) : EReal) := by
  have e := e ⟨0 + a, by omega⟩ b
  rw [rows] at e ⊢
  rw [Nat.add_assoc, ← e]
  clear e
  pointwise
  try blk_ext

/-- The upper half of a loaded block. -/
theorem ld_bf16_1024_256 (u : Vec Ideal S512x1024 .bf16) (F : ℕ → ℕ → ℝ) (s : ℕ) (e : ∀ (a : Fin 512) (b : Fin 1024), u (ix2 a b) = ((rows F s a b : ℝ) : EReal)) (a : Fin 256) (b : Fin 1024) :
    View.ld u (Rect.unit (s := S512x1024) ![256, 0] ![256, 1024] inb_S512x1024_S256x1024_256_0) (ix2 a b) = ((rows F (s + 256) a b : ℝ) : EReal) := by
  have e := e ⟨256 + a, by omega⟩ b
  rw [rows] at e ⊢
  rw [Nat.add_assoc, ← e]
  clear e
  pointwise
  try blk_ext

/-- The lower half of a loaded block. -/
theorem ld_bf16_2816_0 (u : Vec Ideal S512x2816 .bf16) (F : ℕ → ℕ → ℝ) (s : ℕ) (e : ∀ (a : Fin 512) (b : Fin 2816), u (ix2 a b) = ((rows F s a b : ℝ) : EReal)) (a : Fin 256) (b : Fin 2816) :
    View.ld u (Rect.unit (s := S512x2816) ![0, 0] ![256, 2816] inb_S512x2816_S256x2816_0_0) (ix2 a b) = ((rows F (s + 0) a b : ℝ) : EReal) := by
  have e := e ⟨0 + a, by omega⟩ b
  rw [rows] at e ⊢
  rw [Nat.add_assoc, ← e]
  clear e
  pointwise
  try blk_ext

/-- The upper half of a loaded block. -/
theorem ld_bf16_2816_256 (u : Vec Ideal S512x2816 .bf16) (F : ℕ → ℕ → ℝ) (s : ℕ) (e : ∀ (a : Fin 512) (b : Fin 2816), u (ix2 a b) = ((rows F s a b : ℝ) : EReal)) (a : Fin 256) (b : Fin 2816) :
    View.ld u (Rect.unit (s := S512x2816) ![256, 0] ![256, 2816] inb_S512x2816_S256x2816_256_0) (ix2 a b) = ((rows F (s + 256) a b : ℝ) : EReal) := by
  have e := e ⟨256 + a, by omega⟩ b
  rw [rows] at e ⊢
  rw [Nat.add_assoc, ← e]
  clear e
  pointwise
  try blk_ext

/-- The lower half of a loaded block. -/
theorem ld_f32_1024_0 (u : Vec Ideal S512x1024 .f32) (F : ℕ → ℕ → ℝ) (s : ℕ) (e : ∀ (a : Fin 512) (b : Fin 1024), u (ix2 a b) = ((rows F s a b : ℝ) : EReal)) (a : Fin 256) (b : Fin 1024) :
    View.ld u (Rect.unit (s := S512x1024) ![0, 0] ![256, 1024] inb_S512x1024_S256x1024_0_0) (ix2 a b) = ((rows F (s + 0) a b : ℝ) : EReal) := by
  have e := e ⟨0 + a, by omega⟩ b
  rw [rows] at e ⊢
  rw [Nat.add_assoc, ← e]
  clear e
  pointwise
  try blk_ext

/-- The upper half of a loaded block. -/
theorem ld_f32_1024_256 (u : Vec Ideal S512x1024 .f32) (F : ℕ → ℕ → ℝ) (s : ℕ) (e : ∀ (a : Fin 512) (b : Fin 1024), u (ix2 a b) = ((rows F s a b : ℝ) : EReal)) (a : Fin 256) (b : Fin 1024) :
    View.ld u (Rect.unit (s := S512x1024) ![256, 0] ![256, 1024] inb_S512x1024_S256x1024_256_0) (ix2 a b) = ((rows F (s + 256) a b : ℝ) : EReal) := by
  have e := e ⟨256 + a, by omega⟩ b
  rw [rows] at e ⊢
  rw [Nat.add_assoc, ← e]
  clear e
  pointwise
  try blk_ext

variable (m : (ℓ : Loc nD τ sig) → Buf (Elt Ideal) ℓ) (c : Dev nD) (Q U W G D : ℕ → ℕ → ℝ)

variable (hQ : ∀ (a : Fin 4096) (b : Fin 2816), m ((c : Thread nD τ).loc main_arg0) (ix2 a b) = ((Q a b : ℝ) : EReal))
  (hU : ∀ (a : Fin 4096) (b : Fin 2816), m ((c : Thread nD τ).loc main_arg1) (ix2 a b) = ((U a b : ℝ) : EReal))
  (hW : ∀ (a : Fin 2816) (b : Fin 1024), m ((c : Thread nD τ).loc main_arg2) (ix2 a b) = ((W a b : ℝ) : EReal))
  (hG : ∀ (a : Fin 1) (b : Fin 1024), m ((c : Thread nD τ).loc main_arg3) (ix2 a b) = ((G 0 b : ℝ) : EReal))
  (hD : ∀ (a : Fin 4096) (b : Fin 1024), m ((c : Thread nD τ).loc main_arg4) (ix2 a b) = ((D a b : ℝ) : EReal))

/-- The gate's output times the weight, as the host computes it, at an index. -/
theorem yhost (x0 x1 : Vec Ideal S4096x2816 .bf16) (x2 : Vec Ideal S2816x1024 .bf16) (hQ : ∀ (a : Fin 4096) (b : Fin 2816), x0 (ix2 a b) = ((Q a b : ℝ) : EReal))
    (hU : ∀ (a : Fin 4096) (b : Fin 2816), x1 (ix2 a b) = ((U a b : ℝ) : EReal)) (hW : ∀ (a : Fin 2816) (b : Fin 1024), x2 (ix2 a b) = ((W a b : ℝ) : EReal))
    (a : Fin 4096) (b : Fin 1024) : (truncf .bf16 (Host.dotGeneral dot_S4096x2816_S2816x1024_S4096x1024_1_0_0_1_n_n none (mulf (mulf ((extf .f32 · bitsLt_bf16_f32) x0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf ((extf .f32 · bitsLt_bf16_f32) x0)))))) ((extf .f32 · bitsLt_bf16_f32) x1)) ((extf .f32 · bitsLt_bf16_f32) x2)) bitsLt_bf16_f32 : FVec Ideal S4096x1024 .bf16) (ix2 a b) = ((yv Q U W a b : ℝ) : EReal) := by
  pointwise
  simp only [hQ, hU, hW, one_f32, ← EReal.coe_one, ← EReal.coe_neg, Ideal.exp_coe, ← EReal.coe_add, sg_div, ← EReal.coe_mul, sum_coe]
  rfl

include hQ hU hW in
/-- The buffer of the saved product at the region's entry. -/
theorem vy (a : Fin 4096) (b : Fin 1024) : V m c main_v6 (ix2 a b) = ((yv Q U W a b : ℝ) : EReal) := by
  rw [← yhost Q U W _ _ _ hQ hU hW a b]
  refine congrFun (?_ : V m c main_v6 = _) (ix2 a b)
  simp only [V, hostOps0, hostOps0_1, hostOps0_2, List.flatten_cons, List.flatten_nil, List.cons_append, List.nil_append, List.append_nil]
  after_results_simp <;> rfl

include hQ hU hW in
/-- Window 0's block: the saved product. -/
theorem blk0 (t : Fin cfg0.N) (a : Fin 512) (b : Fin 1024) : iblk m c 0 t (ix2 a b) = ((rows (yv Q U W) (512 * t) a b : ℝ) : EReal) := by
  have ht := t_lt t
  rw [rows, ← vy m c Q U W hQ hU hW ⟨512 * t + a, by omega⟩ b]
  blk_ext [iblk, idx t]

include hG in
/-- Window 1's block. -/
theorem blk1 (t : Fin cfg0.N) (a : Fin 1) (b : Fin 1024) : iblk m c 1 t (ix2 a b) = ((G 0 b : ℝ) : EReal) := by
  rw [← hG a b]
  blk_ext [iblk, V, idx t]

include hD in
/-- Window 2's block. -/
theorem blk2 (t : Fin cfg0.N) (a : Fin 512) (b : Fin 1024) : iblk m c 2 t (ix2 a b) = ((rows D (512 * t) a b : ℝ) : EReal) := by
  have ht := t_lt t
  rw [rows, ← hD ⟨512 * t + a, by omega⟩ b]
  blk_ext [iblk, V, idx t]

include hW in
/-- Window 3's block. -/
theorem blk3 (t : Fin cfg0.N) (a : Fin 2816) (b : Fin 1024) : iblk m c 3 t (ix2 a b) = ((W a b : ℝ) : EReal) := by
  rw [← hW a b]
  blk_ext [iblk, V, idx t]

include hQ in
/-- Window 4's block. -/
theorem blk4 (t : Fin cfg0.N) (a : Fin 512) (b : Fin 2816) : iblk m c 4 t (ix2 a b) = ((rows Q (512 * t) a b : ℝ) : EReal) := by
  have ht := t_lt t
  rw [rows, ← hQ ⟨512 * t + a, by omega⟩ b]
  blk_ext [iblk, V, idx t]

include hU in
/-- Window 5's block. -/
theorem blk5 (t : Fin cfg0.N) (a : Fin 512) (b : Fin 2816) : iblk m c 5 t (ix2 a b) = ((rows U (512 * t) a b : ℝ) : EReal) := by
  have ht := t_lt t
  rw [rows, ← hU ⟨512 * t + a, by omega⟩ b]
  blk_ext [iblk, V, idx t]

/-- One tile's share of the gradient at the gain. -/
def part (n : ℕ) (k : ℕ) : ℝ := (∑ i : Fin 256, dgRow (yv Q U W) D (512 * n + i) k) + ∑ i : Fin 256, dgRow (yv Q U W) D (512 * n + 256 + i) k

include hQ hU hW hD in
/-- A tile's share is added to what is there. -/
theorem part_pay (t : Fin cfg0.N) (w : Vec Ideal S1x1024 .f32) (a : Fin 1) (b : Fin 1024) : k0_pay12
      (k0_pay7 (View.ld (iblk m c 0 t) (Rect.unit ![0, 0] ![256, 1024] inb_S512x1024_S256x1024_0_0)) (View.ld (iblk m c 2 t) (Rect.unit ![0, 0] ![256, 1024] inb_S512x1024_S256x1024_0_0)))
      (k0_pay8 (View.ld (iblk m c 0 t) (Rect.unit ![256, 0] ![256, 1024] inb_S512x1024_S256x1024_256_0))) (View.ld (iblk m c 2 t) (Rect.unit ![256, 0] ![256, 1024] inb_S512x1024_S256x1024_256_0))
      w (ix2 a b) = w (ix2 a b) + ((part Q U W D t b : ℝ) : EReal) := by
  have e7 := p7 _ _ (rows (yv Q U W) (512 * t + 0)) (rows D (512 * t + 0)) (ld_bf16_1024_0 _ (yv Q U W) _ (blk0 m c Q U W hQ hU hW t)) (ld_f32_1024_0 _ D _ (blk2 m c D hD t))
  have e8 := p8 _ (rows (yv Q U W) (512 * t + 256)) (ld_bf16_1024_256 _ (yv Q U W) _ (blk0 m c Q U W hQ hU hW t))
  exact p12 _ _ (rows (yv Q U W) (512 * t + 256)) (rows D (512 * t + 256)) e8 (ld_f32_1024_256 _ D _ (blk2 m c D hD t)) _ (fun b => ∑ i : Fin 256, dgRow (rows (yv Q U W) (512 * t + 0)) (rows D (512 * t + 0)) i b) e7 w a b

include hQ hU hW hD in
/-- The gradient at the gain. -/
theorem final8 : (dats m 0 c).arrAt 8 cfg0.N = fun i : S1x1024.Idx => ((dg 4096 (yv Q U W) D (i 1 : ℕ) : ℝ) : EReal) := by
  refine (dats m 0 c).arrAt_eq_of_covers 8 _ (by decide +kernel) fun t hf y => ?_
  blk_simp
  rw [after0_8, Pipeline.eq_sum_fin_of_reset_step_apply_of_flush (fun n h => (outsAt0 m c n h).2.2) 8 (fun _ => 0)
    (fun t j => ((part Q U W D t (j 1 : ℕ) : ℝ) : EReal))
    (fun t h j => by rw [outsAt0_A m c t h]; frame_out; idx_vars j; exact (part_pay m c Q U W D hQ hU hW hD t _ j0 j1).trans (congrArg (· + _) (p11 j0 j1)))
    (fun t h j => by rw [outsAt0_B m c t h]; frame_out; idx_vars j; exact part_pay m c Q U W D hQ hU hW hD t _ j0 j1)
    t ((flush0_8 t).mp hf) _, zero_add]
  have ht := t_lt t
  have h7 := (flush0_8 t).mp hf
  idx_vars y
  rw [(idx t).2.2.2.2.2.2.2.2]
  show (_ : EReal) = ((dg 4096 (yv Q U W) D (0 * 1024 + (y1 : ℕ)) : ℝ) : EReal)
  refine (sum_coe _).trans (congrArg _ ?_)
  rw [dg, show 0 * 1024 + (y1 : ℕ) = y1 by omega]
  refine Eq.trans ?_ (sum_tiles 8 256 fun i => dgRow (yv Q U W) D i y1)
  refine Finset.sum_congr rfl fun s _ => ?_
  show part Q U W D (8 * ((t : ℕ) / 8) + s) y1 = _
  rw [show 8 * ((t : ℕ) / 8) + (s : ℕ) = s by omega]
  rfl

include hQ hU hW hG hD in
/-- The gradient at the product. -/
theorem final6 : (dats m 0 c).arrAt 6 cfg0.N = fun i : S4096x1024.Idx => ((dx (yv Q U W) G D (i 0 : ℕ) (i 1 : ℕ) : ℝ) : EReal) := by
  refine (dats m 0 c).arrAt_eq_of_covers 6 _ (by decide +kernel) fun t hf y => ?_
  blk_simp
  rw [after0_6, (idx t).2.2.2.2.2.2.1]
  show _ = ((dx (yv Q U W) G D ((t : ℕ) * 512 + (y 0 : ℕ)) (0 * 1024 + (y 1 : ℕ)) : ℝ) : EReal)
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay6 (View.ld (iblk m c 0 t) (Rect.unit ![0, 0] ![256, 1024] inb_S512x1024_S256x1024_0_0)) (iblk m c 1 t) (View.ld (iblk m c 2 t) (Rect.unit ![0, 0] ![256, 1024] inb_S512x1024_S256x1024_0_0)) x
      = ((dx (yv Q U W) G D (512 * (t : ℕ) + (y 0 : ℕ)) (y 1 : ℕ) : ℝ) : EReal) := by
    intro x h0 h1
    rw [h0, h1]
    idx_vars x
    exact p6 _ _ _ (rows (yv Q U W) (512 * t + 0)) G (rows D (512 * t + 0)) (ld_bf16_1024_0 _ (yv Q U W) _ (blk0 m c Q U W hQ hU hW t)) (blk1 m c G hG t) (ld_f32_1024_0 _ D _ (blk2 m c D hD t)) x0 x1
  have hi : ∀ (x : S256x1024.Idx) (h0 : (y 0 : ℕ) = 256 + x 0) (h1 : (y 1 : ℕ) = x 1), k0_pay10 (k0_pay8 (View.ld (iblk m c 0 t) (Rect.unit ![256, 0] ![256, 1024] inb_S512x1024_S256x1024_256_0))) (iblk m c 1 t) (View.ld (iblk m c 2 t) (Rect.unit ![256, 0] ![256, 1024] inb_S512x1024_S256x1024_256_0)) x
      = ((dx (yv Q U W) G D (512 * (t : ℕ) + (y 0 : ℕ)) (y 1 : ℕ) : ℝ) : EReal) := by
    intro x h0 h1
    rw [h0, h1, ← Nat.add_assoc]
    idx_vars x
    exact p10 _ _ _ (rows (yv Q U W) (512 * t + 256)) G (rows D (512 * t + 256)) (p8 _ _ (ld_bf16_1024_256 _ (yv Q U W) _ (blk0 m c Q U W hQ hU hW t))) (blk1 m c G hG t) (ld_f32_1024_256 _ D _ (blk2 m c D hD t)) x0 x1
  by_cases h : (t : ℕ) % 8 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

include hQ hU hW hG hD in
/-- The gradient at the gate's argument. -/
theorem final7 : (dats m 0 c).arrAt 7 cfg0.N = fun i : S4096x5632.Idx => ((dgu Q U (da (dx (yv Q U W) G D) W) (i 0 : ℕ) (i 1 : ℕ) : ℝ) : EReal) := by
  refine (dats m 0 c).arrAt_eq_of_covers 7 _ (by decide +kernel) fun t hf y => ?_
  blk_simp
  rw [after0_7, (idx t).2.2.2.2.2.2.2.1]
  show _ = ((dgu Q U (da (dx (yv Q U W) G D) W) ((t : ℕ) * 512 + (y 0 : ℕ)) (0 * 5632 + (y 1 : ℕ)) : ℝ) : EReal)
  rw [show (t : ℕ) * 512 + (y 0 : ℕ) = 512 * t + y 0 by omega, show 0 * 5632 + (y 1 : ℕ) = y 1 by omega]
  have ll : ∀ (x : S256x2816.Idx) (h0 : (y 0 : ℕ) = x 0) (h1 : (y 1 : ℕ) = x 1), k0_pay16 (k0_pay6 (View.ld (iblk m c 0 t) (Rect.unit ![0, 0] ![256, 1024] inb_S512x1024_S256x1024_0_0)) (iblk m c 1 t) (View.ld (iblk m c 2 t) (Rect.unit ![0, 0] ![256, 1024] inb_S512x1024_S256x1024_0_0))) (iblk m c 3 t) (View.ld (iblk m c 4 t) (Rect.unit ![0, 0] ![256, 2816] inb_S512x2816_S256x2816_0_0)) (View.ld (iblk m c 5 t) (Rect.unit ![0, 0] ![256, 2816] inb_S512x2816_S256x2816_0_0)) x
      = ((dgu Q U (da (dx (yv Q U W) G D) W) (512 * (t : ℕ) + (y 0 : ℕ)) (y 1 : ℕ) : ℝ) : EReal) := by
    intro x h0 h1
    rw [h0, h1, dgu, if_pos (show (x 1 : ℕ) < 2816 from (x 1).isLt)]
    idx_vars x
    exact p16 _ _ _ _ (dx (rows (yv Q U W) (512 * t + 0)) G (rows D (512 * t + 0))) W (rows Q (512 * t + 0)) (rows U (512 * t + 0)) (p6 _ _ _ (rows (yv Q U W) (512 * t + 0)) G (rows D (512 * t + 0)) (ld_bf16_1024_0 _ (yv Q U W) _ (blk0 m c Q U W hQ hU hW t)) (blk1 m c G hG t) (ld_f32_1024_0 _ D _ (blk2 m c D hD t))) (blk3 m c W hW t) (ld_bf16_2816_0 _ Q _ (blk4 m c Q hQ t)) (ld_bf16_2816_0 _ U _ (blk5 m c U hU t)) x0 x1
  have lr : ∀ (x : S256x2816.Idx) (h0 : (y 0 : ℕ) = x 0) (h1 : (y 1 : ℕ) = 2816 + x 1), k0_pay17 (k0_pay6 (View.ld (iblk m c 0 t) (Rect.unit ![0, 0] ![256, 1024] inb_S512x1024_S256x1024_0_0)) (iblk m c 1 t) (View.ld (iblk m c 2 t) (Rect.unit ![0, 0] ![256, 1024] inb_S512x1024_S256x1024_0_0))) (iblk m c 3 t) (View.ld (iblk m c 4 t) (Rect.unit ![0, 0] ![256, 2816] inb_S512x2816_S256x2816_0_0)) x
      = ((dgu Q U (da (dx (yv Q U W) G D) W) (512 * (t : ℕ) + (y 0 : ℕ)) (y 1 : ℕ) : ℝ) : EReal) := by
    intro x h0 h1
    rw [h0, h1, dgu, if_neg (by omega), Nat.add_sub_cancel_left]
    idx_vars x
    exact p17 _ _ _ (dx (rows (yv Q U W) (512 * t + 0)) G (rows D (512 * t + 0))) W (rows Q (512 * t + 0)) (p6 _ _ _ (rows (yv Q U W) (512 * t + 0)) G (rows D (512 * t + 0)) (ld_bf16_1024_0 _ (yv Q U W) _ (blk0 m c Q U W hQ hU hW t)) (blk1 m c G hG t) (ld_f32_1024_0 _ D _ (blk2 m c D hD t))) (blk3 m c W hW t) (ld_bf16_2816_0 _ Q _ (blk4 m c Q hQ t)) x0 x1
  have hl : ∀ (x : S256x2816.Idx) (h0 : (y 0 : ℕ) = 256 + x 0) (h1 : (y 1 : ℕ) = x 1), k0_pay2 (k0_pay14 (k0_pay10 (k0_pay8 (View.ld (iblk m c 0 t) (Rect.unit ![256, 0] ![256, 1024] inb_S512x1024_S256x1024_256_0))) (iblk m c 1 t) (View.ld (iblk m c 2 t) (Rect.unit ![256, 0] ![256, 1024] inb_S512x1024_S256x1024_256_0))) (iblk m c 3 t)) (View.ld (iblk m c 4 t) (Rect.unit ![256, 0] ![256, 2816] inb_S512x2816_S256x2816_256_0)) (k0_pay18 (View.ld (iblk m c 4 t) (Rect.unit ![256, 0] ![256, 2816] inb_S512x2816_S256x2816_256_0))) (View.ld (iblk m c 5 t) (Rect.unit ![256, 0] ![256, 2816] inb_S512x2816_S256x2816_256_0)) x
      = ((dgu Q U (da (dx (yv Q U W) G D) W) (512 * (t : ℕ) + (y 0 : ℕ)) (y 1 : ℕ) : ℝ) : EReal) := by
    intro x h0 h1
    rw [h0, h1, dgu, if_pos (show (x 1 : ℕ) < 2816 from (x 1).isLt), ← Nat.add_assoc]
    idx_vars x
    exact p2 _ _ (rows Q (512 * t + 256)) (rows U (512 * t + 256)) (ld_bf16_2816_256 _ Q _ (blk4 m c Q hQ t)) (ld_bf16_2816_256 _ U _ (blk5 m c U hU t)) _ (da (dx (rows (yv Q U W) (512 * t + 256)) G (rows D (512 * t + 256))) W) (p14 _ _ (dx (rows (yv Q U W) (512 * t + 256)) G (rows D (512 * t + 256))) W (p10 _ _ _ (rows (yv Q U W) (512 * t + 256)) G (rows D (512 * t + 256)) (p8 _ _ (ld_bf16_1024_256 _ (yv Q U W) _ (blk0 m c Q U W hQ hU hW t))) (blk1 m c G hG t) (ld_f32_1024_256 _ D _ (blk2 m c D hD t))) (blk3 m c W hW t)) _ (p18 _ (rows Q (512 * t + 256)) (ld_bf16_2816_256 _ Q _ (blk4 m c Q hQ t))) x0 x1
  have hr : ∀ (x : S256x2816.Idx) (h0 : (y 0 : ℕ) = 256 + x 0) (h1 : (y 1 : ℕ) = 2816 + x 1), k0_pay3 (k0_pay14 (k0_pay10 (k0_pay8 (View.ld (iblk m c 0 t) (Rect.unit ![256, 0] ![256, 1024] inb_S512x1024_S256x1024_256_0))) (iblk m c 1 t) (View.ld (iblk m c 2 t) (Rect.unit ![256, 0] ![256, 1024] inb_S512x1024_S256x1024_256_0))) (iblk m c 3 t)) (View.ld (iblk m c 4 t) (Rect.unit ![256, 0] ![256, 2816] inb_S512x2816_S256x2816_256_0)) (k0_pay18 (View.ld (iblk m c 4 t) (Rect.unit ![256, 0] ![256, 2816] inb_S512x2816_S256x2816_256_0))) x
      = ((dgu Q U (da (dx (yv Q U W) G D) W) (512 * (t : ℕ) + (y 0 : ℕ)) (y 1 : ℕ) : ℝ) : EReal) := by
    intro x h0 h1
    rw [h0, h1, dgu, if_neg (by omega), Nat.add_sub_cancel_left, ← Nat.add_assoc]
    idx_vars x
    exact p3 _ (rows Q (512 * t + 256)) (ld_bf16_2816_256 _ Q _ (blk4 m c Q hQ t)) _ (da (dx (rows (yv Q U W) (512 * t + 256)) G (rows D (512 * t + 256))) W) (p14 _ _ (dx (rows (yv Q U W) (512 * t + 256)) G (rows D (512 * t + 256))) W (p10 _ _ _ (rows (yv Q U W) (512 * t + 256)) G (rows D (512 * t + 256)) (p8 _ _ (ld_bf16_1024_256 _ (yv Q U W) _ (blk0 m c Q U W hQ hU hW t))) (blk1 m c G hG t) (ld_f32_1024_256 _ D _ (blk2 m c D hD t))) (blk3 m c W hW t)) _ (p18 _ (rows Q (512 * t + 256)) (ld_bf16_2816_256 _ Q _ (blk4 m c Q hQ t))) x0 x1
  by_cases h : (t : ℕ) % 8 = 0
  · rw [outsAt0_A m c t h]; frame_out
    canon_tiles x h
    · exact hr x (by omega) (by omega)
    · exact hl x (by omega) (by omega)
    · exact lr x (by omega) (by omega)
    · exact ll x (by omega) (by omega)
  · rw [outsAt0_B m c t h]; frame_out
    canon_tiles x h
    · exact hr x (by omega) (by omega)
    · exact hl x (by omega) (by omega)
    · exact lr x (by omega) (by omega)
    · exact ll x (by omega) (by omega)

end Cert.Kernel2Ideal.Val
end
-- ==== Proof.DownClaim.lean ====
/- The gradient of the down projection, its norm and the gate: the kernel's results are the reference's, from finite arguments. -/
module

public import proofs.«01_k».proof.Proof.DownRef
public import proofs.«01_k».proof.Proof.DownVal
public import proofs.«01_k».proof.Proof.Gen.Pre_down_finite
public import proofs.«01_k».proof.Defs
public import Idealize.ShloMosaic.Lib.Claim

@[expose] public section
set_option maxRecDepth 16384
noncomputable section
namespace Cert.DownClaim
open Idealize.ShloMosaic Idealize.ShloMosaic.TcCoe Idealize.SL.Sem
open Cert.Coe

/-- Finite arguments are real numbers. -/
theorem reals (x0 : Vec Ideal Cert.Pre_down_finite.S4096x2816 .bf16) (x1 : Vec Ideal Cert.Pre_down_finite.S4096x2816 .bf16) (x2 : Vec Ideal Cert.Pre_down_finite.S2816x1024 .bf16) (x3 : Vec Ideal Cert.Pre_down_finite.S1x1024 .f32) (x4 : Vec Ideal Cert.Pre_down_finite.S4096x1024 .f32)
    (h : (Cert.Pre_down_finite.fn (F := Ideal) x0 x1 x2 x3 x4).1 = (fun _ => 1#1)
      ∧ (Cert.Pre_down_finite.fn (F := Ideal) x0 x1 x2 x3 x4).2.1 = (fun _ => 1#1)
      ∧ (Cert.Pre_down_finite.fn (F := Ideal) x0 x1 x2 x3 x4).2.2.1 = (fun _ => 1#1)
      ∧ (Cert.Pre_down_finite.fn (F := Ideal) x0 x1 x2 x3 x4).2.2.2.1 = (fun _ => 1#1)
      ∧ (Cert.Pre_down_finite.fn (F := Ideal) x0 x1 x2 x3 x4).2.2.2.2 = (fun _ => 1#1)) :
    ∃ Q U W G D : ℕ → ℕ → ℝ, (∀ (a : Fin 4096) (b : Fin 2816), x0 (ix2 a b) = ((Q a b : ℝ) : EReal))
      ∧ (∀ (a : Fin 4096) (b : Fin 2816), x1 (ix2 a b) = ((U a b : ℝ) : EReal))
      ∧ (∀ (a : Fin 2816) (b : Fin 1024), x2 (ix2 a b) = ((W a b : ℝ) : EReal))
      ∧ (∀ (a : Fin 1) (b : Fin 1024), x3 (ix2 a b) = ((G 0 b : ℝ) : EReal))
      ∧ (∀ (a : Fin 4096) (b : Fin 1024), x4 (ix2 a b) = ((D a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2.1 (ix2 a b)
    rw [← top_f32]
    exact this)
  have e2 : ∀ a b, ∃ r : ℝ, x2 (ix2 a b) = (r : EReal) := fun a b => real_of_cmpf (φ := .f32) (x2 (ix2 a b)) (by
    have := congrFun h.2.2.1 (ix2 a b)
    rw [← top_f32]
    exact this)
  have e3 : ∀ a b, ∃ r : ℝ, x3 (ix2 a b) = (r : EReal) := fun a b => real_of_cmpf (φ := .f32) (x3 (ix2 a b)) (by
    have := congrFun h.2.2.2.1 (ix2 a b)
    rw [← top_f32]
    exact this)
  have e4 : ∀ a b, ∃ r : ℝ, x4 (ix2 a b) = (r : EReal) := fun a b => real_of_cmpf (φ := .f32) (x4 (ix2 a b)) (by
    have := congrFun h.2.2.2.2 (ix2 a b)
    rw [← top_f32]
    exact this)
  obtain ⟨Q, hQ⟩ := real_mat (fun a b => x0 (ix2 a b)) e0
  obtain ⟨U, hU⟩ := real_mat (fun a b => x1 (ix2 a b)) e1
  obtain ⟨W, hW⟩ := real_mat (fun a b => x2 (ix2 a b)) e2
  obtain ⟨G, hG⟩ := real_mat (fun a b => x3 (ix2 a b)) e3
  obtain ⟨D, hD⟩ := real_mat (fun a b => x4 (ix2 a b)) e4
  exact ⟨Q, U, W, G, D, hQ, hU, hW, fun a b => (congrArg (fun a => x3 (ix2 a b)) (Subsingleton.elim a 0)).trans (hG 0 b), hD⟩

set_option maxHeartbeats 1600000 in
/-- The kernel's results are the reference's. -/
theorem algebraic : Cert.algebraic_Kernel2Ideal_Reference2Ideal_pre_down_finite := by
  pair_intro
  · run_from Cert.Kernel2Ideal.Gen.run_main m g
  · refine (θ_run _ _ _).mono (fun r h c => ?_) (Cert.Reference2Ideal.Value.run m' g')
    obtain ⟨Q, U, W, G, D, hQ, hU, hW, hG, hD⟩ := reals _ _ _ _ _ (hpre c)
    obtain ⟨a0, a1, a2, a3, a4⟩ := hagree c
    refine ⟨(h c).1.trans ?_, (h c).2.1.trans ?_, (h c).2.2.1.trans ?_, (h c).2.2.2⟩
    · refine (Reference2Ideal.Read.val_main_v49_eq m' c).trans ?_
      rw [a0, a1, a2, a3, a4]
      refine Eq.trans ?_ (Kernel2Ideal.Val.final6 m c Q U W G D hQ hU hW hG hD).symm
      funext i
      idx_vars i
      exact Reference2Ideal.Val.r49 _ _ _ _ _ G D hG hD (Cert.DownSpec.yv Q U W) (Cert.Reference2Ideal.Val.r7 _ _ _ Q U W hQ hU hW) i0 i1
    · refine (Reference2Ideal.Read.val_main_v50_eq m' c).trans ?_
      rw [a0, a1, a2, a3, a4]
      refine Eq.trans ?_ (Kernel2Ideal.Val.final7 m c Q U W G D hQ hU hW hG hD).symm
      funext i
      idx_vars i
      exact Reference2Ideal.Val.r50 _ _ _ _ _ Q U W G D hQ hU hW hG hD (Cert.DownSpec.yv Q U W) (Cert.Reference2Ideal.Val.r7 _ _ _ Q U W hQ hU hW) i0 i1
    · refine (Reference2Ideal.Read.val_main_v25_eq m' c).trans ?_
      rw [a0, a1, a2, a4]
      refine Eq.trans ?_ (Kernel2Ideal.Val.final8 m c Q U W D hQ hU hW hD).symm
      funext i
      idx_vars i
      exact Reference2Ideal.Val.r25 _ _ _ _ D hD (Cert.DownSpec.yv Q U W) (Cert.Reference2Ideal.Val.r7 _ _ _ Q U W hQ hU hW) i0 i1

end Cert.DownClaim
end
-- ==== Proof.GateUpRef.lean ====
/- The reference's gradients of the gate/up projection, from finite arguments, as the real formulas of `RmsSpec`. -/
module

public import proofs.«01_k».proof.Proof.RmsSpec
public import proofs.«01_k».proof.Proof.Gen.Reference3Ideal.Run
public import proofs.«01_k».proof.Proof.Gen.Reference3Ideal.Read

@[expose] public section
set_option maxRecDepth 16384
noncomputable section
namespace Cert.Reference3Ideal.Val
open Cert.Reference3Ideal Cert.Reference3Ideal.Gen Cert.Reference3Ideal.Read Idealize.ShloMosaic Idealize.ShloMosaic.TcCoe Idealize.SL.Sem
open Cert.Coe Cert.RmsSpec
open scoped BigOperators

variable (x0 : Vec Ideal S4096x5632 .bf16) (x1 : Vec Ideal S5632x1024 .bf16) (x2 : Vec Ideal S4096x1024 .f32) (x3 : Vec Ideal S1x1024 .f32)
  (x4 : Vec Ideal S4096x1024 .f32) (A W X G D : ℕ → ℕ → ℝ)

variable (hA : ∀ (a : Fin 4096) (b : Fin 5632), x0 (ix2 a b) = ((A a b : ℝ) : EReal))
  (hW : ∀ (a : Fin 5632) (b : Fin 1024), x1 (ix2 a b) = ((W a b : ℝ) : EReal))
  (hX : ∀ (a : Fin 4096) (b : Fin 1024), x2 (ix2 a b) = ((X a b : ℝ) : EReal))
  (hG : ∀ (a : Fin 1) (b : Fin 1024), x3 (ix2 a b) = ((G 0 b : ℝ) : EReal))
  (hD : ∀ (a : Fin 4096) (b : Fin 1024), x4 (ix2 a b) = ((D a b : ℝ) : EReal))

include hX in
/-- A row's sum of squares. -/
theorem r3 (i : Fin 4096) : val_main_v3 x2 (ix1 i) = ((∑ k : Fin 1024, X i k * X i k : ℝ) : EReal) := by
  have e : ∀ (a : Fin 4096) (b : Fin 1024), val_main_v2 x2 (ix2 a b) = ((X a b * X a b : ℝ) : EReal) := by
    intro a b
    pointwise [val_main_v2]
    rw [hX, ← EReal.coe_mul]
  unfold val_main_v3
  revert e
  generalize val_main_v2 x2 = y
  intro e
  pointwise [val_main_cst]
  simp only [e, sum_coe]

include hX in
/-- The mean square, moved away from zero. -/
theorem r8 (i : Fin 4096) (j : Fin 1) : val_main_v8 x2 (ix2 i j) = ((ms X i : ℝ) : EReal) := by
  have e := r3 x2 X hX
  unfold val_main_v8 val_main_v6 val_main_v4
  revert e
  generalize val_main_v3 x2 = y
  intro e
  pointwise [val_main_v7, val_main_cst_1, val_main_v5, val_main_cst_0]
  rw [e, eps_f32, len_f32, div_real _ _ (by norm_num), ← EReal.coe_add]
  rfl

include hX in
/-- The norm's scale. -/
theorem r9 (i : Fin 4096) (j : Fin 1) : val_main_v9 x2 (ix2 i j) = ((rr X i : ℝ) : EReal) := by
  have e := r8 x2 X hX
  unfold val_main_v9
  revert e
  generalize val_main_v8 x2 = y
  intro e
  pointwise
  rw [e]
  exact rsqrt_pos _ (ms_pos X i)

include hX in
/-- The derivative of the norm's scale by the mean square. -/
theorem r12 (i : Fin 4096) (j : Fin 1) : val_main_v12 x2 (ix2 i j) = ((-(1 / 2) * (rr X i * rr X i * rr X i) : ℝ) : EReal) := by
  have e8 := r8 x2 X hX
  have e9 := r9 x2 X hX
  unfold val_main_v12 val_main_v10
  revert e8 e9
  generalize val_main_v8 x2 = y
  generalize val_main_v9 x2 = z
  intro e8 e9
  pointwise [val_main_v11, val_main_cst_2]
  rw [e8, e9, neg_half_f32, div_real _ _ (ms_pos X i).ne', rr_div, ← EReal.coe_mul]

include hX in
/-- The scaled rows. -/
theorem r14 (i : Fin 4096) (k : Fin 1024) : val_main_v14 x2 (ix2 i k) = ((X i k * rr X i : ℝ) : EReal) := by
  have e := r9 x2 X hX
  unfold val_main_v14 val_main_v13
  revert e
  generalize val_main_v9 x2 = y
  intro e
  pointwise
  rw [e, hX, ← EReal.coe_mul]

include hA hW in
/-- The cotangent of the norm. -/
theorem r19 (i : Fin 4096) (k : Fin 1024) : val_main_v19 x0 x1 (ix2 i k) = ((mm 5632 A W i k : ℝ) : EReal) := by
  pointwise [val_main_v19, val_main_v18, val_main_v1, val_main_v0]
  simp only [hA, hW, ← EReal.coe_mul, sum_coe]
  rfl

include hA hW hX in
/-- The gradient at the gain. -/
theorem r22 (j : Fin 1) (k : Fin 1024) : val_main_v22 x0 x1 x2 (ix2 j k) = ((dg 4096 X (mm 5632 A W) k : ℝ) : EReal) := by
  have e14 := r14 x2 X hX
  have e19 := r19 x0 x1 A W hA hW
  unfold val_main_v22 val_main_v21 val_main_v20
  revert e14 e19
  generalize val_main_v14 x2 = y
  generalize val_main_v19 x0 x1 = z
  intro e14 e19
  pointwise [val_main_cst_3]
  simp only [e14, e19, ← EReal.coe_mul, sum_coe]
  rw [EReal.coe_eq_coe_iff, dg]
  exact Finset.sum_congr rfl fun i _ => by rw [dgRow]; ring

include hA hW hG in
/-- The cotangent times the gain. -/
theorem r24 (i : Fin 4096) (k : Fin 1024) : val_main_v24 x0 x1 x3 (ix2 i k) = ((mm 5632 A W i k * G 0 k : ℝ) : EReal) := by
  have e := r19 x0 x1 A W hA hW
  unfold val_main_v24
  revert e
  generalize val_main_v19 x0 x1 = y
  intro e
  pointwise [val_main_v23]
  rw [e, hG, ← EReal.coe_mul]

include hA hW hX hG in
/-- The inner product of a row with its cotangent. -/
theorem r26 (i : Fin 4096) : val_main_v26 x0 x1 x2 x3 (ix1 i) = ((∑ k : Fin 1024, X i k * (mm 5632 A W i k * G 0 k) : ℝ) : EReal) := by
  have e := r24 x0 x1 x3 A W G hA hW hG
  unfold val_main_v26 val_main_v25
  revert e
  generalize val_main_v24 x0 x1 x3 = y
  intro e
  pointwise [val_main_cst_4]
  simp only [e, hX, ← EReal.coe_mul, sum_coe]

include hA hW hX hG in
/-- The share that comes through the mean square. -/
theorem r35 (i : Fin 4096) (k : Fin 1024) : val_main_v35 x0 x1 x2 x3 (ix2 i k)
    = (((∑ k : Fin 1024, X i k * (mm 5632 A W i k * G 0 k)) * (-(1 / 2) * (rr X i * rr X i * rr X i)) / 1024 : ℝ) : EReal) := by
  have e26 := r26 x0 x1 x2 x3 A W X G hA hW hX hG
  have e12 := r12 x2 X hX
  unfold val_main_v35 val_main_v34 val_main_v33 val_main_v31 val_main_v27
  revert e26 e12
  generalize val_main_v26 x0 x1 x2 x3 = y
  generalize val_main_v12 x2 = z
  intro e26 e12
  pointwise [val_main_v32, val_main_cst_5, val_main_cst_6]
  simp only [e26, e12, len_f32, ← EReal.coe_mul]
  rw [div_real _ _ (by norm_num)]
  exact Finset.sum_singleton _ _

include hA hW hX hG hD in
/-- The gradient at the norm's argument, with the residual's. -/
theorem r39 (i : Fin 4096) (k : Fin 1024) : val_main_v39 x0 x1 x2 x3 x4 (ix2 i k) = ((dx X G (mm 5632 A W) i k + D i k : ℝ) : EReal) := by
  have e9 := r9 x2 X hX
  have e24 := r24 x0 x1 x3 A W G hA hW hG
  have e35 := r35 x0 x1 x2 x3 A W X G hA hW hX hG
  unfold val_main_v39 val_main_v38 val_main_v37 val_main_v36 val_main_v30 val_main_v29 val_main_v28
  revert e9 e24 e35
  generalize val_main_v9 x2 = y
  generalize val_main_v24 x0 x1 x3 = z
  generalize val_main_v35 x0 x1 x2 x3 = w
  intro e9 e24 e35
  pointwise
  rw [e9, e24, e35, hX, hD]
  simp only [← EReal.coe_mul, ← EReal.coe_add]
  rw [EReal.coe_eq_coe_iff, dx, proj]
  have s : ∑ k : Fin 1024, X i k * (mm 5632 A W i k * G 0 k) = ∑ k : Fin 1024, mm 5632 A W i k * G 0 k * X i k :=
    Finset.sum_congr rfl fun k _ => mul_comm _ _
  rw [s]
  ring

end Cert.Reference3Ideal.Val
end
-- ==== Proof.GateUpVal.lean ====
/- The kernel of the gate/up projection's gradient: the two arrays it leaves, from finite arguments. -/
module

public import proofs.«01_k».proof.Proof.RmsSpec
public import proofs.«01_k».proof.Proof.Gen.Kernel3Ideal.Value

@[expose] public section
set_option maxRecDepth 16384
noncomputable section
namespace Cert.Kernel3Ideal.Val
open Cert.Kernel3Ideal Cert.Kernel3Ideal.Gen Idealize.ShloMosaic Idealize.ShloMosaic.TcCoe Idealize.SL.Sem
open Idealize.ShloMosaic.Pipeline (Dat)
open Cert.Coe Cert.RmsSpec
open scoped BigOperators

section block
variable (x0 : Vec Ideal S256x5632 .bf16) (x1 : Vec Ideal S5632x1024 .bf16) (x2 : Vec Ideal S256x1024 .f32) (x3 : Vec Ideal S1x1024 .f32)
  (x4 : Vec Ideal S256x1024 .f32) (A W X G D : ℕ → ℕ → ℝ)

variable (h0 : ∀ (a : Fin 256) (b : Fin 5632), x0 (ix2 a b) = ((A a b : ℝ) : EReal))
  (h1 : ∀ (a : Fin 5632) (b : Fin 1024), x1 (ix2 a b) = ((W a b : ℝ) : EReal))
  (h2 : ∀ (a : Fin 256) (b : Fin 1024), x2 (ix2 a b) = ((X a b : ℝ) : EReal))
  (h3 : ∀ (a : Fin 1) (b : Fin 1024), x3 (ix2 a b) = ((G 0 b : ℝ) : EReal))
  (h4 : ∀ (a : Fin 256) (b : Fin 1024), x4 (ix2 a b) = ((D a b : ℝ) : EReal))

include h0 h1 in
/-- The cotangent of the norm: a product. -/
theorem p3 (a : Fin 256) (b : Fin 1024) : k0_pay3 x0 x1 (ix2 a b) = ((mm 5632 A W a b : ℝ) : EReal) := by
  pointwise [k0_pay3]
  simp only [h0, h1, ← EReal.coe_mul, sum_coe]
  rfl

include h0 h1 in
theorem p4 (a : Fin 256) (b : Fin 1024) : k0_pay4 x0 x1 (ix2 a b) = ((mm 5632 A W a b : ℝ) : EReal) := by
  pointwise [k0_pay4]
  simp only [h0, h1, ← EReal.coe_mul, sum_coe]
  rfl

include h2 in
/-- The norm's scale of a row. -/
theorem p5 (a : Fin 256) (b : Fin 1) : k0_pay5 x2 (ix2 a b) = ((rr X a : ℝ) : EReal) := by
  pointwise [k0_pay5]
  simp only [h2, ← EReal.coe_mul, sum_coe, eps_f32, len_f32]
  exact rsqrt_ms X a

include h2 in
theorem p9 (a : Fin 256) (b : Fin 1) : k0_pay9 x2 (ix2 a b) = ((rr X a : ℝ) : EReal) := by
  pointwise [k0_pay9]
  simp only [h2, ← EReal.coe_mul, sum_coe, eps_f32, len_f32]
  exact rsqrt_ms X a

include h0 h1 h2 h3 in
/-- The first half's gradient of the norm. -/
theorem p6 (a : Fin 256) (b : Fin 1024) : k0_pay6 x0 x1 x2 x3 (ix2 a b) = ((dx X G (mm 5632 A W) a b : ℝ) : EReal) := by
  pointwise [k0_pay6]
  simp only [p3 x0 x1 A W h0 h1, p5 x2 X h2, h2, h3, ← EReal.coe_mul, sum_coe, len_f32]
  rw [div_real _ _ (by norm_num), ← EReal.coe_mul, ← EReal.coe_sub]
  rfl

include h0 h1 h2 in
/-- The first half's share of the gradient at the gain. -/
theorem p7 (a : Fin 1) (b : Fin 1024) : k0_pay7 x0 x1 x2 (ix2 a b) = ((∑ i : Fin 256, dgRow X (mm 5632 A W) i b : ℝ) : EReal) := by
  pointwise [k0_pay7]
  simp only [p3 x0 x1 A W h0 h1, p5 x2 X h2, h2, ← EReal.coe_mul, sum_coe]
  rfl

include h4 in
/-- The first half's result: the residual's gradient is added. -/
theorem p8 (v : FVec Ideal S256x1024 .f32) (N : ℕ → ℕ → ℝ) (hv : ∀ (a : Fin 256) (b : Fin 1024), v (ix2 a b) = ((N a b : ℝ) : EReal)) (a : Fin 256) (b : Fin 1024) :
    k0_pay8 v x4 (ix2 a b) = ((N a b + D a b : ℝ) : EReal) := by
  pointwise [k0_pay8]
  simp only [hv, h4, ← EReal.coe_add]

include h2 h3 h4 in
/-- The second half's result. -/
theorem p10 (v : FVec Ideal S256x1024 .f32) (N : ℕ → ℕ → ℝ) (hv : ∀ (a : Fin 256) (b : Fin 1024), v (ix2 a b) = ((N a b : ℝ) : EReal)) (a : Fin 256) (b : Fin 1024) :
    k0_pay10 v x2 x3 x4 (ix2 a b) = ((dx X G N a b + D a b : ℝ) : EReal) := by
  pointwise [k0_pay10]
  simp only [hv, p9 x2 X h2, h2, h3, h4, ← EReal.coe_mul, sum_coe, len_f32]
  rw [div_real _ _ (by norm_num), ← EReal.coe_mul, ← EReal.coe_sub, ← EReal.coe_add]
  rfl

include h2 in
/-- Both halves' share of the gradient at the gain. -/
theorem p11 (v : FVec Ideal S256x1024 .f32) (N : ℕ → ℕ → ℝ) (hv : ∀ (a : Fin 256) (b : Fin 1024), v (ix2 a b) = ((N a b : ℝ) : EReal))
    (w : FVec Ideal S1x1024 .f32) (z : ℕ → ℝ) (hw : ∀ (a : Fin 1) (b : Fin 1024), w (ix2 a b) = ((z b : ℝ) : EReal)) (a : Fin 1) (b : Fin 1024) :
    k0_pay11 v w x2 (ix2 a b) = ((z b + ∑ i : Fin 256, dgRow X N i b : ℝ) : EReal) := by
  pointwise [k0_pay11]
  simp only [hv, hw, p9 x2 X h2, h2, ← EReal.coe_mul, sum_coe, zero_f32, ← EReal.coe_add, zero_add]
  rfl

end block

/-- The gain's gradient starts at zero. -/
theorem p1 (a : Fin 1) (b : Fin 1024) : (k0_pay1 : FVec Ideal S1x1024 .f32) (ix2 a b) = 0 := by
  pointwise [k0_pay1]

/-- A tile's share is added to what is there. -/
theorem p2 (v : FVec Ideal S1x1024 .f32) (w : Vec Ideal S1x1024 .f32) (a : Fin 1) (b : Fin 1024) : k0_pay2 v w (ix2 a b) = w (ix2 a b) + v (ix2 a b) := by
  pointwise [k0_pay2]

/-- The block indices at point `t`. -/
theorem idx : ∀ t : Fin cfg0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0] :=
  (by decide +kernel : ∀ t : Fin grid0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0])

/-- Eight grid points. -/
theorem t_lt (t : Fin cfg0.N) : (t : ℕ) < 8 := lt_of_lt_of_eq t.isLt (by decide : grid0.N = 8)

variable (m : (ℓ : Loc nD τ sig) → Buf (Elt Ideal) ℓ) (c : Dev nD) (A W X G D : ℕ → ℕ → ℝ)

variable (hA : ∀ (a : Fin 4096) (b : Fin 5632), m ((c : Thread nD τ).loc main_arg0) (ix2 a b) = ((A a b : ℝ) : EReal))
  (hW : ∀ (a : Fin 5632) (b : Fin 1024), m ((c : Thread nD τ).loc main_arg1) (ix2 a b) = ((W a b : ℝ) : EReal))
  (hX : ∀ (a : Fin 4096) (b : Fin 1024), m ((c : Thread nD τ).loc main_arg2) (ix2 a b) = ((X a b : ℝ) : EReal))
  (hG : ∀ (a : Fin 1) (b : Fin 1024), m ((c : Thread nD τ).loc main_arg3) (ix2 a b) = ((G 0 b : ℝ) : EReal))
  (hD : ∀ (a : Fin 4096) (b : Fin 1024), m ((c : Thread nD τ).loc main_arg4) (ix2 a b) = ((D a b : ℝ) : EReal))

include hA in
theorem blk0 (t : Fin cfg0.N) (a : Fin 512) (b : Fin 5632) : iblk m c 0 t (ix2 a b) = ((rows A (512 * t) a b : ℝ) : EReal) := by
  have ht := t_lt t
  rw [rows, ← hA ⟨512 * t + a, by omega⟩ b]
  blk_ext [iblk, V, idx t]

include hW in
theorem blk1 (t : Fin cfg0.N) (a : Fin 5632) (b : Fin 1024) : iblk m c 1 t (ix2 a b) = ((W a b : ℝ) : EReal) := by
  rw [← hW a b]
  blk_ext [iblk, V, idx t]

include hX in
theorem blk2 (t : Fin cfg0.N) (a : Fin 512) (b : Fin 1024) : iblk m c 2 t (ix2 a b) = ((rows X (512 * t) a b : ℝ) : EReal) := by
  have ht := t_lt t
  rw [rows, ← hX ⟨512 * t + a, by omega⟩ b]
  blk_ext [iblk, V, idx t]

include hG in
theorem blk3 (t : Fin cfg0.N) (a : Fin 1) (b : Fin 1024) : iblk m c 3 t (ix2 a b) = ((G 0 b : ℝ) : EReal) := by
  rw [← hG a b]
  blk_ext [iblk, V, idx t]

include hD in
theorem blk4 (t : Fin cfg0.N) (a : Fin 512) (b : Fin 1024) : iblk m c 4 t (ix2 a b) = ((rows D (512 * t) a b : ℝ) : EReal) := by
  have ht := t_lt t
  rw [rows, ← hD ⟨512 * t + a, by omega⟩ b]
  blk_ext [iblk, V, idx t]

include hA in
theorem blk0l (t : Fin cfg0.N) (a : Fin 256) (b : Fin 5632) :
    View.ld (iblk m c 0 t) (Rect.unit (s := S512x5632) ![0, 0] ![256, 5632] inb_S512x5632_S256x5632_0_0) (ix2 a b) = ((rows A (512 * t + 0) a b : ℝ) : EReal) := by
  have e := blk0 m c A hA t ⟨0 + a, by omega⟩ b
  rw [rows] at e ⊢
  rw [Nat.add_assoc, ← e]
  clear e
  generalize iblk m c _ t = u
  pointwise
  try blk_ext

include hA in
theorem blk0h (t : Fin cfg0.N) (a : Fin 256) (b : Fin 5632) :
    View.ld (iblk m c 0 t) (Rect.unit (s := S512x5632) ![256, 0] ![256, 5632] inb_S512x5632_S256x5632_256_0) (ix2 a b) = ((rows A (512 * t + 256) a b : ℝ) : EReal) := by
  have e := blk0 m c A hA t ⟨256 + a, by omega⟩ b
  rw [rows] at e ⊢
  rw [Nat.add_assoc, ← e]
  clear e
  generalize iblk m c _ t = u
  pointwise
  try blk_ext

include hX in
theorem blk2l (t : Fin cfg0.N) (a : Fin 256) (b : Fin 1024) :
    View.ld (iblk m c 2 t) (Rect.unit (s := S512x1024) ![0, 0] ![256, 1024] inb_S512x1024_S256x1024_0_0) (ix2 a b) = ((rows X (512 * t + 0) a b : ℝ) : EReal) := by
  have e := blk2 m c X hX t ⟨0 + a, by omega⟩ b
  rw [rows] at e ⊢
  rw [Nat.add_assoc, ← e]
  clear e
  generalize iblk m c _ t = u
  pointwise
  try blk_ext

include hX in
theorem blk2h (t : Fin cfg0.N) (a : Fin 256) (b : Fin 1024) :
    View.ld (iblk m c 2 t) (Rect.unit (s := S512x1024) ![256, 0] ![256, 1024] inb_S512x1024_S256x1024_256_0) (ix2 a b) = ((rows X (512 * t + 256) a b : ℝ) : EReal) := by
  have e := blk2 m c X hX t ⟨256 + a, by omega⟩ b
  rw [rows] at e ⊢
  rw [Nat.add_assoc, ← e]
  clear e
  generalize iblk m c _ t = u
  pointwise
  try blk_ext

include hD in
theorem blk4l (t : Fin cfg0.N) (a : Fin 256) (b : Fin 1024) :
    View.ld (iblk m c 4 t) (Rect.unit (s := S512x1024) ![0, 0] ![256, 1024] inb_S512x1024_S256x1024_0_0) (ix2 a b) = ((rows D (512 * t + 0) a b : ℝ) : EReal) := by
  have e := blk4 m c D hD t ⟨0 + a, by omega⟩ b
  rw [rows] at e ⊢
  rw [Nat.add_assoc, ← e]
  clear e
  generalize iblk m c _ t = u
  pointwise
  try blk_ext

include hD in
theorem blk4h (t : Fin cfg0.N) (a : Fin 256) (b : Fin 1024) :
    View.ld (iblk m c 4 t) (Rect.unit (s := S512x1024) ![256, 0] ![256, 1024] inb_S512x1024_S256x1024_256_0) (ix2 a b) = ((rows D (512 * t + 256) a b : ℝ) : EReal) := by
  have e := blk4 m c D hD t ⟨256 + a, by omega⟩ b
  rw [rows] at e ⊢
  rw [Nat.add_assoc, ← e]
  clear e
  generalize iblk m c _ t = u
  pointwise
  try blk_ext

/-- One tile's share of the gradient at the gain. -/
def part (n : ℕ) (k : ℕ) : ℝ := (∑ i : Fin 256, dgRow X (mm 5632 A W) (512 * n + i) k) + ∑ i : Fin 256, dgRow X (mm 5632 A W) (512 * n + 256 + i) k

include hA hW hX in
theorem part_pay (t : Fin cfg0.N) (w : Vec Ideal S1x1024 .f32) (a : Fin 1) (b : Fin 1024) : k0_pay2
      (k0_pay11
        (k0_pay4 (View.ld (iblk m c 0 t) (Rect.unit ![256, 0] ![256, 5632] inb_S512x5632_S256x5632_256_0))
          (iblk m c 1 t))
        (k0_pay7 (View.ld (iblk m c 0 t) (Rect.unit ![0, 0] ![256, 5632] inb_S512x5632_S256x5632_0_0)) (iblk m c 1 t)
          (View.ld (iblk m c 2 t) (Rect.unit ![0, 0] ![256, 1024] inb_S512x1024_S256x1024_0_0)))
        (View.ld (iblk m c 2 t) (Rect.unit ![256, 0] ![256, 1024] inb_S512x1024_S256x1024_256_0)))
      w (ix2 a b) = w (ix2 a b) + ((part A W X t b : ℝ) : EReal) := by
  have e4 := p4 _ _ _ _ (blk0h m c A hA t) (blk1 m c W hW t)
  have e7 := p7 _ _ _ _ _ _ (blk0l m c A hA t) (blk1 m c W hW t) (blk2l m c X hX t)
  have e := p11 _ _ (blk2h m c X hX t) _ _ e4 _ (fun b => ∑ i : Fin 256, dgRow (rows X (512 * t + 0)) (mm 5632 (rows A (512 * t + 0)) W) i b) e7 a b
  exact (p2 _ w a b).trans (congrArg (w (ix2 a b) + ·) e)

include hA hW hX in
/-- The gradient at the gain. -/
theorem final6 : (dats m 0 c).arrAt 6 cfg0.N = fun i : S1x1024.Idx => ((dg 4096 X (mm 5632 A W) (i 1 : ℕ) : ℝ) : EReal) := by
  refine (dats m 0 c).arrAt_eq_of_covers 6 _ (by decide +kernel) fun t hf y => ?_
  blk_simp
  rw [after0_6, Pipeline.eq_sum_fin_of_reset_step_apply_of_flush (fun n h => (outsAt0 m c n h).2) 8 (fun _ => 0)
    (fun t j => ((part A W X t (j 1 : ℕ) : ℝ) : EReal))
    (fun t h j => by rw [outsAt0_A m c t h]; frame_out; idx_vars j; exact (part_pay m c A W X hA hW hX t _ j0 j1).trans (congrArg (· + _) (p1 j0 j1)))
    (fun t h j => by rw [outsAt0_B m c t h]; frame_out; idx_vars j; exact part_pay m c A W X hA hW hX t _ j0 j1)
    t ((flush0_6 t).mp hf) _, zero_add]
  have ht := t_lt t
  have h7 := (flush0_6 t).mp hf
  idx_vars y
  rw [(idx t).2.2.2.2.2.2]
  show (_ : EReal) = ((dg 4096 X (mm 5632 A W) (0 * 1024 + (y1 : ℕ)) : ℝ) : EReal)
  refine (sum_coe _).trans (congrArg _ ?_)
  rw [dg, show 0 * 1024 + (y1 : ℕ) = y1 by omega]
  refine Eq.trans ?_ (sum_tiles 8 256 fun i => dgRow X (mm 5632 A W) i y1)
  refine Finset.sum_congr rfl fun s _ => ?_
  show part A W X (8 * ((t : ℕ) / 8) + s) y1 = _
  rw [show 8 * ((t : ℕ) / 8) + (s : ℕ) = s by omega]
  rfl

include hA hW hX hG hD in
/-- The gradient at the norm's argument, with the residual's. -/
theorem final5 : (dats m 0 c).arrAt 5 cfg0.N = fun i : S4096x1024.Idx => ((dx X G (mm 5632 A W) (i 0 : ℕ) (i 1 : ℕ) + D (i 0 : ℕ) (i 1 : ℕ) : ℝ) : EReal) := by
  refine (dats m 0 c).arrAt_eq_of_covers 5 _ (by decide +kernel) fun t hf y => ?_
  blk_simp
  rw [after0_5, (idx t).2.2.2.2.2.1]
  show _ = ((dx X G (mm 5632 A W) ((t : ℕ) * 512 + (y 0 : ℕ)) (0 * 1024 + (y 1 : ℕ)) + D ((t : ℕ) * 512 + (y 0 : ℕ)) (0 * 1024 + (y 1 : ℕ)) : ℝ) : EReal)
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay8 (k0_pay6 (View.ld (iblk m c 0 t) (Rect.unit ![0, 0] ![256, 5632] inb_S512x5632_S256x5632_0_0))
      (iblk m c 1 t) (View.ld (iblk m c 2 t) (Rect.unit ![0, 0] ![256, 1024] inb_S512x1024_S256x1024_0_0)) (iblk m c 3 t))
      (View.ld (iblk m c 4 t) (Rect.unit ![0, 0] ![256, 1024] inb_S512x1024_S256x1024_0_0)) x
      = ((dx X G (mm 5632 A W) (512 * (t : ℕ) + (y 0 : ℕ)) (y 1 : ℕ) + D (512 * (t : ℕ) + (y 0 : ℕ)) (y 1 : ℕ) : ℝ) : EReal) := by
    intro x h0 h1
    rw [h0, h1]
    idx_vars x
    exact p8 _ _ (blk4l m c D hD t) _ _ (p6 _ _ _ _ _ _ _ _ (blk0l m c A hA t) (blk1 m c W hW t) (blk2l m c X hX t) (blk3 m c G hG t)) x0 x1
  have hi : ∀ (x : S256x1024.Idx) (h0 : (y 0 : ℕ) = 256 + x 0) (h1 : (y 1 : ℕ) = x 1), k0_pay10
      (k0_pay4 (View.ld (iblk m c 0 t) (Rect.unit ![256, 0] ![256, 5632] inb_S512x5632_S256x5632_256_0)) (iblk m c 1 t))
      (View.ld (iblk m c 2 t) (Rect.unit ![256, 0] ![256, 1024] inb_S512x1024_S256x1024_256_0)) (iblk m c 3 t)
      (View.ld (iblk m c 4 t) (Rect.unit ![256, 0] ![256, 1024] inb_S512x1024_S256x1024_256_0)) x
      = ((dx X G (mm 5632 A W) (512 * (t : ℕ) + (y 0 : ℕ)) (y 1 : ℕ) + D (512 * (t : ℕ) + (y 0 : ℕ)) (y 1 : ℕ) : ℝ) : EReal) := by
    intro x h0 h1
    rw [h0, h1, ← Nat.add_assoc]
    idx_vars x
    exact p10 _ _ _ _ _ _ (blk2h m c X hX t) (blk3 m c G hG t) (blk4h m c D hD t) _ _ (p4 _ _ _ _ (blk0h m c A hA t) (blk1 m c W hW t)) x0 x1
  by_cases h : (t : ℕ) % 8 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

end Cert.Kernel3Ideal.Val
end
-- ==== Proof.GateUpClaim.lean ====
/- The gradient of the gate/up projection and its norm: the kernel's results are the reference's, from finite arguments. -/
module

public import proofs.«01_k».proof.Proof.GateUpRef
public import proofs.«01_k».proof.Proof.GateUpVal
public import proofs.«01_k».proof.Proof.Gen.Pre_gate_up_finite
public import proofs.«01_k».proof.Defs
public import Idealize.ShloMosaic.Lib.Claim

@[expose] public section
set_option maxRecDepth 16384
noncomputable section
namespace Cert.GateUpClaim
open Idealize.ShloMosaic Idealize.ShloMosaic.TcCoe Idealize.SL.Sem
open Cert.Coe

/-- Finite arguments are real numbers. -/
theorem reals (x0 : Vec Ideal Cert.Pre_gate_up_finite.S4096x5632 .bf16) (x1 : Vec Ideal Cert.Pre_gate_up_finite.S5632x1024 .bf16) (x2 : Vec Ideal Cert.Pre_gate_up_finite.S4096x1024 .f32) (x3 : Vec Ideal Cert.Pre_gate_up_finite.S1x1024 .f32) (x4 : Vec Ideal Cert.Pre_gate_up_finite.S4096x1024 .f32)
    (h : (Cert.Pre_gate_up_finite.fn (F := Ideal) x0 x1 x2 x3 x4).1 = (fun _ => 1#1)
      ∧ (Cert.Pre_gate_up_finite.fn (F := Ideal) x0 x1 x2 x3 x4).2.1 = (fun _ => 1#1)
      ∧ (Cert.Pre_gate_up_finite.fn (F := Ideal) x0 x1 x2 x3 x4).2.2.1 = (fun _ => 1#1)
      ∧ (Cert.Pre_gate_up_finite.fn (F := Ideal) x0 x1 x2 x3 x4).2.2.2.1 = (fun _ => 1#1)
      ∧ (Cert.Pre_gate_up_finite.fn (F := Ideal) x0 x1 x2 x3 x4).2.2.2.2 = (fun _ => 1#1)) :
    ∃ A W X G D : ℕ → ℕ → ℝ, (∀ (a : Fin 4096) (b : Fin 5632), x0 (ix2 a b) = ((A a b : ℝ) : EReal))
      ∧ (∀ (a : Fin 5632) (b : Fin 1024), x1 (ix2 a b) = ((W a b : ℝ) : EReal))
      ∧ (∀ (a : Fin 4096) (b : Fin 1024), x2 (ix2 a b) = ((X a b : ℝ) : EReal))
      ∧ (∀ (a : Fin 1) (b : Fin 1024), x3 (ix2 a b) = ((G 0 b : ℝ) : EReal))
      ∧ (∀ (a : Fin 4096) (b : Fin 1024), x4 (ix2 a b) = ((D a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2.1 (ix2 a b)
    rw [← top_f32]
    exact this)
  have e2 : ∀ a b, ∃ r : ℝ, x2 (ix2 a b) = (r : EReal) := fun a b => real_of_cmpf (φ := .f32) (x2 (ix2 a b)) (by
    have := congrFun h.2.2.1 (ix2 a b)
    rw [← top_f32]
    exact this)
  have e3 : ∀ a b, ∃ r : ℝ, x3 (ix2 a b) = (r : EReal) := fun a b => real_of_cmpf (φ := .f32) (x3 (ix2 a b)) (by
    have := congrFun h.2.2.2.1 (ix2 a b)
    rw [← top_f32]
    exact this)
  have e4 : ∀ a b, ∃ r : ℝ, x4 (ix2 a b) = (r : EReal) := fun a b => real_of_cmpf (φ := .f32) (x4 (ix2 a b)) (by
    have := congrFun h.2.2.2.2 (ix2 a b)
    rw [← top_f32]
    exact this)
  obtain ⟨A, hA⟩ := real_mat (fun a b => x0 (ix2 a b)) e0
  obtain ⟨W, hW⟩ := real_mat (fun a b => x1 (ix2 a b)) e1
  obtain ⟨X, hX⟩ := real_mat (fun a b => x2 (ix2 a b)) e2
  obtain ⟨G, hG⟩ := real_mat (fun a b => x3 (ix2 a b)) e3
  obtain ⟨D, hD⟩ := real_mat (fun a b => x4 (ix2 a b)) e4
  exact ⟨A, W, X, G, D, hA, hW, hX, fun a b => (congrArg (fun a => x3 (ix2 a b)) (Subsingleton.elim a 0)).trans (hG 0 b), hD⟩

/-- The kernel's results are the reference's. -/
theorem algebraic : Cert.algebraic_Kernel3Ideal_Reference3Ideal_pre_gate_up_finite := by
  pair_intro
  · run_from Cert.Kernel3Ideal.Gen.run_main m g
  · refine (θ_run _ _ _).mono (fun r h c => ?_) (Cert.Reference3Ideal.Value.run m' g')
    obtain ⟨A, W, X, G, D, hA, hW, hX, hG, hD⟩ := reals _ _ _ _ _ (hpre c)
    obtain ⟨a0, a1, a2, a3, a4⟩ := hagree c
    refine ⟨(h c).1.trans ?_, (h c).2.1.trans ?_, (h c).2.2⟩
    · refine (Reference3Ideal.Read.val_main_v39_eq m' c).trans ?_
      rw [a0, a1, a2, a3, a4]
      refine Eq.trans ?_ (Kernel3Ideal.Val.final5 m c A W X G D hA hW hX hG hD).symm
      funext i
      idx_vars i
      exact Reference3Ideal.Val.r39 _ _ _ _ _ A W X G D hA hW hX hG hD i0 i1
    · refine (Reference3Ideal.Read.val_main_v22_eq _ _ _ ).trans ?_
      rw [a0, a1, a2]
      refine Eq.trans ?_ (Kernel3Ideal.Val.final6 m c A W X hA hW hX).symm
      funext i
      idx_vars i
      exact Reference3Ideal.Val.r22 _ _ _ A W X hA hW hX i0 i1

end Cert.GateUpClaim
end
-- ==== Proof.WdClaim.lean ====
/- The gradient of the down projection's weight: the kernel's product of one block of columns at a time is the reference's gradient
   at the weight. -/
module

public import proofs.«01_k».proof.Proof.Coe
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Claim

@[expose] public section
set_option maxRecDepth 16384
noncomputable section
namespace Cert.WdClaim
open Idealize.ShloMosaic Idealize.ShloMosaic.TcCoe Idealize.SL.Sem
open Cert.Coe
open scoped BigOperators

section kernel
open Cert.Kernel4Ideal Cert.Kernel4Ideal.Gen
open Idealize.ShloMosaic.Pipeline (Dat)

/-- One block of the product: the rows of both operands are summed. -/
theorem pay (x0 : Vec Ideal S4096x256 .bf16) (x1 : Vec Ideal S4096x1024 .bf16) (a : Fin 256) (b : Fin 1024) :
    k0_pay1 x0 x1 (ix2 a b) = ∑ k : Fin 4096, x0 (ix2 k a) * x1 (ix2 k b) := by
  pointwise [k0_pay1]

/-- The block indices at point `t`: the first operand's columns and the result's rows move, the second operand stays. -/
theorem idx : ∀ t : Fin cfg0.N, win0_0.index t = ![0, (t : ℕ)] ∧ win0_1.index t = ![0, 0] ∧ win0_2.index t = ![(t : ℕ), 0] :=
  (by decide +kernel : ∀ t : Fin grid0.N, win0_0.index t = ![0, (t : ℕ)] ∧ win0_1.index t = ![0, 0] ∧ win0_2.index t = ![(t : ℕ), 0])

/-- The number of grid points. -/
theorem t_lt (t : Fin cfg0.N) : (t : ℕ) < 11 := lt_of_lt_of_eq t.isLt (by decide : grid0.N = 11)

variable (m : (ℓ : Loc nD τ sig) → Buf (Elt Ideal) ℓ) (c : Dev nD) (A B : ℕ → ℕ → EReal)
variable (hA : ∀ (a : Fin 4096) (b : Fin 2816), m ((c : Thread nD τ).loc main_arg0) (ix2 a b) = A a b)
  (hB : ∀ (a : Fin 4096) (b : Fin 1024), m ((c : Thread nD τ).loc main_arg1) (ix2 a b) = B a b)

include hA in
/-- The first operand's block. -/
theorem blk0 (t : Fin cfg0.N) (a : Fin 4096) (b : Fin 256) : iblk m c 0 t (ix2 a b) = A a (256 * t + b) := by
  have ht := t_lt t
  rw [← hA a ⟨256 * t + b, by omega⟩]
  blk_ext [iblk, V, idx t]

include hB in
/-- The second operand is whole at every point. -/
theorem blk1 (t : Fin cfg0.N) (a : Fin 4096) (b : Fin 1024) : iblk m c 1 t (ix2 a b) = B a b := by
  rw [← hB a b]
  blk_ext [iblk, V, idx t]

/-- One block of the product, from operands given entry by entry. -/
theorem pay_of (x0 : Vec Ideal S4096x256 .bf16) (x1 : Vec Ideal S4096x1024 .bf16) (X Y : ℕ → ℕ → EReal) (h0 : ∀ (a : Fin 4096) (b : Fin 256), x0 (ix2 a b) = X a b)
    (h1 : ∀ (a : Fin 4096) (b : Fin 1024), x1 (ix2 a b) = Y a b) (a : Fin 256) (b : Fin 1024) :
    k0_pay1 x0 x1 (ix2 a b) = ∑ k : Fin 4096, X k a * Y k b := by
  rw [pay]
  exact Finset.sum_congr rfl fun k _ => by rw [h0, h1]

include hA hB in
/-- The array the kernel leaves: the product over the rows of both operands. -/
theorem final2 : (dats m 0 c).arrAt 2 cfg0.N = fun i : S2816x1024.Idx => ∑ k : Fin 4096, A k (i 0 : ℕ) * B k (i 1 : ℕ) := by
  refine (dats m 0 c).arrAt_eq_of_covers 2 _ (by decide +kernel) fun t hf y => ?_
  blk_simp
  rw [after0_2]
  frame_out
  idx_vars y
  refine (pay_of _ _ (fun a b => A a (256 * t + b)) B (blk0 m c A hA t) (blk1 m c B hB t) y0 y1).trans ?_
  rw [(idx t).2.2]
  show _ = ∑ k : Fin 4096, A k ((t : ℕ) * 256 + y0) * B k (0 * 1024 + (y1 : ℕ))
  rw [show (t : ℕ) * 256 + y0 = 256 * t + y0 by omega, show 0 * 1024 + (y1 : ℕ) = y1 by omega]

end kernel

open Cert.Reference4Ideal Cert.Reference4Ideal.Read in
/-- The reference's gradient at an index. -/
theorem ref (x0 : Vec Ideal S4096x2816 .bf16) (x1 : Vec Ideal S4096x1024 .bf16) (A B : ℕ → ℕ → EReal)
    (hA : ∀ (a : Fin 4096) (b : Fin 2816), x0 (ix2 a b) = A a b) (hB : ∀ (a : Fin 4096) (b : Fin 1024), x1 (ix2 a b) = B a b) (i : Fin 2816) (j : Fin 1024) :
    val_main_v6 x0 x1 (ix2 i j) = ∑ k : Fin 4096, A k i * B k j := by
  pointwise [val_main_v6, val_main_v5, val_main_v4, val_main_v3, val_main_v1]
  simp only [hA, hB]
  exact Finset.sum_congr rfl fun k _ => mul_comm _ _

/-- The kernel's result is the reference's, for all arguments. -/
theorem algebraic : Cert.algebraic_Kernel4Ideal_Reference4Ideal := by
  pair_intro
  · run_from Cert.Kernel4Ideal.Gen.run_main m g
  · run_from Cert.Reference4Ideal.Value.run m' g'
    obtain ⟨A, hA⟩ := mat_of (R := 4096) (C := 2816) fun a b => m ((c.tc : Thread Cert.Kernel4Ideal.nD Cert.Kernel4Ideal.τ).loc Cert.Kernel4Ideal.main_arg0) (ix2 a b)
    obtain ⟨B, hB⟩ := mat_of (R := 4096) (C := 1024) fun a b => m ((c.tc : Thread Cert.Kernel4Ideal.nD Cert.Kernel4Ideal.τ).loc Cert.Kernel4Ideal.main_arg1) (ix2 a b)
    rw [Reference4Ideal.Read.val_main_v6_eq, final2 m c A B hA hB]
    funext i
    idx_vars i
    rw [ref _ _ A B hA hB]

end Cert.WdClaim
end
-- ==== Proof.WguClaim.lean ====
/- The gradient of the gate and up projections' weight: the kernel's product of one block of columns at a time is the reference's gradient
   at the weight. -/
module

public import proofs.«01_k».proof.Proof.Coe
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Claim

@[expose] public section
set_option maxRecDepth 16384
noncomputable section
namespace Cert.WguClaim
open Idealize.ShloMosaic Idealize.ShloMosaic.TcCoe Idealize.SL.Sem
open Cert.Coe
open scoped BigOperators

section kernel
open Cert.Kernel5Ideal Cert.Kernel5Ideal.Gen
open Idealize.ShloMosaic.Pipeline (Dat)

/-- One block of the product: the rows of both operands are summed. -/
theorem pay (x0 : Vec Ideal S4096x512 .bf16) (x1 : Vec Ideal S4096x1024 .bf16) (a : Fin 512) (b : Fin 1024) :
    k0_pay1 x0 x1 (ix2 a b) = ∑ k : Fin 4096, x0 (ix2 k a) * x1 (ix2 k b) := by
  pointwise [k0_pay1]

/-- The block indices at point `t`: the first operand's columns and the result's rows move, the second operand stays. -/
theorem idx : ∀ t : Fin cfg0.N, win0_0.index t = ![0, (t : ℕ)] ∧ win0_1.index t = ![0, 0] ∧ win0_2.index t = ![(t : ℕ), 0] :=
  (by decide +kernel : ∀ t : Fin grid0.N, win0_0.index t = ![0, (t : ℕ)] ∧ win0_1.index t = ![0, 0] ∧ win0_2.index t = ![(t : ℕ), 0])

/-- The number of grid points. -/
theorem t_lt (t : Fin cfg0.N) : (t : ℕ) < 11 := lt_of_lt_of_eq t.isLt (by decide : grid0.N = 11)

variable (m : (ℓ : Loc nD τ sig) → Buf (Elt Ideal) ℓ) (c : Dev nD) (A B : ℕ → ℕ → EReal)
variable (hA : ∀ (a : Fin 4096) (b : Fin 5632), m ((c : Thread nD τ).loc main_arg0) (ix2 a b) = A a b)
  (hB : ∀ (a : Fin 4096) (b : Fin 1024), m ((c : Thread nD τ).loc main_arg1) (ix2 a b) = B a b)

include hA in
/-- The first operand's block. -/
theorem blk0 (t : Fin cfg0.N) (a : Fin 4096) (b : Fin 512) : iblk m c 0 t (ix2 a b) = A a (512 * t + b) := by
  have ht := t_lt t
  rw [← hA a ⟨512 * t + b, by omega⟩]
  blk_ext [iblk, V, idx t]

include hB in
/-- The second operand is whole at every point. -/
theorem blk1 (t : Fin cfg0.N) (a : Fin 4096) (b : Fin 1024) : iblk m c 1 t (ix2 a b) = B a b := by
  rw [← hB a b]
  blk_ext [iblk, V, idx t]

/-- One block of the product, from operands given entry by entry. -/
theorem pay_of (x0 : Vec Ideal S4096x512 .bf16) (x1 : Vec Ideal S4096x1024 .bf16) (X Y : ℕ → ℕ → EReal) (h0 : ∀ (a : Fin 4096) (b : Fin 512), x0 (ix2 a b) = X a b)
    (h1 : ∀ (a : Fin 4096) (b : Fin 1024), x1 (ix2 a b) = Y a b) (a : Fin 512) (b : Fin 1024) :
    k0_pay1 x0 x1 (ix2 a b) = ∑ k : Fin 4096, X k a * Y k b := by
  rw [pay]
  exact Finset.sum_congr rfl fun k _ => by rw [h0, h1]

include hA hB in
/-- The array the kernel leaves: the product over the rows of both operands. -/
theorem final2 : (dats m 0 c).arrAt 2 cfg0.N = fun i : S5632x1024.Idx => ∑ k : Fin 4096, A k (i 0 : ℕ) * B k (i 1 : ℕ) := by
  refine (dats m 0 c).arrAt_eq_of_covers 2 _ (by decide +kernel) fun t hf y => ?_
  blk_simp
  rw [after0_2]
  frame_out
  idx_vars y
  refine (pay_of _ _ (fun a b => A a (512 * t + b)) B (blk0 m c A hA t) (blk1 m c B hB t) y0 y1).trans ?_
  rw [(idx t).2.2]
  show _ = ∑ k : Fin 4096, A k ((t : ℕ) * 512 + y0) * B k (0 * 1024 + (y1 : ℕ))
  rw [show (t : ℕ) * 512 + y0 = 512 * t + y0 by omega, show 0 * 1024 + (y1 : ℕ) = y1 by omega]

end kernel

open Cert.Reference5Ideal Cert.Reference5Ideal.Read in
/-- The reference's gradient at an index. -/
theorem ref (x0 : Vec Ideal S4096x5632 .bf16) (x1 : Vec Ideal S4096x1024 .bf16) (A B : ℕ → ℕ → EReal)
    (hA : ∀ (a : Fin 4096) (b : Fin 5632), x0 (ix2 a b) = A a b) (hB : ∀ (a : Fin 4096) (b : Fin 1024), x1 (ix2 a b) = B a b) (i : Fin 5632) (j : Fin 1024) :
    val_main_v7 x0 x1 (ix2 i j) = ∑ k : Fin 4096, A k i * B k j := by
  pointwise [val_main_v7, val_main_v6, val_main_v5, val_main_v4, val_main_v3, val_main_v1]
  simp only [hA, hB]

/-- The kernel's result is the reference's, for all arguments. -/
theorem algebraic : Cert.algebraic_Kernel5Ideal_Reference5Ideal := by
  pair_intro
  · run_from Cert.Kernel5Ideal.Gen.run_main m g
  · run_from Cert.Reference5Ideal.Value.run m' g'
    obtain ⟨A, hA⟩ := mat_of (R := 4096) (C := 5632) fun a b => m ((c.tc : Thread Cert.Kernel5Ideal.nD Cert.Kernel5Ideal.τ).loc Cert.Kernel5Ideal.main_arg0) (ix2 a b)
    obtain ⟨B, hB⟩ := mat_of (R := 4096) (C := 1024) fun a b => m ((c.tc : Thread Cert.Kernel5Ideal.nD Cert.Kernel5Ideal.τ).loc Cert.Kernel5Ideal.main_arg1) (ix2 a b)
    rw [Reference5Ideal.Read.val_main_v7_eq, final2 m c A B hA hB]
    funext i
    idx_vars i
    rw [ref _ _ A B hA hB]

end Cert.WguClaim
end
-- ==== Proof.GuFrameIdeal.lean ====
/- The gate and up projections' call: what its body does at a grid point, and the run of the whole call.
   The output that holds the normalised rows is stored at the first point of each row block and kept at the others; the
   proof data state it as the normalised rows of the point's input block at every point. -/
module

public import proofs.«01_k».proof.Proof.Gen.Kernel6Ideal.Frame
public import proofs.«01_k».proof.Proof.Gen.Kernel6Ideal.Skeleton
public import Idealize.ShloMosaic.Lib.Pipeline.TableIdle
public import Idealize.ShloMosaic.Lib.Pipeline.ValueKit

@[expose] public section

set_option maxRecDepth 16384

noncomputable section

namespace Cert.GuFrameIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

/-- A load of a whole staging buffer of shape S2048x1024 reads its contents. -/
theorem ld0 (v : Memref sig .tc .vmem S2048x1024 .f32) (hv : v.IsWhole) (x : Vec F S2048x1024 .f32) (h : ∀ a, (![0, 0] : Fin 2 → ℕ) a + (![2048, 1024] : Fin 2 → ℕ) a ≤ S2048x1024.size a) :
    v.view.readAt (Elt F) (Rect.unit (s := S2048x1024) ![0, 0] ![2048, 1024] h).toLoadRect (hv.unread x) = x := by
  funext y
  refine Eq.trans (congrFun (hv.read_unread x) _) (congrArg x (funext fun a => Fin.ext ?_))
  fin_cases a <;> simp

/-- A load of a whole staging buffer of shape S1x1024 reads its contents. -/
theorem ld1 (v : Memref sig .tc .vmem S1x1024 .f32) (hv : v.IsWhole) (x : Vec F S1x1024 .f32) (h : ∀ a, (![0, 0] : Fin 2 → ℕ) a + (![1, 1024] : Fin 2 → ℕ) a ≤ S1x1024.size a) :
    v.view.readAt (Elt F) (Rect.unit (s := S1x1024) ![0, 0] ![1, 1024] h).toLoadRect (hv.unread x) = x := by
  funext y
  refine Eq.trans (congrFun (hv.read_unread x) _) (congrArg x (funext fun a => Fin.ext ?_))
  fin_cases a <;> simp

/-- A load of a whole staging buffer of shape S256x1024 reads its contents. -/
theorem ld2 (v : Memref sig .tc .vmem S256x1024 .bf16) (hv : v.IsWhole) (x : Vec F S256x1024 .bf16) (h : ∀ a, (![0, 0] : Fin 2 → ℕ) a + (![256, 1024] : Fin 2 → ℕ) a ≤ S256x1024.size a) :
    v.view.readAt (Elt F) (Rect.unit (s := S256x1024) ![0, 0] ![256, 1024] h).toLoadRect (hv.unread x) = x := by
  funext y
  refine Eq.trans (congrFun (hv.read_unread x) _) (congrArg x (funext fun a => Fin.ext ?_))
  fin_cases a <;> simp

/-- A load of a whole staging buffer of shape S2048x1024 reads its contents. -/
theorem ld9 (v : Memref sig .tc .vmem S2048x1024 .bf16) (hv : v.IsWhole) (x : Vec F S2048x1024 .bf16) (h : ∀ a, (![0, 0] : Fin 2 → ℕ) a + (![2048, 1024] : Fin 2 → ℕ) a ≤ S2048x1024.size a) :
    v.view.readAt (Elt F) (Rect.unit (s := S2048x1024) ![0, 0] ![2048, 1024] h).toLoadRect (hv.unread x) = x := by
  funext y
  refine Eq.trans (congrFun (hv.read_unread x) _) (congrArg x (funext fun a => Fin.ext ?_))
  fin_cases a <;> simp

/-- A buffer after one store of the whole reads the stored value. -/
theorem whole {s : Shape} {e : EltTy} (v : View sig .tc .vmem s e) (f : v.ty.Contents (Elt F)) (w : s.Idx → Elt F e) {off : Fin s.rank → ℕ} (ho : ∀ a, off a = 0)
    (h : ∀ a, off a + s.size a ≤ s.size a) : v.read (Elt F) (v.writes (Elt F) f [⟨Rect.unit off s.size h, w⟩]) = w := by
  have hc : ∀ y : s.Idx, ∃ p ∈ ([⟨Rect.unit off s.size h, w⟩] : List (View.Piece (Elt F) s e)), y ∈ p.1.set := by
    intro y
    refine ⟨⟨Rect.unit off s.size h, w⟩, List.mem_singleton_self _, ?_⟩
    show y ∈ (Rect.unit off s.size h).set
    rw [Rect.mem_set_unit]
    intro a
    have := (y a).isLt
    rw [ho]
    omega
  rw [View.read_writes_eq_canon v f _ hc]
  exact View.canon_cons_unit_lit h w [] ho

set_option maxHeartbeats 1600000 in
/-- The body at a point that stores the normalised rows: it leaves them, the two products of them with the weight blocks, and the gated product. -/
theorem run_store (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole)
    (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1024 .bf16) (harg9 : arg9.IsWhole) (hc0 : k0_cond1 i = 1#1)
    (x0 : Vec F S2048x1024 .f32) (x1 : Vec F S1x1024 .f32) (x2 x3 : Vec F S256x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay1 x0 x1) x2) ∗ owns (c : Thread nD τ) arg7 fullShare (k0_pay4 (k0_pay1 x0 x1) x3) ∗ owns (c : Thread nD τ) arg8 fullShare (k0_pay5 (k0_pay1 x0 x1) x2 x3) ∗ owns (c : Thread nD τ) arg9 fullShare (k0_pay1 x0 x1)) -∗ K ⟨⟩))
      ⊢ wp frame (wpE (defs₀ (F := F)) Variants.none c none) E (cc0_gu i arg2 harg2 arg3 harg3 arg4 harg4 arg5 harg5 arg6 harg6 arg7 harg7 arg8 harg8 arg9 harg9) K := by
  simp only [cc0_gu_eq_skeleton]; unfold cc0_gu_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (whole _ _ _ (by decide) _).trans ?_
    delta run_store.sl.v3 run_store.sl.H7_1; simp only [View.readCov_cons_toLoadRect, ld0, ld1, ld2, ld9]
  isplitl [H5]
  · iexists _; isplitr
    swap; · iexact H5
    ipureintro; refine (whole _ _ _ (by decide) _).trans ?_
    delta run_store.sl.v3 run_store.sl.H7_1; simp only [View.readCov_cons_toLoadRect, ld0, ld1, ld2, ld9]
  isplitl [H6]
  · iexists _; isplitr
    swap; · iexact H6
    ipureintro; refine (whole _ _ _ (by decide) _).trans ?_
    delta run_store.sl.v3 run_store.sl.H7_1; simp only [View.readCov_cons_toLoadRect, ld0, ld1, ld2, ld9]
  · iexists _; isplitr
    swap; · iexact H7
    ipureintro; refine (whole _ _ _ (by decide) _).trans ?_
    simp only [View.readCov_cons_toLoadRect, ld0, ld1, ld2, ld9]

set_option maxHeartbeats 1600000 in
/-- The body at any other point: it reads the rows kept from the point before. -/
theorem run_keep (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole)
    (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1024 .bf16) (harg9 : arg9.IsWhole) (hc0 : ¬k0_cond1 i = 1#1)
    (x0 : Vec F S2048x1024 .f32) (x1 : Vec F S1x1024 .f32) (x2 x3 : Vec F S256x1024 .bf16) (x7 : Vec F S2048x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x7 x2) ∗ owns (c : Thread nD τ) arg7 fullShare (k0_pay4 x7 x3) ∗ owns (c : Thread nD τ) arg8 fullShare (k0_pay5 x7 x2 x3) ∗ owns (c : Thread nD τ) arg9 fullShare x7) -∗ K ⟨⟩))
      ⊢ wp frame (wpE (defs₀ (F := F)) Variants.none c none) E (cc0_gu i arg2 harg2 arg3 harg3 arg4 harg4 arg5 harg5 arg6 harg6 arg7 harg7 arg8 harg8 arg9 harg9) K := by
  simp only [cc0_gu_eq_skeleton]; unfold cc0_gu_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; refine (whole _ _ _ (by decide) _).trans ?_
    simp only [View.readCov_cons_toLoadRect, ld0, ld1, ld2, ld9]
  isplitl [H5]
  · iexists _; isplitr
    swap; · iexact H5
    ipureintro; refine (whole _ _ _ (by decide) _).trans ?_
    simp only [View.readCov_cons_toLoadRect, ld0, ld1, ld2, ld9]
  isplitl [H6]
  · iexists _; isplitr
    swap; · iexact H6
    ipureintro; refine (whole _ _ _ (by decide) _).trans ?_
    simp only [View.readCov_cons_toLoadRect, ld0, ld1, ld2, ld9]
  · iexists _; isplitr; · ipureintro; exact harg9.read_unread _
    iexact H7

variable (m : (ℓ : Loc nD τ sig) → Buf (Elt F) ℓ) (ρ : Dev nD → PrngReg)

/-- The normalised rows of the point's input block. -/
def rows (c : Dev nD) (t : Fin cfg0.N) : Vec F S2048x1024 .bf16 := k0_pay1 (iblk m c 0 t) (iblk m c 1 t)

/-- The number of grid points. -/
theorem t_lt (t : Fin cfg0.N) : t.val < 22 := lt_of_lt_of_eq t.isLt (show cfg0.N = 22 from N_0)

/-- The proof data: every input's buffer at its block, and the outputs' at the values the body stores or keeps. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (rows m c t) (iblk m c 2 t)
    | ⟨5, _⟩ => k0_pay4 (rows m c t) (iblk m c 3 t)
    | ⟨6, _⟩ => k0_pay5 (rows m c t) (iblk m c 2 t) (iblk m c 3 t)
    | ⟨7, _⟩ => rows m c t
  Φ _ := Pipeline.ΦA spec0 c
  q w := Pipeline.shareOf spec0 w
  owed _ := 0

/-- The arrays are those the call finds. -/
theorem arrays (c : Dev nD) (w : Fin cfg0.W) : (dats m 0 c).A w = V m c (Pipeline.arrRef spec0 w) := by dsimp only [dats]

/-- What the body leaves in each input window's buffer is its block. -/
theorem left0 (c : Dev nD) (t : Fin cfg0.N) : (dats m 0 c).after 0 t = iblk m c 0 t := by dsimp only [dats]
/-- The same for the gain. -/
theorem left1 (c : Dev nD) (t : Fin cfg0.N) : (dats m 0 c).after 1 t = iblk m c 1 t := by dsimp only [dats]
/-- The same for the gate's weight block. -/
theorem left2 (c : Dev nD) (t : Fin cfg0.N) : (dats m 0 c).after 2 t = iblk m c 2 t := by dsimp only [dats]
/-- The same for the up projection's weight block. -/
theorem left3 (c : Dev nD) (t : Fin cfg0.N) : (dats m 0 c).after 3 t = iblk m c 3 t := by dsimp only [dats]
/-- The gate's product. -/
theorem left4 (c : Dev nD) (t : Fin cfg0.N) : (dats m 0 c).after 4 t = k0_pay3 (rows m c t) (iblk m c 2 t) := by dsimp only [dats]
/-- The up projection's product. -/
theorem left5 (c : Dev nD) (t : Fin cfg0.N) : (dats m 0 c).after 5 t = k0_pay4 (rows m c t) (iblk m c 3 t) := by dsimp only [dats]
/-- The gated product. -/
theorem left6 (c : Dev nD) (t : Fin cfg0.N) : (dats m 0 c).after 6 t = k0_pay5 (rows m c t) (iblk m c 2 t) (iblk m c 3 t) := by dsimp only [dats]
/-- The normalised rows. -/
theorem left7 (c : Dev nD) (t : Fin cfg0.N) : (dats m 0 c).after 7 t = rows m c t := by dsimp only [dats]

/-- Each input window's buffer holds its block when the body runs. -/
theorem found0 (c : Dev nD) (t : Fin cfg0.N) (d) : (dats m 0 c).before 0 t d = iblk m c 0 t := before0_0_of m (dats m 0 c) (arrays m c 0) (left0 m c) t d
/-- The same for the gain. -/
theorem found1 (c : Dev nD) (t : Fin cfg0.N) (d) : (dats m 0 c).before 1 t d = iblk m c 1 t := before0_1_of m (dats m 0 c) (arrays m c 1) (left1 m c) t d
/-- The same for the gate's weight block. -/
theorem found2 (c : Dev nD) (t : Fin cfg0.N) (d) : (dats m 0 c).before 2 t d = iblk m c 2 t := before0_2_of m (dats m 0 c) (arrays m c 2) (left2 m c) t d
/-- The same for the up projection's weight block. -/
theorem found3 (c : Dev nD) (t : Fin cfg0.N) (d) : (dats m 0 c).before 3 t d = iblk m c 3 t := before0_3_of m (dats m 0 c) (arrays m c 3) (left3 m c) t d

/-- The body stores the normalised rows at the first point of each row block. -/
theorem cond (t : Fin cfg0.N) : k0_cond1 (grid0.coords t) = 1#1 ↔ t.val % 11 = 0 := by
  have ht := t_lt t
  have e0 : (grid0.coords t 0).val = t.val / 11 % 2 := Pipeline.Grid.coords_val t 0 (by decide) rfl
  have e1 : (grid0.coords t 1).val = t.val / 1 % 11 := Pipeline.Grid.coords_val t 1 (by decide) rfl
  simp only [k0_cond1, e0, e1]
  word_cmp

/-- So the window of the normalised rows is idle at every other point. -/
theorem idle7 (t : Fin cfg0.N) : cfg0.idle 7 (cfg0.grid.coords t) = !decide (t.val % 11 = 0) := by
  show (!(k0_cond1 (grid0.coords t) == 1#1)) = _
  by_cases h : t.val % 11 = 0
  · rw [(cond t).mpr h]; simp [h]
  · rw [beq_eq_false_iff_ne.mpr fun e => h ((cond t).mp e)]
    simp [h]

/-- The window's buffer holds nothing stored exactly at the first point of each row block. -/
theorem fresh7 (n : ℕ) (hn : n ≤ cfg0.N) : cfg0.fresh 7 n = decide (n % 11 = 0) := by
  refine cfg0.fresh_tab 7 (fun n => decide (n % 11 = 0)) rfl (fun t => ?_) n hn
  rw [idle7, show (cfg0.win 7).flush t = decide (t.val % 11 = 10) from Bool.eq_iff_iff.mpr ((flush0_7 t).trans (by simp))]
  have ht := t_lt t
  rcases (by omega : t.val % 11 = 0 ∨ t.val % 11 = 10 ∨ (t.val % 11 ≠ 0 ∧ t.val % 11 ≠ 10)) with h | h | h
  · simp [h]; omega
  · simp [h]; omega
  · simp [h.1, h.2]; omega

/-- Within a row block the normalised rows do not change: neither input window moves. -/
theorem rows_eq (c : Dev nD) (t : Fin cfg0.N) (h0 : t.val ≠ 0) (h : t.val % 11 ≠ 0) :
    rows m c t = rows m c ⟨t.val - 1, by omega⟩ := by
  have a0 : (cfg0.win 0).fetch t = false := Bool.eq_false_iff.mpr fun e => h ((fetch0_0 t).mp e)
  have a1 : (cfg0.win 1).fetch t = false := Bool.eq_false_iff.mpr fun e => by have := (fetch0_1 t).mp e; omega
  have b0 := (found0 m c t (fun _ => Classical.arbitrary _)).symm.trans (((dats m 0 c).before_unfetched_in 0 rfl t a0 (fun _ => rfl) _))
  have b1 := (found1 m c t (fun _ => Classical.arbitrary _)).symm.trans (((dats m 0 c).before_unfetched_in 1 rfl t a1 (fun _ => rfl) _))
  unfold rows
  rw [b0, b1]
  rfl

/-- At any other point the window's buffer holds the normalised rows already. -/
theorem found7 (c : Dev nD) (t : Fin cfg0.N) (h : t.val % 11 ≠ 0) (d) : (dats m 0 c).before 7 t d = rows m c t := by
  have ht := t_lt t
  have e := (dats m 0 c).before_out_traj 7 rfl (fun _ _ => rfl) (fun t h0 hi hf => by
    rw [left7, left7]
    refine rows_eq m c t h0 fun e => ?_
    rw [idle7, e] at hi
    exact absurd hi (by decide)) t.val t rfl d
  rw [e, fresh7 _ (le_of_lt t.isLt), if_neg (by simp [h]), left7]
  exact (rows_eq m c t (by omega) h).symm

/-- What the body is called with at a point. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns. -/
def post (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at any point, from what it finds to what it leaves. -/
theorem body (c : Dev nD) (t : Fin cfg0.N) :
    pre m c t ⊢ wp frame (wpE (defs₀ (F := F)) Variants.none c none) Set.univ (bodyAt0 t) (fun _ => post m c t) := by
  unfold pre post bodyAt0
  simp only [found0, found1, found2, found3]
  rw [show (dats m 0 c).Φ t.succ = (dats m 0 c).Φ t.castSucc from rfl,
    show (dats m 0 c).owesAt () t.succ = (dats m 0 c).owesAt () t.castSucc from rfl,
    left0, left1, left2, left3, left4, left5, left6, left7]
  by_cases h0 : t.val % 11 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_store c (grid0.coords t) _ _ _ _ _ _ _ _ _ _ _ _ _ _ _ _ ((cond t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    unfold rows
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [found7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_keep c (grid0.coords t) _ _ _ _ _ _ _ _ _ _ _ _ _ _ _ _ (fun e => h0 ((cond t).mp e)) (iblk m c 0 t) (iblk m c 1 t) (iblk m c 2 t) (iblk m c 3 t) (rows m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body. -/
theorem row (t : Fin cfg0.N) : defs₀ (F := F) .tc cfg0.body (cfg0.bodyArgs t (cfg0.slots t)) = bodyAt0 t := by
  unfold defs₀; rw [Defs.onTc_tc]

/-- At every point the window of the normalised rows ends at what the pipeline asks of it, which at an idle point that does not write back is what it found. -/
theorem kept7 (c : Dev nD) (t : Fin cfg0.N) : owns (c : Thread nD τ) (st0_7 t) fullShare ((dats m 0 c).after 7 t)
    ⊢ (match cfg0.idle 7 (cfg0.grid.coords t) with
      | true =>
        match (cfg0.win 7).flush t with
        | false => iprop(∃ d, owns (c : Thread nD τ) (st0_7 t) fullShare ((dats m 0 c).before 7 t d))
        | true => owns (c : Thread nD τ) (st0_7 t) fullShare ((dats m 0 c).after 7 t)
      | false => owns (c : Thread nD τ) (st0_7 t) fullShare ((dats m 0 c).after 7 t) : sProp (MT nD τ sig Unit (Elt F) ℕ (UR sig nD τ) ℕ)) := by
  by_cases h : t.val % 11 = 0
  · rw [idle7 t, show (!decide (t.val % 11 = 0)) = false by simp [h]]
  · rw [idle7 t, show (!decide (t.val % 11 = 0)) = true by simp [h]]
    cases (cfg0.win 7).flush t
    · simp only [found7 m c t h, left7]
      iintro H
      iexists (fun _ => Classical.arbitrary _)
      iexact H
    · exact .rfl

/-- What the body returns is what the pipeline asks, window by window. -/
theorem post_le (c : Dev nD) (t : Fin cfg0.N) (P0 P1 Q0 Q1 Q2 Q3 Q4 Q5 Q6 Q7 Q8 : sProp (MT nD τ sig Unit (Elt F) ℕ (UR sig nD τ) ℕ)) (h : Q7 ⊢ Q8) :
    iprop(P0 ∗ P1 ∗ Q0 ∗ Q1 ∗ Q2 ∗ Q3 ∗ Q4 ∗ Q5 ∗ Q6 ∗ Q7) ⊢ iprop(P0 ∗ P1 ∗ Q0 ∗ Q1 ∗ Q2 ∗ Q3 ∗ Q4 ∗ Q5 ∗ Q6 ∗ Q8) := by
  iintro ⟨A, B, C0, C1, C2, C3, C4, C5, C6, C7⟩
  isplitl [A]; · iexact A
  isplitl [B]; · iexact B
  isplitl [C0]; · iexact C0
  isplitl [C1]; · iexact C1
  isplitl [C2]; · iexact C2
  isplitl [C3]; · iexact C3
  isplitl [C4]; · iexact C4
  isplitl [C5]; · iexact C5
  isplitl [C6]; · iexact C6
  iapply h
  iexact C7

/-- The pipeline's obligation on the body, at every point. -/
theorem obligation (c : Dev nD) : BodyObligation (dats (F := F) m 0 c) (defs₀ (F := F)) Variants.none () Set.univ := fun t => by
  rw [bigSep_W0, bigSep_W0, row]
  exact triple_restated (body m c t) rfl .rfl fun _ => post_le c t _ _ _ _ _ _ _ _ _ _ _ (kept7 m c t)

set_option backward.isDefEq.respectTransparency.types false in
/-- The call runs to the end, leaves every array at what the proof data say, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_all m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) (run_main m ρ)) ((θ_run defs _ _).mono (fun _ h => h.2) (run_all m ρ))

end Cert.GuFrameIdeal

end
-- ==== Proof.FwdSpec.lean ====
/- The forward formulas over the extended reals: the product, the root-mean-square norm, and sums over tiles. -/
module

public import proofs.«01_k».proof.Proof.Coe

@[expose] public section
noncomputable section
namespace Cert.FwdSpec
open Idealize.ShloMosaic Idealize.ShloMosaic.TcCoe
open scoped BigOperators

/-- A matrix product over `n` terms. -/
def mmE (n : ℕ) (A B : ℕ → ℕ → EReal) (i k : ℕ) : EReal := ∑ f : Fin n, A i f * B f k

/-- The reciprocal root mean square of row `i`. -/
def rE (X : ℕ → ℕ → EReal) (i : ℕ) : EReal :=
  Ideal.rsqrt (Ideal.div (∑ k : Fin 1024, X i k * X i k) (Ideal.ofBits .f32 0x44800000#32) + Ideal.ofBits .f32 0x358637BD#32)

/-- The root-mean-square norm with a gain. -/
def normE (X G : ℕ → ℕ → EReal) (i k : ℕ) : EReal := X i k * rE X i * G 0 k

/-- The rows from `s` on. -/
def rowsE (A : ℕ → ℕ → EReal) (s : ℕ) : ℕ → ℕ → EReal := fun a b => A (s + a) b

/-- The residual plus the normed product: the sub-layer's result. -/
def subE (n : ℕ) (A W G R : ℕ → ℕ → EReal) (i k : ℕ) : EReal := R i k + normE (mmE n A W) G i k

/-- The sum over `n` tiles of two halves of `h` rows is the sum over all rows. -/
theorem sum_tilesE (n h : ℕ) (f : ℕ → EReal) :
    (∑ t : Fin n, ((∑ a : Fin h, f (2 * h * t + a)) + ∑ a : Fin h, f (2 * h * t + h + a))) = ∑ i : Fin (n * (2 * h)), f i := by
  have e : ∀ t : ℕ, ((∑ a : Fin h, f (2 * h * t + a)) + ∑ a : Fin h, f (2 * h * t + h + a)) = ∑ a ∈ Finset.range (2 * h), f (2 * h * t + a) := by
    intro t
    rw [two_mul h, Finset.sum_range_add, ← two_mul, Finset.sum_range, Finset.sum_range]
    congr 1
    exact Finset.sum_congr rfl fun a _ => by rw [add_assoc]
  simp only [e]
  rw [Fin.sum_univ_eq_sum_range (fun t => ∑ a ∈ Finset.range (2 * h), f (2 * h * t + a)) n]
  rw [Fin.sum_univ_eq_sum_range (fun i => f i) (n * (2 * h))]
  clear e
  generalize 2 * h = H
  induction n with
  | zero => simp
  | succ n ih => rw [Finset.sum_range_succ, ih, Nat.succ_mul, Finset.sum_range_add, mul_comm H n]

end Cert.FwdSpec
end
-- ==== Proof.GateUpFwdClaim.lean ====
/- The gate/up projection: the kernel's tiles are the reference's normed rows, their product with the weight, and the gate of it. -/
module

public import proofs.«01_k».proof.Proof.FwdSpec
public import proofs.«01_k».proof.Proof.DownSpec
public import proofs.«01_k».proof.Proof.RmsSpec
public import proofs.«01_k».proof.Proof.GuFrameIdeal
public import Idealize.ShloMosaic.Lib.Pipeline.Value
public import proofs.«01_k».proof.Proof.Gen.Reference6Ideal.Run
public import proofs.«01_k».proof.Proof.Gen.Reference6Ideal.Read
public import proofs.«01_k».proof.Defs
public import Idealize.ShloMosaic.Lib.Claim

@[expose] public section
set_option maxRecDepth 16384
noncomputable section
namespace Cert.GateUpFwdClaim
open Idealize.ShloMosaic Idealize.ShloMosaic.TcCoe Idealize.SL.Sem
open Cert.Coe Cert.FwdSpec
open scoped BigOperators

/-- A matrix with rows and columns exchanged. -/
def flipE (W : ℕ → ℕ → EReal) (i k : ℕ) : EReal := W k i

/-- The gate: its argument by its sigmoid. -/
def gateE (g : EReal) : EReal := g * Ideal.div 1 (1 + Ideal.exp (-g))

/-- The gated product: the first half's gate by the second half. -/
def gatedE (H W : ℕ → ℕ → EReal) (i k : ℕ) : EReal := gateE (mmE 1024 H W i k) * mmE 1024 H W i (2816 + k)

section kernel
open Cert.Kernel6Ideal Cert.Kernel6Ideal.Gen Cert.GuFrameIdeal
open Idealize.ShloMosaic.Pipeline (Dat)

section block
variable (x0 : Vec Ideal S2048x1024 .f32) (x1 : Vec Ideal S1x1024 .f32) (X G : ℕ → ℕ → EReal)
variable (h0 : ∀ (a : Fin 2048) (b : Fin 1024), x0 (ix2 a b) = X a b) (h1 : ∀ (a : Fin 1) (b : Fin 1024), x1 (ix2 a b) = G 0 b)

include h0 h1 in
/-- The normed rows. -/
theorem p1 (a : Fin 2048) (b : Fin 1024) : k0_pay1 x0 x1 (ix2 a b) = normE X G a b := by
  pointwise [k0_pay1]
  simp only [h0, h1]
  rfl

variable (h : Vec Ideal S2048x1024 .bf16) (w u : Vec Ideal S256x1024 .bf16) (H W U : ℕ → ℕ → EReal)
variable (hh : ∀ (a : Fin 2048) (b : Fin 1024), h (ix2 a b) = H a b) (hw : ∀ (a : Fin 256) (b : Fin 1024), w (ix2 a b) = W b a)
  (hu : ∀ (a : Fin 256) (b : Fin 1024), u (ix2 a b) = U b a)

include hh hw in
/-- The product with a block of the gate's weight. -/
theorem p3 (a : Fin 2048) (b : Fin 256) : k0_pay3 h w (ix2 a b) = mmE 1024 H W a b := by
  pointwise [k0_pay3, k0_pay2]
  simp only [hh, hw]
  rfl

include hh hu in
/-- The product with a block of the up projection's weight. -/
theorem p4 (a : Fin 2048) (b : Fin 256) : k0_pay4 h u (ix2 a b) = mmE 1024 H U a b := by
  pointwise [k0_pay4, k0_pay2]
  simp only [hh, hu]
  rfl

include hh hw hu in
/-- The gated product of the two blocks. -/
theorem p5 (a : Fin 2048) (b : Fin 256) : k0_pay5 h w u (ix2 a b) = gateE (mmE 1024 H W a b) * mmE 1024 H U a b := by
  have e3 := p3 h w H W hh hw a b
  have e4 := p4 h u H U hh hu a b
  unfold k0_pay5
  revert e3 e4
  generalize k0_pay3 h w = y
  generalize k0_pay4 h u = z
  intro e3 e4
  pointwise
  rw [e3, e4, gateE]
  simp only [Cert.DownSpec.zero_bf16, Cert.DownSpec.one_bf16, EReal.coe_zero, EReal.coe_one, zero_sub]

end block

/-- The block indices at point `t`. -/
theorem idx : ∀ t : Fin cfg0.N, win0_0.index t = ![(t : ℕ) / 11, 0] ∧ win0_1.index t = ![0, 0] ∧ win0_2.index t = ![(t : ℕ) % 11, 0] ∧ win0_3.index t = ![(t : ℕ) % 11 + 11, 0] ∧ win0_4.index t = ![(t : ℕ) / 11, (t : ℕ) % 11] ∧ win0_5.index t = ![(t : ℕ) / 11, (t : ℕ) % 11] ∧ win0_6.index t = ![(t : ℕ) / 11, (t : ℕ) % 11] ∧ win0_7.index t = ![(t : ℕ) / 11, 0] :=
  (by decide +kernel : ∀ t : Fin grid0.N, win0_0.index t = ![(t : ℕ) / 11, 0] ∧ win0_1.index t = ![0, 0] ∧ win0_2.index t = ![(t : ℕ) % 11, 0] ∧ win0_3.index t = ![(t : ℕ) % 11 + 11, 0] ∧ win0_4.index t = ![(t : ℕ) / 11, (t : ℕ) % 11] ∧ win0_5.index t = ![(t : ℕ) / 11, (t : ℕ) % 11] ∧ win0_6.index t = ![(t : ℕ) / 11, (t : ℕ) % 11] ∧ win0_7.index t = ![(t : ℕ) / 11, 0])

/-- The number of grid points. -/
theorem t_lt (t : Fin cfg0.N) : (t : ℕ) < 22 := lt_of_lt_of_eq t.isLt (by decide : grid0.N = 22)

variable (m : (ℓ : Loc nD τ sig) → Buf (Elt Ideal) ℓ) (c : Dev nD) (X G W : ℕ → ℕ → EReal)
variable (hX : ∀ (a : Fin 4096) (b : Fin 1024), m ((c : Thread nD τ).loc main_arg0) (ix2 a b) = X a b)
  (hG : ∀ (a : Fin 1) (b : Fin 1024), m ((c : Thread nD τ).loc main_arg1) (ix2 a b) = G 0 b)
  (hW : ∀ (a : Fin 5632) (b : Fin 1024), m ((c : Thread nD τ).loc main_arg2) (ix2 a b) = W a b)

include hX in
/-- The block of rows. -/
theorem blk0 (t : Fin cfg0.N) (a : Fin 2048) (b : Fin 1024) : iblk m c 0 t (ix2 a b) = rowsE X (2048 * (t / 11)) a b := by
  have ht := t_lt t
  rw [rowsE, ← hX ⟨2048 * (t / 11) + a, by omega⟩ b]
  blk_ext [iblk, V, idx t]

include hG in
/-- The gain is whole at every point. -/
theorem blk1 (t : Fin cfg0.N) (a : Fin 1) (b : Fin 1024) : iblk m c 1 t (ix2 a b) = G 0 b := by
  rw [← hG a b]
  blk_ext [iblk, V, idx t]

include hW in
/-- The block of the gate's weight. -/
theorem blk2 (t : Fin cfg0.N) (a : Fin 256) (b : Fin 1024) : iblk m c 2 t (ix2 a b) = flipE (rowsE W (256 * (t % 11))) b a := by
  have ht := t_lt t
  rw [flipE, rowsE, ← hW ⟨256 * (t % 11) + a, by omega⟩ b]
  blk_ext [iblk, V, idx t]

include hW in
/-- The block of the up projection's weight. -/
theorem blk3 (t : Fin cfg0.N) (a : Fin 256) (b : Fin 1024) : iblk m c 3 t (ix2 a b) = flipE (rowsE W (2816 + 256 * (t % 11))) b a := by
  have ht := t_lt t
  rw [flipE, rowsE, ← hW ⟨2816 + 256 * (t % 11) + a, by omega⟩ b]
  blk_ext [iblk, V, idx t]

include hX hG in
/-- The point's normed rows. -/
theorem rows_eq (t : Fin cfg0.N) (a : Fin 2048) (b : Fin 1024) : rows m c t (ix2 a b) = rowsE (normE X G) (2048 * (t / 11)) a b :=
  p1 _ _ (rowsE X (2048 * (t / 11))) G (blk0 m c X hX t) (blk1 m c G hG t) a b

include hX hG hW in
/-- The array the kernel leaves in window 4: the gate half. -/
theorem final4 : (dats m 0 c).arrAt 4 cfg0.N = fun i : S4096x2816.Idx => mmE 1024 (normE X G) (flipE W) (i 0 : ℕ) (i 1 : ℕ) := by
  refine (dats m 0 c).arrAt_eq_of_covers 4 _ (by decide +kernel) fun t hf y => ?_
  blk_simp
  rw [left4, (idx t).2.2.2.2.1]
  idx_vars y
  show _ = mmE 1024 (normE X G) (flipE W) ((t : ℕ) / 11 * 2048 + (y0 : ℕ)) ((t : ℕ) % 11 * 256 + (y1 : ℕ))
  rw [show (t : ℕ) / 11 * 2048 + (y0 : ℕ) = 2048 * (t / 11) + y0 by omega, show (t : ℕ) % 11 * 256 + (y1 : ℕ) = 256 * (t % 11) + y1 by omega]
  exact p3 _ _ (rowsE (normE X G) (2048 * (t / 11))) (flipE (rowsE W (256 * (t % 11)))) (rows_eq m c X G hX hG t) (blk2 m c W hW t) y0 y1

include hX hG hW in
/-- The array the kernel leaves in window 5: the up half. -/
theorem final5 : (dats m 0 c).arrAt 5 cfg0.N = fun i : S4096x2816.Idx => (fun i k => mmE 1024 (normE X G) (flipE W) i (2816 + k)) (i 0 : ℕ) (i 1 : ℕ) := by
  refine (dats m 0 c).arrAt_eq_of_covers 5 _ (by decide +kernel) fun t hf y => ?_
  blk_simp
  rw [left5, (idx t).2.2.2.2.2.1]
  idx_vars y
  show _ = (fun i k => mmE 1024 (normE X G) (flipE W) i (2816 + k)) ((t : ℕ) / 11 * 2048 + (y0 : ℕ)) ((t : ℕ) % 11 * 256 + (y1 : ℕ))
  rw [show (t : ℕ) / 11 * 2048 + (y0 : ℕ) = 2048 * (t / 11) + y0 by omega, show (t : ℕ) % 11 * 256 + (y1 : ℕ) = 256 * (t % 11) + y1 by omega]
  refine (p4 _ _ (rowsE (normE X G) (2048 * (t / 11))) (flipE (rowsE W (2816 + 256 * (t % 11)))) (rows_eq m c X G hX hG t) (blk3 m c W hW t) y0 y1).trans ?_
  simp only [mmE, flipE, rowsE, Nat.add_assoc]

include hX hG hW in
/-- The array the kernel leaves in window 6: the gated product. -/
theorem final6 : (dats m 0 c).arrAt 6 cfg0.N = fun i : S4096x2816.Idx => gatedE (normE X G) (flipE W) (i 0 : ℕ) (i 1 : ℕ) := by
  refine (dats m 0 c).arrAt_eq_of_covers 6 _ (by decide +kernel) fun t hf y => ?_
  blk_simp
  rw [left6, (idx t).2.2.2.2.2.2.1]
  idx_vars y
  show _ = gatedE (normE X G) (flipE W) ((t : ℕ) / 11 * 2048 + (y0 : ℕ)) ((t : ℕ) % 11 * 256 + (y1 : ℕ))
  rw [show (t : ℕ) / 11 * 2048 + (y0 : ℕ) = 2048 * (t / 11) + y0 by omega, show (t : ℕ) % 11 * 256 + (y1 : ℕ) = 256 * (t % 11) + y1 by omega]
  refine (p5 _ _ _ (rowsE (normE X G) (2048 * (t / 11))) (flipE (rowsE W (256 * (t % 11)))) (flipE (rowsE W (2816 + 256 * (t % 11)))) (rows_eq m c X G hX hG t) (blk2 m c W hW t) (blk3 m c W hW t) y0 y1).trans ?_
  simp only [gatedE, mmE, flipE, rowsE, Nat.add_assoc]

include hX hG in
/-- The array the kernel leaves in window 7: the normed rows. -/
theorem final7 : (dats m 0 c).arrAt 7 cfg0.N = fun i : S4096x1024.Idx => normE X G (i 0 : ℕ) (i 1 : ℕ) := by
  refine (dats m 0 c).arrAt_eq_of_covers 7 _ (by decide +kernel) fun t hf y => ?_
  blk_simp
  rw [left7, (idx t).2.2.2.2.2.2.2]
  idx_vars y
  show _ = normE X G ((t : ℕ) / 11 * 2048 + (y0 : ℕ)) (0 * 1024 + (y1 : ℕ))
  rw [show (t : ℕ) / 11 * 2048 + (y0 : ℕ) = 2048 * (t / 11) + y0 by omega, show 0 * 1024 + (y1 : ℕ) = y1 by omega]
  exact rows_eq m c X G hX hG t y0 y1

end kernel

section reference
open Cert.Reference6Ideal Cert.Reference6Ideal.Gen Cert.Reference6Ideal.Read
variable (x0 : Vec Ideal S4096x1024 .f32) (x1 : Vec Ideal S1x1024 .f32) (x2 : Vec Ideal S5632x1024 .bf16) (X G W : ℕ → ℕ → EReal)
variable (hX : ∀ (a : Fin 4096) (b : Fin 1024), x0 (ix2 a b) = X a b) (hG : ∀ (a : Fin 1) (b : Fin 1024), x1 (ix2 a b) = G 0 b)
  (hW : ∀ (a : Fin 5632) (b : Fin 1024), x2 (ix2 a b) = W a b)

include hX in
/-- A row's sum of squares. -/
theorem r1 (i : Fin 4096) : val_main_v1 x0 (ix1 i) = ∑ k : Fin 1024, X i k * X i k := by
  have e : ∀ (a : Fin 4096) (b : Fin 1024), val_main_v0 x0 (ix2 a b) = X a b * X a b := by
    intro a b
    pointwise [val_main_v0]
    rw [hX]
  unfold val_main_v1
  revert e
  generalize val_main_v0 x0 = y
  intro e
  pointwise [val_main_cst]
  simp only [e]

include hX in
/-- The norm's scale. -/
theorem r7 (i : Fin 4096) (j : Fin 1) : val_main_v7 x0 (ix2 i j) = rE X i := by
  have e := r1 x0 X hX
  unfold val_main_v7 val_main_v6 val_main_v4 val_main_v2
  revert e
  generalize val_main_v1 x0 = y
  intro e
  pointwise [val_main_v5, val_main_cst_1, val_main_v3, val_main_cst_0]
  rw [e]
  rfl

include hX hG in
/-- The normed rows. -/
theorem r11 (i : Fin 4096) (k : Fin 1024) : val_main_v11 x0 x1 (ix2 i k) = normE X G i k := by
  have e := r7 x0 X hX
  unfold val_main_v11 val_main_v9 val_main_v8
  revert e
  generalize val_main_v7 x0 = y
  intro e
  pointwise [val_main_v10]
  rw [e, hX, hG]
  rfl

include hX hG in
/-- The fourth result: the normed rows, rounded. -/
theorem r24 (i : Fin 4096) (k : Fin 1024) : val_main_v24 x0 x1 (ix2 i k) = normE X G i k := by
  have e := r11 x0 x1 X G hX hG
  unfold val_main_v24
  revert e
  generalize val_main_v11 x0 x1 = y
  intro e
  pointwise
  exact e i k

include hX hG hW in
/-- The product with the whole weight. -/
theorem r14 (i : Fin 4096) (k : Fin 5632) : val_main_v14 x0 x1 x2 (ix2 i k) = mmE 1024 (normE X G) (flipE W) i k := by
  have e := r11 x0 x1 X G hX hG
  unfold val_main_v14
  revert e
  generalize val_main_v11 x0 x1 = y
  intro e
  pointwise [val_main_v13, val_main_v12]
  simp only [e, hW]
  rfl

include hX hG hW in
/-- The gate half of the product. -/
theorem r15 (i : Fin 4096) (k : Fin 2816) : val_main_v15 x0 x1 x2 (ix2 i k) = mmE 1024 (normE X G) (flipE W) i k := by
  have e := fun (i : Fin 4096) (k : Fin 2816) => r14 x0 x1 x2 X G W hX hG hW i ⟨0 + k, by omega⟩
  simp only [Nat.zero_add] at e
  unfold val_main_v15
  revert e
  generalize val_main_v14 x0 x1 x2 = y
  intro e
  pointwise
  exact e i k

include hX hG hW in
/-- The up half of the product. -/
theorem r17 (i : Fin 4096) (k : Fin 2816) : val_main_v17 x0 x1 x2 (ix2 i k) = mmE 1024 (normE X G) (flipE W) i (2816 + k) := by
  have e := fun (i : Fin 4096) (k : Fin 2816) => r14 x0 x1 x2 X G W hX hG hW i ⟨2816 + k, by omega⟩
  unfold val_main_v17
  revert e
  generalize val_main_v14 x0 x1 x2 = y
  intro e
  pointwise
  exact e i k

include hX hG hW in
/-- The first result: the gate half, rounded. -/
theorem r16 (i : Fin 4096) (k : Fin 2816) : val_main_v16 x0 x1 x2 (ix2 i k) = mmE 1024 (normE X G) (flipE W) i k := by
  have e := r15 x0 x1 x2 X G W hX hG hW i k
  unfold val_main_v16
  revert e
  generalize val_main_v15 x0 x1 x2 = y
  intro e
  pointwise
  exact e

include hX hG hW in
/-- The second result: the up half, rounded. -/
theorem r18 (i : Fin 4096) (k : Fin 2816) : val_main_v18 x0 x1 x2 (ix2 i k) = (fun i k => mmE 1024 (normE X G) (flipE W) i (2816 + k)) i k := by
  have e := r17 x0 x1 x2 X G W hX hG hW i k
  unfold val_main_v18
  revert e
  generalize val_main_v17 x0 x1 x2 = y
  intro e
  pointwise
  exact e

include hX hG hW in
/-- The third result: the gated product, rounded. -/
theorem r23 (i : Fin 4096) (k : Fin 2816) : val_main_v23 x0 x1 x2 (ix2 i k) = gatedE (normE X G) (flipE W) i k := by
  have e := r15 x0 x1 x2 X G W hX hG hW i k
  have e' := r17 x0 x1 x2 X G W hX hG hW i k
  rw [show val_main_v15 x0 x1 x2 = val_main_v19 x0 x1 x2 from rfl] at e
  rw [show val_main_v17 x0 x1 x2 = val_main_v21 x0 x1 x2 from rfl] at e'
  unfold val_main_v23 val_main_v22 val_main_v20 val_main_call0_v5 val_main_call0_v3 val_main_call0_v1 val_main_call0_v0
  revert e e'
  generalize val_main_v19 x0 x1 x2 = y
  generalize val_main_v21 x0 x1 x2 = z
  intro e e'
  pointwise [val_main_call0_v4, val_main_call0_v2, val_main_call0_cst, val_main_call0_cst_0]
  rw [e, e', gatedE, gateE]

end reference

set_option maxHeartbeats 1600000 in
/-- The kernel's results are the reference's, for all arguments. -/
theorem algebraic : Cert.algebraic_Kernel6Ideal_Reference6Ideal := by
  pair_intro
  · run_from Cert.GuFrameIdeal.run_main m g
  · refine (θ_run _ _ _).mono (fun r h c => ?_) (Cert.Reference6Ideal.Value.run m' g')
    obtain ⟨X, hX⟩ := mat_of (R := 4096) (C := 1024) fun a b => m ((c.tc : Thread Cert.Kernel6Ideal.nD Cert.Kernel6Ideal.τ).loc Cert.Kernel6Ideal.main_arg0) (ix2 a b)
    obtain ⟨G, hG⟩ := mat_of (R := 1) (C := 1024) fun a b => m ((c.tc : Thread Cert.Kernel6Ideal.nD Cert.Kernel6Ideal.τ).loc Cert.Kernel6Ideal.main_arg1) (ix2 a b)
    have hG : ∀ (a : Fin 1) (b : Fin 1024), m ((c.tc : Thread Cert.Kernel6Ideal.nD Cert.Kernel6Ideal.τ).loc Cert.Kernel6Ideal.main_arg1) (ix2 a b) = G 0 b :=
      fun a b => (congrArg (fun a => m ((c.tc : Thread Cert.Kernel6Ideal.nD Cert.Kernel6Ideal.τ).loc Cert.Kernel6Ideal.main_arg1) (ix2 a b)) (Subsingleton.elim a 0)).trans (hG 0 b)
    obtain ⟨W, hW⟩ := mat_of (R := 5632) (C := 1024) fun a b => m ((c.tc : Thread Cert.Kernel6Ideal.nD Cert.Kernel6Ideal.τ).loc Cert.Kernel6Ideal.main_arg2) (ix2 a b)
    obtain ⟨a0, a1, a2⟩ := hagree c
    refine ⟨(h c).1.trans ?_, (h c).2.1.trans ?_, (h c).2.2.1.trans ?_, (h c).2.2.2.1.trans ?_, (h c).2.2.2.2⟩
    · refine (Reference6Ideal.Read.val_main_v16_eq _ _ _ ).trans ?_
      rw [a0, a1, a2]
      refine Eq.trans ?_ (final4 m c X G W hX hG hW).symm
      funext i
      idx_vars i
      exact r16 _ _ _ X G W hX hG hW i0 i1
    · refine (Reference6Ideal.Read.val_main_v18_eq _ _ _ ).trans ?_
      rw [a0, a1, a2]
      refine Eq.trans ?_ (final5 m c X G W hX hG hW).symm
      funext i
      idx_vars i
      exact r18 _ _ _ X G W hX hG hW i0 i1
    · refine (Reference6Ideal.Read.val_main_v23_eq _ _ _ ).trans ?_
      rw [a0, a1, a2]
      refine Eq.trans ?_ (final6 m c X G W hX hG hW).symm
      funext i
      idx_vars i
      exact r23 _ _ _ X G W hX hG hW i0 i1
    · refine (Reference6Ideal.Read.val_main_v24_eq _ _ ).trans ?_
      rw [a0, a1]
      refine Eq.trans ?_ (final7 m c X G hX hG).symm
      funext i
      idx_vars i
      exact r24 _ _ X G hX hG i0 i1

end Cert.GateUpFwdClaim
end
-- ==== Proof.DownFwdClaim.lean ====
/- The down projection: the kernel's tiles are the reference's product, and its residual plus normed product. -/
module

public import proofs.«01_k».proof.Proof.FwdSpec
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Claim

@[expose] public section
set_option maxRecDepth 16384
noncomputable section
namespace Cert.DownFwdClaim
open Idealize.ShloMosaic Idealize.ShloMosaic.TcCoe Idealize.SL.Sem
open Cert.Coe Cert.FwdSpec
open scoped BigOperators

section kernel
open Cert.Kernel7Ideal Cert.Kernel7Ideal.Gen
open Idealize.ShloMosaic.Pipeline (Dat)

section block
variable (x0 : Vec Ideal S256x2816 .bf16) (x1 : Vec Ideal S2816x1024 .bf16) (x2 : Vec Ideal S1x1024 .f32) (x3 : Vec Ideal S256x1024 .f32) (A W G R : ℕ → ℕ → EReal)
variable (h0 : ∀ (a : Fin 256) (b : Fin 2816), x0 (ix2 a b) = A a b) (h1 : ∀ (a : Fin 2816) (b : Fin 1024), x1 (ix2 a b) = W a b)
  (h2 : ∀ (a : Fin 1) (b : Fin 1024), x2 (ix2 a b) = G 0 b) (h3 : ∀ (a : Fin 256) (b : Fin 1024), x3 (ix2 a b) = R a b)

include h0 h1 in
/-- The first half's product. -/
theorem p2 (a : Fin 256) (b : Fin 1024) : k0_pay2 x0 x1 (ix2 a b) = mmE 2816 A W a b := by
  pointwise [k0_pay2]
  simp only [h0, h1]
  rfl

include h0 h1 in
/-- The second half's product. -/
theorem p3 (a : Fin 256) (b : Fin 1024) : k0_pay3 x0 x1 (ix2 a b) = mmE 2816 A W a b := by
  pointwise [k0_pay3]
  simp only [h0, h1]
  rfl

include h0 h1 in
/-- The first half's product, rounded. -/
theorem p4 (a : Fin 256) (b : Fin 1024) : k0_pay4 x0 x1 (ix2 a b) = mmE 2816 A W a b := by
  pointwise [k0_pay4]
  exact p2 x0 x1 A W h0 h1 a b

include h0 h1 in
/-- The second half's product, rounded. -/
theorem p6 (a : Fin 256) (b : Fin 1024) : k0_pay6 x0 x1 (ix2 a b) = mmE 2816 A W a b := by
  pointwise [k0_pay6]
  exact p3 x0 x1 A W h0 h1 a b

include h0 h1 h2 h3 in
/-- The first half's result. -/
theorem p5 (a : Fin 256) (b : Fin 1024) : k0_pay5 x0 x1 x3 x2 (ix2 a b) = subE 2816 A W G R a b := by
  pointwise [k0_pay5]
  simp only [p2 x0 x1 A W h0 h1, h2, h3]
  rfl

include h0 h1 in
/-- The second half's sums of squares. -/
theorem p7 (a : Fin 256) (b : Fin 1) : k0_pay7 x0 x1 (ix2 a b) = ∑ k : Fin 1024, mmE 2816 A W a k * mmE 2816 A W a k := by
  pointwise [k0_pay7]
  simp only [p3 x0 x1 A W h0 h1]

include h0 h1 h2 h3 in
/-- The second half's result. -/
theorem p1 (a : Fin 256) (b : Fin 1024) : k0_pay1 (k0_pay3 x0 x1) x3 (k0_pay7 x0 x1) x2 (ix2 a b) = subE 2816 A W G R a b := by
  have e3 := p3 x0 x1 A W h0 h1
  have e7 := p7 x0 x1 A W h0 h1
  revert e3 e7
  generalize k0_pay3 x0 x1 = v
  generalize k0_pay7 x0 x1 = w
  intro e3 e7
  pointwise [k0_pay1]
  simp only [e3, e7, h2, h3]
  rfl

end block

/-- The block indices at point `t`. -/
theorem idx : ∀ t : Fin cfg0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] :=
  (by decide +kernel : ∀ t : Fin grid0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0])

/-- The number of grid points. -/
theorem t_lt (t : Fin cfg0.N) : (t : ℕ) < 8 := lt_of_lt_of_eq t.isLt (by decide : grid0.N = 8)

/-- The lower half of a loaded block. -/
theorem ld_bf16_2816_0 (u : Vec Ideal S512x2816 .bf16) (F : ℕ → ℕ → EReal) (s : ℕ) (e : ∀ (a : Fin 512) (b : Fin 2816), u (ix2 a b) = rowsE F s a b) (a : Fin 256) (b : Fin 2816) :
    View.ld u (Rect.unit (s := S512x2816) ![0, 0] ![256, 2816] inb_S512x2816_S256x2816_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_bf16_2816_256 (u : Vec Ideal S512x2816 .bf16) (F : ℕ → ℕ → EReal) (s : ℕ) (e : ∀ (a : Fin 512) (b : Fin 2816), u (ix2 a b) = rowsE F s a b) (a : Fin 256) (b : Fin 2816) :
    View.ld u (Rect.unit (s := S512x2816) ![256, 0] ![256, 2816] inb_S512x2816_S256x2816_256_0) (ix2 a b) = rowsE F (s + 256) a b := by
  have e := e ⟨256 + a, by omega⟩ b
  rw [rowsE] at e ⊢
  rw [Nat.add_assoc, ← e]
  clear e
  pointwise
  try blk_ext

/-- The lower half of a loaded block. -/
theorem ld_f32_1024_0 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_1024_256 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

variable (m : (ℓ : Loc nD τ sig) → Buf (Elt Ideal) ℓ) (c : Dev nD) (A W G R : ℕ → ℕ → EReal)
variable (hA : ∀ (a : Fin 4096) (b : Fin 2816), m ((c : Thread nD τ).loc main_arg0) (ix2 a b) = A a b)
  (hW : ∀ (a : Fin 2816) (b : Fin 1024), m ((c : Thread nD τ).loc main_arg1) (ix2 a b) = W a b)
  (hG : ∀ (a : Fin 1) (b : Fin 1024), m ((c : Thread nD τ).loc main_arg2) (ix2 a b) = G 0 b)
  (hR : ∀ (a : Fin 4096) (b : Fin 1024), m ((c : Thread nD τ).loc main_arg3) (ix2 a b) = R a b)

include hA in
theorem blk0 (t : Fin cfg0.N) (a : Fin 512) (b : Fin 2816) : iblk m c 0 t (ix2 a b) = rowsE A (512 * t) a b := by
  have ht := t_lt t
  rw [rowsE, ← hA ⟨512 * t + a, by omega⟩ b]
  blk_ext [iblk, V, idx t]

include hW in
theorem blk1 (t : Fin cfg0.N) (a : Fin 2816) (b : Fin 1024) : iblk m c 1 t (ix2 a b) = W a b := by
  rw [← hW a b]
  blk_ext [iblk, V, idx t]

include hG in
theorem blk2 (t : Fin cfg0.N) (a : Fin 1) (b : Fin 1024) : iblk m c 2 t (ix2 a b) = G 0 b := by
  rw [← hG a b]
  blk_ext [iblk, V, idx t]

include hR in
theorem blk3 (t : Fin cfg0.N) (a : Fin 512) (b : Fin 1024) : iblk m c 3 t (ix2 a b) = rowsE R (512 * t) a b := by
  have ht := t_lt t
  rw [rowsE, ← hR ⟨512 * t + a, by omega⟩ b]
  blk_ext [iblk, V, idx t]

include hA hW in
/-- The array the kernel leaves in window 4. -/
theorem final4 : (dats m 0 c).arrAt 4 cfg0.N = fun i : S4096x1024.Idx => mmE 2816 A W (i 0 : ℕ) (i 1 : ℕ) := by
  refine (dats m 0 c).arrAt_eq_of_covers 4 _ (by decide +kernel) fun t hf y => ?_
  blk_simp
  rw [after0_4, (idx t).2.2.2.2.1]
  show _ = mmE 2816 A W ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay4 (View.ld (iblk m c 0 t) (Rect.unit ![0, 0] ![256, 2816] inb_S512x2816_S256x2816_0_0)) (iblk m c 1 t) x
      = mmE 2816 A W (512 * (t : ℕ) + (y 0 : ℕ)) (y 1 : ℕ) := by
    intro x h0 h1
    rw [h0, h1]
    idx_vars x
    exact p4 _ _ (rowsE A (512 * t + 0)) W (ld_bf16_2816_0 _ A _ (blk0 m c A hA t)) (blk1 m c W hW t) x0 x1
  have hi : ∀ (x : S256x1024.Idx) (h0 : (y 0 : ℕ) = 256 + x 0) (h1 : (y 1 : ℕ) = x 1), k0_pay6 (View.ld (iblk m c 0 t) (Rect.unit ![256, 0] ![256, 2816] inb_S512x2816_S256x2816_256_0)) (iblk m c 1 t) x
      = mmE 2816 A W (512 * (t : ℕ) + (y 0 : ℕ)) (y 1 : ℕ) := by
    intro x h0 h1
    rw [h0, h1, ← Nat.add_assoc]
    idx_vars x
    exact p6 _ _ (rowsE A (512 * t + 256)) W (ld_bf16_2816_256 _ A _ (blk0 m c A hA t)) (blk1 m c W hW t) x0 x1
  frame_out
  canon_tiles x h
  · exact hi x (by omega) (by omega)
  · exact lo x (by omega) (by omega)

include hA hW hG hR in
/-- The array the kernel leaves in window 5. -/
theorem final5 : (dats m 0 c).arrAt 5 cfg0.N = fun i : S4096x1024.Idx => subE 2816 A W G R (i 0 : ℕ) (i 1 : ℕ) := by
  refine (dats m 0 c).arrAt_eq_of_covers 5 _ (by decide +kernel) fun t hf y => ?_
  blk_simp
  rw [after0_5, (idx t).2.2.2.2.2]
  show _ = subE 2816 A W G R ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay5 (View.ld (iblk m c 0 t) (Rect.unit ![0, 0] ![256, 2816] inb_S512x2816_S256x2816_0_0)) (iblk m c 1 t) (View.ld (iblk m c 3 t) (Rect.unit ![0, 0] ![256, 1024] inb_S512x1024_S256x1024_0_0)) (iblk m c 2 t) x
      = subE 2816 A W G R (512 * (t : ℕ) + (y 0 : ℕ)) (y 1 : ℕ) := by
    intro x h0 h1
    rw [h0, h1]
    idx_vars x
    exact p5 _ _ _ _ (rowsE A (512 * t + 0)) W G (rowsE R (512 * t + 0)) (ld_bf16_2816_0 _ A _ (blk0 m c A hA t)) (blk1 m c W hW t) (blk2 m c G hG t) (ld_f32_1024_0 _ R _ (blk3 m c R hR t)) x0 x1
  have hi : ∀ (x : S256x1024.Idx) (h0 : (y 0 : ℕ) = 256 + x 0) (h1 : (y 1 : ℕ) = x 1), k0_pay1 (k0_pay3 (View.ld (iblk m c 0 t) (Rect.unit ![256, 0] ![256, 2816] inb_S512x2816_S256x2816_256_0)) (iblk m c 1 t)) (View.ld (iblk m c 3 t) (Rect.unit ![256, 0] ![256, 1024] inb_S512x1024_S256x1024_256_0)) (k0_pay7 (View.ld (iblk m c 0 t) (Rect.unit ![256, 0] ![256, 2816] inb_S512x2816_S256x2816_256_0)) (iblk m c 1 t)) (iblk m c 2 t) x
      = subE 2816 A W G R (512 * (t : ℕ) + (y 0 : ℕ)) (y 1 : ℕ) := by
    intro x h0 h1
    rw [h0, h1, ← Nat.add_assoc]
    idx_vars x
    exact p1 _ _ _ _ (rowsE A (512 * t + 256)) W G (rowsE R (512 * t + 256)) (ld_bf16_2816_256 _ A _ (blk0 m c A hA t)) (blk1 m c W hW t) (blk2 m c G hG t) (ld_f32_1024_256 _ R _ (blk3 m c R hR t)) x0 x1
  frame_out
  canon_tiles x h
  · exact hi x (by omega) (by omega)
  · exact lo x (by omega) (by omega)

end kernel

section reference
open Cert.Reference7Ideal Cert.Reference7Ideal.Gen Cert.Reference7Ideal.Read
variable (x0 : Vec Ideal S4096x2816 .bf16) (x1 : Vec Ideal S2816x1024 .bf16) (x2 : Vec Ideal S1x1024 .f32) (x3 : Vec Ideal S4096x1024 .f32) (A W G R : ℕ → ℕ → EReal)
variable (hA : ∀ (a : Fin 4096) (b : Fin 2816), x0 (ix2 a b) = A a b) (hW : ∀ (a : Fin 2816) (b : Fin 1024), x1 (ix2 a b) = W a b)
  (hG : ∀ (a : Fin 1) (b : Fin 1024), x2 (ix2 a b) = G 0 b) (hR : ∀ (a : Fin 4096) (b : Fin 1024), x3 (ix2 a b) = R a b)

include hA hW in
/-- The product. -/
theorem r2 (i : Fin 4096) (k : Fin 1024) : val_main_v2 x0 x1 (ix2 i k) = mmE 2816 A W i k := by
  pointwise [val_main_v2, val_main_v1, val_main_v0]
  simp only [hA, hW]
  rfl

include hA hW in
/-- The first result: the product, rounded. -/
theorem r3 (i : Fin 4096) (k : Fin 1024) : val_main_v3 x0 x1 (ix2 i k) = mmE 2816 A W i k := by
  have e := r2 x0 x1 A W hA hW
  unfold val_main_v3
  revert e
  generalize val_main_v2 x0 x1 = y
  intro e
  pointwise
  exact e i k

include hA hW in
/-- A row's sum of squares. -/
theorem r5 (i : Fin 4096) : val_main_v5 x0 x1 (ix1 i) = ∑ k : Fin 1024, mmE 2816 A W i k * mmE 2816 A W i k := by
  have e : ∀ (a : Fin 4096) (b : Fin 1024), val_main_v4 x0 x1 (ix2 a b) = mmE 2816 A W a b * mmE 2816 A W a b := by
    intro a b
    have e := r2 x0 x1 A W hA hW
    unfold val_main_v4
    revert e
    generalize val_main_v2 x0 x1 = y
    intro e
    pointwise
    rw [e]
  unfold val_main_v5
  revert e
  generalize val_main_v4 x0 x1 = y
  intro e
  pointwise [val_main_cst]
  simp only [e]

include hA hW in
/-- The norm's scale. -/
theorem r11 (i : Fin 4096) (j : Fin 1) : val_main_v11 x0 x1 (ix2 i j) = rE (mmE 2816 A W) i := by
  have e := r5 x0 x1 A W hA hW
  unfold val_main_v11 val_main_v10 val_main_v8 val_main_v6
  revert e
  generalize val_main_v5 x0 x1 = y
  intro e
  pointwise [val_main_v9, val_main_cst_1, val_main_v7, val_main_cst_0]
  rw [e]
  rfl

include hA hW hG hR in
/-- The second result: the residual plus the normed product. -/
theorem r16 (i : Fin 4096) (k : Fin 1024) : val_main_v16 x0 x1 x2 x3 (ix2 i k) = subE 2816 A W G R i k := by
  have e2 := r2 x0 x1 A W hA hW
  have e11 := r11 x0 x1 A W hA hW
  unfold val_main_v16 val_main_v15 val_main_v13 val_main_v12
  revert e2 e11
  generalize val_main_v2 x0 x1 = y
  generalize val_main_v11 x0 x1 = z
  intro e2 e11
  pointwise [val_main_v14]
  rw [e2, e11, hG, hR]
  rfl

end reference

set_option maxHeartbeats 1600000 in
/-- The kernel's results are the reference's, for all arguments. -/
theorem algebraic : Cert.algebraic_Kernel7Ideal_Reference7Ideal := by
  pair_intro
  · run_from Cert.Kernel7Ideal.Gen.run_main m g
  · refine (θ_run _ _ _).mono (fun r h c => ?_) (Cert.Reference7Ideal.Value.run m' g')
    obtain ⟨A, hA⟩ := mat_of (R := 4096) (C := 2816) fun a b => m ((c.tc : Thread Cert.Kernel7Ideal.nD Cert.Kernel7Ideal.τ).loc Cert.Kernel7Ideal.main_arg0) (ix2 a b)
    obtain ⟨W, hW⟩ := mat_of (R := 2816) (C := 1024) fun a b => m ((c.tc : Thread Cert.Kernel7Ideal.nD Cert.Kernel7Ideal.τ).loc Cert.Kernel7Ideal.main_arg1) (ix2 a b)
    obtain ⟨G, hG⟩ := mat_of (R := 1) (C := 1024) fun a b => m ((c.tc : Thread Cert.Kernel7Ideal.nD Cert.Kernel7Ideal.τ).loc Cert.Kernel7Ideal.main_arg2) (ix2 a b)
    have hG : ∀ (a : Fin 1) (b : Fin 1024), m ((c.tc : Thread Cert.Kernel7Ideal.nD Cert.Kernel7Ideal.τ).loc Cert.Kernel7Ideal.main_arg2) (ix2 a b) = G 0 b :=
      fun a b => (congrArg (fun a => m ((c.tc : Thread Cert.Kernel7Ideal.nD Cert.Kernel7Ideal.τ).loc Cert.Kernel7Ideal.main_arg2) (ix2 a b)) (Subsingleton.elim a 0)).trans (hG 0 b)
    obtain ⟨R, hR⟩ := mat_of (R := 4096) (C := 1024) fun a b => m ((c.tc : Thread Cert.Kernel7Ideal.nD Cert.Kernel7Ideal.τ).loc Cert.Kernel7Ideal.main_arg3) (ix2 a b)
    obtain ⟨a0, a1, a2, a3⟩ := hagree c
    refine ⟨(h c).1.trans ?_, (h c).2.1.trans ?_, (h c).2.2⟩
    · refine (Reference7Ideal.Read.val_main_v3_eq _ _ ).trans ?_
      rw [a0, a1]
      refine Eq.trans ?_ (final4 m c A W hA hW).symm
      funext i
      idx_vars i
      exact r3 _ _ A W hA hW i0 i1
    · refine (Reference7Ideal.Read.val_main_v16_eq _ _ _ _ ).trans ?_
      rw [a0, a1, a2, a3]
      refine Eq.trans ?_ (final5 m c A W G R hA hW hG hR).symm
      funext i
      idx_vars i
      exact r16 _ _ _ _ A W G R hA hW hG hR i0 i1

end Cert.DownFwdClaim
end
-- ==== Proof.OutFwdClaim.lean ====
/- The outer projection: the kernel's tiles are the reference's product, and its residual plus normed product. -/
module

public import proofs.«01_k».proof.Proof.FwdSpec
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Claim

@[expose] public section
set_option maxRecDepth 16384
noncomputable section
namespace Cert.OutFwdClaim
open Idealize.ShloMosaic Idealize.ShloMosaic.TcCoe Idealize.SL.Sem
open Cert.Coe Cert.FwdSpec
open scoped BigOperators

section kernel
open Cert.Kernel8Ideal Cert.Kernel8Ideal.Gen
open Idealize.ShloMosaic.Pipeline (Dat)

section block
variable (x0 : Vec Ideal S256x1024 .bf16) (x1 : Vec Ideal S1024x1024 .bf16) (x2 : Vec Ideal S1x1024 .f32) (x3 : Vec Ideal S256x1024 .f32) (A W G R : ℕ → ℕ → EReal)
variable (h0 : ∀ (a : Fin 256) (b : Fin 1024), x0 (ix2 a b) = A a b) (h1 : ∀ (a : Fin 1024) (b : Fin 1024), x1 (ix2 a b) = W a b)
  (h2 : ∀ (a : Fin 1) (b : Fin 1024), x2 (ix2 a b) = G 0 b) (h3 : ∀ (a : Fin 256) (b : Fin 1024), x3 (ix2 a b) = R a b)

include h0 h1 in
/-- The first half's product. -/
theorem p2 (a : Fin 256) (b : Fin 1024) : k0_pay2 x0 x1 (ix2 a b) = mmE 1024 A W a b := by
  pointwise [k0_pay2]
  simp only [h0, h1]
  rfl

include h0 h1 in
/-- The second half's product. -/
theorem p3 (a : Fin 256) (b : Fin 1024) : k0_pay3 x0 x1 (ix2 a b) = mmE 1024 A W a b := by
  pointwise [k0_pay3]
  simp only [h0, h1]
  rfl

include h0 h1 in
/-- The first half's product, rounded. -/
theorem p4 (a : Fin 256) (b : Fin 1024) : k0_pay4 x0 x1 (ix2 a b) = mmE 1024 A W a b := by
  pointwise [k0_pay4]
  exact p2 x0 x1 A W h0 h1 a b

include h0 h1 in
/-- The second half's product, rounded. -/
theorem p6 (a : Fin 256) (b : Fin 1024) : k0_pay6 x0 x1 (ix2 a b) = mmE 1024 A W a b := by
  pointwise [k0_pay6]
  exact p3 x0 x1 A W h0 h1 a b

include h0 h1 h2 h3 in
/-- The first half's result. -/
theorem p5 (a : Fin 256) (b : Fin 1024) : k0_pay5 x0 x1 x3 x2 (ix2 a b) = subE 1024 A W G R a b := by
  pointwise [k0_pay5]
  simp only [p2 x0 x1 A W h0 h1, h2, h3]
  rfl

include h0 h1 in
/-- The second half's sums of squares. -/
theorem p7 (a : Fin 256) (b : Fin 1) : k0_pay7 x0 x1 (ix2 a b) = ∑ k : Fin 1024, mmE 1024 A W a k * mmE 1024 A W a k := by
  pointwise [k0_pay7]
  simp only [p3 x0 x1 A W h0 h1]

include h0 h1 h2 h3 in
/-- The second half's result. -/
theorem p1 (a : Fin 256) (b : Fin 1024) : k0_pay1 (k0_pay3 x0 x1) x3 (k0_pay7 x0 x1) x2 (ix2 a b) = subE 1024 A W G R a b := by
  have e3 := p3 x0 x1 A W h0 h1
  have e7 := p7 x0 x1 A W h0 h1
  revert e3 e7
  generalize k0_pay3 x0 x1 = v
  generalize k0_pay7 x0 x1 = w
  intro e3 e7
  pointwise [k0_pay1]
  simp only [e3, e7, h2, h3]
  rfl

end block

/-- The block indices at point `t`. -/
theorem idx : ∀ t : Fin cfg0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] :=
  (by decide +kernel : ∀ t : Fin grid0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0])

/-- The number of grid points. -/
theorem t_lt (t : Fin cfg0.N) : (t : ℕ) < 8 := lt_of_lt_of_eq t.isLt (by decide : grid0.N = 8)

/-- The lower half of a loaded block. -/
theorem ld_bf16_1024_0 (u : Vec Ideal S512x1024 .bf16) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_bf16_1024_256 (u : Vec Ideal S512x1024 .bf16) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

/-- The lower half of a loaded block. -/
theorem ld_f32_1024_0 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_1024_256 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

variable (m : (ℓ : Loc nD τ sig) → Buf (Elt Ideal) ℓ) (c : Dev nD) (A W G R : ℕ → ℕ → EReal)
variable (hA : ∀ (a : Fin 4096) (b : Fin 1024), m ((c : Thread nD τ).loc main_arg0) (ix2 a b) = A a b)
  (hW : ∀ (a : Fin 1024) (b : Fin 1024), m ((c : Thread nD τ).loc main_arg1) (ix2 a b) = W a b)
  (hG : ∀ (a : Fin 1) (b : Fin 1024), m ((c : Thread nD τ).loc main_arg2) (ix2 a b) = G 0 b)
  (hR : ∀ (a : Fin 4096) (b : Fin 1024), m ((c : Thread nD τ).loc main_arg3) (ix2 a b) = R a b)

include hA in
theorem blk0 (t : Fin cfg0.N) (a : Fin 512) (b : Fin 1024) : iblk m c 0 t (ix2 a b) = rowsE A (512 * t) a b := by
  have ht := t_lt t
  rw [rowsE, ← hA ⟨512 * t + a, by omega⟩ b]
  blk_ext [iblk, V, idx t]

include hW in
theorem blk1 (t : Fin cfg0.N) (a : Fin 1024) (b : Fin 1024) : iblk m c 1 t (ix2 a b) = W a b := by
  rw [← hW a b]
  blk_ext [iblk, V, idx t]

include hG in
theorem blk2 (t : Fin cfg0.N) (a : Fin 1) (b : Fin 1024) : iblk m c 2 t (ix2 a b) = G 0 b := by
  rw [← hG a b]
  blk_ext [iblk, V, idx t]

include hR in
theorem blk3 (t : Fin cfg0.N) (a : Fin 512) (b : Fin 1024) : iblk m c 3 t (ix2 a b) = rowsE R (512 * t) a b := by
  have ht := t_lt t
  rw [rowsE, ← hR ⟨512 * t + a, by omega⟩ b]
  blk_ext [iblk, V, idx t]

include hA hW in
/-- The array the kernel leaves in window 4. -/
theorem final4 : (dats m 0 c).arrAt 4 cfg0.N = fun i : S4096x1024.Idx => mmE 1024 A W (i 0 : ℕ) (i 1 : ℕ) := by
  refine (dats m 0 c).arrAt_eq_of_covers 4 _ (by decide +kernel) fun t hf y => ?_
  blk_simp
  rw [after0_4, (idx t).2.2.2.2.1]
  show _ = mmE 1024 A W ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay4 (View.ld (iblk m c 0 t) (Rect.unit ![0, 0] ![256, 1024] inb_S512x1024_S256x1024_0_0)) (iblk m c 1 t) x
      = mmE 1024 A W (512 * (t : ℕ) + (y 0 : ℕ)) (y 1 : ℕ) := by
    intro x h0 h1
    rw [h0, h1]
    idx_vars x
    exact p4 _ _ (rowsE A (512 * t + 0)) W (ld_bf16_1024_0 _ A _ (blk0 m c A hA t)) (blk1 m c W hW t) x0 x1
  have hi : ∀ (x : S256x1024.Idx) (h0 : (y 0 : ℕ) = 256 + x 0) (h1 : (y 1 : ℕ) = x 1), k0_pay6 (View.ld (iblk m c 0 t) (Rect.unit ![256, 0] ![256, 1024] inb_S512x1024_S256x1024_256_0)) (iblk m c 1 t) x
      = mmE 1024 A W (512 * (t : ℕ) + (y 0 : ℕ)) (y 1 : ℕ) := by
    intro x h0 h1
    rw [h0, h1, ← Nat.add_assoc]
    idx_vars x
    exact p6 _ _ (rowsE A (512 * t + 256)) W (ld_bf16_1024_256 _ A _ (blk0 m c A hA t)) (blk1 m c W hW t) x0 x1
  frame_out
  canon_tiles x h
  · exact hi x (by omega) (by omega)
  · exact lo x (by omega) (by omega)

include hA hW hG hR in
/-- The array the kernel leaves in window 5. -/
theorem final5 : (dats m 0 c).arrAt 5 cfg0.N = fun i : S4096x1024.Idx => subE 1024 A W G R (i 0 : ℕ) (i 1 : ℕ) := by
  refine (dats m 0 c).arrAt_eq_of_covers 5 _ (by decide +kernel) fun t hf y => ?_
  blk_simp
  rw [after0_5, (idx t).2.2.2.2.2]
  show _ = subE 1024 A W G R ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay5 (View.ld (iblk m c 0 t) (Rect.unit ![0, 0] ![256, 1024] inb_S512x1024_S256x1024_0_0)) (iblk m c 1 t) (View.ld (iblk m c 3 t) (Rect.unit ![0, 0] ![256, 1024] inb_S512x1024_S256x1024_0_0)) (iblk m c 2 t) x
      = subE 1024 A W G R (512 * (t : ℕ) + (y 0 : ℕ)) (y 1 : ℕ) := by
    intro x h0 h1
    rw [h0, h1]
    idx_vars x
    exact p5 _ _ _ _ (rowsE A (512 * t + 0)) W G (rowsE R (512 * t + 0)) (ld_bf16_1024_0 _ A _ (blk0 m c A hA t)) (blk1 m c W hW t) (blk2 m c G hG t) (ld_f32_1024_0 _ R _ (blk3 m c R hR t)) x0 x1
  have hi : ∀ (x : S256x1024.Idx) (h0 : (y 0 : ℕ) = 256 + x 0) (h1 : (y 1 : ℕ) = x 1), k0_pay1 (k0_pay3 (View.ld (iblk m c 0 t) (Rect.unit ![256, 0] ![256, 1024] inb_S512x1024_S256x1024_256_0)) (iblk m c 1 t)) (View.ld (iblk m c 3 t) (Rect.unit ![256, 0] ![256, 1024] inb_S512x1024_S256x1024_256_0)) (k0_pay7 (View.ld (iblk m c 0 t) (Rect.unit ![256, 0] ![256, 1024] inb_S512x1024_S256x1024_256_0)) (iblk m c 1 t)) (iblk m c 2 t) x
      = subE 1024 A W G R (512 * (t : ℕ) + (y 0 : ℕ)) (y 1 : ℕ) := by
    intro x h0 h1
    rw [h0, h1, ← Nat.add_assoc]
    idx_vars x
    exact p1 _ _ _ _ (rowsE A (512 * t + 256)) W G (rowsE R (512 * t + 256)) (ld_bf16_1024_256 _ A _ (blk0 m c A hA t)) (blk1 m c W hW t) (blk2 m c G hG t) (ld_f32_1024_256 _ R _ (blk3 m c R hR t)) x0 x1
  frame_out
  canon_tiles x h
  · exact hi x (by omega) (by omega)
  · exact lo x (by omega) (by omega)

end kernel

section reference
open Cert.Reference8Ideal Cert.Reference8Ideal.Gen Cert.Reference8Ideal.Read
variable (x0 : Vec Ideal S4096x1024 .bf16) (x1 : Vec Ideal S1024x1024 .bf16) (x2 : Vec Ideal S1x1024 .f32) (x3 : Vec Ideal S4096x1024 .f32) (A W G R : ℕ → ℕ → EReal)
variable (hA : ∀ (a : Fin 4096) (b : Fin 1024), x0 (ix2 a b) = A a b) (hW : ∀ (a : Fin 1024) (b : Fin 1024), x1 (ix2 a b) = W a b)
  (hG : ∀ (a : Fin 1) (b : Fin 1024), x2 (ix2 a b) = G 0 b) (hR : ∀ (a : Fin 4096) (b : Fin 1024), x3 (ix2 a b) = R a b)

include hA hW in
/-- The product. -/
theorem r2 (i : Fin 4096) (k : Fin 1024) : val_main_v2 x0 x1 (ix2 i k) = mmE 1024 A W i k := by
  pointwise [val_main_v2, val_main_v1, val_main_v0]
  simp only [hA, hW]
  rfl

include hA hW in
/-- The first result: the product, rounded. -/
theorem r3 (i : Fin 4096) (k : Fin 1024) : val_main_v3 x0 x1 (ix2 i k) = mmE 1024 A W i k := by
  have e := r2 x0 x1 A W hA hW
  unfold val_main_v3
  revert e
  generalize val_main_v2 x0 x1 = y
  intro e
  pointwise
  exact e i k

include hA hW in
/-- A row's sum of squares. -/
theorem r5 (i : Fin 4096) : val_main_v5 x0 x1 (ix1 i) = ∑ k : Fin 1024, mmE 1024 A W i k * mmE 1024 A W i k := by
  have e : ∀ (a : Fin 4096) (b : Fin 1024), val_main_v4 x0 x1 (ix2 a b) = mmE 1024 A W a b * mmE 1024 A W a b := by
    intro a b
    have e := r2 x0 x1 A W hA hW
    unfold val_main_v4
    revert e
    generalize val_main_v2 x0 x1 = y
    intro e
    pointwise
    rw [e]
  unfold val_main_v5
  revert e
  generalize val_main_v4 x0 x1 = y
  intro e
  pointwise [val_main_cst]
  simp only [e]

include hA hW in
/-- The norm's scale. -/
theorem r11 (i : Fin 4096) (j : Fin 1) : val_main_v11 x0 x1 (ix2 i j) = rE (mmE 1024 A W) i := by
  have e := r5 x0 x1 A W hA hW
  unfold val_main_v11 val_main_v10 val_main_v8 val_main_v6
  revert e
  generalize val_main_v5 x0 x1 = y
  intro e
  pointwise [val_main_v9, val_main_cst_1, val_main_v7, val_main_cst_0]
  rw [e]
  rfl

include hA hW hG hR in
/-- The second result: the residual plus the normed product. -/
theorem r16 (i : Fin 4096) (k : Fin 1024) : val_main_v16 x0 x1 x2 x3 (ix2 i k) = subE 1024 A W G R i k := by
  have e2 := r2 x0 x1 A W hA hW
  have e11 := r11 x0 x1 A W hA hW
  unfold val_main_v16 val_main_v15 val_main_v13 val_main_v12
  revert e2 e11
  generalize val_main_v2 x0 x1 = y
  generalize val_main_v11 x0 x1 = z
  intro e2 e11
  pointwise [val_main_v14]
  rw [e2, e11, hG, hR]
  rfl

end reference

set_option maxHeartbeats 1600000 in
/-- The kernel's results are the reference's, for all arguments. -/
theorem algebraic : Cert.algebraic_Kernel8Ideal_Reference8Ideal := by
  pair_intro
  · run_from Cert.Kernel8Ideal.Gen.run_main m g
  · refine (θ_run _ _ _).mono (fun r h c => ?_) (Cert.Reference8Ideal.Value.run m' g')
    obtain ⟨A, hA⟩ := mat_of (R := 4096) (C := 1024) fun a b => m ((c.tc : Thread Cert.Kernel8Ideal.nD Cert.Kernel8Ideal.τ).loc Cert.Kernel8Ideal.main_arg0) (ix2 a b)
    obtain ⟨W, hW⟩ := mat_of (R := 1024) (C := 1024) fun a b => m ((c.tc : Thread Cert.Kernel8Ideal.nD Cert.Kernel8Ideal.τ).loc Cert.Kernel8Ideal.main_arg1) (ix2 a b)
    obtain ⟨G, hG⟩ := mat_of (R := 1) (C := 1024) fun a b => m ((c.tc : Thread Cert.Kernel8Ideal.nD Cert.Kernel8Ideal.τ).loc Cert.Kernel8Ideal.main_arg2) (ix2 a b)
    have hG : ∀ (a : Fin 1) (b : Fin 1024), m ((c.tc : Thread Cert.Kernel8Ideal.nD Cert.Kernel8Ideal.τ).loc Cert.Kernel8Ideal.main_arg2) (ix2 a b) = G 0 b :=
      fun a b => (congrArg (fun a => m ((c.tc : Thread Cert.Kernel8Ideal.nD Cert.Kernel8Ideal.τ).loc Cert.Kernel8Ideal.main_arg2) (ix2 a b)) (Subsingleton.elim a 0)).trans (hG 0 b)
    obtain ⟨R, hR⟩ := mat_of (R := 4096) (C := 1024) fun a b => m ((c.tc : Thread Cert.Kernel8Ideal.nD Cert.Kernel8Ideal.τ).loc Cert.Kernel8Ideal.main_arg3) (ix2 a b)
    obtain ⟨a0, a1, a2, a3⟩ := hagree c
    refine ⟨(h c).1.trans ?_, (h c).2.1.trans ?_, (h c).2.2⟩
    · refine (Reference8Ideal.Read.val_main_v3_eq _ _ ).trans ?_
      rw [a0, a1]
      refine Eq.trans ?_ (final4 m c A W hA hW).symm
      funext i
      idx_vars i
      exact r3 _ _ A W hA hW i0 i1
    · refine (Reference8Ideal.Read.val_main_v16_eq _ _ _ _ ).trans ?_
      rw [a0, a1, a2, a3]
      refine Eq.trans ?_ (final5 m c A W G R hA hW hG hR).symm
      funext i
      idx_vars i
      exact r16 _ _ _ _ A W G R hA hW hG hR i0 i1

end Cert.OutFwdClaim
end
-- ==== Proof.InFwdClaim.lean ====
/- The inner projection: the kernel's tiles are the reference's normed rows, and their product with the weight. -/
module

public import proofs.«01_k».proof.Proof.FwdSpec
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Claim

@[expose] public section
set_option maxRecDepth 16384
noncomputable section
namespace Cert.InFwdClaim
open Idealize.ShloMosaic Idealize.ShloMosaic.TcCoe Idealize.SL.Sem
open Cert.Coe Cert.FwdSpec
open scoped BigOperators

section kernel
open Cert.Kernel9Ideal Cert.Kernel9Ideal.Gen
open Idealize.ShloMosaic.Pipeline (Dat)

section block
variable (x0 : Vec Ideal S256x1024 .f32) (x1 : Vec Ideal S1x1024 .f32) (x2 : Vec Ideal S1024x1024 .bf16) (X G W : ℕ → ℕ → EReal)
variable (h0 : ∀ (a : Fin 256) (b : Fin 1024), x0 (ix2 a b) = X a b) (h1 : ∀ (a : Fin 1) (b : Fin 1024), x1 (ix2 a b) = G 0 b)
  (h2 : ∀ (a : Fin 1024) (b : Fin 1024), x2 (ix2 a b) = W a b)

include h0 h1 in
/-- The first half's normed rows. -/
theorem p3 (a : Fin 256) (b : Fin 1024) : k0_pay3 x0 x1 (ix2 a b) = normE X G a b := by
  pointwise [k0_pay3]
  simp only [h0, h1]
  rfl

include h0 h1 in
/-- The second half's normed rows. -/
theorem p4 (a : Fin 256) (b : Fin 1024) : k0_pay4 x0 x1 (ix2 a b) = normE X G a b := by
  pointwise [k0_pay4]
  simp only [h0, h1]
  rfl

include h0 h1 h2 in
/-- The first half's product. -/
theorem p5 (a : Fin 256) (b : Fin 1024) : k0_pay1 (k0_pay5 x0 x1 x2) (ix2 a b) = mmE 1024 (normE X G) W a b := by
  pointwise [k0_pay1, k0_pay5]
  simp only [p3 x0 x1 X G h0 h1, h2]
  rfl

include h0 h1 h2 in
/-- The second half's product. -/
theorem p2 (a : Fin 256) (b : Fin 1024) : k0_pay2 (k0_pay4 x0 x1) x2 (ix2 a b) = mmE 1024 (normE X G) W a b := by
  pointwise [k0_pay2]
  simp only [p4 x0 x1 X G h0 h1, h2]
  rfl

end block

/-- The block indices at point `t`. -/
theorem idx : ∀ t : Fin cfg0.N, win0_0.index t = ![(t : ℕ), 0] ∧ win0_1.index t = ![0, 0] ∧ win0_2.index t = ![0, 0] ∧ win0_3.index t = ![(t : ℕ), 0] ∧ win0_4.index t = ![(t : ℕ), 0] :=
  (by decide +kernel : ∀ t : Fin grid0.N, win0_0.index t = ![(t : ℕ), 0] ∧ win0_1.index t = ![0, 0] ∧ win0_2.index t = ![0, 0] ∧ win0_3.index t = ![(t : ℕ), 0] ∧ win0_4.index t = ![(t : ℕ), 0])

/-- The number of grid points. -/
theorem t_lt (t : Fin cfg0.N) : (t : ℕ) < 8 := lt_of_lt_of_eq t.isLt (by decide : grid0.N = 8)

/-- The lower half of a loaded block. -/
theorem ld_f32_1024_0 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_1024_256 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

variable (m : (ℓ : Loc nD τ sig) → Buf (Elt Ideal) ℓ) (c : Dev nD) (X G W : ℕ → ℕ → EReal)
variable (hX : ∀ (a : Fin 4096) (b : Fin 1024), m ((c : Thread nD τ).loc main_arg0) (ix2 a b) = X a b)
  (hG : ∀ (a : Fin 1) (b : Fin 1024), m ((c : Thread nD τ).loc main_arg1) (ix2 a b) = G 0 b)
  (hW : ∀ (a : Fin 1024) (b : Fin 1024), m ((c : Thread nD τ).loc main_arg2) (ix2 a b) = W a b)

include hX in
theorem blk0 (t : Fin cfg0.N) (a : Fin 512) (b : Fin 1024) : iblk m c 0 t (ix2 a b) = rowsE X (512 * t) a b := by
  have ht := t_lt t
  rw [rowsE, ← hX ⟨512 * t + a, by omega⟩ b]
  blk_ext [iblk, V, idx t]

include hG in
theorem blk1 (t : Fin cfg0.N) (a : Fin 1) (b : Fin 1024) : iblk m c 1 t (ix2 a b) = G 0 b := by
  rw [← hG a b]
  blk_ext [iblk, V, idx t]

include hW in
theorem blk2 (t : Fin cfg0.N) (a : Fin 1024) (b : Fin 1024) : iblk m c 2 t (ix2 a b) = W a b := by
  rw [← hW a b]
  blk_ext [iblk, V, idx t]

include hX hG hW in
/-- The array the kernel leaves in window 3. -/
theorem final3 : (dats m 0 c).arrAt 3 cfg0.N = fun i : S4096x1024.Idx => mmE 1024 (normE X G) W (i 0 : ℕ) (i 1 : ℕ) := by
  refine (dats m 0 c).arrAt_eq_of_covers 3 _ (by decide +kernel) fun t hf y => ?_
  blk_simp
  rw [after0_3, (idx t).2.2.2.1]
  show _ = mmE 1024 (normE X G) W ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay1 (k0_pay5 (View.ld (iblk m c 0 t) (Rect.unit ![0, 0] ![256, 1024] inb_S512x1024_S256x1024_0_0)) (iblk m c 1 t) (iblk m c 2 t)) x
      = mmE 1024 (normE X G) W (512 * (t : ℕ) + (y 0 : ℕ)) (y 1 : ℕ) := by
    intro x h0 h1
    rw [h0, h1]
    idx_vars x
    exact p5 _ _ _ (rowsE X (512 * t + 0)) G W (ld_f32_1024_0 _ X _ (blk0 m c X hX t)) (blk1 m c G hG t) (blk2 m c W hW t) x0 x1
  have hi : ∀ (x : S256x1024.Idx) (h0 : (y 0 : ℕ) = 256 + x 0) (h1 : (y 1 : ℕ) = x 1), k0_pay2 (k0_pay4 (View.ld (iblk m c 0 t) (Rect.unit ![256, 0] ![256, 1024] inb_S512x1024_S256x1024_256_0)) (iblk m c 1 t)) (iblk m c 2 t) x
      = mmE 1024 (normE X G) W (512 * (t : ℕ) + (y 0 : ℕ)) (y 1 : ℕ) := by
    intro x h0 h1
    rw [h0, h1, ← Nat.add_assoc]
    idx_vars x
    exact p2 _ _ _ (rowsE X (512 * t + 256)) G W (ld_f32_1024_256 _ X _ (blk0 m c X hX t)) (blk1 m c G hG t) (blk2 m c W hW t) x0 x1
  frame_out
  canon_tiles x h
  · exact hi x (by omega) (by omega)
  · exact lo x (by omega) (by omega)

include hX hG in
/-- The array the kernel leaves in window 4. -/
theorem final4 : (dats m 0 c).arrAt 4 cfg0.N = fun i : S4096x1024.Idx => normE X G (i 0 : ℕ) (i 1 : ℕ) := by
  refine (dats m 0 c).arrAt_eq_of_covers 4 _ (by decide +kernel) fun t hf y => ?_
  blk_simp
  rw [after0_4, (idx t).2.2.2.2]
  show _ = normE X G ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay3 (View.ld (iblk m c 0 t) (Rect.unit ![0, 0] ![256, 1024] inb_S512x1024_S256x1024_0_0)) (iblk m c 1 t) x
      = normE X G (512 * (t : ℕ) + (y 0 : ℕ)) (y 1 : ℕ) := by
    intro x h0 h1
    rw [h0, h1]
    idx_vars x
    exact p3 _ _ (rowsE X (512 * t + 0)) G (ld_f32_1024_0 _ X _ (blk0 m c X hX t)) (blk1 m c G hG t) x0 x1
  have hi : ∀ (x : S256x1024.Idx) (h0 : (y 0 : ℕ) = 256 + x 0) (h1 : (y 1 : ℕ) = x 1), k0_pay4 (View.ld (iblk m c 0 t) (Rect.unit ![256, 0] ![256, 1024] inb_S512x1024_S256x1024_256_0)) (iblk m c 1 t) x
      = normE X G (512 * (t : ℕ) + (y 0 : ℕ)) (y 1 : ℕ) := by
    intro x h0 h1
    rw [h0, h1, ← Nat.add_assoc]
    idx_vars x
    exact p4 _ _ (rowsE X (512 * t + 256)) G (ld_f32_1024_256 _ X _ (blk0 m c X hX t)) (blk1 m c G hG t) x0 x1
  frame_out
  canon_tiles x h
  · exact hi x (by omega) (by omega)
  · exact lo x (by omega) (by omega)

end kernel

section reference
open Cert.Reference9Ideal Cert.Reference9Ideal.Gen Cert.Reference9Ideal.Read
variable (x0 : Vec Ideal S4096x1024 .f32) (x1 : Vec Ideal S1x1024 .f32) (x2 : Vec Ideal S1024x1024 .bf16) (X G W : ℕ → ℕ → EReal)
variable (hX : ∀ (a : Fin 4096) (b : Fin 1024), x0 (ix2 a b) = X a b) (hG : ∀ (a : Fin 1) (b : Fin 1024), x1 (ix2 a b) = G 0 b)
  (hW : ∀ (a : Fin 1024) (b : Fin 1024), x2 (ix2 a b) = W a b)

include hX in
/-- A row's sum of squares. -/
theorem r1 (i : Fin 4096) : val_main_v1 x0 (ix1 i) = ∑ k : Fin 1024, X i k * X i k := by
  have e : ∀ (a : Fin 4096) (b : Fin 1024), val_main_v0 x0 (ix2 a b) = X a b * X a b := by
    intro a b
    pointwise [val_main_v0]
    rw [hX]
  unfold val_main_v1
  revert e
  generalize val_main_v0 x0 = y
  intro e
  pointwise [val_main_cst]
  simp only [e]

include hX in
/-- The norm's scale. -/
theorem r7 (i : Fin 4096) (j : Fin 1) : val_main_v7 x0 (ix2 i j) = rE X i := by
  have e := r1 x0 X hX
  unfold val_main_v7 val_main_v6 val_main_v4 val_main_v2
  revert e
  generalize val_main_v1 x0 = y
  intro e
  pointwise [val_main_v5, val_main_cst_1, val_main_v3, val_main_cst_0]
  rw [e]
  rfl

include hX hG in
/-- The normed rows. -/
theorem r11 (i : Fin 4096) (k : Fin 1024) : val_main_v11 x0 x1 (ix2 i k) = normE X G i k := by
  have e := r7 x0 X hX
  unfold val_main_v11 val_main_v9 val_main_v8
  revert e
  generalize val_main_v7 x0 = y
  intro e
  pointwise [val_main_v10]
  rw [e, hX, hG]
  rfl

include hX hG in
/-- The second result: the normed rows, rounded. -/
theorem r15 (i : Fin 4096) (k : Fin 1024) : val_main_v15 x0 x1 (ix2 i k) = normE X G i k := by
  have e := r11 x0 x1 X G hX hG
  unfold val_main_v15
  revert e
  generalize val_main_v11 x0 x1 = y
  intro e
  pointwise
  exact e i k

include hX hG hW in
/-- The first result: the product with the weight, rounded. -/
theorem r14 (i : Fin 4096) (k : Fin 1024) : val_main_v14 x0 x1 x2 (ix2 i k) = mmE 1024 (normE X G) W i k := by
  have e := r11 x0 x1 X G hX hG
  unfold val_main_v14 val_main_v13
  revert e
  generalize val_main_v11 x0 x1 = y
  intro e
  pointwise [val_main_v12]
  simp only [e, hW]
  rfl

end reference

set_option maxHeartbeats 1600000 in
/-- The kernel's results are the reference's, for all arguments. -/
theorem algebraic : Cert.algebraic_Kernel9Ideal_Reference9Ideal := by
  pair_intro
  · run_from Cert.Kernel9Ideal.Gen.run_main m g
  · refine (θ_run _ _ _).mono (fun r h c => ?_) (Cert.Reference9Ideal.Value.run m' g')
    obtain ⟨X, hX⟩ := mat_of (R := 4096) (C := 1024) fun a b => m ((c.tc : Thread Cert.Kernel9Ideal.nD Cert.Kernel9Ideal.τ).loc Cert.Kernel9Ideal.main_arg0) (ix2 a b)
    obtain ⟨G, hG⟩ := mat_of (R := 1) (C := 1024) fun a b => m ((c.tc : Thread Cert.Kernel9Ideal.nD Cert.Kernel9Ideal.τ).loc Cert.Kernel9Ideal.main_arg1) (ix2 a b)
    have hG : ∀ (a : Fin 1) (b : Fin 1024), m ((c.tc : Thread Cert.Kernel9Ideal.nD Cert.Kernel9Ideal.τ).loc Cert.Kernel9Ideal.main_arg1) (ix2 a b) = G 0 b :=
      fun a b => (congrArg (fun a => m ((c.tc : Thread Cert.Kernel9Ideal.nD Cert.Kernel9Ideal.τ).loc Cert.Kernel9Ideal.main_arg1) (ix2 a b)) (Subsingleton.elim a 0)).trans (hG 0 b)
    obtain ⟨W, hW⟩ := mat_of (R := 1024) (C := 1024) fun a b => m ((c.tc : Thread Cert.Kernel9Ideal.nD Cert.Kernel9Ideal.τ).loc Cert.Kernel9Ideal.main_arg2) (ix2 a b)
    obtain ⟨a0, a1, a2⟩ := hagree c
    refine ⟨(h c).1.trans ?_, (h c).2.1.trans ?_, (h c).2.2⟩
    · refine (Reference9Ideal.Read.val_main_v14_eq _ _ _ ).trans ?_
      rw [a0, a1, a2]
      refine Eq.trans ?_ (final3 m c X G W hX hG hW).symm
      funext i
      idx_vars i
      exact r14 _ _ _ X G W hX hG hW i0 i1
    · refine (Reference9Ideal.Read.val_main_v15_eq _ _ ).trans ?_
      rw [a0, a1]
      refine Eq.trans ?_ (final4 m c X G hX hG).symm
      funext i
      idx_vars i
      exact r15 _ _ X G hX hG i0 i1

end Cert.InFwdClaim
end
-- ==== Proof.OutRef.lean ====
/- The reference's gradients of the outer projection, from finite arguments, as the real formulas of `RmsSpec`. -/
module

public import proofs.«01_k».proof.Proof.DownSpec
public import proofs.«01_k».proof.Proof.Gen.Reference10Ideal.Run
public import proofs.«01_k».proof.Proof.Gen.Reference10Ideal.Read

@[expose] public section
set_option maxRecDepth 16384
noncomputable section
namespace Cert.Reference10Ideal.Val
open Cert.Reference10Ideal Cert.Reference10Ideal.Gen Cert.Reference10Ideal.Read Idealize.ShloMosaic Idealize.ShloMosaic.TcCoe Idealize.SL.Sem
open Cert.Coe Cert.RmsSpec Cert.DownSpec
open scoped BigOperators

variable (x0 : Vec Ideal S4096x1024 .bf16) (x1 : Vec Ideal S1024x1024 .bf16) (x2 : Vec Ideal S1x1024 .f32)
  (x3 : Vec Ideal S4096x1024 .f32) (A W G D : ℕ → ℕ → ℝ)

variable (hA : ∀ (a : Fin 4096) (b : Fin 1024), x0 (ix2 a b) = ((A a b : ℝ) : EReal))
  (hW : ∀ (a : Fin 1024) (b : Fin 1024), x1 (ix2 a b) = ((W a b : ℝ) : EReal))
  (hG : ∀ (a : Fin 1) (b : Fin 1024), x2 (ix2 a b) = ((G 0 b : ℝ) : EReal))
  (hD : ∀ (a : Fin 4096) (b : Fin 1024), x3 (ix2 a b) = ((D a b : ℝ) : EReal))

include hA hW in
/-- The product. -/
theorem r2 (i : Fin 4096) (k : Fin 1024) : val_main_v2 x0 x1 (ix2 i k) = ((mm 1024 A W i k : ℝ) : EReal) := by
  pointwise [val_main_v2, val_main_v1, val_main_v0]
  simp only [hA, hW, ← EReal.coe_mul, sum_coe]
  rfl

section norm
variable (Y : ℕ → ℕ → ℝ) (hY : ∀ (a : Fin 4096) (b : Fin 1024), val_main_v2 x0 x1 (ix2 a b) = ((Y a b : ℝ) : EReal))

include hY in
/-- A row's sum of squares. -/
theorem r4 (i : Fin 4096) : val_main_v4 x0 x1 (ix1 i) = ((∑ k : Fin 1024, Y i k * Y i k : ℝ) : EReal) := by
  unfold val_main_v4 val_main_v3
  revert hY
  generalize val_main_v2 x0 x1 = y
  intro e
  pointwise [val_main_cst]
  simp only [e, ← EReal.coe_mul, sum_coe]

include hY in
/-- The mean square, moved away from zero. -/
theorem r9 (i : Fin 4096) (j : Fin 1) : val_main_v9 x0 x1 (ix2 i j) = ((ms Y i : ℝ) : EReal) := by
  have e := r4 x0 x1 Y hY
  unfold val_main_v9 val_main_v7 val_main_v5
  revert e
  generalize val_main_v4 x0 x1 = y
  intro e
  pointwise [val_main_v8, val_main_cst_1, val_main_v6, val_main_cst_0]
  rw [e, eps_f32, len_f32, div_real _ _ (by norm_num), ← EReal.coe_add]
  rfl

include hY in
/-- The norm's scale. -/
theorem r10 (i : Fin 4096) (j : Fin 1) : val_main_v10 x0 x1 (ix2 i j) = ((rr Y i : ℝ) : EReal) := by
  have e := r9 x0 x1 Y hY
  unfold val_main_v10
  revert e
  generalize val_main_v9 x0 x1 = y
  intro e
  pointwise
  rw [e]
  exact rsqrt_pos _ (ms_pos Y i)

include hY in
/-- The derivative of the norm's scale by the mean square. -/
theorem r13 (i : Fin 4096) (j : Fin 1) : val_main_v13 x0 x1 (ix2 i j) = ((-(1 / 2) * (rr Y i * rr Y i * rr Y i) : ℝ) : EReal) := by
  have e8 := r9 x0 x1 Y hY
  have e9 := r10 x0 x1 Y hY
  unfold val_main_v13 val_main_v11
  revert e8 e9
  generalize val_main_v9 x0 x1 = y
  generalize val_main_v10 x0 x1 = z
  intro e8 e9
  pointwise [val_main_v12, val_main_cst_2]
  rw [e8, e9, neg_half_f32, div_real _ _ (ms_pos Y i).ne', rr_div, ← EReal.coe_mul]

include hY hD in
/-- The gradient at the gain. -/
theorem r20 (j : Fin 1) (k : Fin 1024) : val_main_v20 x0 x1 x3 (ix2 j k) = ((dg 4096 Y D k : ℝ) : EReal) := by
  have e15 := r10 x0 x1 Y hY
  unfold val_main_v20 val_main_v19 val_main_v18 val_main_v15 val_main_v14
  revert e15 hY
  generalize val_main_v2 x0 x1 = y
  generalize val_main_v10 x0 x1 = z
  intro e e15
  pointwise [val_main_cst_3]
  simp only [e, e15, hD, ← EReal.coe_mul, sum_coe]
  rw [EReal.coe_eq_coe_iff, dg]
  exact Finset.sum_congr rfl fun i _ => by rw [dgRow]; ring

include hG hD in
/-- The cotangent times the gain. -/
theorem r22 (i : Fin 4096) (k : Fin 1024) : val_main_v22 x2 x3 (ix2 i k) = ((D i k * G 0 k : ℝ) : EReal) := by
  pointwise [val_main_v22, val_main_v21]
  rw [hD, hG, ← EReal.coe_mul]

include hY hG hD in
/-- The inner product of a row with its cotangent. -/
theorem r24 (i : Fin 4096) : val_main_v24 x0 x1 x2 x3 (ix1 i) = ((∑ k : Fin 1024, Y i k * (D i k * G 0 k) : ℝ) : EReal) := by
  have e27 := r22 x2 x3 G D hG hD
  unfold val_main_v24 val_main_v23
  revert e27 hY
  generalize val_main_v2 x0 x1 = y
  generalize val_main_v22 x2 x3 = z
  intro e e27
  pointwise [val_main_cst_4]
  simp only [e, e27, ← EReal.coe_mul, sum_coe]

include hY hG hD in
/-- The share that comes through the mean square. -/
theorem r32 (i : Fin 4096) (k : Fin 1024) : val_main_v32 x0 x1 x2 x3 (ix2 i k)
    = (((∑ k : Fin 1024, Y i k * (D i k * G 0 k)) * (-(1 / 2) * (rr Y i * rr Y i * rr Y i)) / 1024 : ℝ) : EReal) := by
  have e29 := r24 x0 x1 x2 x3 G D hG hD Y hY
  have e18 := r13 x0 x1 Y hY
  unfold val_main_v32 val_main_v31 val_main_v30 val_main_v28 val_main_v25
  revert e29 e18
  generalize val_main_v24 x0 x1 x2 x3 = y
  generalize val_main_v13 x0 x1 = z
  intro e29 e18
  pointwise [val_main_v29, val_main_cst_5, val_main_cst_6]
  simp only [e29, e18, len_f32, ← EReal.coe_mul]
  rw [div_real _ _ (by norm_num)]
  exact Finset.sum_singleton _ _

include hY hG hD in
/-- The gradient at the product. -/
theorem r36 (i : Fin 4096) (k : Fin 1024) : val_main_v36 x0 x1 x2 x3 (ix2 i k) = ((dx Y G D i k : ℝ) : EReal) := by
  have e15 := r10 x0 x1 Y hY
  have e27 := r22 x2 x3 G D hG hD
  have e37 := r32 x0 x1 x2 x3 G D hG hD Y hY
  unfold val_main_v36 val_main_v35 val_main_v34 val_main_v33 val_main_v27 val_main_v26
  revert e15 e27 e37 hY
  generalize val_main_v2 x0 x1 = y
  generalize val_main_v10 x0 x1 = y'
  generalize val_main_v22 x2 x3 = z
  generalize val_main_v32 x0 x1 x2 x3 = w
  intro e e15 e27 e37
  pointwise
  rw [e, e15, e27, e37]
  simp only [← EReal.coe_mul, ← EReal.coe_add]
  rw [EReal.coe_eq_coe_iff, dx, proj]
  have s : ∑ k : Fin 1024, Y i k * (D i k * G 0 k) = ∑ k : Fin 1024, D i k * G 0 k * Y i k :=
    Finset.sum_congr rfl fun k _ => mul_comm _ _
  rw [s]
  ring

include hY hG hD in
/-- The gradient at the product, as it is returned. -/
theorem r38 (i : Fin 4096) (k : Fin 1024) : val_main_v38 x0 x1 x2 x3 (ix2 i k) = ((dx Y G D i k : ℝ) : EReal) :=
  r36 x0 x1 x2 x3 G D hG hD Y hY i k

include hW hY hG hD in
/-- The cotangent of the product's first factor. -/
theorem r37 (i : Fin 4096) (j : Fin 1024) : val_main_v37 x0 x1 x2 x3 (ix2 i j) = ((da (dx Y G D) W i j : ℝ) : EReal) := by
  have e := r36 x0 x1 x2 x3 G D hG hD Y hY
  unfold val_main_v37
  revert e
  generalize val_main_v36 x0 x1 x2 x3 = y
  intro e
  pointwise [val_main_v1]
  simp only [e, hW, ← EReal.coe_mul, sum_coe]
  rfl

include hW hY hG hD in
/-- The same, as it is returned. -/
theorem r39 (i : Fin 4096) (j : Fin 1024) : val_main_v39 x0 x1 x2 x3 (ix2 i j) = ((da (dx Y G D) W i j : ℝ) : EReal) :=
  r37 x0 x1 x2 x3 W G D hW hG hD Y hY i j

end norm

end Cert.Reference10Ideal.Val
end
-- ==== Proof.OutVal.lean ====
/- The kernel of the outer projection's gradient: the three arrays it leaves, from finite arguments. -/
module

public import proofs.«01_k».proof.Proof.DownSpec
public import proofs.«01_k».proof.Proof.Gen.Kernel10Ideal.Value

@[expose] public section
set_option maxRecDepth 16384
noncomputable section
namespace Cert.Kernel10Ideal.Val
open Cert.Kernel10Ideal Cert.Kernel10Ideal.Gen Idealize.ShloMosaic Idealize.ShloMosaic.TcCoe Idealize.SL.Sem
open Idealize.ShloMosaic.Pipeline (Dat)
open Cert.Coe Cert.RmsSpec Cert.DownSpec
open scoped BigOperators

section block
variable (x0 : Vec Ideal S512x1024 .bf16) (v0 : FVec Ideal S512x1024 .f32) (x1 : Vec Ideal S1x1024 .f32) (x2 : Vec Ideal S512x1024 .f32) (x3 : Vec Ideal S1024x1024 .bf16)
  (Y G D W : ℕ → ℕ → ℝ)

variable (h0 : ∀ (a : Fin 512) (b : Fin 1024), x0 (ix2 a b) = ((Y a b : ℝ) : EReal))
  (hv : ∀ (a : Fin 512) (b : Fin 1024), v0 (ix2 a b) = ((Y a b : ℝ) : EReal))
  (h1 : ∀ (a : Fin 1) (b : Fin 1024), x1 (ix2 a b) = ((G 0 b : ℝ) : EReal))
  (h2 : ∀ (a : Fin 512) (b : Fin 1024), x2 (ix2 a b) = ((D a b : ℝ) : EReal))
  (h3 : ∀ (a : Fin 1024) (b : Fin 1024), x3 (ix2 a b) = ((W a b : ℝ) : EReal))

include h0 in
/-- The first half's product, widened. -/
theorem p3 (a : Fin 512) (b : Fin 1024) : k0_pay3 x0 (ix2 a b) = ((Y a b : ℝ) : EReal) := by
  pointwise [k0_pay3]
  exact h0 a b

include h0 in
/-- The second half's product, widened. -/
theorem p7 (a : Fin 512) (b : Fin 1024) : k0_pay7 x0 (ix2 a b) = ((Y a b : ℝ) : EReal) := by
  pointwise [k0_pay7]
  exact h0 a b

include h0 in
/-- The norm's scale of a row of the first half. -/
theorem p4 (a : Fin 512) (b : Fin 1) : k0_pay4 x0 (ix2 a b) = ((rr Y a : ℝ) : EReal) := by
  pointwise [k0_pay4]
  simp only [p3 x0 Y h0, ← EReal.coe_mul, sum_coe, eps_f32, len_f32]
  exact rsqrt_ms Y a

include hv in
/-- The norm's scale of a row of the second half. -/
theorem p8 (a : Fin 512) (b : Fin 1) : k0_pay8 (F := Ideal) v0 (ix2 a b) = ((rr Y a : ℝ) : EReal) := by
  pointwise [k0_pay8]
  simp only [hv, ← EReal.coe_mul, sum_coe, eps_f32, len_f32]
  exact rsqrt_ms Y a

include h0 h1 h2 in
/-- The first half's gradient of the norm. -/
theorem p5 (a : Fin 512) (b : Fin 1024) : k0_pay5 x0 x1 x2 (ix2 a b) = ((dx Y G D a b : ℝ) : EReal) := by
  pointwise [k0_pay5]
  simp only [p3 x0 Y h0, p4 x0 Y h0, h1, h2, ← EReal.coe_mul, sum_coe, len_f32]
  rw [div_real _ _ (by norm_num), ← EReal.coe_mul, ← EReal.coe_sub]
  rfl

include hv h1 h2 in
/-- The second half's gradient of the norm. -/
theorem p9 (a : Fin 512) (b : Fin 1024) : k0_pay9 v0 x1 x2 (ix2 a b) = ((dx Y G D a b : ℝ) : EReal) := by
  pointwise [k0_pay9]
  simp only [hv, p8 v0 Y hv, h1, h2, ← EReal.coe_mul, sum_coe, len_f32]
  rw [div_real _ _ (by norm_num), ← EReal.coe_mul, ← EReal.coe_sub]
  rfl

include h0 h2 in
/-- The first half's share of the gradient at the gain. -/
theorem p6 (a : Fin 1) (b : Fin 1024) : k0_pay6 x0 x2 (ix2 a b) = ((∑ i : Fin 512, dgRow Y D i b : ℝ) : EReal) := by
  pointwise [k0_pay6]
  simp only [p3 x0 Y h0, p4 x0 Y h0, h2, ← EReal.coe_mul, sum_coe, zero_f32, zero_add]
  rfl

include hv h2 in
/-- Both halves' share is added to what is there. -/
theorem p11 (u : FVec Ideal S1x1024 .f32) (z : ℕ → ℝ) (hu : ∀ (a : Fin 1) (b : Fin 1024), u (ix2 a b) = ((z b : ℝ) : EReal)) (w : Vec Ideal S1x1024 .f32) (a : Fin 1) (b : Fin 1024) :
    k0_pay11 u v0 x2 w (ix2 a b) = w (ix2 a b) + ((z b + ∑ i : Fin 512, dgRow Y D i b : ℝ) : EReal) := by
  pointwise [k0_pay11]
  simp only [hv, hu, p8 v0 Y hv, h2, ← EReal.coe_mul, sum_coe, ← EReal.coe_add]
  rfl

include h3 in
/-- The cotangent of the product's first factor, first half. -/
theorem p1 (v : FVec Ideal S512x1024 .bf16) (N : ℕ → ℕ → ℝ) (e : ∀ (a : Fin 512) (b : Fin 1024), v (ix2 a b) = ((N a b : ℝ) : EReal)) (a : Fin 512) (b : Fin 1024) :
    k0_pay1 v x3 (ix2 a b) = ((da N W a b : ℝ) : EReal) := by
  pointwise [k0_pay1]
  simp only [e, h3, ← EReal.coe_mul, sum_coe]
  rfl

include h3 in
/-- The cotangent of the product's first factor, second half. -/
theorem p2 (v : FVec Ideal S512x1024 .bf16) (N : ℕ → ℕ → ℝ) (e : ∀ (a : Fin 512) (b : Fin 1024), v (ix2 a b) = ((N a b : ℝ) : EReal)) (a : Fin 512) (b : Fin 1024) :
    k0_pay2 v x3 (ix2 a b) = ((da N W a b : ℝ) : EReal) := by
  pointwise [k0_pay2]
  simp only [e, h3, ← EReal.coe_mul, sum_coe]
  rfl

end block

/-- The gain's gradient starts at zero. -/
theorem p10 (a : Fin 1) (b : Fin 1024) : (k0_pay10 : FVec Ideal S1x1024 .f32) (ix2 a b) = 0 := by
  pointwise [k0_pay10]

/-- The block indices at point `t`. -/
theorem idx : ∀ t : Fin cfg0.N, win0_0.index t = ![(t : ℕ), 0] ∧ win0_1.index t = ![0, 0] ∧ win0_2.index t = ![(t : ℕ), 0] ∧ win0_3.index t = ![0, 0] ∧ win0_4.index t = ![(t : ℕ), 0] ∧ win0_5.index t = ![(t : ℕ), 0] ∧ win0_6.index t = ![0, 0] :=
  (by decide +kernel : ∀ t : Fin grid0.N, win0_0.index t = ![(t : ℕ), 0] ∧ win0_1.index t = ![0, 0] ∧ win0_2.index t = ![(t : ℕ), 0] ∧ win0_3.index t = ![0, 0] ∧ win0_4.index t = ![(t : ℕ), 0] ∧ win0_5.index t = ![(t : ℕ), 0] ∧ win0_6.index t = ![0, 0])

/-- The number of grid points. -/
theorem t_lt (t : Fin cfg0.N) : (t : ℕ) < 4 := lt_of_lt_of_eq t.isLt (by decide : grid0.N = 4)

/-- The lower half of a loaded block. -/
theorem ld_bf16_0 (u : Vec Ideal S1024x1024 .bf16) (F : ℕ → ℕ → ℝ) (s : ℕ) (e : ∀ (a : Fin 1024) (b : Fin 1024), u (ix2 a b) = ((rows F s a b : ℝ) : EReal)) (a : Fin 512) (b : Fin 1024) :
    View.ld u (Rect.unit (s := S1024x1024) ![0, 0] ![512, 1024] inb_S1024x1024_S512x1024_0_0) (ix2 a b) = ((rows F (s + 0) a b : ℝ) : EReal) := by
  have e := e ⟨0 + a, by omega⟩ b
  rw [rows] at e ⊢
  rw [Nat.add_assoc, ← e]
  clear e
  pointwise
  try blk_ext

/-- The upper half of a loaded block. -/
theorem ld_bf16_512 (u : Vec Ideal S1024x1024 .bf16) (F : ℕ → ℕ → ℝ) (s : ℕ) (e : ∀ (a : Fin 1024) (b : Fin 1024), u (ix2 a b) = ((rows F s a b : ℝ) : EReal)) (a : Fin 512) (b : Fin 1024) :
    View.ld u (Rect.unit (s := S1024x1024) ![512, 0] ![512, 1024] inb_S1024x1024_S512x1024_512_0) (ix2 a b) = ((rows F (s + 512) a b : ℝ) : EReal) := by
  have e := e ⟨512 + a, by omega⟩ b
  rw [rows] at e ⊢
  rw [Nat.add_assoc, ← e]
  clear e
  pointwise
  try blk_ext

/-- The lower half of a loaded block. -/
theorem ld_f32_0 (u : Vec Ideal S1024x1024 .f32) (F : ℕ → ℕ → ℝ) (s : ℕ) (e : ∀ (a : Fin 1024) (b : Fin 1024), u (ix2 a b) = ((rows F s a b : ℝ) : EReal)) (a : Fin 512) (b : Fin 1024) :
    View.ld u (Rect.unit (s := S1024x1024) ![0, 0] ![512, 1024] inb_S1024x1024_S512x1024_0_0) (ix2 a b) = ((rows F (s + 0) a b : ℝ) : EReal) := by
  have e := e ⟨0 + a, by omega⟩ b
  rw [rows] at e ⊢
  rw [Nat.add_assoc, ← e]
  clear e
  pointwise
  try blk_ext

/-- The upper half of a loaded block. -/
theorem ld_f32_512 (u : Vec Ideal S1024x1024 .f32) (F : ℕ → ℕ → ℝ) (s : ℕ) (e : ∀ (a : Fin 1024) (b : Fin 1024), u (ix2 a b) = ((rows F s a b : ℝ) : EReal)) (a : Fin 512) (b : Fin 1024) :
    View.ld u (Rect.unit (s := S1024x1024) ![512, 0] ![512, 1024] inb_S1024x1024_S512x1024_512_0) (ix2 a b) = ((rows F (s + 512) a b : ℝ) : EReal) := by
  have e := e ⟨512 + a, by omega⟩ b
  rw [rows] at e ⊢
  rw [Nat.add_assoc, ← e]
  clear e
  pointwise
  try blk_ext

variable (m : (ℓ : Loc nD τ sig) → Buf (Elt Ideal) ℓ) (c : Dev nD) (A W G D : ℕ → ℕ → ℝ)

variable (hA : ∀ (a : Fin 4096) (b : Fin 1024), m ((c : Thread nD τ).loc main_arg0) (ix2 a b) = ((A a b : ℝ) : EReal))
  (hW : ∀ (a : Fin 1024) (b : Fin 1024), m ((c : Thread nD τ).loc main_arg1) (ix2 a b) = ((W a b : ℝ) : EReal))
  (hG : ∀ (a : Fin 1) (b : Fin 1024), m ((c : Thread nD τ).loc main_arg2) (ix2 a b) = ((G 0 b : ℝ) : EReal))
  (hD : ∀ (a : Fin 4096) (b : Fin 1024), m ((c : Thread nD τ).loc main_arg3) (ix2 a b) = ((D a b : ℝ) : EReal))

/-- The product, as the host computes it, at an index. -/
theorem yhost (x0 : Vec Ideal S4096x1024 .bf16) (x1 : Vec Ideal S1024x1024 .bf16) (hA : ∀ (a : Fin 4096) (b : Fin 1024), x0 (ix2 a b) = ((A a b : ℝ) : EReal))
    (hW : ∀ (a : Fin 1024) (b : Fin 1024), x1 (ix2 a b) = ((W a b : ℝ) : EReal)) (a : Fin 4096) (b : Fin 1024) :
    (truncf .bf16 (Host.dotGeneral dot_S4096x1024_S1024x1024_S4096x1024_1_0_0_1_n_n none ((extf .f32 · bitsLt_bf16_f32) x0) ((extf .f32 · bitsLt_bf16_f32) x1)) bitsLt_bf16_f32 : FVec Ideal S4096x1024 .bf16) (ix2 a b)
    = ((mm 1024 A W a b : ℝ) : EReal) := by
  pointwise
  simp only [hA, hW, ← EReal.coe_mul, sum_coe]
  rfl

include hA hW in
/-- The buffer of the saved product at the region's entry. -/
theorem vy (a : Fin 4096) (b : Fin 1024) : V m c main_v3 (ix2 a b) = ((mm 1024 A W a b : ℝ) : EReal) := by
  rw [← yhost A W _ _ hA hW a b]
  refine congrFun (?_ : V m c main_v3 = _) (ix2 a b)
  simp only [V, hostOps0, List.flatten_cons, List.flatten_nil, List.cons_append, List.nil_append, List.append_nil]
  after_results_simp <;> rfl

include hA hW in
/-- Window 0's block: the saved product. -/
theorem blk0 (t : Fin cfg0.N) (a : Fin 1024) (b : Fin 1024) : iblk m c 0 t (ix2 a b) = ((rows (mm 1024 A W) (1024 * t) a b : ℝ) : EReal) := by
  have ht := t_lt t
  rw [rows, ← vy m c A W hA hW ⟨1024 * t + a, by omega⟩ b]
  blk_ext [iblk, idx t]

include hG in
/-- Window 1's block. -/
theorem blk1 (t : Fin cfg0.N) (a : Fin 1) (b : Fin 1024) : iblk m c 1 t (ix2 a b) = ((G 0 b : ℝ) : EReal) := by
  rw [← hG a b]
  blk_ext [iblk, V, idx t]

include hD in
/-- Window 2's block. -/
theorem blk2 (t : Fin cfg0.N) (a : Fin 1024) (b : Fin 1024) : iblk m c 2 t (ix2 a b) = ((rows D (1024 * t) a b : ℝ) : EReal) := by
  have ht := t_lt t
  rw [rows, ← hD ⟨1024 * t + a, by omega⟩ b]
  blk_ext [iblk, V, idx t]

include hW in
/-- Window 3's block. -/
theorem blk3 (t : Fin cfg0.N) (a : Fin 1024) (b : Fin 1024) : iblk m c 3 t (ix2 a b) = ((W a b : ℝ) : EReal) := by
  rw [← hW a b]
  blk_ext [iblk, V, idx t]

/-- One tile's share of the gradient at the gain. -/
def part (n : ℕ) (k : ℕ) : ℝ := (∑ i : Fin 512, dgRow (mm 1024 A W) D (1024 * n + i) k) + ∑ i : Fin 512, dgRow (mm 1024 A W) D (1024 * n + 512 + i) k

include hA hW hD in
/-- A tile's share is added to what is there. -/
theorem part_pay (t : Fin cfg0.N) (w : Vec Ideal S1x1024 .f32) (a : Fin 1) (b : Fin 1024) : k0_pay11
      (k0_pay6 (View.ld (iblk m c 0 t) (Rect.unit ![0, 0] ![512, 1024] inb_S1024x1024_S512x1024_0_0)) (View.ld (iblk m c 2 t) (Rect.unit ![0, 0] ![512, 1024] inb_S1024x1024_S512x1024_0_0))) (k0_pay7 (View.ld (iblk m c 0 t) (Rect.unit ![512, 0] ![512, 1024] inb_S1024x1024_S512x1024_512_0))) (View.ld (iblk m c 2 t) (Rect.unit ![512, 0] ![512, 1024] inb_S1024x1024_S512x1024_512_0))
      w (ix2 a b) = w (ix2 a b) + ((part A W D t b : ℝ) : EReal) := by
  have e6 := p6 _ _ (rows (mm 1024 A W) (1024 * t + 0)) (rows D (1024 * t + 0)) (ld_bf16_0 _ (mm 1024 A W) _ (blk0 m c A W hA hW t)) (ld_f32_0 _ D _ (blk2 m c D hD t))
  have e7 := p7 _ (rows (mm 1024 A W) (1024 * t + 512)) (ld_bf16_512 _ (mm 1024 A W) _ (blk0 m c A W hA hW t))
  exact p11 _ _ (rows (mm 1024 A W) (1024 * t + 512)) (rows D (1024 * t + 512)) e7 (ld_f32_512 _ D _ (blk2 m c D hD t)) _ (fun b => ∑ i : Fin 512, dgRow (rows (mm 1024 A W) (1024 * t + 0)) (rows D (1024 * t + 0)) i b) e6 w a b

include hA hW hD in
/-- The gradient at the gain. -/
theorem final6 : (dats m 0 c).arrAt 6 cfg0.N = fun i : S1x1024.Idx => ((dg 4096 (mm 1024 A W) D (i 1 : ℕ) : ℝ) : EReal) := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => 0)
    (fun t j => ((part A W D t (j 1 : ℕ) : ℝ) : EReal))
    (fun t h j => by rw [outsAt0_A m c t h]; frame_out; idx_vars j; exact (part_pay m c A W D hA hW hD t _ j0 j1).trans (congrArg (· + _) (p10 j0 j1)))
    (fun t h j => by rw [outsAt0_B m c t h]; frame_out; idx_vars j; exact part_pay m c A W D hA hW hD t _ j0 j1)
    t ((flush0_6 t).mp hf) _, zero_add]
  have ht := t_lt t
  have h7 := (flush0_6 t).mp hf
  idx_vars y
  rw [(idx t).2.2.2.2.2.2]
  show (_ : EReal) = ((dg 4096 (mm 1024 A W) D (0 * 1024 + (y1 : ℕ)) : ℝ) : EReal)
  refine (sum_coe _).trans (congrArg _ ?_)
  rw [dg, show 0 * 1024 + (y1 : ℕ) = y1 by omega]
  refine Eq.trans ?_ (sum_tiles 4 512 fun i => dgRow (mm 1024 A W) D i y1)
  refine Finset.sum_congr rfl fun s _ => ?_
  show part A W D (4 * ((t : ℕ) / 4) + s) y1 = _
  rw [show 4 * ((t : ℕ) / 4) + (s : ℕ) = s by omega]
  rfl

include hA hW hG hD in
/-- The gradient at the product. -/
theorem final4 : (dats m 0 c).arrAt 4 cfg0.N = fun i : S4096x1024.Idx => ((dx (mm 1024 A W) G D (i 0 : ℕ) (i 1 : ℕ) : ℝ) : EReal) := by
  refine (dats m 0 c).arrAt_eq_of_covers 4 _ (by decide +kernel) fun t hf y => ?_
  blk_simp
  rw [after0_4, (idx t).2.2.2.2.1]
  show _ = ((dx (mm 1024 A W) G D ((t : ℕ) * 1024 + (y 0 : ℕ)) (0 * 1024 + (y 1 : ℕ)) : ℝ) : EReal)
  rw [show (t : ℕ) * 1024 + (y 0 : ℕ) = 1024 * t + y 0 by omega, show 0 * 1024 + (y 1 : ℕ) = y 1 by omega]
  have lo : ∀ (x : S512x1024.Idx) (h0 : (y 0 : ℕ) = x 0) (h1 : (y 1 : ℕ) = x 1), (k0_pay5 (View.ld (iblk m c 0 t) (Rect.unit ![0, 0] ![512, 1024] inb_S1024x1024_S512x1024_0_0)) (iblk m c 1 t) (View.ld (iblk m c 2 t) (Rect.unit ![0, 0] ![512, 1024] inb_S1024x1024_S512x1024_0_0))) x
      = ((dx (mm 1024 A W) G D (1024 * (t : ℕ) + (y 0 : ℕ)) (y 1 : ℕ) : ℝ) : EReal) := by
    intro x h0 h1
    rw [h0, h1]
    idx_vars x
    exact p5 _ _ _ (rows (mm 1024 A W) (1024 * t + 0)) G (rows D (1024 * t + 0)) (ld_bf16_0 _ (mm 1024 A W) _ (blk0 m c A W hA hW t)) (blk1 m c G hG t) (ld_f32_0 _ D _ (blk2 m c D hD t)) x0 x1
  have hi : ∀ (x : S512x1024.Idx) (h0 : (y 0 : ℕ) = 512 + x 0) (h1 : (y 1 : ℕ) = x 1), (k0_pay9 (k0_pay7 (View.ld (iblk m c 0 t) (Rect.unit ![512, 0] ![512, 1024] inb_S1024x1024_S512x1024_512_0))) (iblk m c 1 t) (View.ld (iblk m c 2 t) (Rect.unit ![512, 0] ![512, 1024] inb_S1024x1024_S512x1024_512_0))) x
      = ((dx (mm 1024 A W) G D (1024 * (t : ℕ) + (y 0 : ℕ)) (y 1 : ℕ) : ℝ) : EReal) := by
    intro x h0 h1
    rw [h0, h1, ← Nat.add_assoc]
    idx_vars x
    exact p9 _ _ _ (rows (mm 1024 A W) (1024 * t + 512)) G (rows D (1024 * t + 512)) (p7 _ (rows (mm 1024 A W) (1024 * t + 512)) (ld_bf16_512 _ (mm 1024 A W) _ (blk0 m c A W hA hW t))) (blk1 m c G hG t) (ld_f32_512 _ D _ (blk2 m c D hD t)) x0 x1
  by_cases h : (t : ℕ) % 4 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

include hA hW hG hD in
/-- The gradient at the product's first factor. -/
theorem final5 : (dats m 0 c).arrAt 5 cfg0.N = fun i : S4096x1024.Idx => ((da (dx (mm 1024 A W) G D) W (i 0 : ℕ) (i 1 : ℕ) : ℝ) : EReal) := by
  refine (dats m 0 c).arrAt_eq_of_covers 5 _ (by decide +kernel) fun t hf y => ?_
  blk_simp
  rw [after0_5, (idx t).2.2.2.2.2.1]
  show _ = ((da (dx (mm 1024 A W) G D) W ((t : ℕ) * 1024 + (y 0 : ℕ)) (0 * 1024 + (y 1 : ℕ)) : ℝ) : EReal)
  rw [show (t : ℕ) * 1024 + (y 0 : ℕ) = 1024 * t + y 0 by omega, show 0 * 1024 + (y 1 : ℕ) = y 1 by omega]
  have lo : ∀ (x : S512x1024.Idx) (h0 : (y 0 : ℕ) = x 0) (h1 : (y 1 : ℕ) = x 1), k0_pay1 (k0_pay5 (View.ld (iblk m c 0 t) (Rect.unit ![0, 0] ![512, 1024] inb_S1024x1024_S512x1024_0_0)) (iblk m c 1 t) (View.ld (iblk m c 2 t) (Rect.unit ![0, 0] ![512, 1024] inb_S1024x1024_S512x1024_0_0))) (iblk m c 3 t) x
      = ((da (dx (mm 1024 A W) G D) W (1024 * (t : ℕ) + (y 0 : ℕ)) (y 1 : ℕ) : ℝ) : EReal) := by
    intro x h0 h1
    rw [h0, h1]
    idx_vars x
    exact p1 _ W (blk3 m c W hW t) _ (dx (rows (mm 1024 A W) (1024 * t + 0)) G (rows D (1024 * t + 0))) (p5 _ _ _ (rows (mm 1024 A W) (1024 * t + 0)) G (rows D (1024 * t + 0)) (ld_bf16_0 _ (mm 1024 A W) _ (blk0 m c A W hA hW t)) (blk1 m c G hG t) (ld_f32_0 _ D _ (blk2 m c D hD t))) x0 x1
  have hi : ∀ (x : S512x1024.Idx) (h0 : (y 0 : ℕ) = 512 + x 0) (h1 : (y 1 : ℕ) = x 1), k0_pay2 (k0_pay9 (k0_pay7 (View.ld (iblk m c 0 t) (Rect.unit ![512, 0] ![512, 1024] inb_S1024x1024_S512x1024_512_0))) (iblk m c 1 t) (View.ld (iblk m c 2 t) (Rect.unit ![512, 0] ![512, 1024] inb_S1024x1024_S512x1024_512_0))) (iblk m c 3 t) x
      = ((da (dx (mm 1024 A W) G D) W (1024 * (t : ℕ) + (y 0 : ℕ)) (y 1 : ℕ) : ℝ) : EReal) := by
    intro x h0 h1
    rw [h0, h1, ← Nat.add_assoc]
    idx_vars x
    exact p2 _ W (blk3 m c W hW t) _ (dx (rows (mm 1024 A W) (1024 * t + 512)) G (rows D (1024 * t + 512))) (p9 _ _ _ (rows (mm 1024 A W) (1024 * t + 512)) G (rows D (1024 * t + 512)) (p7 _ (rows (mm 1024 A W) (1024 * t + 512)) (ld_bf16_512 _ (mm 1024 A W) _ (blk0 m c A W hA hW t))) (blk1 m c G hG t) (ld_f32_512 _ D _ (blk2 m c D hD t))) x0 x1
  by_cases h : (t : ℕ) % 4 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

end Cert.Kernel10Ideal.Val
end
-- ==== Proof.OutClaim.lean ====
/- The gradient of the outer projection and its norm: the kernel's results are the reference's, from finite arguments. -/
module

public import proofs.«01_k».proof.Proof.OutRef
public import proofs.«01_k».proof.Proof.OutVal
public import proofs.«01_k».proof.Proof.Gen.Pre_out_finite
public import proofs.«01_k».proof.Defs
public import Idealize.ShloMosaic.Lib.Claim

@[expose] public section
set_option maxRecDepth 16384
noncomputable section
namespace Cert.OutClaim
open Idealize.ShloMosaic Idealize.ShloMosaic.TcCoe Idealize.SL.Sem
open Cert.Coe

/-- Finite arguments are real numbers. -/
theorem reals (x0 : Vec Ideal Cert.Pre_out_finite.S4096x1024 .bf16) (x1 : Vec Ideal Cert.Pre_out_finite.S1024x1024 .bf16) (x2 : Vec Ideal Cert.Pre_out_finite.S1x1024 .f32) (x3 : Vec Ideal Cert.Pre_out_finite.S4096x1024 .f32)
    (h : (Cert.Pre_out_finite.fn (F := Ideal) x0 x1 x2 x3).1 = (fun _ => 1#1)
      ∧ (Cert.Pre_out_finite.fn (F := Ideal) x0 x1 x2 x3).2.1 = (fun _ => 1#1)
      ∧ (Cert.Pre_out_finite.fn (F := Ideal) x0 x1 x2 x3).2.2.1 = (fun _ => 1#1)
      ∧ (Cert.Pre_out_finite.fn (F := Ideal) x0 x1 x2 x3).2.2.2 = (fun _ => 1#1)) :
    ∃ A W G D : ℕ → ℕ → ℝ, (∀ (a : Fin 4096) (b : Fin 1024), x0 (ix2 a b) = ((A a b : ℝ) : EReal))
      ∧ (∀ (a : Fin 1024) (b : Fin 1024), x1 (ix2 a b) = ((W a b : ℝ) : EReal))
      ∧ (∀ (a : Fin 1) (b : Fin 1024), x2 (ix2 a b) = ((G 0 b : ℝ) : EReal))
      ∧ (∀ (a : Fin 4096) (b : Fin 1024), x3 (ix2 a b) = ((D a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2.1 (ix2 a b)
    rw [← top_f32]
    exact this)
  have e2 : ∀ a b, ∃ r : ℝ, x2 (ix2 a b) = (r : EReal) := fun a b => real_of_cmpf (φ := .f32) (x2 (ix2 a b)) (by
    have := congrFun h.2.2.1 (ix2 a b)
    rw [← top_f32]
    exact this)
  have e3 : ∀ a b, ∃ r : ℝ, x3 (ix2 a b) = (r : EReal) := fun a b => real_of_cmpf (φ := .f32) (x3 (ix2 a b)) (by
    have := congrFun h.2.2.2 (ix2 a b)
    rw [← top_f32]
    exact this)
  obtain ⟨A, hA⟩ := real_mat (fun a b => x0 (ix2 a b)) e0
  obtain ⟨W, hW⟩ := real_mat (fun a b => x1 (ix2 a b)) e1
  obtain ⟨G, hG⟩ := real_mat (fun a b => x2 (ix2 a b)) e2
  obtain ⟨D, hD⟩ := real_mat (fun a b => x3 (ix2 a b)) e3
  exact ⟨A, W, G, D, hA, hW, fun a b => (congrArg (fun a => x2 (ix2 a b)) (Subsingleton.elim a 0)).trans (hG 0 b), hD⟩

set_option maxHeartbeats 1600000 in
/-- The kernel's results are the reference's. -/
theorem algebraic : Cert.algebraic_Kernel10Ideal_Reference10Ideal_pre_out_finite := by
  pair_intro
  · run_from Cert.Kernel10Ideal.Gen.run_main m g
  · refine (θ_run _ _ _).mono (fun r h c => ?_) (Cert.Reference10Ideal.Value.run m' g')
    obtain ⟨A, W, G, D, hA, hW, hG, hD⟩ := reals _ _ _ _ (hpre c)
    obtain ⟨a0, a1, a2, a3⟩ := hagree c
    refine ⟨(h c).1.trans ?_, (h c).2.1.trans ?_, (h c).2.2.1.trans ?_, (h c).2.2.2⟩
    · refine (Reference10Ideal.Read.val_main_v38_eq m' c).trans ?_
      rw [a0, a1, a2, a3]
      refine Eq.trans ?_ (Kernel10Ideal.Val.final4 m c A W G D hA hW hG hD).symm
      funext i
      idx_vars i
      exact Reference10Ideal.Val.r38 _ _ _ _ G D hG hD (Cert.RmsSpec.mm 1024 A W) (Cert.Reference10Ideal.Val.r2 _ _ A W hA hW) i0 i1
    · refine (Reference10Ideal.Read.val_main_v39_eq m' c).trans ?_
      rw [a0, a1, a2, a3]
      refine Eq.trans ?_ (Kernel10Ideal.Val.final5 m c A W G D hA hW hG hD).symm
      funext i
      idx_vars i
      exact Reference10Ideal.Val.r39 _ _ _ _ W G D hW hG hD (Cert.RmsSpec.mm 1024 A W) (Cert.Reference10Ideal.Val.r2 _ _ A W hA hW) i0 i1
    · refine (Reference10Ideal.Read.val_main_v20_eq _ _ _ ).trans ?_
      rw [a0, a1, a3]
      refine Eq.trans ?_ (Kernel10Ideal.Val.final6 m c A W D hA hW hD).symm
      funext i
      idx_vars i
      exact Reference10Ideal.Val.r20 _ _ _ D hD (Cert.RmsSpec.mm 1024 A W) (Cert.Reference10Ideal.Val.r2 _ _ A W hA hW) i0 i1

end Cert.OutClaim
end
-- ==== Proof.InRef.lean ====
/- The reference's gradients of the inner projection, from finite arguments, as the real formulas of `RmsSpec`. -/
module

public import proofs.«01_k».proof.Proof.RmsSpec
public import proofs.«01_k».proof.Proof.Gen.Reference11Ideal.Run
public import proofs.«01_k».proof.Proof.Gen.Reference11Ideal.Read

@[expose] public section
set_option maxRecDepth 16384
noncomputable section
namespace Cert.Reference11Ideal.Val
open Cert.Reference11Ideal Cert.Reference11Ideal.Gen Cert.Reference11Ideal.Read Idealize.ShloMosaic Idealize.ShloMosaic.TcCoe Idealize.SL.Sem
open Cert.Coe Cert.RmsSpec
open scoped BigOperators

variable (x0 : Vec Ideal S4096x1024 .bf16) (x1 : Vec Ideal S1024x1024 .bf16) (x2 : Vec Ideal S4096x1024 .f32) (x3 : Vec Ideal S1x1024 .f32)
  (x4 : Vec Ideal S4096x1024 .f32) (A W X G D : ℕ → ℕ → ℝ)

variable (hA : ∀ (a : Fin 4096) (b : Fin 1024), x0 (ix2 a b) = ((A a b : ℝ) : EReal))
  (hW : ∀ (a : Fin 1024) (b : Fin 1024), x1 (ix2 a b) = ((W b a : ℝ) : EReal))
  (hX : ∀ (a : Fin 4096) (b : Fin 1024), x2 (ix2 a b) = ((X a b : ℝ) : EReal))
  (hG : ∀ (a : Fin 1) (b : Fin 1024), x3 (ix2 a b) = ((G 0 b : ℝ) : EReal))
  (hD : ∀ (a : Fin 4096) (b : Fin 1024), x4 (ix2 a b) = ((D a b : ℝ) : EReal))

include hX in
/-- A row's sum of squares. -/
theorem r1 (i : Fin 4096) : val_main_v1 x2 (ix1 i) = ((∑ k : Fin 1024, X i k * X i k : ℝ) : EReal) := by
  have e : ∀ (a : Fin 4096) (b : Fin 1024), val_main_v0 x2 (ix2 a b) = ((X a b * X a b : ℝ) : EReal) := by
    intro a b
    pointwise [val_main_v0]
    rw [hX, ← EReal.coe_mul]
  unfold val_main_v1
  revert e
  generalize val_main_v0 x2 = y
  intro e
  pointwise [val_main_cst]
  simp only [e, sum_coe]

include hX in
/-- The mean square, moved away from zero. -/
theorem r6 (i : Fin 4096) (j : Fin 1) : val_main_v6 x2 (ix2 i j) = ((ms X i : ℝ) : EReal) := by
  have e := r1 x2 X hX
  unfold val_main_v6 val_main_v4 val_main_v2
  revert e
  generalize val_main_v1 x2 = y
  intro e
  pointwise [val_main_v5, val_main_cst_1, val_main_v3, val_main_cst_0]
  rw [e, eps_f32, len_f32, div_real _ _ (by norm_num), ← EReal.coe_add]
  rfl

include hX in
/-- The norm's scale. -/
theorem r7 (i : Fin 4096) (j : Fin 1) : val_main_v7 x2 (ix2 i j) = ((rr X i : ℝ) : EReal) := by
  have e := r6 x2 X hX
  unfold val_main_v7
  revert e
  generalize val_main_v6 x2 = y
  intro e
  pointwise
  rw [e]
  exact rsqrt_pos _ (ms_pos X i)

include hX in
/-- The derivative of the norm's scale by the mean square. -/
theorem r10 (i : Fin 4096) (j : Fin 1) : val_main_v10 x2 (ix2 i j) = ((-(1 / 2) * (rr X i * rr X i * rr X i) : ℝ) : EReal) := by
  have e8 := r6 x2 X hX
  have e9 := r7 x2 X hX
  unfold val_main_v10 val_main_v8
  revert e8 e9
  generalize val_main_v6 x2 = y
  generalize val_main_v7 x2 = z
  intro e8 e9
  pointwise [val_main_v9, val_main_cst_2]
  rw [e8, e9, neg_half_f32, div_real _ _ (ms_pos X i).ne', rr_div, ← EReal.coe_mul]

include hX in
/-- The scaled rows. -/
theorem r12 (i : Fin 4096) (k : Fin 1024) : val_main_v12 x2 (ix2 i k) = ((X i k * rr X i : ℝ) : EReal) := by
  have e := r7 x2 X hX
  unfold val_main_v12 val_main_v11
  revert e
  generalize val_main_v7 x2 = y
  intro e
  pointwise
  rw [e, hX, ← EReal.coe_mul]

include hA hW in
/-- The cotangent of the norm. -/
theorem r18 (i : Fin 4096) (k : Fin 1024) : val_main_v18 x0 x1 (ix2 i k) = ((mm 1024 A W i k : ℝ) : EReal) := by
  pointwise [val_main_v18, val_main_v17, val_main_v15]
  simp only [hA, hW, ← EReal.coe_mul, sum_coe]
  rfl

include hA hW hX in
/-- The gradient at the gain. -/
theorem r21 (j : Fin 1) (k : Fin 1024) : val_main_v21 x0 x1 x2 (ix2 j k) = ((dg 4096 X (mm 1024 A W) k : ℝ) : EReal) := by
  have e14 := r12 x2 X hX
  have e19 := r18 x0 x1 A W hA hW
  unfold val_main_v21 val_main_v20 val_main_v19
  revert e14 e19
  generalize val_main_v12 x2 = y
  generalize val_main_v18 x0 x1 = z
  intro e14 e19
  pointwise [val_main_cst_3]
  simp only [e14, e19, ← EReal.coe_mul, sum_coe]
  rw [EReal.coe_eq_coe_iff, dg]
  exact Finset.sum_congr rfl fun i _ => by rw [dgRow]; ring

include hA hW hG in
/-- The cotangent times the gain. -/
theorem r23 (i : Fin 4096) (k : Fin 1024) : val_main_v23 x0 x1 x3 (ix2 i k) = ((mm 1024 A W i k * G 0 k : ℝ) : EReal) := by
  have e := r18 x0 x1 A W hA hW
  unfold val_main_v23
  revert e
  generalize val_main_v18 x0 x1 = y
  intro e
  pointwise [val_main_v22]
  rw [e, hG, ← EReal.coe_mul]

include hA hW hX hG in
/-- The inner product of a row with its cotangent. -/
theorem r25 (i : Fin 4096) : val_main_v25 x0 x1 x2 x3 (ix1 i) = ((∑ k : Fin 1024, X i k * (mm 1024 A W i k * G 0 k) : ℝ) : EReal) := by
  have e := r23 x0 x1 x3 A W G hA hW hG
  unfold val_main_v25 val_main_v24
  revert e
  generalize val_main_v23 x0 x1 x3 = y
  intro e
  pointwise [val_main_cst_4]
  simp only [e, hX, ← EReal.coe_mul, sum_coe]

include hA hW hX hG in
/-- The share that comes through the mean square. -/
theorem r34 (i : Fin 4096) (k : Fin 1024) : val_main_v34 x0 x1 x2 x3 (ix2 i k)
    = (((∑ k : Fin 1024, X i k * (mm 1024 A W i k * G 0 k)) * (-(1 / 2) * (rr X i * rr X i * rr X i)) / 1024 : ℝ) : EReal) := by
  have e26 := r25 x0 x1 x2 x3 A W X G hA hW hX hG
  have e12 := r10 x2 X hX
  unfold val_main_v34 val_main_v33 val_main_v32 val_main_v30 val_main_v26
  revert e26 e12
  generalize val_main_v25 x0 x1 x2 x3 = y
  generalize val_main_v10 x2 = z
  intro e26 e12
  pointwise [val_main_v31, val_main_cst_5, val_main_cst_6]
  simp only [e26, e12, len_f32, ← EReal.coe_mul]
  rw [div_real _ _ (by norm_num)]
  exact Finset.sum_singleton _ _

include hA hW hX hG hD in
/-- The gradient at the norm's argument, with the residual's. -/
theorem r38 (i : Fin 4096) (k : Fin 1024) : val_main_v38 x0 x1 x2 x3 x4 (ix2 i k) = ((dx X G (mm 1024 A W) i k + D i k : ℝ) : EReal) := by
  have e9 := r7 x2 X hX
  have e24 := r23 x0 x1 x3 A W G hA hW hG
  have e35 := r34 x0 x1 x2 x3 A W X G hA hW hX hG
  unfold val_main_v38 val_main_v37 val_main_v36 val_main_v35 val_main_v29 val_main_v28 val_main_v27
  revert e9 e24 e35
  generalize val_main_v7 x2 = y
  generalize val_main_v23 x0 x1 x3 = z
  generalize val_main_v34 x0 x1 x2 x3 = w
  intro e9 e24 e35
  pointwise
  rw [e9, e24, e35, hX, hD]
  simp only [← EReal.coe_mul, ← EReal.coe_add]
  rw [EReal.coe_eq_coe_iff, dx, proj]
  have s : ∑ k : Fin 1024, X i k * (mm 1024 A W i k * G 0 k) = ∑ k : Fin 1024, mm 1024 A W i k * G 0 k * X i k :=
    Finset.sum_congr rfl fun k _ => mul_comm _ _
  rw [s]
  ring

end Cert.Reference11Ideal.Val
end
-- ==== Proof.InVal.lean ====
/- The kernel of the inner projection's gradient: the two arrays it leaves, from finite arguments. -/
module

public import proofs.«01_k».proof.Proof.RmsSpec
public import proofs.«01_k».proof.Proof.Gen.Kernel11Ideal.Value

@[expose] public section
set_option maxRecDepth 16384
noncomputable section
namespace Cert.Kernel11Ideal.Val
open Cert.Kernel11Ideal Cert.Kernel11Ideal.Gen Idealize.ShloMosaic Idealize.ShloMosaic.TcCoe Idealize.SL.Sem
open Idealize.ShloMosaic.Pipeline (Dat)
open Cert.Coe Cert.RmsSpec
open scoped BigOperators

section block
variable (x0 : Vec Ideal S256x1024 .bf16) (x1 : Vec Ideal S1024x1024 .bf16) (x2 : Vec Ideal S256x1024 .f32) (x3 : Vec Ideal S1x1024 .f32)
  (x4 : Vec Ideal S256x1024 .f32) (A W X G D : ℕ → ℕ → ℝ)

variable (h0 : ∀ (a : Fin 256) (b : Fin 1024), x0 (ix2 a b) = ((A a b : ℝ) : EReal))
  (h1 : ∀ (a : Fin 1024) (b : Fin 1024), x1 (ix2 a b) = ((W b a : ℝ) : EReal))
  (h2 : ∀ (a : Fin 256) (b : Fin 1024), x2 (ix2 a b) = ((X a b : ℝ) : EReal))
  (h3 : ∀ (a : Fin 1) (b : Fin 1024), x3 (ix2 a b) = ((G 0 b : ℝ) : EReal))
  (h4 : ∀ (a : Fin 256) (b : Fin 1024), x4 (ix2 a b) = ((D a b : ℝ) : EReal))

include h0 h1 in
/-- The cotangent of the norm: a product. -/
theorem p3 (a : Fin 256) (b : Fin 1024) : k0_pay3 x0 x1 (ix2 a b) = ((mm 1024 A W a b : ℝ) : EReal) := by
  pointwise [k0_pay3]
  simp only [h0, h1, ← EReal.coe_mul, sum_coe]
  rfl

include h0 h1 in
theorem p4 (a : Fin 256) (b : Fin 1024) : k0_pay4 x0 x1 (ix2 a b) = ((mm 1024 A W a b : ℝ) : EReal) := by
  pointwise [k0_pay4]
  simp only [h0, h1, ← EReal.coe_mul, sum_coe]
  rfl

include h2 in
/-- The norm's scale of a row. -/
theorem p5 (a : Fin 256) (b : Fin 1) : k0_pay5 x2 (ix2 a b) = ((rr X a : ℝ) : EReal) := by
  pointwise [k0_pay5]
  simp only [h2, ← EReal.coe_mul, sum_coe, eps_f32, len_f32]
  exact rsqrt_ms X a

include h2 in
theorem p9 (a : Fin 256) (b : Fin 1) : k0_pay9 x2 (ix2 a b) = ((rr X a : ℝ) : EReal) := by
  pointwise [k0_pay9]
  simp only [h2, ← EReal.coe_mul, sum_coe, eps_f32, len_f32]
  exact rsqrt_ms X a

include h0 h1 h2 h3 in
/-- The first half's gradient of the norm. -/
theorem p6 (a : Fin 256) (b : Fin 1024) : k0_pay6 x0 x1 x2 x3 (ix2 a b) = ((dx X G (mm 1024 A W) a b : ℝ) : EReal) := by
  pointwise [k0_pay6]
  simp only [p3 x0 x1 A W h0 h1, p5 x2 X h2, h2, h3, ← EReal.coe_mul, sum_coe, len_f32]
  rw [div_real _ _ (by norm_num), ← EReal.coe_mul, ← EReal.coe_sub]
  rfl

include h0 h1 h2 in
/-- The first half's share of the gradient at the gain. -/
theorem p7 (a : Fin 1) (b : Fin 1024) : k0_pay7 x0 x1 x2 (ix2 a b) = ((∑ i : Fin 256, dgRow X (mm 1024 A W) i b : ℝ) : EReal) := by
  pointwise [k0_pay7]
  simp only [p3 x0 x1 A W h0 h1, p5 x2 X h2, h2, ← EReal.coe_mul, sum_coe]
  rfl

include h4 in
/-- The first half's result: the residual's gradient is added. -/
theorem p8 (v : FVec Ideal S256x1024 .f32) (N : ℕ → ℕ → ℝ) (hv : ∀ (a : Fin 256) (b : Fin 1024), v (ix2 a b) = ((N a b : ℝ) : EReal)) (a : Fin 256) (b : Fin 1024) :
    k0_pay8 v x4 (ix2 a b) = ((N a b + D a b : ℝ) : EReal) := by
  pointwise [k0_pay8]
  simp only [hv, h4, ← EReal.coe_add]

include h2 h3 h4 in
/-- The second half's result. -/
theorem p10 (v : FVec Ideal S256x1024 .f32) (N : ℕ → ℕ → ℝ) (hv : ∀ (a : Fin 256) (b : Fin 1024), v (ix2 a b) = ((N a b : ℝ) : EReal)) (a : Fin 256) (b : Fin 1024) :
    k0_pay10 v x2 x3 x4 (ix2 a b) = ((dx X G N a b + D a b : ℝ) : EReal) := by
  pointwise [k0_pay10]
  simp only [hv, p9 x2 X h2, h2, h3, h4, ← EReal.coe_mul, sum_coe, len_f32]
  rw [div_real _ _ (by norm_num), ← EReal.coe_mul, ← EReal.coe_sub, ← EReal.coe_add]
  rfl

include h2 in
/-- Both halves' share of the gradient at the gain. -/
theorem p11 (v : FVec Ideal S256x1024 .f32) (N : ℕ → ℕ → ℝ) (hv : ∀ (a : Fin 256) (b : Fin 1024), v (ix2 a b) = ((N a b : ℝ) : EReal))
    (w : FVec Ideal S1x1024 .f32) (z : ℕ → ℝ) (hw : ∀ (a : Fin 1) (b : Fin 1024), w (ix2 a b) = ((z b : ℝ) : EReal)) (a : Fin 1) (b : Fin 1024) :
    k0_pay11 v w x2 (ix2 a b) = ((z b + ∑ i : Fin 256, dgRow X N i b : ℝ) : EReal) := by
  pointwise [k0_pay11]
  simp only [hv, hw, p9 x2 X h2, h2, ← EReal.coe_mul, sum_coe, zero_f32, ← EReal.coe_add, zero_add]
  rfl

end block

/-- The gain's gradient starts at zero. -/
theorem p1 (a : Fin 1) (b : Fin 1024) : (k0_pay1 : FVec Ideal S1x1024 .f32) (ix2 a b) = 0 := by
  pointwise [k0_pay1]

/-- A tile's share is added to what is there. -/
theorem p2 (v : FVec Ideal S1x1024 .f32) (w : Vec Ideal S1x1024 .f32) (a : Fin 1) (b : Fin 1024) : k0_pay2 v w (ix2 a b) = w (ix2 a b) + v (ix2 a b) := by
  pointwise [k0_pay2]

/-- The block indices at point `t`. -/
theorem idx : ∀ t : Fin cfg0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0] :=
  (by decide +kernel : ∀ t : Fin grid0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0])

/-- Eight grid points. -/
theorem t_lt (t : Fin cfg0.N) : (t : ℕ) < 8 := lt_of_lt_of_eq t.isLt (by decide : grid0.N = 8)

variable (m : (ℓ : Loc nD τ sig) → Buf (Elt Ideal) ℓ) (c : Dev nD) (A W X G D : ℕ → ℕ → ℝ)

variable (hA : ∀ (a : Fin 4096) (b : Fin 1024), m ((c : Thread nD τ).loc main_arg0) (ix2 a b) = ((A a b : ℝ) : EReal))
  (hW : ∀ (a : Fin 1024) (b : Fin 1024), m ((c : Thread nD τ).loc main_arg1) (ix2 a b) = ((W b a : ℝ) : EReal))
  (hX : ∀ (a : Fin 4096) (b : Fin 1024), m ((c : Thread nD τ).loc main_arg2) (ix2 a b) = ((X a b : ℝ) : EReal))
  (hG : ∀ (a : Fin 1) (b : Fin 1024), m ((c : Thread nD τ).loc main_arg3) (ix2 a b) = ((G 0 b : ℝ) : EReal))
  (hD : ∀ (a : Fin 4096) (b : Fin 1024), m ((c : Thread nD τ).loc main_arg4) (ix2 a b) = ((D a b : ℝ) : EReal))

include hA in
theorem blk0 (t : Fin cfg0.N) (a : Fin 512) (b : Fin 1024) : iblk m c 0 t (ix2 a b) = ((rows A (512 * t) a b : ℝ) : EReal) := by
  have ht := t_lt t
  rw [rows, ← hA ⟨512 * t + a, by omega⟩ b]
  blk_ext [iblk, V, idx t]

include hW in
theorem blk1 (t : Fin cfg0.N) (a : Fin 1024) (b : Fin 1024) : iblk m c 1 t (ix2 a b) = ((W b a : ℝ) : EReal) := by
  rw [← hW a b]
  blk_ext [iblk, V, idx t]

include hX in
theorem blk2 (t : Fin cfg0.N) (a : Fin 512) (b : Fin 1024) : iblk m c 2 t (ix2 a b) = ((rows X (512 * t) a b : ℝ) : EReal) := by
  have ht := t_lt t
  rw [rows, ← hX ⟨512 * t + a, by omega⟩ b]
  blk_ext [iblk, V, idx t]

include hG in
theorem blk3 (t : Fin cfg0.N) (a : Fin 1) (b : Fin 1024) : iblk m c 3 t (ix2 a b) = ((G 0 b : ℝ) : EReal) := by
  rw [← hG a b]
  blk_ext [iblk, V, idx t]

include hD in
theorem blk4 (t : Fin cfg0.N) (a : Fin 512) (b : Fin 1024) : iblk m c 4 t (ix2 a b) = ((rows D (512 * t) a b : ℝ) : EReal) := by
  have ht := t_lt t
  rw [rows, ← hD ⟨512 * t + a, by omega⟩ b]
  blk_ext [iblk, V, idx t]

include hA in
theorem blk0l (t : Fin cfg0.N) (a : Fin 256) (b : Fin 1024) :
    View.ld (iblk m c 0 t) (Rect.unit (s := S512x1024) ![0, 0] ![256, 1024] inb_S512x1024_S256x1024_0_0) (ix2 a b) = ((rows A (512 * t + 0) a b : ℝ) : EReal) := by
  have e := blk0 m c A hA t ⟨0 + a, by omega⟩ b
  rw [rows] at e ⊢
  rw [Nat.add_assoc, ← e]
  clear e
  generalize iblk m c _ t = u
  pointwise
  try blk_ext

include hA in
theorem blk0h (t : Fin cfg0.N) (a : Fin 256) (b : Fin 1024) :
    View.ld (iblk m c 0 t) (Rect.unit (s := S512x1024) ![256, 0] ![256, 1024] inb_S512x1024_S256x1024_256_0) (ix2 a b) = ((rows A (512 * t + 256) a b : ℝ) : EReal) := by
  have e := blk0 m c A hA t ⟨256 + a, by omega⟩ b
  rw [rows] at e ⊢
  rw [Nat.add_assoc, ← e]
  clear e
  generalize iblk m c _ t = u
  pointwise
  try blk_ext

include hX in
theorem blk2l (t : Fin cfg0.N) (a : Fin 256) (b : Fin 1024) :
    View.ld (iblk m c 2 t) (Rect.unit (s := S512x1024) ![0, 0] ![256, 1024] inb_S512x1024_S256x1024_0_0) (ix2 a b) = ((rows X (512 * t + 0) a b : ℝ) : EReal) := by
  have e := blk2 m c X hX t ⟨0 + a, by omega⟩ b
  rw [rows] at e ⊢
  rw [Nat.add_assoc, ← e]
  clear e
  generalize iblk m c _ t = u
  pointwise
  try blk_ext

include hX in
theorem blk2h (t : Fin cfg0.N) (a : Fin 256) (b : Fin 1024) :
    View.ld (iblk m c 2 t) (Rect.unit (s := S512x1024) ![256, 0] ![256, 1024] inb_S512x1024_S256x1024_256_0) (ix2 a b) = ((rows X (512 * t + 256) a b : ℝ) : EReal) := by
  have e := blk2 m c X hX t ⟨256 + a, by omega⟩ b
  rw [rows] at e ⊢
  rw [Nat.add_assoc, ← e]
  clear e
  generalize iblk m c _ t = u
  pointwise
  try blk_ext

include hD in
theorem blk4l (t : Fin cfg0.N) (a : Fin 256) (b : Fin 1024) :
    View.ld (iblk m c 4 t) (Rect.unit (s := S512x1024) ![0, 0] ![256, 1024] inb_S512x1024_S256x1024_0_0) (ix2 a b) = ((rows D (512 * t + 0) a b : ℝ) : EReal) := by
  have e := blk4 m c D hD t ⟨0 + a, by omega⟩ b
  rw [rows] at e ⊢
  rw [Nat.add_assoc, ← e]
  clear e
  generalize iblk m c _ t = u
  pointwise
  try blk_ext

include hD in
theorem blk4h (t : Fin cfg0.N) (a : Fin 256) (b : Fin 1024) :
    View.ld (iblk m c 4 t) (Rect.unit (s := S512x1024) ![256, 0] ![256, 1024] inb_S512x1024_S256x1024_256_0) (ix2 a b) = ((rows D (512 * t + 256) a b : ℝ) : EReal) := by
  have e := blk4 m c D hD t ⟨256 + a, by omega⟩ b
  rw [rows] at e ⊢
  rw [Nat.add_assoc, ← e]
  clear e
  generalize iblk m c _ t = u
  pointwise
  try blk_ext

/-- One tile's share of the gradient at the gain. -/
def part (n : ℕ) (k : ℕ) : ℝ := (∑ i : Fin 256, dgRow X (mm 1024 A W) (512 * n + i) k) + ∑ i : Fin 256, dgRow X (mm 1024 A W) (512 * n + 256 + i) k

include hA hW hX in
theorem part_pay (t : Fin cfg0.N) (w : Vec Ideal S1x1024 .f32) (a : Fin 1) (b : Fin 1024) : k0_pay2
      (k0_pay11
        (k0_pay4 (View.ld (iblk m c 0 t) (Rect.unit ![256, 0] ![256, 1024] inb_S512x1024_S256x1024_256_0))
          (iblk m c 1 t))
        (k0_pay7 (View.ld (iblk m c 0 t) (Rect.unit ![0, 0] ![256, 1024] inb_S512x1024_S256x1024_0_0)) (iblk m c 1 t)
          (View.ld (iblk m c 2 t) (Rect.unit ![0, 0] ![256, 1024] inb_S512x1024_S256x1024_0_0)))
        (View.ld (iblk m c 2 t) (Rect.unit ![256, 0] ![256, 1024] inb_S512x1024_S256x1024_256_0)))
      w (ix2 a b) = w (ix2 a b) + ((part A W X t b : ℝ) : EReal) := by
  have e4 := p4 _ _ _ _ (blk0h m c A hA t) (blk1 m c W hW t)
  have e7 := p7 _ _ _ _ _ _ (blk0l m c A hA t) (blk1 m c W hW t) (blk2l m c X hX t)
  have e := p11 _ _ (blk2h m c X hX t) _ _ e4 _ (fun b => ∑ i : Fin 256, dgRow (rows X (512 * t + 0)) (mm 1024 (rows A (512 * t + 0)) W) i b) e7 a b
  exact (p2 _ w a b).trans (congrArg (w (ix2 a b) + ·) e)

include hA hW hX in
/-- The gradient at the gain. -/
theorem final6 : (dats m 0 c).arrAt 6 cfg0.N = fun i : S1x1024.Idx => ((dg 4096 X (mm 1024 A W) (i 1 : ℕ) : ℝ) : EReal) := by
  refine (dats m 0 c).arrAt_eq_of_covers 6 _ (by decide +kernel) fun t hf y => ?_
  blk_simp
  rw [after0_6, Pipeline.eq_sum_fin_of_reset_step_apply_of_flush (fun n h => (outsAt0 m c n h).2) 8 (fun _ => 0)
    (fun t j => ((part A W X t (j 1 : ℕ) : ℝ) : EReal))
    (fun t h j => by rw [outsAt0_A m c t h]; frame_out; idx_vars j; exact (part_pay m c A W X hA hW hX t _ j0 j1).trans (congrArg (· + _) (p1 j0 j1)))
    (fun t h j => by rw [outsAt0_B m c t h]; frame_out; idx_vars j; exact part_pay m c A W X hA hW hX t _ j0 j1)
    t ((flush0_6 t).mp hf) _, zero_add]
  have ht := t_lt t
  have h7 := (flush0_6 t).mp hf
  idx_vars y
  rw [(idx t).2.2.2.2.2.2]
  show (_ : EReal) = ((dg 4096 X (mm 1024 A W) (0 * 1024 + (y1 : ℕ)) : ℝ) : EReal)
  refine (sum_coe _).trans (congrArg _ ?_)
  rw [dg, show 0 * 1024 + (y1 : ℕ) = y1 by omega]
  refine Eq.trans ?_ (sum_tiles 8 256 fun i => dgRow X (mm 1024 A W) i y1)
  refine Finset.sum_congr rfl fun s _ => ?_
  show part A W X (8 * ((t : ℕ) / 8) + s) y1 = _
  rw [show 8 * ((t : ℕ) / 8) + (s : ℕ) = s by omega]
  rfl

include hA hW hX hG hD in
/-- The gradient at the norm's argument, with the residual's. -/
theorem final5 : (dats m 0 c).arrAt 5 cfg0.N = fun i : S4096x1024.Idx => ((dx X G (mm 1024 A W) (i 0 : ℕ) (i 1 : ℕ) + D (i 0 : ℕ) (i 1 : ℕ) : ℝ) : EReal) := by
  refine (dats m 0 c).arrAt_eq_of_covers 5 _ (by decide +kernel) fun t hf y => ?_
  blk_simp
  rw [after0_5, (idx t).2.2.2.2.2.1]
  show _ = ((dx X G (mm 1024 A W) ((t : ℕ) * 512 + (y 0 : ℕ)) (0 * 1024 + (y 1 : ℕ)) + D ((t : ℕ) * 512 + (y 0 : ℕ)) (0 * 1024 + (y 1 : ℕ)) : ℝ) : EReal)
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay8 (k0_pay6 (View.ld (iblk m c 0 t) (Rect.unit ![0, 0] ![256, 1024] inb_S512x1024_S256x1024_0_0))
      (iblk m c 1 t) (View.ld (iblk m c 2 t) (Rect.unit ![0, 0] ![256, 1024] inb_S512x1024_S256x1024_0_0)) (iblk m c 3 t))
      (View.ld (iblk m c 4 t) (Rect.unit ![0, 0] ![256, 1024] inb_S512x1024_S256x1024_0_0)) x
      = ((dx X G (mm 1024 A W) (512 * (t : ℕ) + (y 0 : ℕ)) (y 1 : ℕ) + D (512 * (t : ℕ) + (y 0 : ℕ)) (y 1 : ℕ) : ℝ) : EReal) := by
    intro x h0 h1
    rw [h0, h1]
    idx_vars x
    exact p8 _ _ (blk4l m c D hD t) _ _ (p6 _ _ _ _ _ _ _ _ (blk0l m c A hA t) (blk1 m c W hW t) (blk2l m c X hX t) (blk3 m c G hG t)) x0 x1
  have hi : ∀ (x : S256x1024.Idx) (h0 : (y 0 : ℕ) = 256 + x 0) (h1 : (y 1 : ℕ) = x 1), k0_pay10
      (k0_pay4 (View.ld (iblk m c 0 t) (Rect.unit ![256, 0] ![256, 1024] inb_S512x1024_S256x1024_256_0)) (iblk m c 1 t))
      (View.ld (iblk m c 2 t) (Rect.unit ![256, 0] ![256, 1024] inb_S512x1024_S256x1024_256_0)) (iblk m c 3 t)
      (View.ld (iblk m c 4 t) (Rect.unit ![256, 0] ![256, 1024] inb_S512x1024_S256x1024_256_0)) x
      = ((dx X G (mm 1024 A W) (512 * (t : ℕ) + (y 0 : ℕ)) (y 1 : ℕ) + D (512 * (t : ℕ) + (y 0 : ℕ)) (y 1 : ℕ) : ℝ) : EReal) := by
    intro x h0 h1
    rw [h0, h1, ← Nat.add_assoc]
    idx_vars x
    exact p10 _ _ _ _ _ _ (blk2h m c X hX t) (blk3 m c G hG t) (blk4h m c D hD t) _ _ (p4 _ _ _ _ (blk0h m c A hA t) (blk1 m c W hW t)) x0 x1
  by_cases h : (t : ℕ) % 8 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

end Cert.Kernel11Ideal.Val
end
-- ==== Proof.InClaim.lean ====
/- The gradient of the inner projection and its norm: the kernel's results are the reference's, from finite arguments. -/
module

public import proofs.«01_k».proof.Proof.InRef
public import proofs.«01_k».proof.Proof.InVal
public import proofs.«01_k».proof.Proof.Gen.Pre_in_finite
public import proofs.«01_k».proof.Defs
public import Idealize.ShloMosaic.Lib.Claim

@[expose] public section
set_option maxRecDepth 16384
noncomputable section
namespace Cert.InClaim
open Idealize.ShloMosaic Idealize.ShloMosaic.TcCoe Idealize.SL.Sem
open Cert.Coe

/-- Finite arguments are real numbers. -/
theorem reals (x0 : Vec Ideal Cert.Pre_in_finite.S4096x1024 .bf16) (x1 : Vec Ideal Cert.Pre_in_finite.S1024x1024 .bf16) (x2 : Vec Ideal Cert.Pre_in_finite.S4096x1024 .f32) (x3 : Vec Ideal Cert.Pre_in_finite.S1x1024 .f32) (x4 : Vec Ideal Cert.Pre_in_finite.S4096x1024 .f32)
    (h : (Cert.Pre_in_finite.fn (F := Ideal) x0 x1 x2 x3 x4).1 = (fun _ => 1#1)
      ∧ (Cert.Pre_in_finite.fn (F := Ideal) x0 x1 x2 x3 x4).2.1 = (fun _ => 1#1)
      ∧ (Cert.Pre_in_finite.fn (F := Ideal) x0 x1 x2 x3 x4).2.2.1 = (fun _ => 1#1)
      ∧ (Cert.Pre_in_finite.fn (F := Ideal) x0 x1 x2 x3 x4).2.2.2.1 = (fun _ => 1#1)
      ∧ (Cert.Pre_in_finite.fn (F := Ideal) x0 x1 x2 x3 x4).2.2.2.2 = (fun _ => 1#1)) :
    ∃ A W X G D : ℕ → ℕ → ℝ, (∀ (a : Fin 4096) (b : Fin 1024), x0 (ix2 a b) = ((A a b : ℝ) : EReal))
      ∧ (∀ (a : Fin 1024) (b : Fin 1024), x1 (ix2 a b) = ((W a b : ℝ) : EReal))
      ∧ (∀ (a : Fin 4096) (b : Fin 1024), x2 (ix2 a b) = ((X a b : ℝ) : EReal))
      ∧ (∀ (a : Fin 1) (b : Fin 1024), x3 (ix2 a b) = ((G 0 b : ℝ) : EReal))
      ∧ (∀ (a : Fin 4096) (b : Fin 1024), x4 (ix2 a b) = ((D a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2.1 (ix2 a b)
    rw [← top_f32]
    exact this)
  have e2 : ∀ a b, ∃ r : ℝ, x2 (ix2 a b) = (r : EReal) := fun a b => real_of_cmpf (φ := .f32) (x2 (ix2 a b)) (by
    have := congrFun h.2.2.1 (ix2 a b)
    rw [← top_f32]
    exact this)
  have e3 : ∀ a b, ∃ r : ℝ, x3 (ix2 a b) = (r : EReal) := fun a b => real_of_cmpf (φ := .f32) (x3 (ix2 a b)) (by
    have := congrFun h.2.2.2.1 (ix2 a b)
    rw [← top_f32]
    exact this)
  have e4 : ∀ a b, ∃ r : ℝ, x4 (ix2 a b) = (r : EReal) := fun a b => real_of_cmpf (φ := .f32) (x4 (ix2 a b)) (by
    have := congrFun h.2.2.2.2 (ix2 a b)
    rw [← top_f32]
    exact this)
  obtain ⟨A, hA⟩ := real_mat (fun a b => x0 (ix2 a b)) e0
  obtain ⟨W, hW⟩ := real_mat (fun a b => x1 (ix2 a b)) e1
  obtain ⟨X, hX⟩ := real_mat (fun a b => x2 (ix2 a b)) e2
  obtain ⟨G, hG⟩ := real_mat (fun a b => x3 (ix2 a b)) e3
  obtain ⟨D, hD⟩ := real_mat (fun a b => x4 (ix2 a b)) e4
  exact ⟨A, W, X, G, D, hA, hW, hX, fun a b => (congrArg (fun a => x3 (ix2 a b)) (Subsingleton.elim a 0)).trans (hG 0 b), hD⟩

set_option maxHeartbeats 1600000 in
/-- The kernel's results are the reference's. -/
theorem algebraic : Cert.algebraic_Kernel11Ideal_Reference11Ideal_pre_in_finite := by
  pair_intro
  · run_from Cert.Kernel11Ideal.Gen.run_main m g
  · refine (θ_run _ _ _).mono (fun r h c => ?_) (Cert.Reference11Ideal.Value.run m' g')
    obtain ⟨A, W, X, G, D, hA, hW, hX, hG, hD⟩ := reals _ _ _ _ _ (hpre c)
    obtain ⟨a0, a1, a2, a3, a4⟩ := hagree c
    refine ⟨(h c).1.trans ?_, (h c).2.1.trans ?_, (h c).2.2⟩
    · refine (Reference11Ideal.Read.val_main_v38_eq m' c).trans ?_
      rw [a0, a1, a2, a3, a4]
      refine Eq.trans ?_ (Kernel11Ideal.Val.final5 m c A (fun i j => W j i) X G D hA (fun a b => hW a b) hX hG hD).symm
      funext i
      idx_vars i
      exact Reference11Ideal.Val.r38 _ _ _ _ _ A (fun i j => W j i) X G D hA (fun a b => hW a b) hX hG hD i0 i1
    · refine (Reference11Ideal.Read.val_main_v21_eq _ _ _ ).trans ?_
      rw [a0, a1, a2]
      refine Eq.trans ?_ (Kernel11Ideal.Val.final6 m c A (fun i j => W j i) X hA (fun a b => hW a b) hX).symm
      funext i
      idx_vars i
      exact Reference11Ideal.Val.r21 _ _ _ A (fun i j => W j i) X hA (fun a b => hW a b) hX i0 i1

end Cert.InClaim
end
-- ==== Proof.WmixClaim.lean ====
/- The gradient of the mixer's weights: the kernel's product of one block of columns at a time is the reference's gradient
   at the weight. -/
module

public import proofs.«01_k».proof.Proof.Coe
public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Claim

@[expose] public section
set_option maxRecDepth 16384
noncomputable section
namespace Cert.WmixClaim
open Idealize.ShloMosaic Idealize.ShloMosaic.TcCoe Idealize.SL.Sem
open Cert.Coe
open scoped BigOperators

section kernel
open Cert.Kernel12Ideal Cert.Kernel12Ideal.Gen
open Idealize.ShloMosaic.Pipeline (Dat)

/-- One block of the product: the rows of both operands are summed. -/
theorem pay (x0 : Vec Ideal S4096x512 .bf16) (x1 : Vec Ideal S4096x1024 .bf16) (a : Fin 512) (b : Fin 1024) :
    k0_pay1 x0 x1 (ix2 a b) = ∑ k : Fin 4096, x0 (ix2 k a) * x1 (ix2 k b) := by
  pointwise [k0_pay1]

/-- The block indices at point `t`: the first operand's columns and the result's rows move, the second operand stays. -/
theorem idx : ∀ t : Fin cfg0.N, win0_0.index t = ![0, (t : ℕ)] ∧ win0_1.index t = ![0, 0] ∧ win0_2.index t = ![(t : ℕ), 0] :=
  (by decide +kernel : ∀ t : Fin grid0.N, win0_0.index t = ![0, (t : ℕ)] ∧ win0_1.index t = ![0, 0] ∧ win0_2.index t = ![(t : ℕ), 0])

/-- The number of grid points. -/
theorem t_lt (t : Fin cfg0.N) : (t : ℕ) < 2 := lt_of_lt_of_eq t.isLt (by decide : grid0.N = 2)

variable (m : (ℓ : Loc nD τ sig) → Buf (Elt Ideal) ℓ) (c : Dev nD) (A B : ℕ → ℕ → EReal)
variable (hA : ∀ (a : Fin 4096) (b : Fin 1024), m ((c : Thread nD τ).loc main_arg0) (ix2 a b) = A a b)
  (hB : ∀ (a : Fin 4096) (b : Fin 1024), m ((c : Thread nD τ).loc main_arg1) (ix2 a b) = B a b)

include hA in
/-- The first operand's block. -/
theorem blk0 (t : Fin cfg0.N) (a : Fin 4096) (b : Fin 512) : iblk m c 0 t (ix2 a b) = A a (512 * t + b) := by
  have ht := t_lt t
  rw [← hA a ⟨512 * t + b, by omega⟩]
  blk_ext [iblk, V, idx t]

include hB in
/-- The second operand is whole at every point. -/
theorem blk1 (t : Fin cfg0.N) (a : Fin 4096) (b : Fin 1024) : iblk m c 1 t (ix2 a b) = B a b := by
  rw [← hB a b]
  blk_ext [iblk, V, idx t]

/-- One block of the product, from operands given entry by entry. -/
theorem pay_of (x0 : Vec Ideal S4096x512 .bf16) (x1 : Vec Ideal S4096x1024 .bf16) (X Y : ℕ → ℕ → EReal) (h0 : ∀ (a : Fin 4096) (b : Fin 512), x0 (ix2 a b) = X a b)
    (h1 : ∀ (a : Fin 4096) (b : Fin 1024), x1 (ix2 a b) = Y a b) (a : Fin 512) (b : Fin 1024) :
    k0_pay1 x0 x1 (ix2 a b) = ∑ k : Fin 4096, X k a * Y k b := by
  rw [pay]
  exact Finset.sum_congr rfl fun k _ => by rw [h0, h1]

include hA hB in
/-- The array the kernel leaves: the product over the rows of both operands. -/
theorem final2 : (dats m 0 c).arrAt 2 cfg0.N = fun i : S1024x1024.Idx => ∑ k : Fin 4096, A k (i 0 : ℕ) * B k (i 1 : ℕ) := by
  refine (dats m 0 c).arrAt_eq_of_covers 2 _ (by decide +kernel) fun t hf y => ?_
  blk_simp
  rw [after0_2]
  frame_out
  idx_vars y
  refine (pay_of _ _ (fun a b => A a (512 * t + b)) B (blk0 m c A hA t) (blk1 m c B hB t) y0 y1).trans ?_
  rw [(idx t).2.2]
  show _ = ∑ k : Fin 4096, A k ((t : ℕ) * 512 + y0) * B k (0 * 1024 + (y1 : ℕ))
  rw [show (t : ℕ) * 512 + y0 = 512 * t + y0 by omega, show 0 * 1024 + (y1 : ℕ) = y1 by omega]

end kernel

open Cert.Reference12Ideal Cert.Reference12Ideal.Read in
/-- The reference's gradient at an index. -/
theorem ref (x0 : Vec Ideal S4096x1024 .bf16) (x1 : Vec Ideal S4096x1024 .bf16) (A B : ℕ → ℕ → EReal)
    (hA : ∀ (a : Fin 4096) (b : Fin 1024), x0 (ix2 a b) = A a b) (hB : ∀ (a : Fin 4096) (b : Fin 1024), x1 (ix2 a b) = B a b) (i : Fin 1024) (j : Fin 1024) :
    val_main_v6 x0 x1 (ix2 i j) = ∑ k : Fin 4096, A k i * B k j := by
  pointwise [val_main_v6, val_main_v5, val_main_v4, val_main_v3, val_main_v1]
  simp only [hA, hB]
  exact Finset.sum_congr rfl fun k _ => mul_comm _ _

/-- The kernel's result is the reference's, for all arguments. -/
theorem algebraic : Cert.algebraic_Kernel12Ideal_Reference12Ideal := by
  pair_intro
  · run_from Cert.Kernel12Ideal.Gen.run_main m g
  · run_from Cert.Reference12Ideal.Value.run m' g'
    obtain ⟨A, hA⟩ := mat_of (R := 4096) (C := 1024) fun a b => m ((c.tc : Thread Cert.Kernel12Ideal.nD Cert.Kernel12Ideal.τ).loc Cert.Kernel12Ideal.main_arg0) (ix2 a b)
    obtain ⟨B, hB⟩ := mat_of (R := 4096) (C := 1024) fun a b => m ((c.tc : Thread Cert.Kernel12Ideal.nD Cert.Kernel12Ideal.τ).loc Cert.Kernel12Ideal.main_arg1) (ix2 a b)
    rw [Reference12Ideal.Read.val_main_v6_eq, final2 m c A B hA hB]
    funext i
    idx_vars i
    rw [ref _ _ A B hA hB]

end Cert.WmixClaim
end
-- ==== Proof.LossClaim.lean ====
/- The last down projection with the loss: the kernel's tiles are the reference's product, the loss's gradient at the prediction and the sum of squared errors. -/
module

public import proofs.«01_k».proof.Proof.FwdSpec
public import proofs.«01_k».proof.Proof.RmsSpec
public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Claim

@[expose] public section
set_option maxRecDepth 16384
noncomputable section
namespace Cert.LossClaim
open Idealize.ShloMosaic Idealize.ShloMosaic.TcCoe Idealize.SL.Sem
open Cert.Coe Cert.FwdSpec Cert.RmsSpec
open scoped BigOperators

/-- The prediction's error. -/
def errE (n : ℕ) (A W G R T : ℕ → ℕ → EReal) (i k : ℕ) : EReal := subE n A W G R i k - T i k

/-- The loss's gradient at the prediction. -/
def gradE (n : ℕ) (A W G R T : ℕ → ℕ → EReal) (i k : ℕ) : EReal := errE n A W G R T i k * Ideal.ofBits .f32 0x3A800000#32

/-- A row's sum of squares. -/
def sqE (E : ℕ → ℕ → EReal) (i : ℕ) : EReal := ∑ k : Fin 1024, E i k * E i k

theorem half_f32 : Ideal.ofBits .f32 0x3F000000#32 = ((1 / 2 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem q_f32 : Ideal.ofBits .f32 0x3A800000#32 = ((1 / 1024 : ℝ) : EReal) := by
  simp [Ideal.ofBits, Ideal.ieee, -EReal.coe_mul]; norm_num

section kernel
open Cert.Kernel13Ideal Cert.Kernel13Ideal.Gen
open Idealize.ShloMosaic.Pipeline (Dat)

section block
variable (x0 : Vec Ideal S256x2816 .bf16) (x1 : Vec Ideal S2816x1024 .bf16) (x2 : Vec Ideal S1x1024 .f32) (x3 x4 : Vec Ideal S256x1024 .f32) (A W G R T : ℕ → ℕ → EReal)
variable (h0 : ∀ (a : Fin 256) (b : Fin 2816), x0 (ix2 a b) = A a b) (h1 : ∀ (a : Fin 2816) (b : Fin 1024), x1 (ix2 a b) = W a b)
  (h2 : ∀ (a : Fin 1) (b : Fin 1024), x2 (ix2 a b) = G 0 b) (h3 : ∀ (a : Fin 256) (b : Fin 1024), x3 (ix2 a b) = R a b)
  (h4 : ∀ (a : Fin 256) (b : Fin 1024), x4 (ix2 a b) = T a b)

include h0 h1 in
/-- The first half's product. -/
theorem p2 (a : Fin 256) (b : Fin 1024) : k0_pay2 x0 x1 (ix2 a b) = mmE 2816 A W a b := by
  pointwise [k0_pay2]
  simp only [h0, h1]
  rfl

include h0 h1 in
/-- The second half's product. -/
theorem p3 (a : Fin 256) (b : Fin 1024) : k0_pay3 x0 x1 (ix2 a b) = mmE 2816 A W a b := by
  pointwise [k0_pay3]
  simp only [h0, h1]
  rfl

include h0 h1 in
/-- The first half's product, rounded. -/
theorem p4 (a : Fin 256) (b : Fin 1024) : k0_pay4 x0 x1 (ix2 a b) = mmE 2816 A W a b := by
  pointwise [k0_pay4]
  exact p2 x0 x1 A W h0 h1 a b

include h0 h1 in
/-- The second half's product, rounded. -/
theorem p9 (a : Fin 256) (b : Fin 1024) : k0_pay9 (k0_pay3 x0 x1) (ix2 a b) = mmE 2816 A W a b := by
  pointwise [k0_pay9]
  exact p3 x0 x1 A W h0 h1 a b

include h0 h1 h2 h3 h4 in
/-- The first half's errors. -/
theorem p5 (a : Fin 256) (b : Fin 1024) : k0_pay5 x0 x1 x3 x2 x4 (ix2 a b) = errE 2816 A W G R T a b := by
  pointwise [k0_pay5]
  simp only [p2 x0 x1 A W h0 h1, h2, h3, h4]
  rfl

include h0 h1 h2 h3 h4 in
/-- The first half's gradient. -/
theorem p6 (a : Fin 256) (b : Fin 1024) : k0_pay6 x0 x1 x3 x2 x4 (ix2 a b) = gradE 2816 A W G R T a b := by
  pointwise [k0_pay6]
  simp only [p5 x0 x1 x2 x3 x4 A W G R T h0 h1 h2 h3 h4]
  rfl

include h0 h1 h2 h3 h4 in
/-- The first half's sum of squares. -/
theorem p7 (a b : Fin 1) : k0_pay7 x0 x1 x3 x2 x4 (ix2 a b) = ∑ i : Fin 256, sqE (errE 2816 A W G R T) i := by
  pointwise [k0_pay7]
  simp only [p5 x0 x1 x2 x3 x4 A W G R T h0 h1 h2 h3 h4]
  exact Finset.sum_comm

include h0 h1 h2 h3 h4 in
/-- The second half's errors. -/
theorem p10 (a : Fin 256) (b : Fin 1024) : k0_pay10 (k0_pay3 x0 x1) x3 x2 x4 (ix2 a b) = errE 2816 A W G R T a b := by
  have e3 := p3 x0 x1 A W h0 h1
  revert e3
  generalize k0_pay3 x0 x1 = v
  intro e3
  pointwise [k0_pay10]
  simp only [e3, h2, h3, h4]
  rfl

include h0 h1 h2 h3 h4 in
/-- The second half's gradient. -/
theorem p11 (a : Fin 256) (b : Fin 1024) : k0_pay11 (k0_pay3 x0 x1) x3 x2 x4 (ix2 a b) = gradE 2816 A W G R T a b := by
  have e := p10 x0 x1 x2 x3 x4 A W G R T h0 h1 h2 h3 h4
  unfold k0_pay11
  revert e
  generalize k0_pay10 (k0_pay3 x0 x1) x3 x2 x4 = v
  intro e
  pointwise
  rw [e]
  rfl

/-- The sum of squares starts at zero. -/
theorem p8 (a b : Fin 1) : (k0_pay8 : FVec Ideal S1x1 .f32) (ix2 a b) = 0 := by
  pointwise [k0_pay8]

include h0 h1 h2 h3 h4 in
/-- Both halves' sum of squares. -/
theorem p12 (u w : FVec Ideal S1x1 .f32) (z : EReal) (hu : ∀ (a b : Fin 1), u (ix2 a b) = z) (hw : ∀ (a b : Fin 1), w (ix2 a b) = 0) (a b : Fin 1) :
    k0_pay12 (k0_pay3 x0 x1) u w x3 x2 x4 (ix2 a b) = z + ∑ i : Fin 256, sqE (errE 2816 A W G R T) i := by
  have e := p10 x0 x1 x2 x3 x4 A W G R T h0 h1 h2 h3 h4
  unfold k0_pay12
  revert e
  generalize k0_pay10 (k0_pay3 x0 x1) x3 x2 x4 = v
  intro e
  pointwise
  simp only [e, hu, hw, zero_add]
  exact congrArg _ Finset.sum_comm

end block

/-- The result starts at zero. -/
theorem p13 (a : Fin 8) (b : Fin 128) : (k0_pay13 : FVec Ideal S8x128 .f32) (ix2 a b) = 0 := by
  pointwise [k0_pay13]

/-- A tile's sum is added to every entry. -/
theorem p1 (u : FVec Ideal S1x1 .f32) (w : Vec Ideal S8x128 .f32) (z : EReal) (hu : ∀ (a b : Fin 1), u (ix2 a b) = z) (a : Fin 8) (b : Fin 128) :
    k0_pay1 u w (ix2 a b) = w (ix2 a b) + z := by
  pointwise [k0_pay1]
  rw [hu]

/-- The block indices at point `t`. -/
theorem idx : ∀ t : Fin cfg0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] ∧ win0_6.index t = ![(t : ℕ), 0] ∧ win0_7.index t = ![0, 0] :=
  (by decide +kernel : ∀ t : Fin grid0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] ∧ win0_6.index t = ![(t : ℕ), 0] ∧ win0_7.index t = ![0, 0])

/-- The number of grid points. -/
theorem t_lt (t : Fin cfg0.N) : (t : ℕ) < 8 := lt_of_lt_of_eq t.isLt (by decide : grid0.N = 8)

/-- The lower half of a loaded block. -/
theorem ld_bf16_2816_0 (u : Vec Ideal S512x2816 .bf16) (F : ℕ → ℕ → EReal) (s : ℕ) (e : ∀ (a : Fin 512) (b : Fin 2816), u (ix2 a b) = rowsE F s a b) (a : Fin 256) (b : Fin 2816) :
    View.ld u (Rect.unit (s := S512x2816) ![0, 0] ![256, 2816] inb_S512x2816_S256x2816_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_bf16_2816_256 (u : Vec Ideal S512x2816 .bf16) (F : ℕ → ℕ → EReal) (s : ℕ) (e : ∀ (a : Fin 512) (b : Fin 2816), u (ix2 a b) = rowsE F s a b) (a : Fin 256) (b : Fin 2816) :
    View.ld u (Rect.unit (s := S512x2816) ![256, 0] ![256, 2816] inb_S512x2816_S256x2816_256_0) (ix2 a b) = rowsE F (s + 256) a b := by
  have e := e ⟨256 + a, by omega⟩ b
  rw [rowsE] at e ⊢
  rw [Nat.add_assoc, ← e]
  clear e
  pointwise
  try blk_ext

/-- The lower half of a loaded block. -/
theorem ld_f32_1024_0 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_1024_256 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

variable (m : (ℓ : Loc nD τ sig) → Buf (Elt Ideal) ℓ) (c : Dev nD) (A W G R T : ℕ → ℕ → EReal)
variable (hA : ∀ (a : Fin 4096) (b : Fin 2816), m ((c : Thread nD τ).loc main_arg0) (ix2 a b) = A a b)
  (hW : ∀ (a : Fin 2816) (b : Fin 1024), m ((c : Thread nD τ).loc main_arg1) (ix2 a b) = W a b)
  (hG : ∀ (a : Fin 1) (b : Fin 1024), m ((c : Thread nD τ).loc main_arg2) (ix2 a b) = G 0 b)
  (hR : ∀ (a : Fin 4096) (b : Fin 1024), m ((c : Thread nD τ).loc main_arg3) (ix2 a b) = R a b)
  (hT : ∀ (a : Fin 4096) (b : Fin 1024), m ((c : Thread nD τ).loc main_arg4) (ix2 a b) = T a b)

include hA in
theorem blk0 (t : Fin cfg0.N) (a : Fin 512) (b : Fin 2816) : iblk m c 0 t (ix2 a b) = rowsE A (512 * t) a b := by
  have ht := t_lt t
  rw [rowsE, ← hA ⟨512 * t + a, by omega⟩ b]
  blk_ext [iblk, V, idx t]

include hW in
theorem blk1 (t : Fin cfg0.N) (a : Fin 2816) (b : Fin 1024) : iblk m c 1 t (ix2 a b) = W a b := by
  rw [← hW a b]
  blk_ext [iblk, V, idx t]

include hG in
theorem blk2 (t : Fin cfg0.N) (a : Fin 1) (b : Fin 1024) : iblk m c 2 t (ix2 a b) = G 0 b := by
  rw [← hG a b]
  blk_ext [iblk, V, idx t]

include hR in
theorem blk3 (t : Fin cfg0.N) (a : Fin 512) (b : Fin 1024) : iblk m c 3 t (ix2 a b) = rowsE R (512 * t) a b := by
  have ht := t_lt t
  rw [rowsE, ← hR ⟨512 * t + a, by omega⟩ b]
  blk_ext [iblk, V, idx t]

include hT in
theorem blk4 (t : Fin cfg0.N) (a : Fin 512) (b : Fin 1024) : iblk m c 4 t (ix2 a b) = rowsE T (512 * t) a b := by
  have ht := t_lt t
  rw [rowsE, ← hT ⟨512 * t + a, by omega⟩ b]
  blk_ext [iblk, V, idx t]

/-- One tile's sum of squares. -/
def part (n : ℕ) : EReal := (∑ i : Fin 256, sqE (errE 2816 A W G R T) (512 * n + i)) + ∑ i : Fin 256, sqE (errE 2816 A W G R T) (512 * n + 256 + i)

include hA hW hG hR hT in
/-- A tile's sum is added to what is there. -/
theorem part_pay (t : Fin cfg0.N) (w : Vec Ideal S8x128 .f32) (a : Fin 8) (b : Fin 128) : k0_pay1
      (k0_pay12 (k0_pay3 (View.ld (iblk m c 0 t) (Rect.unit ![256, 0] ![256, 2816] inb_S512x2816_S256x2816_256_0)) (iblk m c 1 t)) (k0_pay7 (View.ld (iblk m c 0 t) (Rect.unit ![0, 0] ![256, 2816] inb_S512x2816_S256x2816_0_0)) (iblk m c 1 t) (View.ld (iblk m c 3 t) (Rect.unit ![0, 0] ![256, 1024] inb_S512x1024_S256x1024_0_0)) (iblk m c 2 t) (View.ld (iblk m c 4 t) (Rect.unit ![0, 0] ![256, 1024] inb_S512x1024_S256x1024_0_0))) k0_pay8 (View.ld (iblk m c 3 t) (Rect.unit ![256, 0] ![256, 1024] inb_S512x1024_S256x1024_256_0)) (iblk m c 2 t) (View.ld (iblk m c 4 t) (Rect.unit ![256, 0] ![256, 1024] inb_S512x1024_S256x1024_256_0)))
      w (ix2 a b) = w (ix2 a b) + part A W G R T t := by
  have e7 := p7 _ _ _ _ _ (rowsE A (512 * t + 0)) W G (rowsE R (512 * t + 0)) (rowsE T (512 * t + 0)) (ld_bf16_2816_0 _ A _ (blk0 m c A hA t)) (blk1 m c W hW t) (blk2 m c G hG t) (ld_f32_1024_0 _ R _ (blk3 m c R hR t)) (ld_f32_1024_0 _ T _ (blk4 m c T hT t))
  have e12 := p12 _ _ _ _ _ (rowsE A (512 * t + 256)) W G (rowsE R (512 * t + 256)) (rowsE T (512 * t + 256)) (ld_bf16_2816_256 _ A _ (blk0 m c A hA t)) (blk1 m c W hW t) (blk2 m c G hG t) (ld_f32_1024_256 _ R _ (blk3 m c R hR t)) (ld_f32_1024_256 _ T _ (blk4 m c T hT t)) _ _ _ e7 p8
  exact p1 _ w _ e12 a b

include hA hW hG hR hT in
/-- The sum of squared errors, at every entry. -/
theorem final7 : (dats m 0 c).arrAt 7 cfg0.N = fun _ : S8x128.Idx => ∑ i : Fin 4096, sqE (errE 2816 A W G R T) i := by
  refine (dats m 0 c).arrAt_eq_of_covers 7 _ (by decide +kernel) fun t hf y => ?_
  blk_simp
  rw [after0_7, Pipeline.eq_sum_fin_of_reset_step_apply_of_flush (fun n h => (outsAt0 m c n h).2.2) 8 (fun _ => 0)
    (fun t _ => part A W G R T t)
    (fun t h j => by rw [outsAt0_A m c t h]; frame_out; idx_vars j; exact (part_pay m c A W G R T hA hW hG hR hT t _ j0 j1).trans (congrArg (· + _) (p13 j0 j1)))
    (fun t h j => by rw [outsAt0_B m c t h]; frame_out; idx_vars j; exact part_pay m c A W G R T hA hW hG hR hT t _ j0 j1)
    t ((flush0_7 t).mp hf) _, zero_add]
  have ht := t_lt t
  have h7 := (flush0_7 t).mp hf
  show (_ : EReal) = ∑ i : Fin 4096, sqE (errE 2816 A W G R T) i
  refine Eq.trans ?_ (sum_tilesE 8 256 fun i => sqE (errE 2816 A W G R T) i)
  refine Finset.sum_congr rfl fun s _ => ?_
  show part A W G R T (8 * ((t : ℕ) / 8) + s) = _
  rw [show 8 * ((t : ℕ) / 8) + (s : ℕ) = s by omega]
  rfl

include hA hW in
/-- The array the kernel leaves in window 5. -/
theorem final5 : (dats m 0 c).arrAt 5 cfg0.N = fun i : S4096x1024.Idx => mmE 2816 A W (i 0 : ℕ) (i 1 : ℕ) := by
  refine (dats m 0 c).arrAt_eq_of_covers 5 _ (by decide +kernel) fun t hf y => ?_
  blk_simp
  rw [after0_5, (idx t).2.2.2.2.2.1]
  show _ = mmE 2816 A W ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay4 (View.ld (iblk m c 0 t) (Rect.unit ![0, 0] ![256, 2816] inb_S512x2816_S256x2816_0_0)) (iblk m c 1 t) x
      = mmE 2816 A W (512 * (t : ℕ) + (y 0 : ℕ)) (y 1 : ℕ) := by
    intro x h0 h1
    rw [h0, h1]
    idx_vars x
    exact p4 _ _ (rowsE A (512 * t + 0)) W (ld_bf16_2816_0 _ A _ (blk0 m c A hA t)) (blk1 m c W hW t) x0 x1
  have hi : ∀ (x : S256x1024.Idx) (h0 : (y 0 : ℕ) = 256 + x 0) (h1 : (y 1 : ℕ) = x 1), k0_pay9 (k0_pay3 (View.ld (iblk m c 0 t) (Rect.unit ![256, 0] ![256, 2816] inb_S512x2816_S256x2816_256_0)) (iblk m c 1 t)) x
      = mmE 2816 A W (512 * (t : ℕ) + (y 0 : ℕ)) (y 1 : ℕ) := by
    intro x h0 h1
    rw [h0, h1, ← Nat.add_assoc]
    idx_vars x
    exact p9 _ _ (rowsE A (512 * t + 256)) W (ld_bf16_2816_256 _ A _ (blk0 m c A hA t)) (blk1 m c W hW t) x0 x1
  by_cases h : (t : ℕ) % 8 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

include hA hW hG hR hT in
/-- The array the kernel leaves in window 6. -/
theorem final6 : (dats m 0 c).arrAt 6 cfg0.N = fun i : S4096x1024.Idx => gradE 2816 A W G R T (i 0 : ℕ) (i 1 : ℕ) := by
  refine (dats m 0 c).arrAt_eq_of_covers 6 _ (by decide +kernel) fun t hf y => ?_
  blk_simp
  rw [after0_6, (idx t).2.2.2.2.2.2.1]
  show _ = gradE 2816 A W G R T ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay6 (View.ld (iblk m c 0 t) (Rect.unit ![0, 0] ![256, 2816] inb_S512x2816_S256x2816_0_0)) (iblk m c 1 t) (View.ld (iblk m c 3 t) (Rect.unit ![0, 0] ![256, 1024] inb_S512x1024_S256x1024_0_0)) (iblk m c 2 t) (View.ld (iblk m c 4 t) (Rect.unit ![0, 0] ![256, 1024] inb_S512x1024_S256x1024_0_0)) x
      = gradE 2816 A W G R T (512 * (t : ℕ) + (y 0 : ℕ)) (y 1 : ℕ) := by
    intro x h0 h1
    rw [h0, h1]
    idx_vars x
    exact p6 _ _ _ _ _ (rowsE A (512 * t + 0)) W G (rowsE R (512 * t + 0)) (rowsE T (512 * t + 0)) (ld_bf16_2816_0 _ A _ (blk0 m c A hA t)) (blk1 m c W hW t) (blk2 m c G hG t) (ld_f32_1024_0 _ R _ (blk3 m c R hR t)) (ld_f32_1024_0 _ T _ (blk4 m c T hT t)) x0 x1
  have hi : ∀ (x : S256x1024.Idx) (h0 : (y 0 : ℕ) = 256 + x 0) (h1 : (y 1 : ℕ) = x 1), k0_pay11 (k0_pay3 (View.ld (iblk m c 0 t) (Rect.unit ![256, 0] ![256, 2816] inb_S512x2816_S256x2816_256_0)) (iblk m c 1 t)) (View.ld (iblk m c 3 t) (Rect.unit ![256, 0] ![256, 1024] inb_S512x1024_S256x1024_256_0)) (iblk m c 2 t) (View.ld (iblk m c 4 t) (Rect.unit ![256, 0] ![256, 1024] inb_S512x1024_S256x1024_256_0)) x
      = gradE 2816 A W G R T (512 * (t : ℕ) + (y 0 : ℕ)) (y 1 : ℕ) := by
    intro x h0 h1
    rw [h0, h1, ← Nat.add_assoc]
    idx_vars x
    exact p11 _ _ _ _ _ (rowsE A (512 * t + 256)) W G (rowsE R (512 * t + 256)) (rowsE T (512 * t + 256)) (ld_bf16_2816_256 _ A _ (blk0 m c A hA t)) (blk1 m c W hW t) (blk2 m c G hG t) (ld_f32_1024_256 _ R _ (blk3 m c R hR t)) (ld_f32_1024_256 _ T _ (blk4 m c T hT t)) x0 x1
  by_cases h : (t : ℕ) % 8 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

end kernel

section reference
open Cert.Reference13Ideal Cert.Reference13Ideal.Gen Cert.Reference13Ideal.Read
variable (x0 : Vec Ideal S4096x2816 .bf16) (x1 : Vec Ideal S2816x1024 .bf16) (x2 : Vec Ideal S1x1024 .f32) (x3 x4 : Vec Ideal S4096x1024 .f32) (A W G R T : ℕ → ℕ → EReal)
variable (hA : ∀ (a : Fin 4096) (b : Fin 2816), x0 (ix2 a b) = A a b) (hW : ∀ (a : Fin 2816) (b : Fin 1024), x1 (ix2 a b) = W a b)
  (hG : ∀ (a : Fin 1) (b : Fin 1024), x2 (ix2 a b) = G 0 b) (hR : ∀ (a : Fin 4096) (b : Fin 1024), x3 (ix2 a b) = R a b)
  (hT : ∀ (a : Fin 4096) (b : Fin 1024), x4 (ix2 a b) = T a b)

include hA hW in
/-- The product. -/
theorem r2 (i : Fin 4096) (k : Fin 1024) : val_main_v2 x0 x1 (ix2 i k) = mmE 2816 A W i k := by
  pointwise [val_main_v2, val_main_v1, val_main_v0]
  simp only [hA, hW]
  rfl

include hA hW in
/-- The first result: the product, rounded. -/
theorem r3 (i : Fin 4096) (k : Fin 1024) : val_main_v3 x0 x1 (ix2 i k) = mmE 2816 A W i k := by
  have e := r2 x0 x1 A W hA hW
  unfold val_main_v3
  revert e
  generalize val_main_v2 x0 x1 = y
  intro e
  pointwise
  exact e i k

include hA hW in
/-- A row's sum of squares. -/
theorem r5 (i : Fin 4096) : val_main_v5 x0 x1 (ix1 i) = ∑ k : Fin 1024, mmE 2816 A W i k * mmE 2816 A W i k := by
  have e : ∀ (a : Fin 4096) (b : Fin 1024), val_main_v4 x0 x1 (ix2 a b) = mmE 2816 A W a b * mmE 2816 A W a b := by
    intro a b
    have e := r2 x0 x1 A W hA hW
    unfold val_main_v4
    revert e
    generalize val_main_v2 x0 x1 = y
    intro e
    pointwise
    rw [e]
  unfold val_main_v5
  revert e
  generalize val_main_v4 x0 x1 = y
  intro e
  pointwise [val_main_cst]
  simp only [e]

include hA hW in
/-- The norm's scale. -/
theorem r11 (i : Fin 4096) (j : Fin 1) : val_main_v11 x0 x1 (ix2 i j) = rE (mmE 2816 A W) i := by
  have e := r5 x0 x1 A W hA hW
  unfold val_main_v11 val_main_v10 val_main_v8 val_main_v6
  revert e
  generalize val_main_v5 x0 x1 = y
  intro e
  pointwise [val_main_v9, val_main_cst_1, val_main_v7, val_main_cst_0]
  rw [e]
  rfl

include hA hW hG hR in
/-- The prediction: the residual plus the normed product. -/
theorem r16 (i : Fin 4096) (k : Fin 1024) : val_main_v16 x0 x1 x2 x3 (ix2 i k) = subE 2816 A W G R i k := by
  have e2 := r2 x0 x1 A W hA hW
  have e11 := r11 x0 x1 A W hA hW
  unfold val_main_v16 val_main_v15 val_main_v13 val_main_v12
  revert e2 e11
  generalize val_main_v2 x0 x1 = y
  generalize val_main_v11 x0 x1 = z
  intro e2 e11
  pointwise [val_main_v14]
  rw [e2, e11, hG, hR]
  rfl

include hA hW hG hR hT in
/-- The second result: the loss's gradient at the prediction. -/
theorem r31 (i : Fin 4096) (k : Fin 1024) : val_main_v31 x0 x1 x2 x3 x4 (ix2 i k) = gradE 2816 A W G R T i k := by
  have e := r16 x0 x1 x2 x3 A W G R hA hW hG hR
  unfold val_main_v31 val_main_v20 val_main_v17
  revert e
  generalize val_main_v16 x0 x1 x2 x3 = y
  intro e
  pointwise [val_main_v30, val_main_v29, val_main_v28, val_main_v27, val_main_v26, val_main_v19, val_main_cst_2, val_main_cst_7, val_main_cst_8, val_main_cst_9]
  rw [e, hT, gradE, errE, q_f32, half_f32, two_f32, len_f32, div_real _ _ (by norm_num), ← mul_assoc, ← EReal.coe_mul, mul_comm]
  norm_num

include hA hW hG hR hT in
/-- The third result: the sum of squared errors. -/
theorem r35 (i : Fin 8) (k : Fin 128) : val_main_v35 x0 x1 x2 x3 x4 (ix2 i k) = ∑ i : Fin 4096, sqE (errE 2816 A W G R T) i := by
  have e : ∀ (a : Fin 4096) (b : Fin 1024), val_main_v33 x0 x1 x2 x3 x4 (ix2 a b) = errE 2816 A W G R T a b * errE 2816 A W G R T a b := by
    intro a b
    have e := r16 x0 x1 x2 x3 A W G R hA hW hG hR
    unfold val_main_v33 val_main_v32
    revert e
    generalize val_main_v16 x0 x1 x2 x3 = y
    intro e
    pointwise
    rw [e, hT]
    rfl
  rw [val_main_v35_apply, val_main_v34_apply, sum_idx2]
  simp only [e]
  pointwise [val_main_cst_10]
  rfl

end reference

set_option maxHeartbeats 1600000 in
/-- The kernel's results are the reference's, for all arguments. -/
theorem algebraic : Cert.algebraic_Kernel13Ideal_Reference13Ideal := by
  pair_intro
  · run_from Cert.Kernel13Ideal.Gen.run_main m g
  · refine (θ_run _ _ _).mono (fun r h c => ?_) (Cert.Reference13Ideal.Value.run m' g')
    obtain ⟨A, hA⟩ := mat_of (R := 4096) (C := 2816) fun a b => m ((c.tc : Thread Cert.Kernel13Ideal.nD Cert.Kernel13Ideal.τ).loc Cert.Kernel13Ideal.main_arg0) (ix2 a b)
    obtain ⟨W, hW⟩ := mat_of (R := 2816) (C := 1024) fun a b => m ((c.tc : Thread Cert.Kernel13Ideal.nD Cert.Kernel13Ideal.τ).loc Cert.Kernel13Ideal.main_arg1) (ix2 a b)
    obtain ⟨G, hG⟩ := mat_of (R := 1) (C := 1024) fun a b => m ((c.tc : Thread Cert.Kernel13Ideal.nD Cert.Kernel13Ideal.τ).loc Cert.Kernel13Ideal.main_arg2) (ix2 a b)
    have hG : ∀ (a : Fin 1) (b : Fin 1024), m ((c.tc : Thread Cert.Kernel13Ideal.nD Cert.Kernel13Ideal.τ).loc Cert.Kernel13Ideal.main_arg2) (ix2 a b) = G 0 b :=
      fun a b => (congrArg (fun a => m ((c.tc : Thread Cert.Kernel13Ideal.nD Cert.Kernel13Ideal.τ).loc Cert.Kernel13Ideal.main_arg2) (ix2 a b)) (Subsingleton.elim a 0)).trans (hG 0 b)
    obtain ⟨R, hR⟩ := mat_of (R := 4096) (C := 1024) fun a b => m ((c.tc : Thread Cert.Kernel13Ideal.nD Cert.Kernel13Ideal.τ).loc Cert.Kernel13Ideal.main_arg3) (ix2 a b)
    obtain ⟨T, hT⟩ := mat_of (R := 4096) (C := 1024) fun a b => m ((c.tc : Thread Cert.Kernel13Ideal.nD Cert.Kernel13Ideal.τ).loc Cert.Kernel13Ideal.main_arg4) (ix2 a b)
    obtain ⟨a0, a1, a2, a3, a4⟩ := hagree c
    refine ⟨(h c).1.trans ?_, (h c).2.1.trans ?_, (h c).2.2.1.trans ?_, (h c).2.2.2⟩
    · refine (Reference13Ideal.Read.val_main_v3_eq _ _ ).trans ?_
      rw [a0, a1]
      refine Eq.trans ?_ (final5 m c A W hA hW).symm
      funext i
      idx_vars i
      exact r3 _ _ A W hA hW i0 i1
    · refine (Reference13Ideal.Read.val_main_v31_eq _ _ _ _ _ ).trans ?_
      rw [a0, a1, a2, a3, a4]
      refine Eq.trans ?_ (final6 m c A W G R T hA hW hG hR hT).symm
      funext i
      idx_vars i
      exact r31 _ _ _ _ _ A W G R T hA hW hG hR hT i0 i1
    · refine (Reference13Ideal.Read.val_main_v35_eq _ _ _ _ _ ).trans ?_
      rw [a0, a1, a2, a3, a4]
      refine Eq.trans ?_ (final7 m c A W G R T hA hW hG hR hT).symm
      funext i
      idx_vars i
      exact r35 _ _ _ _ _ A W G R T hA hW hG hR hT i0 i1

end Cert.LossClaim
end
-- ==== Proof.WkvClaim.lean ====
/- The gradient of the shared key/value projection's weight: the kernel's product of one block of columns at a time is the reference's gradient
   at the weight. -/
module

public import proofs.«01_k».proof.Proof.Coe
public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Claim

@[expose] public section
set_option maxRecDepth 16384
noncomputable section
namespace Cert.WkvClaim
open Idealize.ShloMosaic Idealize.ShloMosaic.TcCoe Idealize.SL.Sem
open Cert.Coe
open scoped BigOperators

section kernel
open Cert.Kernel14Ideal Cert.Kernel14Ideal.Gen
open Idealize.ShloMosaic.Pipeline (Dat)

/-- One block of the product: the rows of both operands are summed. -/
theorem pay (x0 : Vec Ideal S4096x512 .bf16) (x1 : Vec Ideal S4096x1024 .bf16) (a : Fin 512) (b : Fin 1024) :
    k0_pay1 x0 x1 (ix2 a b) = ∑ k : Fin 4096, x0 (ix2 k a) * x1 (ix2 k b) := by
  pointwise [k0_pay1]

/-- The block indices at point `t`: the first operand's columns and the result's rows move, the second operand stays. -/
theorem idx : ∀ t : Fin cfg0.N, win0_0.index t = ![0, (t : ℕ)] ∧ win0_1.index t = ![0, 0] ∧ win0_2.index t = ![(t : ℕ), 0] :=
  (by decide +kernel : ∀ t : Fin grid0.N, win0_0.index t = ![0, (t : ℕ)] ∧ win0_1.index t = ![0, 0] ∧ win0_2.index t = ![(t : ℕ), 0])

/-- The number of grid points. -/
theorem t_lt (t : Fin cfg0.N) : (t : ℕ) < 3 := lt_of_lt_of_eq t.isLt (by decide : grid0.N = 3)

variable (m : (ℓ : Loc nD τ sig) → Buf (Elt Ideal) ℓ) (c : Dev nD) (A B : ℕ → ℕ → EReal)
variable (hA : ∀ (a : Fin 4096) (b : Fin 1536), m ((c : Thread nD τ).loc main_arg0) (ix2 a b) = A a b)
  (hB : ∀ (a : Fin 4096) (b : Fin 1024), m ((c : Thread nD τ).loc main_arg1) (ix2 a b) = B a b)

include hA in
/-- The first operand's block. -/
theorem blk0 (t : Fin cfg0.N) (a : Fin 4096) (b : Fin 512) : iblk m c 0 t (ix2 a b) = A a (512 * t + b) := by
  have ht := t_lt t
  rw [← hA a ⟨512 * t + b, by omega⟩]
  blk_ext [iblk, V, idx t]

include hB in
/-- The second operand is whole at every point. -/
theorem blk1 (t : Fin cfg0.N) (a : Fin 4096) (b : Fin 1024) : iblk m c 1 t (ix2 a b) = B a b := by
  rw [← hB a b]
  blk_ext [iblk, V, idx t]

/-- One block of the product, from operands given entry by entry. -/
theorem pay_of (x0 : Vec Ideal S4096x512 .bf16) (x1 : Vec Ideal S4096x1024 .bf16) (X Y : ℕ → ℕ → EReal) (h0 : ∀ (a : Fin 4096) (b : Fin 512), x0 (ix2 a b) = X a b)
    (h1 : ∀ (a : Fin 4096) (b : Fin 1024), x1 (ix2 a b) = Y a b) (a : Fin 512) (b : Fin 1024) :
    k0_pay1 x0 x1 (ix2 a b) = ∑ k : Fin 4096, X k a * Y k b := by
  rw [pay]
  exact Finset.sum_congr rfl fun k _ => by rw [h0, h1]

include hA hB in
/-- The array the kernel leaves: the product over the rows of both operands. -/
theorem final2 : (dats m 0 c).arrAt 2 cfg0.N = fun i : S1536x1024.Idx => ∑ k : Fin 4096, A k (i 0 : ℕ) * B k (i 1 : ℕ) := by
  refine (dats m 0 c).arrAt_eq_of_covers 2 _ (by decide +kernel) fun t hf y => ?_
  blk_simp
  rw [after0_2]
  frame_out
  idx_vars y
  refine (pay_of _ _ (fun a b => A a (512 * t + b)) B (blk0 m c A hA t) (blk1 m c B hB t) y0 y1).trans ?_
  rw [(idx t).2.2]
  show _ = ∑ k : Fin 4096, A k ((t : ℕ) * 512 + y0) * B k (0 * 1024 + (y1 : ℕ))
  rw [show (t : ℕ) * 512 + y0 = 512 * t + y0 by omega, show 0 * 1024 + (y1 : ℕ) = y1 by omega]

end kernel

open Cert.Reference14Ideal Cert.Reference14Ideal.Read in
/-- The reference's gradient at an index. -/
theorem ref (x0 : Vec Ideal S4096x1536 .bf16) (x1 : Vec Ideal S4096x1024 .bf16) (A B : ℕ → ℕ → EReal)
    (hA : ∀ (a : Fin 4096) (b : Fin 1536), x0 (ix2 a b) = A a b) (hB : ∀ (a : Fin 4096) (b : Fin 1024), x1 (ix2 a b) = B a b) (i : Fin 1536) (j : Fin 1024) :
    val_main_v7 x0 x1 (ix2 i j) = ∑ k : Fin 4096, A k i * B k j := by
  pointwise [val_main_v7, val_main_v6, val_main_v5, val_main_v4, val_main_v3, val_main_v1]
  simp only [hA, hB]

/-- The kernel's result is the reference's, for all arguments. -/
theorem algebraic : Cert.algebraic_Kernel14Ideal_Reference14Ideal := by
  pair_intro
  · run_from Cert.Kernel14Ideal.Gen.run_main m g
  · run_from Cert.Reference14Ideal.Value.run m' g'
    obtain ⟨A, hA⟩ := mat_of (R := 4096) (C := 1536) fun a b => m ((c.tc : Thread Cert.Kernel14Ideal.nD Cert.Kernel14Ideal.τ).loc Cert.Kernel14Ideal.main_arg0) (ix2 a b)
    obtain ⟨B, hB⟩ := mat_of (R := 4096) (C := 1024) fun a b => m ((c.tc : Thread Cert.Kernel14Ideal.nD Cert.Kernel14Ideal.τ).loc Cert.Kernel14Ideal.main_arg1) (ix2 a b)
    rw [Reference14Ideal.Read.val_main_v7_eq, final2 m c A B hA hB]
    funext i
    idx_vars i
    rw [ref _ _ A B hA hB]

end Cert.WkvClaim
end
-- ==== Proof.KvRef.lean ====
/- The reference's gradients of the shared key/value projection, from finite arguments, as the real formulas of `RmsSpec`. -/
module

public import proofs.«01_k».proof.Proof.RmsSpec
public import proofs.«01_k».proof.Proof.Gen.Reference15Ideal.Run
public import proofs.«01_k».proof.Proof.Gen.Reference15Ideal.Read

@[expose] public section
set_option maxRecDepth 16384
noncomputable section
namespace Cert.Reference15Ideal.Val
open Cert.Reference15Ideal Cert.Reference15Ideal.Gen Cert.Reference15Ideal.Read Idealize.ShloMosaic Idealize.ShloMosaic.TcCoe Idealize.SL.Sem
open Cert.Coe Cert.RmsSpec
open scoped BigOperators

variable (x0 : Vec Ideal S4096x1536 .bf16) (x1 : Vec Ideal S1536x1024 .bf16) (x2 : Vec Ideal S4096x1024 .f32) (x3 : Vec Ideal S1x1024 .f32)
  (x4 : Vec Ideal S4096x1024 .f32) (A W X G D : ℕ → ℕ → ℝ)

variable (hA : ∀ (a : Fin 4096) (b : Fin 1536), x0 (ix2 a b) = ((A a b : ℝ) : EReal))
  (hW : ∀ (a : Fin 1536) (b : Fin 1024), x1 (ix2 a b) = ((W a b : ℝ) : EReal))
  (hX : ∀ (a : Fin 4096) (b : Fin 1024), x2 (ix2 a b) = ((X a b : ℝ) : EReal))
  (hG : ∀ (a : Fin 1) (b : Fin 1024), x3 (ix2 a b) = ((G 0 b : ℝ) : EReal))
  (hD : ∀ (a : Fin 4096) (b : Fin 1024), x4 (ix2 a b) = ((D a b : ℝ) : EReal))

include hX in
/-- A row's sum of squares. -/
theorem r3 (i : Fin 4096) : val_main_v3 x2 (ix1 i) = ((∑ k : Fin 1024, X i k * X i k : ℝ) : EReal) := by
  have e : ∀ (a : Fin 4096) (b : Fin 1024), val_main_v2 x2 (ix2 a b) = ((X a b * X a b : ℝ) : EReal) := by
    intro a b
    pointwise [val_main_v2]
    rw [hX, ← EReal.coe_mul]
  unfold val_main_v3
  revert e
  generalize val_main_v2 x2 = y
  intro e
  pointwise [val_main_cst]
  simp only [e, sum_coe]

include hX in
/-- The mean square, moved away from zero. -/
theorem r8 (i : Fin 4096) (j : Fin 1) : val_main_v8 x2 (ix2 i j) = ((ms X i : ℝ) : EReal) := by
  have e := r3 x2 X hX
  unfold val_main_v8 val_main_v6 val_main_v4
  revert e
  generalize val_main_v3 x2 = y
  intro e
  pointwise [val_main_v7, val_main_cst_1, val_main_v5, val_main_cst_0]
  rw [e, eps_f32, len_f32, div_real _ _ (by norm_num), ← EReal.coe_add]
  rfl

include hX in
/-- The norm's scale. -/
theorem r9 (i : Fin 4096) (j : Fin 1) : val_main_v9 x2 (ix2 i j) = ((rr X i : ℝ) : EReal) := by
  have e := r8 x2 X hX
  unfold val_main_v9
  revert e
  generalize val_main_v8 x2 = y
  intro e
  pointwise
  rw [e]
  exact rsqrt_pos _ (ms_pos X i)

include hX in
/-- The derivative of the norm's scale by the mean square. -/
theorem r12 (i : Fin 4096) (j : Fin 1) : val_main_v12 x2 (ix2 i j) = ((-(1 / 2) * (rr X i * rr X i * rr X i) : ℝ) : EReal) := by
  have e8 := r8 x2 X hX
  have e9 := r9 x2 X hX
  unfold val_main_v12 val_main_v10
  revert e8 e9
  generalize val_main_v8 x2 = y
  generalize val_main_v9 x2 = z
  intro e8 e9
  pointwise [val_main_v11, val_main_cst_2]
  rw [e8, e9, neg_half_f32, div_real _ _ (ms_pos X i).ne', rr_div, ← EReal.coe_mul]

include hX in
/-- The scaled rows. -/
theorem r14 (i : Fin 4096) (k : Fin 1024) : val_main_v14 x2 (ix2 i k) = ((X i k * rr X i : ℝ) : EReal) := by
  have e := r9 x2 X hX
  unfold val_main_v14 val_main_v13
  revert e
  generalize val_main_v9 x2 = y
  intro e
  pointwise
  rw [e, hX, ← EReal.coe_mul]

include hA hW in
/-- The cotangent of the norm. -/
theorem r19 (i : Fin 4096) (k : Fin 1024) : val_main_v19 x0 x1 (ix2 i k) = ((mm 1536 A W i k : ℝ) : EReal) := by
  pointwise [val_main_v19, val_main_v18, val_main_v1, val_main_v0]
  simp only [hA, hW, ← EReal.coe_mul, sum_coe]
  rfl

include hA hW hX in
/-- The gradient at the gain. -/
theorem r22 (j : Fin 1) (k : Fin 1024) : val_main_v22 x0 x1 x2 (ix2 j k) = ((dg 4096 X (mm 1536 A W) k : ℝ) : EReal) := by
  have e14 := r14 x2 X hX
  have e19 := r19 x0 x1 A W hA hW
  unfold val_main_v22 val_main_v21 val_main_v20
  revert e14 e19
  generalize val_main_v14 x2 = y
  generalize val_main_v19 x0 x1 = z
  intro e14 e19
  pointwise [val_main_cst_3]
  simp only [e14, e19, ← EReal.coe_mul, sum_coe]
  rw [EReal.coe_eq_coe_iff, dg]
  exact Finset.sum_congr rfl fun i _ => by rw [dgRow]; ring

include hA hW hG in
/-- The cotangent times the gain. -/
theorem r24 (i : Fin 4096) (k : Fin 1024) : val_main_v24 x0 x1 x3 (ix2 i k) = ((mm 1536 A W i k * G 0 k : ℝ) : EReal) := by
  have e := r19 x0 x1 A W hA hW
  unfold val_main_v24
  revert e
  generalize val_main_v19 x0 x1 = y
  intro e
  pointwise [val_main_v23]
  rw [e, hG, ← EReal.coe_mul]

include hA hW hX hG in
/-- The inner product of a row with its cotangent. -/
theorem r26 (i : Fin 4096) : val_main_v26 x0 x1 x2 x3 (ix1 i) = ((∑ k : Fin 1024, X i k * (mm 1536 A W i k * G 0 k) : ℝ) : EReal) := by
  have e := r24 x0 x1 x3 A W G hA hW hG
  unfold val_main_v26 val_main_v25
  revert e
  generalize val_main_v24 x0 x1 x3 = y
  intro e
  pointwise [val_main_cst_4]
  simp only [e, hX, ← EReal.coe_mul, sum_coe]

include hA hW hX hG in
/-- The share that comes through the mean square. -/
theorem r35 (i : Fin 4096) (k : Fin 1024) : val_main_v35 x0 x1 x2 x3 (ix2 i k)
    = (((∑ k : Fin 1024, X i k * (mm 1536 A W i k * G 0 k)) * (-(1 / 2) * (rr X i * rr X i * rr X i)) / 1024 : ℝ) : EReal) := by
  have e26 := r26 x0 x1 x2 x3 A W X G hA hW hX hG
  have e12 := r12 x2 X hX
  unfold val_main_v35 val_main_v34 val_main_v33 val_main_v31 val_main_v27
  revert e26 e12
  generalize val_main_v26 x0 x1 x2 x3 = y
  generalize val_main_v12 x2 = z
  intro e26 e12
  pointwise [val_main_v32, val_main_cst_5, val_main_cst_6]
  simp only [e26, e12, len_f32, ← EReal.coe_mul]
  rw [div_real _ _ (by norm_num)]
  exact Finset.sum_singleton _ _

include hA hW hX hG hD in
/-- The gradient at the norm's argument, with the residual's. -/
theorem r39 (i : Fin 4096) (k : Fin 1024) : val_main_v39 x0 x1 x2 x3 x4 (ix2 i k) = ((dx X G (mm 1536 A W) i k + D i k : ℝ) : EReal) := by
  have e9 := r9 x2 X hX
  have e24 := r24 x0 x1 x3 A W G hA hW hG
  have e35 := r35 x0 x1 x2 x3 A W X G hA hW hX hG
  unfold val_main_v39 val_main_v38 val_main_v37 val_main_v36 val_main_v30 val_main_v29 val_main_v28
  revert e9 e24 e35
  generalize val_main_v9 x2 = y
  generalize val_main_v24 x0 x1 x3 = z
  generalize val_main_v35 x0 x1 x2 x3 = w
  intro e9 e24 e35
  pointwise
  rw [e9, e24, e35, hX, hD]
  simp only [← EReal.coe_mul, ← EReal.coe_add]
  rw [EReal.coe_eq_coe_iff, dx, proj]
  have s : ∑ k : Fin 1024, X i k * (mm 1536 A W i k * G 0 k) = ∑ k : Fin 1024, mm 1536 A W i k * G 0 k * X i k :=
    Finset.sum_congr rfl fun k _ => mul_comm _ _
  rw [s]
  ring

end Cert.Reference15Ideal.Val
end
-- ==== Proof.KvVal.lean ====
/- The kernel of the shared key/value projection's gradient: the two arrays it leaves, from finite arguments. -/
module

public import proofs.«01_k».proof.Proof.RmsSpec
public import proofs.«01_k».proof.Proof.Gen.Kernel15Ideal.Value

@[expose] public section
set_option maxRecDepth 16384
noncomputable section
namespace Cert.Kernel15Ideal.Val
open Cert.Kernel15Ideal Cert.Kernel15Ideal.Gen Idealize.ShloMosaic Idealize.ShloMosaic.TcCoe Idealize.SL.Sem
open Idealize.ShloMosaic.Pipeline (Dat)
open Cert.Coe Cert.RmsSpec
open scoped BigOperators

section block
variable (x0 : Vec Ideal S256x1536 .bf16) (x1 : Vec Ideal S1536x1024 .bf16) (x2 : Vec Ideal S256x1024 .f32) (x3 : Vec Ideal S1x1024 .f32)
  (x4 : Vec Ideal S256x1024 .f32) (A W X G D : ℕ → ℕ → ℝ)

variable (h0 : ∀ (a : Fin 256) (b : Fin 1536), x0 (ix2 a b) = ((A a b : ℝ) : EReal))
  (h1 : ∀ (a : Fin 1536) (b : Fin 1024), x1 (ix2 a b) = ((W a b : ℝ) : EReal))
  (h2 : ∀ (a : Fin 256) (b : Fin 1024), x2 (ix2 a b) = ((X a b : ℝ) : EReal))
  (h3 : ∀ (a : Fin 1) (b : Fin 1024), x3 (ix2 a b) = ((G 0 b : ℝ) : EReal))
  (h4 : ∀ (a : Fin 256) (b : Fin 1024), x4 (ix2 a b) = ((D a b : ℝ) : EReal))

include h0 h1 in
/-- The cotangent of the norm: a product. -/
theorem p3 (a : Fin 256) (b : Fin 1024) : k0_pay3 x0 x1 (ix2 a b) = ((mm 1536 A W a b : ℝ) : EReal) := by
  pointwise [k0_pay3]
  simp only [h0, h1, ← EReal.coe_mul, sum_coe]
  rfl

include h0 h1 in
theorem p4 (a : Fin 256) (b : Fin 1024) : k0_pay4 x0 x1 (ix2 a b) = ((mm 1536 A W a b : ℝ) : EReal) := by
  pointwise [k0_pay4]
  simp only [h0, h1, ← EReal.coe_mul, sum_coe]
  rfl

include h2 in
/-- The norm's scale of a row. -/
theorem p5 (a : Fin 256) (b : Fin 1) : k0_pay5 x2 (ix2 a b) = ((rr X a : ℝ) : EReal) := by
  pointwise [k0_pay5]
  simp only [h2, ← EReal.coe_mul, sum_coe, eps_f32, len_f32]
  exact rsqrt_ms X a

include h2 in
theorem p9 (a : Fin 256) (b : Fin 1) : k0_pay9 x2 (ix2 a b) = ((rr X a : ℝ) : EReal) := by
  pointwise [k0_pay9]
  simp only [h2, ← EReal.coe_mul, sum_coe, eps_f32, len_f32]
  exact rsqrt_ms X a

include h0 h1 h2 h3 in
/-- The first half's gradient of the norm. -/
theorem p6 (a : Fin 256) (b : Fin 1024) : k0_pay6 x0 x1 x2 x3 (ix2 a b) = ((dx X G (mm 1536 A W) a b : ℝ) : EReal) := by
  pointwise [k0_pay6]
  simp only [p3 x0 x1 A W h0 h1, p5 x2 X h2, h2, h3, ← EReal.coe_mul, sum_coe, len_f32]
  rw [div_real _ _ (by norm_num), ← EReal.coe_mul, ← EReal.coe_sub]
  rfl

include h0 h1 h2 in
/-- The first half's share of the gradient at the gain. -/
theorem p7 (a : Fin 1) (b : Fin 1024) : k0_pay7 x0 x1 x2 (ix2 a b) = ((∑ i : Fin 256, dgRow X (mm 1536 A W) i b : ℝ) : EReal) := by
  pointwise [k0_pay7]
  simp only [p3 x0 x1 A W h0 h1, p5 x2 X h2, h2, ← EReal.coe_mul, sum_coe]
  rfl

include h4 in
/-- The first half's result: the residual's gradient is added. -/
theorem p8 (v : FVec Ideal S256x1024 .f32) (N : ℕ → ℕ → ℝ) (hv : ∀ (a : Fin 256) (b : Fin 1024), v (ix2 a b) = ((N a b : ℝ) : EReal)) (a : Fin 256) (b : Fin 1024) :
    k0_pay8 v x4 (ix2 a b) = ((N a b + D a b : ℝ) : EReal) := by
  pointwise [k0_pay8]
  simp only [hv, h4, ← EReal.coe_add]

include h2 h3 h4 in
/-- The second half's result. -/
theorem p10 (v : FVec Ideal S256x1024 .f32) (N : ℕ → ℕ → ℝ) (hv : ∀ (a : Fin 256) (b : Fin 1024), v (ix2 a b) = ((N a b : ℝ) : EReal)) (a : Fin 256) (b : Fin 1024) :
    k0_pay10 v x2 x3 x4 (ix2 a b) = ((dx X G N a b + D a b : ℝ) : EReal) := by
  pointwise [k0_pay10]
  simp only [hv, p9 x2 X h2, h2, h3, h4, ← EReal.coe_mul, sum_coe, len_f32]
  rw [div_real _ _ (by norm_num), ← EReal.coe_mul, ← EReal.coe_sub, ← EReal.coe_add]
  rfl

include h2 in
/-- Both halves' share of the gradient at the gain. -/
theorem p11 (v : FVec Ideal S256x1024 .f32) (N : ℕ → ℕ → ℝ) (hv : ∀ (a : Fin 256) (b : Fin 1024), v (ix2 a b) = ((N a b : ℝ) : EReal))
    (w : FVec Ideal S1x1024 .f32) (z : ℕ → ℝ) (hw : ∀ (a : Fin 1) (b : Fin 1024), w (ix2 a b) = ((z b : ℝ) : EReal)) (a : Fin 1) (b : Fin 1024) :
    k0_pay11 v w x2 (ix2 a b) = ((z b + ∑ i : Fin 256, dgRow X N i b : ℝ) : EReal) := by
  pointwise [k0_pay11]
  simp only [hv, hw, p9 x2 X h2, h2, ← EReal.coe_mul, sum_coe, zero_f32, ← EReal.coe_add, zero_add]
  rfl

end block

/-- The gain's gradient starts at zero. -/
theorem p1 (a : Fin 1) (b : Fin 1024) : (k0_pay1 : FVec Ideal S1x1024 .f32) (ix2 a b) = 0 := by
  pointwise [k0_pay1]

/-- A tile's share is added to what is there. -/
theorem p2 (v : FVec Ideal S1x1024 .f32) (w : Vec Ideal S1x1024 .f32) (a : Fin 1) (b : Fin 1024) : k0_pay2 v w (ix2 a b) = w (ix2 a b) + v (ix2 a b) := by
  pointwise [k0_pay2]

/-- The block indices at point `t`. -/
theorem idx : ∀ t : Fin cfg0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0] :=
  (by decide +kernel : ∀ t : Fin grid0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0])

/-- Eight grid points. -/
theorem t_lt (t : Fin cfg0.N) : (t : ℕ) < 8 := lt_of_lt_of_eq t.isLt (by decide : grid0.N = 8)

variable (m : (ℓ : Loc nD τ sig) → Buf (Elt Ideal) ℓ) (c : Dev nD) (A W X G D : ℕ → ℕ → ℝ)

variable (hA : ∀ (a : Fin 4096) (b : Fin 1536), m ((c : Thread nD τ).loc main_arg0) (ix2 a b) = ((A a b : ℝ) : EReal))
  (hW : ∀ (a : Fin 1536) (b : Fin 1024), m ((c : Thread nD τ).loc main_arg1) (ix2 a b) = ((W a b : ℝ) : EReal))
  (hX : ∀ (a : Fin 4096) (b : Fin 1024), m ((c : Thread nD τ).loc main_arg2) (ix2 a b) = ((X a b : ℝ) : EReal))
  (hG : ∀ (a : Fin 1) (b : Fin 1024), m ((c : Thread nD τ).loc main_arg3) (ix2 a b) = ((G 0 b : ℝ) : EReal))
  (hD : ∀ (a : Fin 4096) (b : Fin 1024), m ((c : Thread nD τ).loc main_arg4) (ix2 a b) = ((D a b : ℝ) : EReal))

include hA in
theorem blk0 (t : Fin cfg0.N) (a : Fin 512) (b : Fin 1536) : iblk m c 0 t (ix2 a b) = ((rows A (512 * t) a b : ℝ) : EReal) := by
  have ht := t_lt t
  rw [rows, ← hA ⟨512 * t + a, by omega⟩ b]
  blk_ext [iblk, V, idx t]

include hW in
theorem blk1 (t : Fin cfg0.N) (a : Fin 1536) (b : Fin 1024) : iblk m c 1 t (ix2 a b) = ((W a b : ℝ) : EReal) := by
  rw [← hW a b]
  blk_ext [iblk, V, idx t]

include hX in
theorem blk2 (t : Fin cfg0.N) (a : Fin 512) (b : Fin 1024) : iblk m c 2 t (ix2 a b) = ((rows X (512 * t) a b : ℝ) : EReal) := by
  have ht := t_lt t
  rw [rows, ← hX ⟨512 * t + a, by omega⟩ b]
  blk_ext [iblk, V, idx t]

include hG in
theorem blk3 (t : Fin cfg0.N) (a : Fin 1) (b : Fin 1024) : iblk m c 3 t (ix2 a b) = ((G 0 b : ℝ) : EReal) := by
  rw [← hG a b]
  blk_ext [iblk, V, idx t]

include hD in
theorem blk4 (t : Fin cfg0.N) (a : Fin 512) (b : Fin 1024) : iblk m c 4 t (ix2 a b) = ((rows D (512 * t) a b : ℝ) : EReal) := by
  have ht := t_lt t
  rw [rows, ← hD ⟨512 * t + a, by omega⟩ b]
  blk_ext [iblk, V, idx t]

include hA in
theorem blk0l (t : Fin cfg0.N) (a : Fin 256) (b : Fin 1536) :
    View.ld (iblk m c 0 t) (Rect.unit (s := S512x1536) ![0, 0] ![256, 1536] inb_S512x1536_S256x1536_0_0) (ix2 a b) = ((rows A (512 * t + 0) a b : ℝ) : EReal) := by
  have e := blk0 m c A hA t ⟨0 + a, by omega⟩ b
  rw [rows] at e ⊢
  rw [Nat.add_assoc, ← e]
  clear e
  generalize iblk m c _ t = u
  pointwise
  try blk_ext

include hA in
theorem blk0h (t : Fin cfg0.N) (a : Fin 256) (b : Fin 1536) :
    View.ld (iblk m c 0 t) (Rect.unit (s := S512x1536) ![256, 0] ![256, 1536] inb_S512x1536_S256x1536_256_0) (ix2 a b) = ((rows A (512 * t + 256) a b : ℝ) : EReal) := by
  have e := blk0 m c A hA t ⟨256 + a, by omega⟩ b
  rw [rows] at e ⊢
  rw [Nat.add_assoc, ← e]
  clear e
  generalize iblk m c _ t = u
  pointwise
  try blk_ext

include hX in
theorem blk2l (t : Fin cfg0.N) (a : Fin 256) (b : Fin 1024) :
    View.ld (iblk m c 2 t) (Rect.unit (s := S512x1024) ![0, 0] ![256, 1024] inb_S512x1024_S256x1024_0_0) (ix2 a b) = ((rows X (512 * t + 0) a b : ℝ) : EReal) := by
  have e := blk2 m c X hX t ⟨0 + a, by omega⟩ b
  rw [rows] at e ⊢
  rw [Nat.add_assoc, ← e]
  clear e
  generalize iblk m c _ t = u
  pointwise
  try blk_ext

include hX in
theorem blk2h (t : Fin cfg0.N) (a : Fin 256) (b : Fin 1024) :
    View.ld (iblk m c 2 t) (Rect.unit (s := S512x1024) ![256, 0] ![256, 1024] inb_S512x1024_S256x1024_256_0) (ix2 a b) = ((rows X (512 * t + 256) a b : ℝ) : EReal) := by
  have e := blk2 m c X hX t ⟨256 + a, by omega⟩ b
  rw [rows] at e ⊢
  rw [Nat.add_assoc, ← e]
  clear e
  generalize iblk m c _ t = u
  pointwise
  try blk_ext

include hD in
theorem blk4l (t : Fin cfg0.N) (a : Fin 256) (b : Fin 1024) :
    View.ld (iblk m c 4 t) (Rect.unit (s := S512x1024) ![0, 0] ![256, 1024] inb_S512x1024_S256x1024_0_0) (ix2 a b) = ((rows D (512 * t + 0) a b : ℝ) : EReal) := by
  have e := blk4 m c D hD t ⟨0 + a, by omega⟩ b
  rw [rows] at e ⊢
  rw [Nat.add_assoc, ← e]
  clear e
  generalize iblk m c _ t = u
  pointwise
  try blk_ext

include hD in
theorem blk4h (t : Fin cfg0.N) (a : Fin 256) (b : Fin 1024) :
    View.ld (iblk m c 4 t) (Rect.unit (s := S512x1024) ![256, 0] ![256, 1024] inb_S512x1024_S256x1024_256_0) (ix2 a b) = ((rows D (512 * t + 256) a b : ℝ) : EReal) := by
  have e := blk4 m c D hD t ⟨256 + a, by omega⟩ b
  rw [rows] at e ⊢
  rw [Nat.add_assoc, ← e]
  clear e
  generalize iblk m c _ t = u
  pointwise
  try blk_ext

/-- One tile's share of the gradient at the gain. -/
def part (n : ℕ) (k : ℕ) : ℝ := (∑ i : Fin 256, dgRow X (mm 1536 A W) (512 * n + i) k) + ∑ i : Fin 256, dgRow X (mm 1536 A W) (512 * n + 256 + i) k

include hA hW hX in
theorem part_pay (t : Fin cfg0.N) (w : Vec Ideal S1x1024 .f32) (a : Fin 1) (b : Fin 1024) : k0_pay2
      (k0_pay11
        (k0_pay4 (View.ld (iblk m c 0 t) (Rect.unit ![256, 0] ![256, 1536] inb_S512x1536_S256x1536_256_0))
          (iblk m c 1 t))
        (k0_pay7 (View.ld (iblk m c 0 t) (Rect.unit ![0, 0] ![256, 1536] inb_S512x1536_S256x1536_0_0)) (iblk m c 1 t)
          (View.ld (iblk m c 2 t) (Rect.unit ![0, 0] ![256, 1024] inb_S512x1024_S256x1024_0_0)))
        (View.ld (iblk m c 2 t) (Rect.unit ![256, 0] ![256, 1024] inb_S512x1024_S256x1024_256_0)))
      w (ix2 a b) = w (ix2 a b) + ((part A W X t b : ℝ) : EReal) := by
  have e4 := p4 _ _ _ _ (blk0h m c A hA t) (blk1 m c W hW t)
  have e7 := p7 _ _ _ _ _ _ (blk0l m c A hA t) (blk1 m c W hW t) (blk2l m c X hX t)
  have e := p11 _ _ (blk2h m c X hX t) _ _ e4 _ (fun b => ∑ i : Fin 256, dgRow (rows X (512 * t + 0)) (mm 1536 (rows A (512 * t + 0)) W) i b) e7 a b
  exact (p2 _ w a b).trans (congrArg (w (ix2 a b) + ·) e)

include hA hW hX in
/-- The gradient at the gain. -/
theorem final6 : (dats m 0 c).arrAt 6 cfg0.N = fun i : S1x1024.Idx => ((dg 4096 X (mm 1536 A W) (i 1 : ℕ) : ℝ) : EReal) := by
  refine (dats m 0 c).arrAt_eq_of_covers 6 _ (by decide +kernel) fun t hf y => ?_
  blk_simp
  rw [after0_6, Pipeline.eq_sum_fin_of_reset_step_apply_of_flush (fun n h => (outsAt0 m c n h).2) 8 (fun _ => 0)
    (fun t j => ((part A W X t (j 1 : ℕ) : ℝ) : EReal))
    (fun t h j => by rw [outsAt0_A m c t h]; frame_out; idx_vars j; exact (part_pay m c A W X hA hW hX t _ j0 j1).trans (congrArg (· + _) (p1 j0 j1)))
    (fun t h j => by rw [outsAt0_B m c t h]; frame_out; idx_vars j; exact part_pay m c A W X hA hW hX t _ j0 j1)
    t ((flush0_6 t).mp hf) _, zero_add]
  have ht := t_lt t
  have h7 := (flush0_6 t).mp hf
  idx_vars y
  rw [(idx t).2.2.2.2.2.2]
  show (_ : EReal) = ((dg 4096 X (mm 1536 A W) (0 * 1024 + (y1 : ℕ)) : ℝ) : EReal)
  refine (sum_coe _).trans (congrArg _ ?_)
  rw [dg, show 0 * 1024 + (y1 : ℕ) = y1 by omega]
  refine Eq.trans ?_ (sum_tiles 8 256 fun i => dgRow X (mm 1536 A W) i y1)
  refine Finset.sum_congr rfl fun s _ => ?_
  show part A W X (8 * ((t : ℕ) / 8) + s) y1 = _
  rw [show 8 * ((t : ℕ) / 8) + (s : ℕ) = s by omega]
  rfl

include hA hW hX hG hD in
/-- The gradient at the norm's argument, with the residual's. -/
theorem final5 : (dats m 0 c).arrAt 5 cfg0.N = fun i : S4096x1024.Idx => ((dx X G (mm 1536 A W) (i 0 : ℕ) (i 1 : ℕ) + D (i 0 : ℕ) (i 1 : ℕ) : ℝ) : EReal) := by
  refine (dats m 0 c).arrAt_eq_of_covers 5 _ (by decide +kernel) fun t hf y => ?_
  blk_simp
  rw [after0_5, (idx t).2.2.2.2.2.1]
  show _ = ((dx X G (mm 1536 A W) ((t : ℕ) * 512 + (y 0 : ℕ)) (0 * 1024 + (y 1 : ℕ)) + D ((t : ℕ) * 512 + (y 0 : ℕ)) (0 * 1024 + (y 1 : ℕ)) : ℝ) : EReal)
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay8 (k0_pay6 (View.ld (iblk m c 0 t) (Rect.unit ![0, 0] ![256, 1536] inb_S512x1536_S256x1536_0_0))
      (iblk m c 1 t) (View.ld (iblk m c 2 t) (Rect.unit ![0, 0] ![256, 1024] inb_S512x1024_S256x1024_0_0)) (iblk m c 3 t))
      (View.ld (iblk m c 4 t) (Rect.unit ![0, 0] ![256, 1024] inb_S512x1024_S256x1024_0_0)) x
      = ((dx X G (mm 1536 A W) (512 * (t : ℕ) + (y 0 : ℕ)) (y 1 : ℕ) + D (512 * (t : ℕ) + (y 0 : ℕ)) (y 1 : ℕ) : ℝ) : EReal) := by
    intro x h0 h1
    rw [h0, h1]
    idx_vars x
    exact p8 _ _ (blk4l m c D hD t) _ _ (p6 _ _ _ _ _ _ _ _ (blk0l m c A hA t) (blk1 m c W hW t) (blk2l m c X hX t) (blk3 m c G hG t)) x0 x1
  have hi : ∀ (x : S256x1024.Idx) (h0 : (y 0 : ℕ) = 256 + x 0) (h1 : (y 1 : ℕ) = x 1), k0_pay10
      (k0_pay4 (View.ld (iblk m c 0 t) (Rect.unit ![256, 0] ![256, 1536] inb_S512x1536_S256x1536_256_0)) (iblk m c 1 t))
      (View.ld (iblk m c 2 t) (Rect.unit ![256, 0] ![256, 1024] inb_S512x1024_S256x1024_256_0)) (iblk m c 3 t)
      (View.ld (iblk m c 4 t) (Rect.unit ![256, 0] ![256, 1024] inb_S512x1024_S256x1024_256_0)) x
      = ((dx X G (mm 1536 A W) (512 * (t : ℕ) + (y 0 : ℕ)) (y 1 : ℕ) + D (512 * (t : ℕ) + (y 0 : ℕ)) (y 1 : ℕ) : ℝ) : EReal) := by
    intro x h0 h1
    rw [h0, h1, ← Nat.add_assoc]
    idx_vars x
    exact p10 _ _ _ _ _ _ (blk2h m c X hX t) (blk3 m c G hG t) (blk4h m c D hD t) _ _ (p4 _ _ _ _ (blk0h m c A hA t) (blk1 m c W hW t)) x0 x1
  by_cases h : (t : ℕ) % 8 = 0
  · rw [outsAt0_A m c t h]; frame_out
    canon_tiles x h
    · exact hi x (by omega) (by omega)
    · exact lo x (by omega) (by omega)
  · rw [outsAt0_B m c t h]; frame_out
    canon_tiles x h
    · exact hi x (by omega) (by omega)
    · exact lo x (by omega) (by omega)

end Cert.Kernel15Ideal.Val
end
-- ==== Proof.KvClaim.lean ====
/- The gradient of the shared key/value projection and its norm: the kernel's results are the reference's, from finite arguments. -/
module

public import proofs.«01_k».proof.Proof.KvRef
public import proofs.«01_k».proof.Proof.KvVal
public import proofs.«01_k».proof.Proof.Gen.Pre_kv_finite
public import proofs.«01_k».proof.Defs
public import Idealize.ShloMosaic.Lib.Claim

@[expose] public section
set_option maxRecDepth 16384
noncomputable section
namespace Cert.KvClaim
open Idealize.ShloMosaic Idealize.ShloMosaic.TcCoe Idealize.SL.Sem
open Cert.Coe

/-- Finite arguments are real numbers. -/
theorem reals (x0 : Vec Ideal Cert.Pre_kv_finite.S4096x1536 .bf16) (x1 : Vec Ideal Cert.Pre_kv_finite.S1536x1024 .bf16) (x2 : Vec Ideal Cert.Pre_kv_finite.S4096x1024 .f32) (x3 : Vec Ideal Cert.Pre_kv_finite.S1x1024 .f32) (x4 : Vec Ideal Cert.Pre_kv_finite.S4096x1024 .f32)
    (h : (Cert.Pre_kv_finite.fn (F := Ideal) x0 x1 x2 x3 x4).1 = (fun _ => 1#1)
      ∧ (Cert.Pre_kv_finite.fn (F := Ideal) x0 x1 x2 x3 x4).2.1 = (fun _ => 1#1)
      ∧ (Cert.Pre_kv_finite.fn (F := Ideal) x0 x1 x2 x3 x4).2.2.1 = (fun _ => 1#1)
      ∧ (Cert.Pre_kv_finite.fn (F := Ideal) x0 x1 x2 x3 x4).2.2.2.1 = (fun _ => 1#1)
      ∧ (Cert.Pre_kv_finite.fn (F := Ideal) x0 x1 x2 x3 x4).2.2.2.2 = (fun _ => 1#1)) :
    ∃ A W X G D : ℕ → ℕ → ℝ, (∀ (a : Fin 4096) (b : Fin 1536), x0 (ix2 a b) = ((A a b : ℝ) : EReal))
      ∧ (∀ (a : Fin 1536) (b : Fin 1024), x1 (ix2 a b) = ((W a b : ℝ) : EReal))
      ∧ (∀ (a : Fin 4096) (b : Fin 1024), x2 (ix2 a b) = ((X a b : ℝ) : EReal))
      ∧ (∀ (a : Fin 1) (b : Fin 1024), x3 (ix2 a b) = ((G 0 b : ℝ) : EReal))
      ∧ (∀ (a : Fin 4096) (b : Fin 1024), x4 (ix2 a b) = ((D a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2.1 (ix2 a b)
    rw [← top_f32]
    exact this)
  have e2 : ∀ a b, ∃ r : ℝ, x2 (ix2 a b) = (r : EReal) := fun a b => real_of_cmpf (φ := .f32) (x2 (ix2 a b)) (by
    have := congrFun h.2.2.1 (ix2 a b)
    rw [← top_f32]
    exact this)
  have e3 : ∀ a b, ∃ r : ℝ, x3 (ix2 a b) = (r : EReal) := fun a b => real_of_cmpf (φ := .f32) (x3 (ix2 a b)) (by
    have := congrFun h.2.2.2.1 (ix2 a b)
    rw [← top_f32]
    exact this)
  have e4 : ∀ a b, ∃ r : ℝ, x4 (ix2 a b) = (r : EReal) := fun a b => real_of_cmpf (φ := .f32) (x4 (ix2 a b)) (by
    have := congrFun h.2.2.2.2 (ix2 a b)
    rw [← top_f32]
    exact this)
  obtain ⟨A, hA⟩ := real_mat (fun a b => x0 (ix2 a b)) e0
  obtain ⟨W, hW⟩ := real_mat (fun a b => x1 (ix2 a b)) e1
  obtain ⟨X, hX⟩ := real_mat (fun a b => x2 (ix2 a b)) e2
  obtain ⟨G, hG⟩ := real_mat (fun a b => x3 (ix2 a b)) e3
  obtain ⟨D, hD⟩ := real_mat (fun a b => x4 (ix2 a b)) e4
  exact ⟨A, W, X, G, D, hA, hW, hX, fun a b => (congrArg (fun a => x3 (ix2 a b)) (Subsingleton.elim a 0)).trans (hG 0 b), hD⟩

/-- The kernel's results are the reference's. -/
theorem algebraic : Cert.algebraic_Kernel15Ideal_Reference15Ideal_pre_kv_finite := by
  pair_intro
  · run_from Cert.Kernel15Ideal.Gen.run_main m g
  · refine (θ_run _ _ _).mono (fun r h c => ?_) (Cert.Reference15Ideal.Value.run m' g')
    obtain ⟨A, W, X, G, D, hA, hW, hX, hG, hD⟩ := reals _ _ _ _ _ (hpre c)
    obtain ⟨a0, a1, a2, a3, a4⟩ := hagree c
    refine ⟨(h c).1.trans ?_, (h c).2.1.trans ?_, (h c).2.2⟩
    · refine (Reference15Ideal.Read.val_main_v39_eq m' c).trans ?_
      rw [a0, a1, a2, a3, a4]
      refine Eq.trans ?_ (Kernel15Ideal.Val.final5 m c A W X G D hA hW hX hG hD).symm
      funext i
      idx_vars i
      exact Reference15Ideal.Val.r39 _ _ _ _ _ A W X G D hA hW hX hG hD i0 i1
    · refine (Reference15Ideal.Read.val_main_v22_eq _ _ _ ).trans ?_
      rw [a0, a1, a2]
      refine Eq.trans ?_ (Kernel15Ideal.Val.final6 m c A W X hA hW hX).symm
      funext i
      idx_vars i
      exact Reference15Ideal.Val.r22 _ _ _ A W X hA hW hX i0 i1

end Cert.KvClaim
end
-- ==== Proof.RopeSpec.lean ====
/- The rotation over the extended reals: the angles, and pairs of columns 32 apart turned by them. -/
module

public import proofs.«01_k».proof.Proof.FwdSpec

@[expose] public section
set_option maxRecDepth 16384
noncomputable section
namespace Cert.RopeSpec
open Idealize.ShloMosaic Idealize.ShloMosaic.TcCoe
open scoped BigOperators

/-- The angle of position `w` in pair `j`. -/
def angW (w : BitVec 32) (j : ℕ) : EReal :=
  (FloatOps.sitofp (F := Ideal) FTy.f32 w : EReal) *
    Ideal.pow (Ideal.ofBits .f32 1176256512#32)
      (Ideal.div (-(FloatOps.sitofp (F := Ideal) FTy.f32 (BitVec.ofNat 32 j) : EReal)) (Ideal.ofBits .f32 1107296256#32))

/-- The angle of row `i`, the rows being two sequences of 2048 positions. -/
def angE (P : ℕ → ℕ → BitVec 32) (i j : ℕ) : EReal := angW (P (i / 2048) (i % 2048)) j

/-- Its cosine. -/
def cosE (P : ℕ → ℕ → BitVec 32) (i j : ℕ) : EReal := Ideal.cos (angE P i j)

/-- Its sine. -/
def sinE (P : ℕ → ℕ → BitVec 32) (i j : ℕ) : EReal := Ideal.sin (angE P i j)

/-- The sine with the sign of the first half of each head turned. -/
def sgnE (S : ℕ → ℕ → EReal) (i l : ℕ) : EReal := if l % 64 < 32 then -S i (l % 32) else S i (l % 32)

/-- Column `k` of row `i` rotated, with its partner 32 columns on or back. -/
def rotE (Z C S : ℕ → ℕ → EReal) (i k : ℕ) : EReal :=
  Z i k * C i (k % 32) + (if k % 64 < 32 then Z i (k + 32) else Z i (k - 32)) * sgnE S i k

/-- Integers of an array as a function of its coordinates. -/
theorem bits_of {R C : ℕ} (f : Fin R → Fin C → BitVec 32) : ∃ Z : ℕ → ℕ → BitVec 32, ∀ (a : Fin R) (b : Fin C), f a b = Z a b :=
  ⟨fun a b => if h : a < R ∧ b < C then f ⟨a, h.1⟩ ⟨b, h.2⟩ else 0, fun a b => by simp [a.isLt, b.isLt]⟩

/-- The first half of a head: the reference subtracts. -/
theorem rot_first (z z' c s : EReal) : z * c - z' * s = z * c + z' * -s := by rw [mul_neg, sub_eq_add_neg]

/-- The lanes whose place in the head is in its first half, as the kernel finds them. -/
theorem mask : ∀ b : Fin 768, (IntOp.cmpi CmpIPredicate.slt
            (Scalar.select
              (IntOp.andi
                (IntOp.xori
                  (IntOp.cmpi CmpIPredicate.slt
                    (IntOp.remsi ArithUnit.vector (BitVec.ofNat 32 (b : ℕ))
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 (b : ℕ))
                    (Scalar.select (Scalar.cmpi CmpIPredicate.eq 64#32 0#32) 1#32 64#32))
                  0#32))
              (IntOp.addi
                (IntOp.remsi ArithUnit.vector (BitVec.ofNat 32 (b : ℕ))
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 (b : ℕ))
                (Scalar.select (Scalar.cmpi CmpIPredicate.eq 64#32 0#32) 1#32 64#32)))
            32#32) = if (b : ℕ) % 64 < 32 then 1#1 else 0#1 := by
  decide +kernel

end Cert.RopeSpec
end
-- ==== Proof.InRopeClaim.lean ====
/- The mixer's input projection with rotated queries: the kernel's tiles are the reference's normed rows, their product with the weight, and its first columns rotated. -/
module

public import proofs.«01_k».proof.Proof.RopeSpec
public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.StableHlo.ReadAt
public import Idealize.ShloMosaic.Lib.Claim

@[expose] public section
set_option maxRecDepth 16384
noncomputable section
namespace Cert.InRopeClaim
open Idealize.ShloMosaic Idealize.ShloMosaic.TcCoe Idealize.SL.Sem
open Cert.Coe Cert.FwdSpec Cert.RopeSpec
open scoped BigOperators

section kernel
open Cert.Kernel16Ideal Cert.Kernel16Ideal.Gen
open Idealize.ShloMosaic.Pipeline (Dat)

section block
variable (x0 : Vec Ideal S256x1024 .f32) (x1 : Vec Ideal S1x1024 .f32) (x2 : Vec Ideal S1024x1024 .bf16) (X G W : ℕ → ℕ → EReal)
variable (h0 : ∀ (a : Fin 256) (b : Fin 1024), x0 (ix2 a b) = X a b) (h1 : ∀ (a : Fin 1) (b : Fin 1024), x1 (ix2 a b) = G 0 b)
  (h2 : ∀ (a : Fin 1024) (b : Fin 1024), x2 (ix2 a b) = W a b)

include h0 h1 in
/-- The first half's normed rows. -/
theorem p2 (a : Fin 256) (b : Fin 1024) : k0_pay2 x0 x1 (ix2 a b) = normE X G a b := by
  pointwise [k0_pay2]
  simp only [h0, h1]
  rfl

include h0 h1 in
/-- The second half's normed rows. -/
theorem p3 (a : Fin 256) (b : Fin 1024) : k0_pay3 x0 x1 (ix2 a b) = normE X G a b := by
  pointwise [k0_pay3]
  simp only [h0, h1]
  rfl

include h0 h1 h2 in
/-- The first half's product. -/
theorem p4 (a : Fin 256) (b : Fin 1024) : k0_pay4 x0 x1 x2 (ix2 a b) = mmE 1024 (normE X G) W a b := by
  pointwise [k0_pay4]
  simp only [p2 x0 x1 X G h0 h1, h2]
  rfl

include h0 h1 h2 in
/-- The second half's product. -/
theorem p5 (a : Fin 256) (b : Fin 1024) : k0_pay5 (k0_pay3 x0 x1) x2 (ix2 a b) = mmE 1024 (normE X G) W a b := by
  pointwise [k0_pay5]
  simp only [p3 x0 x1 X G h0 h1, h2]
  rfl

include h0 h1 h2 in
/-- The first half's product, rounded. -/
theorem p6 (a : Fin 256) (b : Fin 1024) : k0_pay6 (k0_pay4 x0 x1 x2) (ix2 a b) = mmE 1024 (normE X G) W a b := by
  pointwise [k0_pay6]
  exact p4 x0 x1 x2 X G W h0 h1 h2 a b

include h0 h1 h2 in
/-- The second half's product, rounded. -/
theorem p8 (a : Fin 256) (b : Fin 1024) : k0_pay8 (k0_pay3 x0 x1) x2 (ix2 a b) = mmE 1024 (normE X G) W a b := by
  pointwise [k0_pay8]
  exact p5 x0 x1 x2 X G W h0 h1 h2 a b

end block

section rotation
/-- A table of 128 lanes six times side by side, where its second head is as its first. -/
theorem cat (x : Vec Ideal S256x128 .f32) (a : Fin 256) (F : ℕ → EReal) (h : ∀ l : Fin 128, x (ix2 a l) = F ((l : ℕ) % 64)) (b : Fin 768) :
    (if h : (b : ℕ) < 128 then x (ix2 a ⟨b, h⟩)
      else if h : (b : ℕ) - 128 < 128 then x (ix2 a ⟨(b : ℕ) - 128, h⟩)
      else if h : (b : ℕ) - 128 - 128 < 128 then x (ix2 a ⟨(b : ℕ) - 128 - 128, h⟩)
      else if h : (b : ℕ) - 128 - 128 - 128 < 128 then x (ix2 a ⟨(b : ℕ) - 128 - 128 - 128, h⟩)
      else if h : (b : ℕ) - 128 - 128 - 128 - 128 < 128 then x (ix2 a ⟨(b : ℕ) - 128 - 128 - 128 - 128, h⟩)
      else x (ix2 a ⟨(b : ℕ) - 128 - 128 - 128 - 128 - 128, by omega⟩)) = F ((b : ℕ) % 64) := by
  split_ifs <;> rw [h] <;> congr 1 <;> dsimp only <;> omega

variable (z : FVec Ideal S256x1024 .f32) (c3 c4 : Vec Ideal S256x128 .f32) (Z C S : ℕ → ℕ → EReal)
variable (hz : ∀ (a : Fin 256) (b : Fin 1024), z (ix2 a b) = Z a b) (h3 : ∀ (a : Fin 256) (l : Fin 128), c3 (ix2 a l) = C a (l % 32))
  (h4 : ∀ (a : Fin 256) (l : Fin 128), c4 (ix2 a l) = sgnE S a l)

include hz h3 h4 in
/-- The first half's first 768 columns rotated. -/
theorem rot7 (a : Fin 256) (b : Fin 768) : k0_pay7 z c3 c4 (ix2 a b) = rotE Z C S a b := by
  have e3 := cat c3 a (fun l => C a (l % 32)) (by intro l; rw [h3]; show C a _ = C a _; congr 1; omega) b
  have e4 := cat c4 a (fun l => sgnE S a l) (by
    intro l
    rw [h4]
    unfold sgnE
    rw [show (l : ℕ) % 64 % 64 = l % 64 by omega, show (l : ℕ) % 64 % 32 = l % 32 by omega]) b
  have em := mask b
  pointwise [k0_pay7]
  rw [e3, e4, em]
  simp only [hz]
  unfold rotE
  have s1 : ∀ u v : EReal, Scalar.select 1#1 u v = u := fun _ _ => rfl
  have s0 : ∀ u v : EReal, Scalar.select 0#1 u v = v := fun _ _ => rfl
  have g1 : sgnE S a (b % 64) = sgnE S a b := by
    unfold sgnE
    rw [show (b : ℕ) % 64 % 64 = b % 64 by omega, show (b : ℕ) % 64 % 32 = b % 32 by omega]
  rw [g1]
  show Z a b * C a (b % 64 % 32) + _ = _
  rw [show (b : ℕ) % 64 % 32 = b % 32 by omega]
  by_cases hb : (b : ℕ) % 64 < 32
  · rw [if_pos hb, if_pos hb, s1]
    rw [show ((b : ℕ) + 768 - 736) % 768 = b + 32 by omega]
  · rw [if_neg hb, if_neg hb, s0]
    rw [show ((b : ℕ) + 768 - 32) % 768 = b - 32 by omega]

include hz h3 h4 in
/-- The second half's first 768 columns rotated. -/
theorem rot1 (a : Fin 256) (b : Fin 768) : k0_pay1 z c3 c4 (ix2 a b) = rotE Z C S a b := by
  have e3 := cat c3 a (fun l => C a (l % 32)) (by intro l; rw [h3]; show C a _ = C a _; congr 1; omega) b
  have e4 := cat c4 a (fun l => sgnE S a l) (by
    intro l
    rw [h4]
    unfold sgnE
    rw [show (l : ℕ) % 64 % 64 = l % 64 by omega, show (l : ℕ) % 64 % 32 = l % 32 by omega]) b
  have em := mask b
  pointwise [k0_pay1]
  rw [e3, e4, em]
  simp only [hz]
  unfold rotE
  have s1 : ∀ u v : EReal, Scalar.select 1#1 u v = u := fun _ _ => rfl
  have s0 : ∀ u v : EReal, Scalar.select 0#1 u v = v := fun _ _ => rfl
  have g1 : sgnE S a (b % 64) = sgnE S a b := by
    unfold sgnE
    rw [show (b : ℕ) % 64 % 64 = b % 64 by omega, show (b : ℕ) % 64 % 32 = b % 32 by omega]
  rw [g1]
  show Z a b * C a (b % 64 % 32) + _ = _
  rw [show (b : ℕ) % 64 % 32 = b % 32 by omega]
  by_cases hb : (b : ℕ) % 64 < 32
  · rw [if_pos hb, if_pos hb, s1]
    rw [show ((b : ℕ) + 768 - 736) % 768 = b + 32 by omega]
  · rw [if_neg hb, if_neg hb, s0]
    rw [show ((b : ℕ) + 768 - 32) % 768 = b - 32 by omega]

end rotation

/-- The block indices at point `t`. -/
theorem idx : ∀ t : Fin cfg0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] ∧ win0_6.index t = ![(t : ℕ), 0] ∧ win0_7.index t = ![(t : ℕ), 0] :=
  (by decide +kernel : ∀ t : Fin grid0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] ∧ win0_6.index t = ![(t : ℕ), 0] ∧ win0_7.index t = ![(t : ℕ), 0])

/-- The number of grid points. -/
theorem t_lt (t : Fin cfg0.N) : (t : ℕ) < 8 := lt_of_lt_of_eq t.isLt (by decide : grid0.N = 8)

/-- The lower half of a loaded block. -/
theorem ld_f32_1024_0 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_1024_256 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

/-- The lower half of a loaded block. -/
theorem ld_f32_128_0 (u : Vec Ideal S512x128 .f32) (F : ℕ → ℕ → EReal) (s : ℕ) (e : ∀ (a : Fin 512) (b : Fin 128), u (ix2 a b) = rowsE F s a b) (a : Fin 256) (b : Fin 128) :
    View.ld u (Rect.unit (s := S512x128) ![0, 0] ![256, 128] inb_S512x128_S256x128_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_128_256 (u : Vec Ideal S512x128 .f32) (F : ℕ → ℕ → EReal) (s : ℕ) (e : ∀ (a : Fin 512) (b : Fin 128), u (ix2 a b) = rowsE F s a b) (a : Fin 256) (b : Fin 128) :
    View.ld u (Rect.unit (s := S512x128) ![256, 0] ![256, 128] inb_S512x128_S256x128_256_0) (ix2 a b) = rowsE F (s + 256) a b := by
  have e := e ⟨256 + a, by omega⟩ b
  rw [rowsE] at e ⊢
  rw [Nat.add_assoc, ← e]
  clear e
  pointwise
  try blk_ext

variable (m : (ℓ : Loc nD τ sig) → Buf (Elt Ideal) ℓ) (c : Dev nD) (X G W : ℕ → ℕ → EReal) (P : ℕ → ℕ → BitVec 32)
variable (hX : ∀ (a : Fin 4096) (b : Fin 1024), m ((c : Thread nD τ).loc main_arg0) (ix2 a b) = X a b)
  (hG : ∀ (a : Fin 1) (b : Fin 1024), m ((c : Thread nD τ).loc main_arg1) (ix2 a b) = G 0 b)
  (hW : ∀ (a : Fin 1024) (b : Fin 1024), m ((c : Thread nD τ).loc main_arg2) (ix2 a b) = W a b)
  (hP : ∀ (a : Fin 2) (b : Fin 2048), m ((c : Thread nD τ).loc main_arg3) (ix2 a b) = P a b)

include hX in
theorem blk0 (t : Fin cfg0.N) (a : Fin 512) (b : Fin 1024) : iblk m c 0 t (ix2 a b) = rowsE X (512 * t) a b := by
  have ht := t_lt t
  rw [rowsE, ← hX ⟨512 * t + a, by omega⟩ b]
  blk_ext [iblk, V_main_arg0, idx t]

include hG in
theorem blk1 (t : Fin cfg0.N) (a : Fin 1) (b : Fin 1024) : iblk m c 1 t (ix2 a b) = G 0 b := by
  rw [← hG a b]
  blk_ext [iblk, V_main_arg1, idx t]

include hW in
theorem blk2 (t : Fin cfg0.N) (a : Fin 1024) (b : Fin 1024) : iblk m c 2 t (ix2 a b) = W a b := by
  rw [← hW a b]
  blk_ext [iblk, V_main_arg2, idx t]

include hP in
/-- The table of cosines. -/
theorem tab3 (a : Fin 4096) (b : Fin 128) : V m c main_v15 (ix2 a b) = cosE P a (b % 32) := by
  have e0 : ∀ j : ℕ, Ideal.cos (angW (m ((c : Thread nD τ).loc main_arg3) (ix2 ⟨(a : ℕ) / 2048, by omega⟩ ⟨(a : ℕ) % 2048, by omega⟩)) j) = cosE P a j :=
    fun j => congrArg (fun w => Ideal.cos (angW w j)) (hP _ _)
  have e1 : ∀ j : ℕ, b % 32 = j → Ideal.cos (angW (m ((c : Thread nD τ).loc main_arg3) (ix2 ⟨(a : ℕ) / 2048, by omega⟩ ⟨(a : ℕ) % 2048, by omega⟩)) j) = cosE P a (b % 32) :=
    fun j h => (e0 j).trans (congrArg (cosE P a) h.symm)
  unfold V
  after_reads_at
  by_cases k1 : (b : ℕ) < 32
  · rw [dif_pos k1]
    after_reads_at
    exact e1 b (by omega)
  rw [dif_neg k1]
  by_cases k2 : (b : ℕ) - 32 < 32
  · rw [dif_pos k2]
    after_reads_at
    exact e1 (b - 32) (by omega)
  rw [dif_neg k2]
  by_cases k3 : (b : ℕ) - 32 - 32 < 32
  · rw [dif_pos k3]
    after_reads_at
    exact e1 (b - 32 - 32) (by omega)
  rw [dif_neg k3]
  after_reads_at
  exact e1 (b - 32 - 32 - 32) (by omega)

include hP in
/-- The table of sines. -/
theorem tab4 (a : Fin 4096) (b : Fin 128) : V m c main_v18 (ix2 a b) = sgnE (sinE P) a b := by
  have e0 : ∀ j : ℕ, Ideal.sin (angW (m ((c : Thread nD τ).loc main_arg3) (ix2 ⟨(a : ℕ) / 2048, by omega⟩ ⟨(a : ℕ) % 2048, by omega⟩)) j) = sinE P a j :=
    fun j => congrArg (fun w => Ideal.sin (angW w j)) (hP _ _)
  have e1 : ∀ j : ℕ, b % 32 = j → (b : ℕ) % 64 < 32 → -Ideal.sin (angW (m ((c : Thread nD τ).loc main_arg3) (ix2 ⟨(a : ℕ) / 2048, by omega⟩ ⟨(a : ℕ) % 2048, by omega⟩)) j) = sgnE (sinE P) a b :=
    fun j h k => (congrArg (fun e : EReal => -e) ((e0 j).trans (congrArg (sinE P a) h.symm))).trans (if_pos k).symm
  have e2 : ∀ j : ℕ, b % 32 = j → ¬(b : ℕ) % 64 < 32 → Ideal.sin (angW (m ((c : Thread nD τ).loc main_arg3) (ix2 ⟨(a : ℕ) / 2048, by omega⟩ ⟨(a : ℕ) % 2048, by omega⟩)) j) = sgnE (sinE P) a b :=
    fun j h k => ((e0 j).trans (congrArg (sinE P a) h.symm)).trans (if_neg k).symm
  unfold V
  after_reads_at
  by_cases k1 : (b : ℕ) < 32
  · rw [dif_pos k1]
    after_reads_at
    exact e1 b (by omega) (by omega)
  rw [dif_neg k1]
  by_cases k2 : (b : ℕ) - 32 < 32
  · rw [dif_pos k2]
    after_reads_at
    exact e2 (b - 32) (by omega) (by omega)
  rw [dif_neg k2]
  by_cases k3 : (b : ℕ) - 32 - 32 < 32
  · rw [dif_pos k3]
    after_reads_at
    exact e1 (b - 32 - 32) (by omega) (by omega)
  rw [dif_neg k3]
  after_reads_at
  exact e2 (b - 32 - 32 - 32) (by omega) (by omega)

include hP in
theorem blk3 (t : Fin cfg0.N) (a : Fin 512) (b : Fin 128) : iblk m c 3 t (ix2 a b) = rowsE (fun a l => cosE P a (l % 32)) (512 * t) a b := by
  have ht := t_lt t
  refine Eq.trans ?_ (tab3 m c P hP ⟨512 * t + a, by omega⟩ b)
  blk_ext [iblk, idx t]

include hP in
theorem blk4 (t : Fin cfg0.N) (a : Fin 512) (b : Fin 128) : iblk m c 4 t (ix2 a b) = rowsE (sgnE (sinE P)) (512 * t) a b := by
  have ht := t_lt t
  refine Eq.trans ?_ (tab4 m c P hP ⟨512 * t + a, by omega⟩ b)
  blk_ext [iblk, idx t]

include hX hG hW in
/-- The array the kernel leaves in window 5. -/
theorem final5 : (dats m 0 c).arrAt 5 cfg0.N = fun i : S4096x1024.Idx => mmE 1024 (normE X G) W (i 0 : ℕ) (i 1 : ℕ) := by
  refine (dats m 0 c).arrAt_eq_of_covers 5 _ (by decide +kernel) fun t hf y => ?_
  blk_simp
  rw [after0_5, (idx t).2.2.2.2.2.1]
  show _ = mmE 1024 (normE X G) W ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay6 (k0_pay4 (View.ld (iblk m c 0 t) (Rect.unit ![0, 0] ![256, 1024] inb_S512x1024_S256x1024_0_0)) (iblk m c 1 t) (iblk m c 2 t)) x
      = mmE 1024 (normE X G) W (512 * (t : ℕ) + (y 0 : ℕ)) (y 1 : ℕ) := by
    intro x h0 h1
    rw [h0, h1]
    idx_vars x
    exact p6 _ _ _ (rowsE X (512 * t + 0)) G W (ld_f32_1024_0 _ X _ (blk0 m c X hX t)) (blk1 m c G hG t) (blk2 m c W hW t) x0 x1
  have hi : ∀ (x : S256x1024.Idx) (h0 : (y 0 : ℕ) = 256 + x 0) (h1 : (y 1 : ℕ) = x 1), k0_pay8 (k0_pay3 (View.ld (iblk m c 0 t) (Rect.unit ![256, 0] ![256, 1024] inb_S512x1024_S256x1024_256_0)) (iblk m c 1 t)) (iblk m c 2 t) x
      = mmE 1024 (normE X G) W (512 * (t : ℕ) + (y 0 : ℕ)) (y 1 : ℕ) := by
    intro x h0 h1
    rw [h0, h1, ← Nat.add_assoc]
    idx_vars x
    exact p8 _ _ _ (rowsE X (512 * t + 256)) G W (ld_f32_1024_256 _ X _ (blk0 m c X hX t)) (blk1 m c G hG t) (blk2 m c W hW t) x0 x1
  frame_out [k0_pay9, k0_pay10]
  canon_tiles x h
  · exact hi x (by omega) (by omega)
  · exact lo x (by omega) (by omega)

include hX hG in
/-- The array the kernel leaves in window 6. -/
theorem final6 : (dats m 0 c).arrAt 6 cfg0.N = fun i : S4096x1024.Idx => normE X G (i 0 : ℕ) (i 1 : ℕ) := by
  refine (dats m 0 c).arrAt_eq_of_covers 6 _ (by decide +kernel) fun t hf y => ?_
  blk_simp
  rw [after0_6, (idx t).2.2.2.2.2.2.1]
  show _ = normE X G ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay2 (View.ld (iblk m c 0 t) (Rect.unit ![0, 0] ![256, 1024] inb_S512x1024_S256x1024_0_0)) (iblk m c 1 t) x
      = normE X G (512 * (t : ℕ) + (y 0 : ℕ)) (y 1 : ℕ) := by
    intro x h0 h1
    rw [h0, h1]
    idx_vars x
    exact p2 _ _ (rowsE X (512 * t + 0)) G (ld_f32_1024_0 _ X _ (blk0 m c X hX t)) (blk1 m c G hG t) x0 x1
  have hi : ∀ (x : S256x1024.Idx) (h0 : (y 0 : ℕ) = 256 + x 0) (h1 : (y 1 : ℕ) = x 1), k0_pay3 (View.ld (iblk m c 0 t) (Rect.unit ![256, 0] ![256, 1024] inb_S512x1024_S256x1024_256_0)) (iblk m c 1 t) x
      = normE X G (512 * (t : ℕ) + (y 0 : ℕ)) (y 1 : ℕ) := by
    intro x h0 h1
    rw [h0, h1, ← Nat.add_assoc]
    idx_vars x
    exact p3 _ _ (rowsE X (512 * t + 256)) G (ld_f32_1024_256 _ X _ (blk0 m c X hX t)) (blk1 m c G hG t) x0 x1
  frame_out
  canon_tiles x h
  · exact hi x (by omega) (by omega)
  · exact lo x (by omega) (by omega)

include hX hG hW hP in
/-- The array the kernel leaves in window 7. -/
theorem final7 : (dats m 0 c).arrAt 7 cfg0.N = fun i : S4096x768.Idx => rotE (mmE 1024 (normE X G) W) (cosE P) (sinE P) (i 0 : ℕ) (i 1 : ℕ) := by
  refine (dats m 0 c).arrAt_eq_of_covers 7 _ (by decide +kernel) fun t hf y => ?_
  blk_simp
  rw [after0_7, (idx t).2.2.2.2.2.2.2]
  show _ = rotE (mmE 1024 (normE X G) W) (cosE P) (sinE P) ((t : ℕ) * 512 + (y 0 : ℕ)) (0 * 768 + (y 1 : ℕ))
  rw [show (t : ℕ) * 512 + (y 0 : ℕ) = 512 * t + y 0 by omega, show 0 * 768 + (y 1 : ℕ) = y 1 by omega]
  have lo : ∀ (x : S256x768.Idx) (h0 : (y 0 : ℕ) = x 0) (h1 : (y 1 : ℕ) = x 1), k0_pay7 (k0_pay4 (View.ld (iblk m c 0 t) (Rect.unit ![0, 0] ![256, 1024] inb_S512x1024_S256x1024_0_0)) (iblk m c 1 t) (iblk m c 2 t)) (View.ld (iblk m c 3 t) (Rect.unit ![0, 0] ![256, 128] inb_S512x128_S256x128_0_0)) (View.ld (iblk m c 4 t) (Rect.unit ![0, 0] ![256, 128] inb_S512x128_S256x128_0_0)) x
      = rotE (mmE 1024 (normE X G) W) (cosE P) (sinE P) (512 * (t : ℕ) + (y 0 : ℕ)) (y 1 : ℕ) := by
    intro x h0 h1
    rw [h0, h1]
    idx_vars x
    exact rot7 _ _ _ (mmE 1024 (normE (rowsE X (512 * t + 0)) G) W) (rowsE (cosE P) (512 * t + 0)) (rowsE (sinE P) (512 * t + 0)) (p4 _ _ _ (rowsE X (512 * t + 0)) G W (ld_f32_1024_0 _ X _ (blk0 m c X hX t)) (blk1 m c G hG t) (blk2 m c W hW t)) (ld_f32_128_0 _ _ _ (blk3 m c P hP t)) (ld_f32_128_0 _ _ _ (blk4 m c P hP t)) x0 x1
  have hi : ∀ (x : S256x768.Idx) (h0 : (y 0 : ℕ) = 256 + x 0) (h1 : (y 1 : ℕ) = x 1), k0_pay1 (k0_pay5 (k0_pay3 (View.ld (iblk m c 0 t) (Rect.unit ![256, 0] ![256, 1024] inb_S512x1024_S256x1024_256_0)) (iblk m c 1 t)) (iblk m c 2 t)) (View.ld (iblk m c 3 t) (Rect.unit ![256, 0] ![256, 128] inb_S512x128_S256x128_256_0)) (View.ld (iblk m c 4 t) (Rect.unit ![256, 0] ![256, 128] inb_S512x128_S256x128_256_0)) x
      = rotE (mmE 1024 (normE X G) W) (cosE P) (sinE P) (512 * (t : ℕ) + (y 0 : ℕ)) (y 1 : ℕ) := by
    intro x h0 h1
    rw [h0, h1, ← Nat.add_assoc]
    idx_vars x
    exact rot1 _ _ _ (mmE 1024 (normE (rowsE X (512 * t + 256)) G) W) (rowsE (cosE P) (512 * t + 256)) (rowsE (sinE P) (512 * t + 256)) (p5 _ _ _ (rowsE X (512 * t + 256)) G W (ld_f32_1024_256 _ X _ (blk0 m c X hX t)) (blk1 m c G hG t) (blk2 m c W hW t)) (ld_f32_128_256 _ _ _ (blk3 m c P hP t)) (ld_f32_128_256 _ _ _ (blk4 m c P hP t)) x0 x1
  frame_out [k0_pay9, k0_pay10]
  canon_tiles x h
  · exact hi x (by omega) (by omega)
  · exact lo x (by omega) (by omega)

end kernel

section reference
open Cert.Reference16Ideal Cert.Reference16Ideal.Gen Cert.Reference16Ideal.Read
variable (x0 : Vec Ideal S4096x1024 .f32) (x1 : Vec Ideal S1x1024 .f32) (x2 : Vec Ideal S1024x1024 .bf16) (x3 : Vec Ideal S2x2048 .i32) (X G W : ℕ → ℕ → EReal) (P : ℕ → ℕ → BitVec 32)
variable (hX : ∀ (a : Fin 4096) (b : Fin 1024), x0 (ix2 a b) = X a b) (hG : ∀ (a : Fin 1) (b : Fin 1024), x1 (ix2 a b) = G 0 b)
  (hW : ∀ (a : Fin 1024) (b : Fin 1024), x2 (ix2 a b) = W a b) (hP : ∀ (a : Fin 2) (b : Fin 2048), x3 (ix2 a b) = P a b)

include hX in
/-- A row's sum of squares. -/
theorem r1 (i : Fin 4096) : val_main_v1 x0 (ix1 i) = ∑ k : Fin 1024, X i k * X i k := by
  have e : ∀ (a : Fin 4096) (b : Fin 1024), val_main_v0 x0 (ix2 a b) = X a b * X a b := by
    intro a b
    pointwise [val_main_v0]
    rw [hX]
  unfold val_main_v1
  revert e
  generalize val_main_v0 x0 = y
  intro e
  pointwise [val_main_cst]
  simp only [e]

include hX in
/-- The norm's scale. -/
theorem r7 (i : Fin 4096) (j : Fin 1) : val_main_v7 x0 (ix2 i j) = rE X i := by
  have e := r1 x0 X hX
  unfold val_main_v7 val_main_v6 val_main_v4 val_main_v2
  revert e
  generalize val_main_v1 x0 = y
  intro e
  pointwise [val_main_v5, val_main_cst_1, val_main_v3, val_main_cst_0]
  rw [e]
  rfl

include hX hG in
/-- The normed rows. -/
theorem r11 (i : Fin 4096) (k : Fin 1024) : val_main_v11 x0 x1 (ix2 i k) = normE X G i k := by
  have e := r7 x0 X hX
  unfold val_main_v11 val_main_v9 val_main_v8
  revert e
  generalize val_main_v7 x0 = y
  intro e
  pointwise [val_main_v10]
  rw [e, hX, hG]
  rfl

include hX hG in
/-- The second result: the normed rows, rounded. -/
theorem r15 (i : Fin 4096) (k : Fin 1024) : val_main_v15 x0 x1 (ix2 i k) = normE X G i k := by
  have e := r11 x0 x1 X G hX hG
  unfold val_main_v15
  revert e
  generalize val_main_v11 x0 x1 = y
  intro e
  pointwise
  exact e i k

include hX hG hW in
/-- The product with the weight. -/
theorem rz (i : Fin 4096) (k : Fin 1024) : val_main_v13 x0 x1 x2 (ix2 i k) = mmE 1024 (normE X G) W i k := by
  have e := r11 x0 x1 X G hX hG
  unfold val_main_v13
  revert e
  generalize val_main_v11 x0 x1 = y
  intro e
  pointwise [val_main_v12]
  simp only [e, hW]
  rfl

include hX hG hW in
/-- The first result: the product, rounded. -/
theorem r14 (i : Fin 4096) (k : Fin 1024) : val_main_v14 x0 x1 x2 (ix2 i k) = mmE 1024 (normE X G) W i k := by
  have e := rz x0 x1 x2 X G W hX hG hW
  unfold val_main_v14
  revert e
  generalize val_main_v13 x0 x1 x2 = y
  intro e
  pointwise
  exact e i k

include hP in
/-- The angles. -/
theorem r29 (i : Fin 2) (s : Fin 2048) (j : Fin 32) : val_main_v29 x3 (ix3 i s j) = angW (P i s) j := by
  pointwise [val_main_v29, val_main_v28, val_main_v27, val_main_v26, val_main_v25, val_main_v24, val_main_v23, val_main_v22, val_main_cst_3, val_main_v21, val_main_v20, val_main_cst_2, val_main_v19, val_main_v18]
  rw [hP]
  rfl

include hX hG hW hP in
/-- The third result: the product's first 768 columns rotated. -/
theorem r47 (i : Fin 4096) (k : Fin 768) : val_main_v47 x0 x1 x2 x3 (ix2 i k) = rotE (mmE 1024 (normE X G) W) (cosE P) (sinE P) i k := by
  have ez := rz x0 x1 x2 X G W hX hG hW
  have et := r29 x3 P hP
  unfold val_main_v47 val_main_v46 val_main_v40 val_main_v45 val_main_v37 val_main_v39 val_main_v42 val_main_v44 val_main_v36 val_main_v38 val_main_v41 val_main_v43 val_main_v34 val_main_v35 val_main_v31 val_main_v33 val_main_v30 val_main_v32 val_main_v17 val_main_v16
  revert ez et
  generalize val_main_v13 x0 x1 x2 = z
  generalize val_main_v29 x3 = t
  intro ez et
  pointwise
  simp only [ez, et]
  generalize mmE 1024 (normE X G) W = Z
  clear ez et
  unfold rotE sgnE cosE sinE angE
  by_cases hk : (k : ℕ) % 64 < 32
  · rw [dif_pos hk, if_pos hk, if_pos hk, ← rot_first]
    rw [show (k : ℕ) / 64 * 64 + (32 + k % 64) = k + 32 by omega, show (k : ℕ) % 64 = k % 32 by omega]
  · rw [dif_neg hk, if_neg hk, if_neg hk, add_comm]
    rw [show (k : ℕ) / 64 * 64 + (32 + (k % 64 - 32)) = k by omega, show (k : ℕ) / 64 * 64 + (k % 64 - 32) = k - 32 by omega,
      show (k : ℕ) % 64 - 32 = k % 32 by omega]

end reference

set_option maxHeartbeats 1600000 in
/-- The kernel's results are the reference's, for all arguments. -/
theorem algebraic : Cert.algebraic_Kernel16Ideal_Reference16Ideal := by
  pair_intro
  · run_from Cert.Kernel16Ideal.Gen.run_main m g
  · refine (θ_run _ _ _).mono (fun r h c => ?_) (Cert.Reference16Ideal.Value.run m' g')
    obtain ⟨X, hX⟩ := mat_of (R := 4096) (C := 1024) fun a b => m ((c.tc : Thread Cert.Kernel16Ideal.nD Cert.Kernel16Ideal.τ).loc Cert.Kernel16Ideal.main_arg0) (ix2 a b)
    obtain ⟨G, hG⟩ := mat_of (R := 1) (C := 1024) fun a b => m ((c.tc : Thread Cert.Kernel16Ideal.nD Cert.Kernel16Ideal.τ).loc Cert.Kernel16Ideal.main_arg1) (ix2 a b)
    have hG : ∀ (a : Fin 1) (b : Fin 1024), m ((c.tc : Thread Cert.Kernel16Ideal.nD Cert.Kernel16Ideal.τ).loc Cert.Kernel16Ideal.main_arg1) (ix2 a b) = G 0 b :=
      fun a b => (congrArg (fun a => m ((c.tc : Thread Cert.Kernel16Ideal.nD Cert.Kernel16Ideal.τ).loc Cert.Kernel16Ideal.main_arg1) (ix2 a b)) (Subsingleton.elim a 0)).trans (hG 0 b)
    obtain ⟨W, hW⟩ := mat_of (R := 1024) (C := 1024) fun a b => m ((c.tc : Thread Cert.Kernel16Ideal.nD Cert.Kernel16Ideal.τ).loc Cert.Kernel16Ideal.main_arg2) (ix2 a b)
    obtain ⟨P, hP⟩ := bits_of (R := 2) (C := 2048) fun a b => m ((c.tc : Thread Cert.Kernel16Ideal.nD Cert.Kernel16Ideal.τ).loc Cert.Kernel16Ideal.main_arg3) (ix2 a b)
    obtain ⟨a0, a1, a2, a3⟩ := hagree c
    refine ⟨(h c).1.trans ?_, (h c).2.1.trans ?_, (h c).2.2.1.trans ?_, (h c).2.2.2⟩
    · refine (Reference16Ideal.Read.val_main_v14_eq _ _ _ ).trans ?_
      rw [a0, a1, a2]
      refine Eq.trans ?_ (final5 m c X G W hX hG hW).symm
      funext i
      idx_vars i
      exact r14 _ _ _ X G W hX hG hW i0 i1
    · refine (Reference16Ideal.Read.val_main_v15_eq _ _ ).trans ?_
      rw [a0, a1]
      refine Eq.trans ?_ (final6 m c X G hX hG).symm
      funext i
      idx_vars i
      exact r15 _ _ X G hX hG i0 i1
    · refine (Reference16Ideal.Read.val_main_v47_eq m' c).trans ?_
      rw [a0, a1, a2, a3]
      refine Eq.trans ?_ (final7 m c X G W P hX hG hW hP).symm
      funext i
      idx_vars i
      exact r47 _ _ _ _ X G W P hX hG hW hP i0 i1

end Cert.InRopeClaim
end
-- ==== Proof.KvFwdClaim.lean ====
/- The projection of the shared keys and values: the kernel's tiles are the reference's normed rows, their product with the weight, and its first columns rotated. -/
module

public import proofs.«01_k».proof.Proof.RopeSpec
public import proofs.«01_k».proof.Proof.Gen.Kernel17Ideal.Value
public import proofs.«01_k».proof.Proof.Gen.Reference17Ideal.Run
public import proofs.«01_k».proof.Proof.Gen.Reference17Ideal.Read
public import proofs.«01_k».proof.Defs
public import Idealize.ShloMosaic.Lib.StableHlo.ReadAt
public import Idealize.ShloMosaic.Lib.Claim

@[expose] public section
set_option maxRecDepth 16384
noncomputable section
namespace Cert.KvFwdClaim
open Idealize.ShloMosaic Idealize.ShloMosaic.TcCoe Idealize.SL.Sem
open Cert.Coe Cert.FwdSpec Cert.RopeSpec
open scoped BigOperators

section kernel
open Cert.Kernel17Ideal Cert.Kernel17Ideal.Gen
open Idealize.ShloMosaic.Pipeline (Dat)

section block
variable (x0 : Vec Ideal S256x1024 .f32) (x1 : Vec Ideal S1x1024 .f32) (x2 : Vec Ideal S1536x1024 .bf16) (X G W : ℕ → ℕ → EReal)
variable (h0 : ∀ (a : Fin 256) (b : Fin 1024), x0 (ix2 a b) = X a b) (h1 : ∀ (a : Fin 1) (b : Fin 1024), x1 (ix2 a b) = G 0 b)
  (h2 : ∀ (a : Fin 1536) (b : Fin 1024), x2 (ix2 a b) = W b a)

include h0 h1 in
/-- The first half's normed rows. -/
theorem p2 (a : Fin 256) (b : Fin 1024) : k0_pay2 x0 x1 (ix2 a b) = normE X G a b := by
  pointwise [k0_pay2]
  simp only [h0, h1]
  rfl

include h0 h1 in
/-- The second half's normed rows. -/
theorem p3 (a : Fin 256) (b : Fin 1024) : k0_pay3 x0 x1 (ix2 a b) = normE X G a b := by
  pointwise [k0_pay3]
  simp only [h0, h1]
  rfl

include h0 h1 h2 in
/-- The first half's product. -/
theorem p4 (a : Fin 256) (b : Fin 1536) : k0_pay4 x0 x1 x2 (ix2 a b) = mmE 1024 (normE X G) W a b := by
  pointwise [k0_pay4]
  simp only [p2 x0 x1 X G h0 h1, h2]
  rfl

include h0 h1 h2 in
/-- The second half's product. -/
theorem p5 (a : Fin 256) (b : Fin 1536) : k0_pay5 (k0_pay3 x0 x1) x2 (ix2 a b) = mmE 1024 (normE X G) W a b := by
  pointwise [k0_pay5]
  simp only [p3 x0 x1 X G h0 h1, h2]
  rfl

end block

section rotation
/-- A table of 128 lanes six times side by side, where its second head is as its first. -/
theorem cat (x : Vec Ideal S256x128 .f32) (a : Fin 256) (F : ℕ → EReal) (h : ∀ l : Fin 128, x (ix2 a l) = F ((l : ℕ) % 64)) (b : Fin 768) :
    (if h : (b : ℕ) < 128 then x (ix2 a ⟨b, h⟩)
      else if h : (b : ℕ) - 128 < 128 then x (ix2 a ⟨(b : ℕ) - 128, h⟩)
      else if h : (b : ℕ) - 128 - 128 < 128 then x (ix2 a ⟨(b : ℕ) - 128 - 128, h⟩)
      else if h : (b : ℕ) - 128 - 128 - 128 < 128 then x (ix2 a ⟨(b : ℕ) - 128 - 128 - 128, h⟩)
      else if h : (b : ℕ) - 128 - 128 - 128 - 128 < 128 then x (ix2 a ⟨(b : ℕ) - 128 - 128 - 128 - 128, h⟩)
      else x (ix2 a ⟨(b : ℕ) - 128 - 128 - 128 - 128 - 128, by omega⟩)) = F ((b : ℕ) % 64) := by
  split_ifs <;> rw [h] <;> congr 1 <;> dsimp only <;> omega

variable (z : FVec Ideal S256x1536 .f32) (c3 c4 : Vec Ideal S256x128 .f32) (Z C S : ℕ → ℕ → EReal)
variable (hz : ∀ (a : Fin 256) (b : Fin 1536), z (ix2 a b) = Z a b) (h3 : ∀ (a : Fin 256) (l : Fin 128), c3 (ix2 a l) = C a (l % 32))
  (h4 : ∀ (a : Fin 256) (l : Fin 128), c4 (ix2 a l) = sgnE S a l)

include hz h3 h4 in
/-- The first half's first 768 columns rotated. -/
theorem rot6 (a : Fin 256) (b : Fin 768) : k0_pay6 z c3 c4 (ix2 a b) = rotE Z C S a b := by
  have e3 := cat c3 a (fun l => C a (l % 32)) (by intro l; rw [h3]; show C a _ = C a _; congr 1; omega) b
  have e4 := cat c4 a (fun l => sgnE S a l) (by
    intro l
    rw [h4]
    unfold sgnE
    rw [show (l : ℕ) % 64 % 64 = l % 64 by omega, show (l : ℕ) % 64 % 32 = l % 32 by omega]) b
  have em := mask b
  pointwise [k0_pay6]
  rw [e3, e4, em]
  simp only [hz]
  unfold rotE
  have s1 : ∀ u v : EReal, Scalar.select 1#1 u v = u := fun _ _ => rfl
  have s0 : ∀ u v : EReal, Scalar.select 0#1 u v = v := fun _ _ => rfl
  have g1 : sgnE S a (b % 64) = sgnE S a b := by
    unfold sgnE
    rw [show (b : ℕ) % 64 % 64 = b % 64 by omega, show (b : ℕ) % 64 % 32 = b % 32 by omega]
  rw [g1]
  show Z a b * C a (b % 64 % 32) + _ = _
  rw [show (b : ℕ) % 64 % 32 = b % 32 by omega]
  by_cases hb : (b : ℕ) % 64 < 32
  · rw [if_pos hb, if_pos hb, s1]
    rw [show ((b : ℕ) + 768 - 736) % 768 = b + 32 by omega]
  · rw [if_neg hb, if_neg hb, s0]
    rw [show ((b : ℕ) + 768 - 32) % 768 = b - 32 by omega]

include hz h3 h4 in
/-- The second half's first 768 columns rotated. -/
theorem rot1 (a : Fin 256) (b : Fin 768) : k0_pay1 z c3 c4 (ix2 a b) = rotE Z C S a b := by
  have e3 := cat c3 a (fun l => C a (l % 32)) (by intro l; rw [h3]; show C a _ = C a _; congr 1; omega) b
  have e4 := cat c4 a (fun l => sgnE S a l) (by
    intro l
    rw [h4]
    unfold sgnE
    rw [show (l : ℕ) % 64 % 64 = l % 64 by omega, show (l : ℕ) % 64 % 32 = l % 32 by omega]) b
  have em := mask b
  pointwise [k0_pay1]
  rw [e3, e4, em]
  simp only [hz]
  unfold rotE
  have s1 : ∀ u v : EReal, Scalar.select 1#1 u v = u := fun _ _ => rfl
  have s0 : ∀ u v : EReal, Scalar.select 0#1 u v = v := fun _ _ => rfl
  have g1 : sgnE S a (b % 64) = sgnE S a b := by
    unfold sgnE
    rw [show (b : ℕ) % 64 % 64 = b % 64 by omega, show (b : ℕ) % 64 % 32 = b % 32 by omega]
  rw [g1]
  show Z a b * C a (b % 64 % 32) + _ = _
  rw [show (b : ℕ) % 64 % 32 = b % 32 by omega]
  by_cases hb : (b : ℕ) % 64 < 32
  · rw [if_pos hb, if_pos hb, s1]
    rw [show ((b : ℕ) + 768 - 736) % 768 = b + 32 by omega]
  · rw [if_neg hb, if_neg hb, s0]
    rw [show ((b : ℕ) + 768 - 32) % 768 = b - 32 by omega]

end rotation

/-- The block indices at point `t`. -/
theorem idx : ∀ t : Fin cfg0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] ∧ win0_6.index t = ![(t : ℕ), 0] ∧ win0_7.index t = ![(t : ℕ), 0] :=
  (by decide +kernel : ∀ t : Fin grid0.N, win0_0.index t = ![(t : ℕ), 0] ∧ win0_1.index t = ![0, 0] ∧ win0_2.index t = ![0, 0] ∧ win0_3.index t = ![(t : ℕ), 0] ∧ win0_4.index t = ![(t : ℕ), 0] ∧ win0_5.index t = ![(t : ℕ), 0] ∧ win0_6.index t = ![(t : ℕ), 0] ∧ win0_7.index t = ![(t : ℕ), 0])

/-- The number of grid points. -/
theorem t_lt (t : Fin cfg0.N) : (t : ℕ) < 8 := lt_of_lt_of_eq t.isLt (by decide : grid0.N = 8)

/-- The lower half of a loaded block. -/
theorem ld_f32_1024_0 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_1024_256 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

/-- The lower half of a loaded block. -/
theorem ld_f32_128_0 (u : Vec Ideal S512x128 .f32) (F : ℕ → ℕ → EReal) (s : ℕ) (e : ∀ (a : Fin 512) (b : Fin 128), u (ix2 a b) = rowsE F s a b) (a : Fin 256) (b : Fin 128) :
    View.ld u (Rect.unit (s := S512x128) ![0, 0] ![256, 128] inb_S512x128_S256x128_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_128_256 (u : Vec Ideal S512x128 .f32) (F : ℕ → ℕ → EReal) (s : ℕ) (e : ∀ (a : Fin 512) (b : Fin 128), u (ix2 a b) = rowsE F s a b) (a : Fin 256) (b : Fin 128) :
    View.ld u (Rect.unit (s := S512x128) ![256, 0] ![256, 128] inb_S512x128_S256x128_256_0) (ix2 a b) = rowsE F (s + 256) a b := by
  have e := e ⟨256 + a, by omega⟩ b
  rw [rowsE] at e ⊢
  rw [Nat.add_assoc, ← e]
  clear e
  pointwise
  try blk_ext

variable (m : (ℓ : Loc nD τ sig) → Buf (Elt Ideal) ℓ) (c : Dev nD) (X G W : ℕ → ℕ → EReal) (P : ℕ → ℕ → BitVec 32)
variable (hX : ∀ (a : Fin 4096) (b : Fin 1024), m ((c : Thread nD τ).loc main_arg0) (ix2 a b) = X a b)
  (hG : ∀ (a : Fin 1) (b : Fin 1024), m ((c : Thread nD τ).loc main_arg1) (ix2 a b) = G 0 b)
  (hW : ∀ (a : Fin 1536) (b : Fin 1024), m ((c : Thread nD τ).loc main_arg2) (ix2 a b) = W b a)
  (hP : ∀ (a : Fin 2) (b : Fin 2048), m ((c : Thread nD τ).loc main_arg3) (ix2 a b) = P a b)

include hX in
theorem blk0 (t : Fin cfg0.N) (a : Fin 512) (b : Fin 1024) : iblk m c 0 t (ix2 a b) = rowsE X (512 * t) a b := by
  have ht := t_lt t
  rw [rowsE, ← hX ⟨512 * t + a, by omega⟩ b]
  blk_ext [iblk, V_main_arg0, idx t]

include hG in
theorem blk1 (t : Fin cfg0.N) (a : Fin 1) (b : Fin 1024) : iblk m c 1 t (ix2 a b) = G 0 b := by
  rw [← hG a b]
  blk_ext [iblk, V_main_arg1, idx t]

include hW in
theorem blk2 (t : Fin cfg0.N) (a : Fin 1536) (b : Fin 1024) : iblk m c 2 t (ix2 a b) = W b a := by
  rw [← hW a b]
  blk_ext [iblk, V_main_arg2, idx t]

include hP in
/-- The table of cosines. -/
theorem tab3 (a : Fin 4096) (b : Fin 128) : V m c main_v15 (ix2 a b) = cosE P a (b % 32) := by
  have e0 : ∀ j : ℕ, Ideal.cos (angW (m ((c : Thread nD τ).loc main_arg3) (ix2 ⟨(a : ℕ) / 2048, by omega⟩ ⟨(a : ℕ) % 2048, by omega⟩)) j) = cosE P a j :=
    fun j => congrArg (fun w => Ideal.cos (angW w j)) (hP _ _)
  have e1 : ∀ j : ℕ, b % 32 = j → Ideal.cos (angW (m ((c : Thread nD τ).loc main_arg3) (ix2 ⟨(a : ℕ) / 2048, by omega⟩ ⟨(a : ℕ) % 2048, by omega⟩)) j) = cosE P a (b % 32) :=
    fun j h => (e0 j).trans (congrArg (cosE P a) h.symm)
  unfold V
  after_reads_at
  by_cases k1 : (b : ℕ) < 32
  · rw [dif_pos k1]
    after_reads_at
    exact e1 b (by omega)
  rw [dif_neg k1]
  by_cases k2 : (b : ℕ) - 32 < 32
  · rw [dif_pos k2]
    after_reads_at
    exact e1 (b - 32) (by omega)
  rw [dif_neg k2]
  by_cases k3 : (b : ℕ) - 32 - 32 < 32
  · rw [dif_pos k3]
    after_reads_at
    exact e1 (b - 32 - 32) (by omega)
  rw [dif_neg k3]
  after_reads_at
  exact e1 (b - 32 - 32 - 32) (by omega)

include hP in
/-- The table of sines. -/
theorem tab4 (a : Fin 4096) (b : Fin 128) : V m c main_v18 (ix2 a b) = sgnE (sinE P) a b := by
  have e0 : ∀ j : ℕ, Ideal.sin (angW (m ((c : Thread nD τ).loc main_arg3) (ix2 ⟨(a : ℕ) / 2048, by omega⟩ ⟨(a : ℕ) % 2048, by omega⟩)) j) = sinE P a j :=
    fun j => congrArg (fun w => Ideal.sin (angW w j)) (hP _ _)
  have e1 : ∀ j : ℕ, b % 32 = j → (b : ℕ) % 64 < 32 → -Ideal.sin (angW (m ((c : Thread nD τ).loc main_arg3) (ix2 ⟨(a : ℕ) / 2048, by omega⟩ ⟨(a : ℕ) % 2048, by omega⟩)) j) = sgnE (sinE P) a b :=
    fun j h k => (congrArg (fun e : EReal => -e) ((e0 j).trans (congrArg (sinE P a) h.symm))).trans (if_pos k).symm
  have e2 : ∀ j : ℕ, b % 32 = j → ¬(b : ℕ) % 64 < 32 → Ideal.sin (angW (m ((c : Thread nD τ).loc main_arg3) (ix2 ⟨(a : ℕ) / 2048, by omega⟩ ⟨(a : ℕ) % 2048, by omega⟩)) j) = sgnE (sinE P) a b :=
    fun j h k => ((e0 j).trans (congrArg (sinE P a) h.symm)).trans (if_neg k).symm
  unfold V
  after_reads_at
  by_cases k1 : (b : ℕ) < 32
  · rw [dif_pos k1]
    after_reads_at
    exact e1 b (by omega) (by omega)
  rw [dif_neg k1]
  by_cases k2 : (b : ℕ) - 32 < 32
  · rw [dif_pos k2]
    after_reads_at
    exact e2 (b - 32) (by omega) (by omega)
  rw [dif_neg k2]
  by_cases k3 : (b : ℕ) - 32 - 32 < 32
  · rw [dif_pos k3]
    after_reads_at
    exact e1 (b - 32 - 32) (by omega) (by omega)
  rw [dif_neg k3]
  after_reads_at
  exact e2 (b - 32 - 32 - 32) (by omega) (by omega)

include hP in
theorem blk3 (t : Fin cfg0.N) (a : Fin 512) (b : Fin 128) : iblk m c 3 t (ix2 a b) = rowsE (fun a l => cosE P a (l % 32)) (512 * t) a b := by
  have ht := t_lt t
  refine Eq.trans ?_ (tab3 m c P hP ⟨512 * t + a, by omega⟩ b)
  blk_ext [iblk, idx t]

include hP in
theorem blk4 (t : Fin cfg0.N) (a : Fin 512) (b : Fin 128) : iblk m c 4 t (ix2 a b) = rowsE (sgnE (sinE P)) (512 * t) a b := by
  have ht := t_lt t
  refine Eq.trans ?_ (tab4 m c P hP ⟨512 * t + a, by omega⟩ b)
  blk_ext [iblk, idx t]

include hX hG hW in
/-- The array the kernel leaves in window 5. -/
theorem final5 : (dats m 0 c).arrAt 5 cfg0.N = fun i : S4096x1536.Idx => mmE 1024 (normE X G) W (i 0 : ℕ) (i 1 : ℕ) := by
  refine (dats m 0 c).arrAt_eq_of_covers 5 _ (by decide +kernel) fun t hf y => ?_
  blk_simp
  rw [after0_5, (idx t).2.2.2.2.2.1]
  show _ = mmE 1024 (normE X G) W ((t : ℕ) * 512 + (y 0 : ℕ)) (0 * 1536 + (y 1 : ℕ))
  rw [show (t : ℕ) * 512 + (y 0 : ℕ) = 512 * t + y 0 by omega, show 0 * 1536 + (y 1 : ℕ) = y 1 by omega]
  have lo : ∀ (x : S256x1536.Idx) (h0 : (y 0 : ℕ) = x 0) (h1 : (y 1 : ℕ) = x 1), k0_pay4 (View.ld (iblk m c 0 t) (Rect.unit ![0, 0] ![256, 1024] inb_S512x1024_S256x1024_0_0)) (iblk m c 1 t) (iblk m c 2 t) x
      = mmE 1024 (normE X G) W (512 * (t : ℕ) + (y 0 : ℕ)) (y 1 : ℕ) := by
    intro x h0 h1
    rw [h0, h1]
    idx_vars x
    exact p4 _ _ _ (rowsE X (512 * t + 0)) G W (ld_f32_1024_0 _ X _ (blk0 m c X hX t)) (blk1 m c G hG t) (blk2 m c W hW t) x0 x1
  have hi : ∀ (x : S256x1536.Idx) (h0 : (y 0 : ℕ) = 256 + x 0) (h1 : (y 1 : ℕ) = x 1), k0_pay5 (k0_pay3 (View.ld (iblk m c 0 t) (Rect.unit ![256, 0] ![256, 1024] inb_S512x1024_S256x1024_256_0)) (iblk m c 1 t)) (iblk m c 2 t) x
      = mmE 1024 (normE X G) W (512 * (t : ℕ) + (y 0 : ℕ)) (y 1 : ℕ) := by
    intro x h0 h1
    rw [h0, h1, ← Nat.add_assoc]
    idx_vars x
    exact p5 _ _ _ (rowsE X (512 * t + 256)) G W (ld_f32_1024_256 _ X _ (blk0 m c X hX t)) (blk1 m c G hG t) (blk2 m c W hW t) x0 x1
  frame_out [k0_pay7, k0_pay8]
  canon_tiles x h
  · exact hi x (by omega) (by omega)
  · exact lo x (by omega) (by omega)

include hX hG in
/-- The array the kernel leaves in window 6. -/
theorem final6 : (dats m 0 c).arrAt 6 cfg0.N = fun i : S4096x1024.Idx => normE X G (i 0 : ℕ) (i 1 : ℕ) := by
  refine (dats m 0 c).arrAt_eq_of_covers 6 _ (by decide +kernel) fun t hf y => ?_
  blk_simp
  rw [after0_6, (idx t).2.2.2.2.2.2.1]
  show _ = normE X G ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay2 (View.ld (iblk m c 0 t) (Rect.unit ![0, 0] ![256, 1024] inb_S512x1024_S256x1024_0_0)) (iblk m c 1 t) x
      = normE X G (512 * (t : ℕ) + (y 0 : ℕ)) (y 1 : ℕ) := by
    intro x h0 h1
    rw [h0, h1]
    idx_vars x
    exact p2 _ _ (rowsE X (512 * t + 0)) G (ld_f32_1024_0 _ X _ (blk0 m c X hX t)) (blk1 m c G hG t) x0 x1
  have hi : ∀ (x : S256x1024.Idx) (h0 : (y 0 : ℕ) = 256 + x 0) (h1 : (y 1 : ℕ) = x 1), k0_pay3 (View.ld (iblk m c 0 t) (Rect.unit ![256, 0] ![256, 1024] inb_S512x1024_S256x1024_256_0)) (iblk m c 1 t) x
      = normE X G (512 * (t : ℕ) + (y 0 : ℕ)) (y 1 : ℕ) := by
    intro x h0 h1
    rw [h0, h1, ← Nat.add_assoc]
    idx_vars x
    exact p3 _ _ (rowsE X (512 * t + 256)) G (ld_f32_1024_256 _ X _ (blk0 m c X hX t)) (blk1 m c G hG t) x0 x1
  frame_out
  canon_tiles x h
  · exact hi x (by omega) (by omega)
  · exact lo x (by omega) (by omega)

include hX hG hW hP in
/-- The array the kernel leaves in window 7. -/
theorem final7 : (dats m 0 c).arrAt 7 cfg0.N = fun i : S4096x768.Idx => rotE (mmE 1024 (normE X G) W) (cosE P) (sinE P) (i 0 : ℕ) (i 1 : ℕ) := by
  refine (dats m 0 c).arrAt_eq_of_covers 7 _ (by decide +kernel) fun t hf y => ?_
  blk_simp
  rw [after0_7, (idx t).2.2.2.2.2.2.2]
  show _ = rotE (mmE 1024 (normE X G) W) (cosE P) (sinE P) ((t : ℕ) * 512 + (y 0 : ℕ)) (0 * 768 + (y 1 : ℕ))
  rw [show (t : ℕ) * 512 + (y 0 : ℕ) = 512 * t + y 0 by omega, show 0 * 768 + (y 1 : ℕ) = y 1 by omega]
  have lo : ∀ (x : S256x768.Idx) (h0 : (y 0 : ℕ) = x 0) (h1 : (y 1 : ℕ) = x 1), k0_pay6 (k0_pay4 (View.ld (iblk m c 0 t) (Rect.unit ![0, 0] ![256, 1024] inb_S512x1024_S256x1024_0_0)) (iblk m c 1 t) (iblk m c 2 t)) (View.ld (iblk m c 3 t) (Rect.unit ![0, 0] ![256, 128] inb_S512x128_S256x128_0_0)) (View.ld (iblk m c 4 t) (Rect.unit ![0, 0] ![256, 128] inb_S512x128_S256x128_0_0)) x
      = rotE (mmE 1024 (normE X G) W) (cosE P) (sinE P) (512 * (t : ℕ) + (y 0 : ℕ)) (y 1 : ℕ) := by
    intro x h0 h1
    rw [h0, h1]
    idx_vars x
    exact rot6 _ _ _ (mmE 1024 (normE (rowsE X (512 * t + 0)) G) W) (rowsE (cosE P) (512 * t + 0)) (rowsE (sinE P) (512 * t + 0)) (p4 _ _ _ (rowsE X (512 * t + 0)) G W (ld_f32_1024_0 _ X _ (blk0 m c X hX t)) (blk1 m c G hG t) (blk2 m c W hW t)) (ld_f32_128_0 _ _ _ (blk3 m c P hP t)) (ld_f32_128_0 _ _ _ (blk4 m c P hP t)) x0 x1
  have hi : ∀ (x : S256x768.Idx) (h0 : (y 0 : ℕ) = 256 + x 0) (h1 : (y 1 : ℕ) = x 1), k0_pay1 (k0_pay5 (k0_pay3 (View.ld (iblk m c 0 t) (Rect.unit ![256, 0] ![256, 1024] inb_S512x1024_S256x1024_256_0)) (iblk m c 1 t)) (iblk m c 2 t)) (View.ld (iblk m c 3 t) (Rect.unit ![256, 0] ![256, 128] inb_S512x128_S256x128_256_0)) (View.ld (iblk m c 4 t) (Rect.unit ![256, 0] ![256, 128] inb_S512x128_S256x128_256_0)) x
      = rotE (mmE 1024 (normE X G) W) (cosE P) (sinE P) (512 * (t : ℕ) + (y 0 : ℕ)) (y 1 : ℕ) := by
    intro x h0 h1
    rw [h0, h1, ← Nat.add_assoc]
    idx_vars x
    exact rot1 _ _ _ (mmE 1024 (normE (rowsE X (512 * t + 256)) G) W) (rowsE (cosE P) (512 * t + 256)) (rowsE (sinE P) (512 * t + 256)) (p5 _ _ _ (rowsE X (512 * t + 256)) G W (ld_f32_1024_256 _ X _ (blk0 m c X hX t)) (blk1 m c G hG t) (blk2 m c W hW t)) (ld_f32_128_256 _ _ _ (blk3 m c P hP t)) (ld_f32_128_256 _ _ _ (blk4 m c P hP t)) x0 x1
  frame_out [k0_pay7, k0_pay8]
  canon_tiles x h
  · exact hi x (by omega) (by omega)
  · exact lo x (by omega) (by omega)

end kernel

section reference
open Cert.Reference17Ideal Cert.Reference17Ideal.Gen Cert.Reference17Ideal.Read
variable (x0 : Vec Ideal S4096x1024 .f32) (x1 : Vec Ideal S1x1024 .f32) (x2 : Vec Ideal S1536x1024 .bf16) (x3 : Vec Ideal S2x2048 .i32) (X G W : ℕ → ℕ → EReal) (P : ℕ → ℕ → BitVec 32)
variable (hX : ∀ (a : Fin 4096) (b : Fin 1024), x0 (ix2 a b) = X a b) (hG : ∀ (a : Fin 1) (b : Fin 1024), x1 (ix2 a b) = G 0 b)
  (hW : ∀ (a : Fin 1536) (b : Fin 1024), x2 (ix2 a b) = W b a) (hP : ∀ (a : Fin 2) (b : Fin 2048), x3 (ix2 a b) = P a b)

include hX in
/-- A row's sum of squares. -/
theorem r1 (i : Fin 4096) : val_main_v1 x0 (ix1 i) = ∑ k : Fin 1024, X i k * X i k := by
  have e : ∀ (a : Fin 4096) (b : Fin 1024), val_main_v0 x0 (ix2 a b) = X a b * X a b := by
    intro a b
    pointwise [val_main_v0]
    rw [hX]
  unfold val_main_v1
  revert e
  generalize val_main_v0 x0 = y
  intro e
  pointwise [val_main_cst]
  simp only [e]

include hX in
/-- The norm's scale. -/
theorem r7 (i : Fin 4096) (j : Fin 1) : val_main_v7 x0 (ix2 i j) = rE X i := by
  have e := r1 x0 X hX
  unfold val_main_v7 val_main_v6 val_main_v4 val_main_v2
  revert e
  generalize val_main_v1 x0 = y
  intro e
  pointwise [val_main_v5, val_main_cst_1, val_main_v3, val_main_cst_0]
  rw [e]
  rfl

include hX hG in
/-- The normed rows. -/
theorem r11 (i : Fin 4096) (k : Fin 1024) : val_main_v11 x0 x1 (ix2 i k) = normE X G i k := by
  have e := r7 x0 X hX
  unfold val_main_v11 val_main_v9 val_main_v8
  revert e
  generalize val_main_v7 x0 = y
  intro e
  pointwise [val_main_v10]
  rw [e, hX, hG]
  rfl

include hX hG in
/-- The second result: the normed rows, rounded. -/
theorem r15 (i : Fin 4096) (k : Fin 1024) : val_main_v15 x0 x1 (ix2 i k) = normE X G i k := by
  have e := r11 x0 x1 X G hX hG
  unfold val_main_v15
  revert e
  generalize val_main_v11 x0 x1 = y
  intro e
  pointwise
  exact e i k

include hX hG hW in
/-- The product with the weight. -/
theorem rz (i : Fin 4096) (k : Fin 1536) : val_main_v14 x0 x1 x2 (ix2 i k) = mmE 1024 (normE X G) W i k := by
  have e := r11 x0 x1 X G hX hG
  unfold val_main_v14
  revert e
  generalize val_main_v11 x0 x1 = y
  intro e
  pointwise [val_main_v13, val_main_v12]
  simp only [e, hW]
  rfl

include hP in
/-- The angles. -/
theorem r29 (i : Fin 2) (s : Fin 2048) (j : Fin 32) : val_main_v29 x3 (ix3 i s j) = angW (P i s) j := by
  pointwise [val_main_v29, val_main_v28, val_main_v27, val_main_v26, val_main_v25, val_main_v24, val_main_v23, val_main_v22, val_main_cst_3, val_main_v21, val_main_v20, val_main_cst_2, val_main_v19, val_main_v18]
  rw [hP]
  rfl

include hX hG hW hP in
/-- The third result: the product's first 768 columns rotated. -/
theorem r47 (i : Fin 4096) (k : Fin 768) : val_main_v47 x0 x1 x2 x3 (ix2 i k) = rotE (mmE 1024 (normE X G) W) (cosE P) (sinE P) i k := by
  have ez := rz x0 x1 x2 X G W hX hG hW
  have et := r29 x3 P hP
  unfold val_main_v47 val_main_v46 val_main_v40 val_main_v45 val_main_v37 val_main_v39 val_main_v42 val_main_v44 val_main_v36 val_main_v38 val_main_v41 val_main_v43 val_main_v34 val_main_v35 val_main_v31 val_main_v33 val_main_v30 val_main_v32 val_main_v17 val_main_v16
  revert ez et
  generalize val_main_v14 x0 x1 x2 = z
  generalize val_main_v29 x3 = t
  intro ez et
  pointwise
  simp only [ez, et]
  generalize mmE 1024 (normE X G) W = Z
  clear ez et
  unfold rotE sgnE cosE sinE angE
  by_cases hk : (k : ℕ) % 64 < 32
  · rw [dif_pos hk, if_pos hk, if_pos hk, ← rot_first]
    rw [show (k : ℕ) / 64 * 64 + (32 + k % 64) = k + 32 by omega, show (k : ℕ) % 64 = k % 32 by omega]
  · rw [dif_neg hk, if_neg hk, if_neg hk, add_comm]
    rw [show (k : ℕ) / 64 * 64 + (32 + (k % 64 - 32)) = k by omega, show (k : ℕ) / 64 * 64 + (k % 64 - 32) = k - 32 by omega,
      show (k : ℕ) % 64 - 32 = k % 32 by omega]

end reference

set_option maxHeartbeats 1600000 in
/-- The kernel's results are the reference's, for all arguments. -/
theorem algebraic : Cert.algebraic_Kernel17Ideal_Reference17Ideal := by
  pair_intro
  · run_from Cert.Kernel17Ideal.Gen.run_main m g
  · refine (θ_run _ _ _).mono (fun r h c => ?_) (Cert.Reference17Ideal.Value.run m' g')
    obtain ⟨X, hX⟩ := mat_of (R := 4096) (C := 1024) fun a b => m ((c.tc : Thread Cert.Kernel17Ideal.nD Cert.Kernel17Ideal.τ).loc Cert.Kernel17Ideal.main_arg0) (ix2 a b)
    obtain ⟨G, hG⟩ := mat_of (R := 1) (C := 1024) fun a b => m ((c.tc : Thread Cert.Kernel17Ideal.nD Cert.Kernel17Ideal.τ).loc Cert.Kernel17Ideal.main_arg1) (ix2 a b)
    have hG : ∀ (a : Fin 1) (b : Fin 1024), m ((c.tc : Thread Cert.Kernel17Ideal.nD Cert.Kernel17Ideal.τ).loc Cert.Kernel17Ideal.main_arg1) (ix2 a b) = G 0 b :=
      fun a b => (congrArg (fun a => m ((c.tc : Thread Cert.Kernel17Ideal.nD Cert.Kernel17Ideal.τ).loc Cert.Kernel17Ideal.main_arg1) (ix2 a b)) (Subsingleton.elim a 0)).trans (hG 0 b)
    obtain ⟨W, hW⟩ := mat_of (R := 1024) (C := 1536) fun b a => m ((c.tc : Thread Cert.Kernel17Ideal.nD Cert.Kernel17Ideal.τ).loc Cert.Kernel17Ideal.main_arg2) (ix2 a b)
    replace hW : ∀ (a : Fin 1536) (b : Fin 1024), m ((c.tc : Thread Cert.Kernel17Ideal.nD Cert.Kernel17Ideal.τ).loc Cert.Kernel17Ideal.main_arg2) (ix2 a b) = W b a := fun a b => hW b a
    obtain ⟨P, hP⟩ := bits_of (R := 2) (C := 2048) fun a b => m ((c.tc : Thread Cert.Kernel17Ideal.nD Cert.Kernel17Ideal.τ).loc Cert.Kernel17Ideal.main_arg3) (ix2 a b)
    obtain ⟨a0, a1, a2, a3⟩ := hagree c
    refine ⟨(h c).1.trans ?_, (h c).2.1.trans ?_, (h c).2.2.1.trans ?_, (h c).2.2.2⟩
    · refine (Reference17Ideal.Read.val_main_v14_eq _ _ _ ).trans ?_
      rw [a0, a1, a2]
      refine Eq.trans ?_ (final5 m c X G W hX hG hW).symm
      funext i
      idx_vars i
      exact rz _ _ _ X G W hX hG hW i0 i1
    · refine (Reference17Ideal.Read.val_main_v15_eq _ _ ).trans ?_
      rw [a0, a1]
      refine Eq.trans ?_ (final6 m c X G hX hG).symm
      funext i
      idx_vars i
      exact r15 _ _ X G hX hG i0 i1
    · refine (Reference17Ideal.Read.val_main_v47_eq m' c).trans ?_
      rw [a0, a1, a2, a3]
      refine Eq.trans ?_ (final7 m c X G W P hX hG hW hP).symm
      funext i
      idx_vars i
      exact r47 _ _ _ _ X G W P hX hG hW hP i0 i1

end Cert.KvFwdClaim
end
-- ==== Proof.MemkvClaim.lean ====
/- The memory's key/value projection: the kernel's tiles are the reference's normed rows, and their product with the weight. -/
module

public import proofs.«01_k».proof.Proof.FwdSpec
public import proofs.«01_k».proof.Proof.Gen.Kernel18Ideal.Value
public import proofs.«01_k».proof.Proof.Gen.Reference18Ideal.Run
public import proofs.«01_k».proof.Proof.Gen.Reference18Ideal.Read
public import proofs.«01_k».proof.Defs
public import Idealize.ShloMosaic.Lib.Claim

@[expose] public section
set_option maxRecDepth 16384
noncomputable section
namespace Cert.MemkvClaim
open Idealize.ShloMosaic Idealize.ShloMosaic.TcCoe Idealize.SL.Sem
open Cert.Coe Cert.FwdSpec
open scoped BigOperators

section kernel
open Cert.Kernel18Ideal Cert.Kernel18Ideal.Gen
open Idealize.ShloMosaic.Pipeline (Dat)

section block
variable (x0 : Vec Ideal S256x1024 .f32) (x1 : Vec Ideal S1x1024 .f32) (x2 : Vec Ideal S1024x512 .bf16) (X G W : ℕ → ℕ → EReal)
variable (h0 : ∀ (a : Fin 256) (b : Fin 1024), x0 (ix2 a b) = X a b) (h1 : ∀ (a : Fin 1) (b : Fin 1024), x1 (ix2 a b) = G 0 b)
  (h2 : ∀ (a : Fin 1024) (b : Fin 512), x2 (ix2 a b) = W a b)

include h0 h1 in
/-- The first half's normed rows. -/
theorem p3 (a : Fin 256) (b : Fin 1024) : k0_pay3 x0 x1 (ix2 a b) = normE X G a b := by
  pointwise [k0_pay3]
  simp only [h0, h1]
  rfl

include h0 h1 in
/-- The second half's normed rows. -/
theorem p4 (a : Fin 256) (b : Fin 1024) : k0_pay4 x0 x1 (ix2 a b) = normE X G a b := by
  pointwise [k0_pay4]
  simp only [h0, h1]
  rfl

include h0 h1 h2 in
/-- The first half's product. -/
theorem p5 (a : Fin 256) (b : Fin 512) : k0_pay1 (k0_pay5 x0 x1 x2) (ix2 a b) = mmE 1024 (normE X G) W a b := by
  pointwise [k0_pay1, k0_pay5]
  simp only [p3 x0 x1 X G h0 h1, h2]
  rfl

include h0 h1 h2 in
/-- The second half's product. -/
theorem p2 (a : Fin 256) (b : Fin 512) : k0_pay2 (k0_pay4 x0 x1) x2 (ix2 a b) = mmE 1024 (normE X G) W a b := by
  pointwise [k0_pay2]
  simp only [p4 x0 x1 X G h0 h1, h2]
  rfl

end block

/-- The block indices at point `t`. -/
theorem idx : ∀ t : Fin cfg0.N, win0_0.index t = ![(t : ℕ), 0] ∧ win0_1.index t = ![0, 0] ∧ win0_2.index t = ![0, 0] ∧ win0_3.index t = ![(t : ℕ), 0] ∧ win0_4.index t = ![(t : ℕ), 0] :=
  (by decide +kernel : ∀ t : Fin grid0.N, win0_0.index t = ![(t : ℕ), 0] ∧ win0_1.index t = ![0, 0] ∧ win0_2.index t = ![0, 0] ∧ win0_3.index t = ![(t : ℕ), 0] ∧ win0_4.index t = ![(t : ℕ), 0])

/-- The number of grid points. -/
theorem t_lt (t : Fin cfg0.N) : (t : ℕ) < 1 := lt_of_lt_of_eq t.isLt (by decide : grid0.N = 1)

/-- The lower half of a loaded block. -/
theorem ld_f32_1024_0 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![0, 0] ![256, 1024] inb_S512x1024_S256x1024_0_0) (ix2 a b) = rowsE F (s + 0) a b := by
  have e := e ⟨0 + a, by omega⟩ b
  rw [rowsE] at e ⊢
  rw [Nat.add_assoc, ← e]
  clear e
  pointwise
  try blk_ext

/-- The upper half of a loaded block. -/
theorem ld_f32_1024_256 (u : Vec Ideal S512x1024 .f32) (F : ℕ → ℕ → EReal) (s : ℕ) (e : ∀ (a : Fin 512) (b : Fin 1024), u (ix2 a b) = rowsE F s a b) (a : Fin 256) (b : Fin 1024) :
    View.ld u (Rect.unit (s := S512x1024) ![256, 0] ![256, 1024] inb_S512x1024_S256x1024_256_0) (ix2 a b) = rowsE F (s + 256) a b := by
  have e := e ⟨256 + a, by omega⟩ b
  rw [rowsE] at e ⊢
  rw [Nat.add_assoc, ← e]
  clear e
  pointwise
  try blk_ext

variable (m : (ℓ : Loc nD τ sig) → Buf (Elt Ideal) ℓ) (c : Dev nD) (X G W : ℕ → ℕ → EReal)
variable (hX : ∀ (a : Fin 512) (b : Fin 1024), m ((c : Thread nD τ).loc main_arg0) (ix2 a b) = X a b)
  (hG : ∀ (a : Fin 1) (b : Fin 1024), m ((c : Thread nD τ).loc main_arg1) (ix2 a b) = G 0 b)
  (hW : ∀ (a : Fin 1024) (b : Fin 512), m ((c : Thread nD τ).loc main_arg2) (ix2 a b) = W a b)

include hX in
theorem blk0 (t : Fin cfg0.N) (a : Fin 512) (b : Fin 1024) : iblk m c 0 t (ix2 a b) = rowsE X (512 * t) a b := by
  have ht := t_lt t
  rw [rowsE, ← hX ⟨512 * t + a, by omega⟩ b]
  blk_ext [iblk, V, idx t]

include hG in
theorem blk1 (t : Fin cfg0.N) (a : Fin 1) (b : Fin 1024) : iblk m c 1 t (ix2 a b) = G 0 b := by
  rw [← hG a b]
  blk_ext [iblk, V, idx t]

include hW in
theorem blk2 (t : Fin cfg0.N) (a : Fin 1024) (b : Fin 512) : iblk m c 2 t (ix2 a b) = W a b := by
  rw [← hW a b]
  blk_ext [iblk, V, idx t]

include hX hG hW in
/-- The array the kernel leaves in window 3. -/
theorem final3 : (dats m 0 c).arrAt 3 cfg0.N = fun i : S512x512.Idx => mmE 1024 (normE X G) W (i 0 : ℕ) (i 1 : ℕ) := by
  refine (dats m 0 c).arrAt_eq_of_covers 3 _ (by decide +kernel) fun t hf y => ?_
  blk_simp
  rw [after0_3, (idx t).2.2.2.1]
  show _ = mmE 1024 (normE X G) W ((t : ℕ) * 512 + (y 0 : ℕ)) (0 * 512 + (y 1 : ℕ))
  rw [show (t : ℕ) * 512 + (y 0 : ℕ) = 512 * t + y 0 by omega, show 0 * 512 + (y 1 : ℕ) = y 1 by omega]
  have lo : ∀ (x : S256x512.Idx) (h0 : (y 0 : ℕ) = x 0) (h1 : (y 1 : ℕ) = x 1), k0_pay1 (k0_pay5 (View.ld (iblk m c 0 t) (Rect.unit ![0, 0] ![256, 1024] inb_S512x1024_S256x1024_0_0)) (iblk m c 1 t) (iblk m c 2 t)) x
      = mmE 1024 (normE X G) W (512 * (t : ℕ) + (y 0 : ℕ)) (y 1 : ℕ) := by
    intro x h0 h1
    rw [h0, h1]
    idx_vars x
    exact p5 _ _ _ (rowsE X (512 * t + 0)) G W (ld_f32_1024_0 _ X _ (blk0 m c X hX t)) (blk1 m c G hG t) (blk2 m c W hW t) x0 x1
  have hi : ∀ (x : S256x512.Idx) (h0 : (y 0 : ℕ) = 256 + x 0) (h1 : (y 1 : ℕ) = x 1), k0_pay2 (k0_pay4 (View.ld (iblk m c 0 t) (Rect.unit ![256, 0] ![256, 1024] inb_S512x1024_S256x1024_256_0)) (iblk m c 1 t)) (iblk m c 2 t) x
      = mmE 1024 (normE X G) W (512 * (t : ℕ) + (y 0 : ℕ)) (y 1 : ℕ) := by
    intro x h0 h1
    rw [h0, h1, ← Nat.add_assoc]
    idx_vars x
    exact p2 _ _ _ (rowsE X (512 * t + 256)) G W (ld_f32_1024_256 _ X _ (blk0 m c X hX t)) (blk1 m c G hG t) (blk2 m c W hW t) x0 x1
  frame_out
  canon_tiles x h
  · exact hi x (by omega) (by omega)
  · exact lo x (by omega) (by omega)

include hX hG in
/-- The array the kernel leaves in window 4. -/
theorem final4 : (dats m 0 c).arrAt 4 cfg0.N = fun i : S512x1024.Idx => normE X G (i 0 : ℕ) (i 1 : ℕ) := by
  refine (dats m 0 c).arrAt_eq_of_covers 4 _ (by decide +kernel) fun t hf y => ?_
  blk_simp
  rw [after0_4, (idx t).2.2.2.2]
  show _ = normE X G ((t : ℕ) * 512 + (y 0 : ℕ)) (0 * 1024 + (y 1 : ℕ))
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay3 (View.ld (iblk m c 0 t) (Rect.unit ![0, 0] ![256, 1024] inb_S512x1024_S256x1024_0_0)) (iblk m c 1 t) x
      = normE X G (512 * (t : ℕ) + (y 0 : ℕ)) (y 1 : ℕ) := by
    intro x h0 h1
    rw [h0, h1]
    idx_vars x
    exact p3 _ _ (rowsE X (512 * t + 0)) G (ld_f32_1024_0 _ X _ (blk0 m c X hX t)) (blk1 m c G hG t) x0 x1
  have hi : ∀ (x : S256x1024.Idx) (h0 : (y 0 : ℕ) = 256 + x 0) (h1 : (y 1 : ℕ) = x 1), k0_pay4 (View.ld (iblk m c 0 t) (Rect.unit ![256, 0] ![256, 1024] inb_S512x1024_S256x1024_256_0)) (iblk m c 1 t) x
      = normE X G (512 * (t : ℕ) + (y 0 : ℕ)) (y 1 : ℕ) := by
    intro x h0 h1
    rw [h0, h1, ← Nat.add_assoc]
    idx_vars x
    exact p4 _ _ (rowsE X (512 * t + 256)) G (ld_f32_1024_256 _ X _ (blk0 m c X hX t)) (blk1 m c G hG t) x0 x1
  frame_out
  canon_tiles x h
  · exact hi x (by omega) (by omega)
  · exact lo x (by omega) (by omega)

end kernel

section reference
open Cert.Reference18Ideal Cert.Reference18Ideal.Gen Cert.Reference18Ideal.Read
variable (x0 : Vec Ideal S512x1024 .f32) (x1 : Vec Ideal S1x1024 .f32) (x2 : Vec Ideal S1024x512 .bf16) (X G W : ℕ → ℕ → EReal)
variable (hX : ∀ (a : Fin 512) (b : Fin 1024), x0 (ix2 a b) = X a b) (hG : ∀ (a : Fin 1) (b : Fin 1024), x1 (ix2 a b) = G 0 b)
  (hW : ∀ (a : Fin 1024) (b : Fin 512), x2 (ix2 a b) = W a b)

include hX in
/-- A row's sum of squares. -/
theorem r1 (i : Fin 512) : val_main_v1 x0 (ix1 i) = ∑ k : Fin 1024, X i k * X i k := by
  have e : ∀ (a : Fin 512) (b : Fin 1024), val_main_v0 x0 (ix2 a b) = X a b * X a b := by
    intro a b
    pointwise [val_main_v0]
    rw [hX]
  unfold val_main_v1
  revert e
  generalize val_main_v0 x0 = y
  intro e
  pointwise [val_main_cst]
  simp only [e]

include hX in
/-- The norm's scale. -/
theorem r7 (i : Fin 512) (j : Fin 1) : val_main_v7 x0 (ix2 i j) = rE X i := by
  have e := r1 x0 X hX
  unfold val_main_v7 val_main_v6 val_main_v4 val_main_v2
  revert e
  generalize val_main_v1 x0 = y
  intro e
  pointwise [val_main_v5, val_main_cst_1, val_main_v3, val_main_cst_0]
  rw [e]
  rfl

include hX hG in
/-- The normed rows. -/
theorem r11 (i : Fin 512) (k : Fin 1024) : val_main_v11 x0 x1 (ix2 i k) = normE X G i k := by
  have e := r7 x0 X hX
  unfold val_main_v11 val_main_v9 val_main_v8
  revert e
  generalize val_main_v7 x0 = y
  intro e
  pointwise [val_main_v10]
  rw [e, hX, hG]
  rfl

include hX hG in
/-- The second result: the normed rows, rounded. -/
theorem r15 (i : Fin 512) (k : Fin 1024) : val_main_v15 x0 x1 (ix2 i k) = normE X G i k := by
  have e := r11 x0 x1 X G hX hG
  unfold val_main_v15
  revert e
  generalize val_main_v11 x0 x1 = y
  intro e
  pointwise
  exact e i k

include hX hG hW in
/-- The first result: the product with the weight, rounded. -/
theorem r14 (i : Fin 512) (k : Fin 512) : val_main_v14 x0 x1 x2 (ix2 i k) = mmE 1024 (normE X G) W i k := by
  have e := r11 x0 x1 X G hX hG
  unfold val_main_v14 val_main_v13
  revert e
  generalize val_main_v11 x0 x1 = y
  intro e
  pointwise [val_main_v12]
  simp only [e, hW]
  rfl

end reference

set_option maxHeartbeats 1600000 in
/-- The kernel's results are the reference's, for all arguments. -/
theorem algebraic : Cert.algebraic_Kernel18Ideal_Reference18Ideal := by
  pair_intro
  · run_from Cert.Kernel18Ideal.Gen.run_main m g
  · refine (θ_run _ _ _).mono (fun r h c => ?_) (Cert.Reference18Ideal.Value.run m' g')
    obtain ⟨X, hX⟩ := mat_of (R := 512) (C := 1024) fun a b => m ((c.tc : Thread Cert.Kernel18Ideal.nD Cert.Kernel18Ideal.τ).loc Cert.Kernel18Ideal.main_arg0) (ix2 a b)
    obtain ⟨G, hG⟩ := mat_of (R := 1) (C := 1024) fun a b => m ((c.tc : Thread Cert.Kernel18Ideal.nD Cert.Kernel18Ideal.τ).loc Cert.Kernel18Ideal.main_arg1) (ix2 a b)
    have hG : ∀ (a : Fin 1) (b : Fin 1024), m ((c.tc : Thread Cert.Kernel18Ideal.nD Cert.Kernel18Ideal.τ).loc Cert.Kernel18Ideal.main_arg1) (ix2 a b) = G 0 b :=
      fun a b => (congrArg (fun a => m ((c.tc : Thread Cert.Kernel18Ideal.nD Cert.Kernel18Ideal.τ).loc Cert.Kernel18Ideal.main_arg1) (ix2 a b)) (Subsingleton.elim a 0)).trans (hG 0 b)
    obtain ⟨W, hW⟩ := mat_of (R := 1024) (C := 512) fun a b => m ((c.tc : Thread Cert.Kernel18Ideal.nD Cert.Kernel18Ideal.τ).loc Cert.Kernel18Ideal.main_arg2) (ix2 a b)
    obtain ⟨a0, a1, a2⟩ := hagree c
    refine ⟨(h c).1.trans ?_, (h c).2.1.trans ?_, (h c).2.2⟩
    · refine (Reference18Ideal.Read.val_main_v14_eq _ _ _ ).trans ?_
      rw [a0, a1, a2]
      refine Eq.trans ?_ (final3 m c X G W hX hG hW).symm
      funext i
      idx_vars i
      exact r14 _ _ _ X G W hX hG hW i0 i1
    · refine (Reference18Ideal.Read.val_main_v15_eq _ _ ).trans ?_
      rw [a0, a1]
      refine Eq.trans ?_ (final4 m c X G hX hG).symm
      funext i
      idx_vars i
      exact r15 _ _ X G hX hG i0 i1

end Cert.MemkvClaim
end
-- ==== Proof.WmkvClaim.lean ====
/- The gradient of the memory's key/value weight: the kernel's product of one block of columns at a time is the reference's gradient
   at the weight. -/
module

public import proofs.«01_k».proof.Proof.Coe
public import proofs.«01_k».proof.Proof.Gen.Kernel19Ideal.Value
public import proofs.«01_k».proof.Proof.Gen.Reference19Ideal.Run
public import proofs.«01_k».proof.Proof.Gen.Reference19Ideal.Read
public import proofs.«01_k».proof.Defs
public import Idealize.ShloMosaic.Lib.Claim

@[expose] public section
set_option maxRecDepth 16384
noncomputable section
namespace Cert.WmkvClaim
open Idealize.ShloMosaic Idealize.ShloMosaic.TcCoe Idealize.SL.Sem
open Cert.Coe
open scoped BigOperators

section kernel
open Cert.Kernel19Ideal Cert.Kernel19Ideal.Gen
open Idealize.ShloMosaic.Pipeline (Dat)

/-- One block of the product: the rows of both operands are summed. -/
theorem pay (x0 : Vec Ideal S512x512 .bf16) (x1 : Vec Ideal S512x512 .bf16) (a : Fin 512) (b : Fin 512) :
    k0_pay1 x0 x1 (ix2 a b) = ∑ k : Fin 512, x0 (ix2 k a) * x1 (ix2 k b) := by
  pointwise [k0_pay1]

/-- The block indices at point `t`: the first operand's columns and the result's rows move, the second operand stays. -/
theorem idx : ∀ t : Fin cfg0.N, win0_0.index t = ![0, (t : ℕ)] ∧ win0_1.index t = ![0, 0] ∧ win0_2.index t = ![(t : ℕ), 0] :=
  (by decide +kernel : ∀ t : Fin grid0.N, win0_0.index t = ![0, (t : ℕ)] ∧ win0_1.index t = ![0, 0] ∧ win0_2.index t = ![(t : ℕ), 0])

/-- The number of grid points. -/
theorem t_lt (t : Fin cfg0.N) : (t : ℕ) < 2 := lt_of_lt_of_eq t.isLt (by decide : grid0.N = 2)

variable (m : (ℓ : Loc nD τ sig) → Buf (Elt Ideal) ℓ) (c : Dev nD) (A B : ℕ → ℕ → EReal)
variable (hA : ∀ (a : Fin 512) (b : Fin 1024), m ((c : Thread nD τ).loc main_arg0) (ix2 a b) = A a b)
  (hB : ∀ (a : Fin 512) (b : Fin 512), m ((c : Thread nD τ).loc main_arg1) (ix2 a b) = B a b)

include hA in
/-- The first operand's block. -/
theorem blk0 (t : Fin cfg0.N) (a : Fin 512) (b : Fin 512) : iblk m c 0 t (ix2 a b) = A a (512 * t + b) := by
  have ht := t_lt t
  rw [← hA a ⟨512 * t + b, by omega⟩]
  blk_ext [iblk, V, idx t]

include hB in
/-- The second operand is whole at every point. -/
theorem blk1 (t : Fin cfg0.N) (a : Fin 512) (b : Fin 512) : iblk m c 1 t (ix2 a b) = B a b := by
  rw [← hB a b]
  blk_ext [iblk, V, idx t]

/-- One block of the product, from operands given entry by entry. -/
theorem pay_of (x0 : Vec Ideal S512x512 .bf16) (x1 : Vec Ideal S512x512 .bf16) (X Y : ℕ → ℕ → EReal) (h0 : ∀ (a : Fin 512) (b : Fin 512), x0 (ix2 a b) = X a b)
    (h1 : ∀ (a : Fin 512) (b : Fin 512), x1 (ix2 a b) = Y a b) (a : Fin 512) (b : Fin 512) :
    k0_pay1 x0 x1 (ix2 a b) = ∑ k : Fin 512, X k a * Y k b := by
  rw [pay]
  exact Finset.sum_congr rfl fun k _ => by rw [h0, h1]

include hA hB in
/-- The array the kernel leaves: the product over the rows of both operands. -/
theorem final2 : (dats m 0 c).arrAt 2 cfg0.N = fun i : S1024x512.Idx => ∑ k : Fin 512, A k (i 0 : ℕ) * B k (i 1 : ℕ) := by
  refine (dats m 0 c).arrAt_eq_of_covers 2 _ (by decide +kernel) fun t hf y => ?_
  blk_simp
  rw [after0_2]
  frame_out
  idx_vars y
  refine (pay_of _ _ (fun a b => A a (512 * t + b)) B (blk0 m c A hA t) (blk1 m c B hB t) y0 y1).trans ?_
  rw [(idx t).2.2]
  show _ = ∑ k : Fin 512, A k ((t : ℕ) * 512 + y0) * B k (0 * 512 + (y1 : ℕ))
  rw [show (t : ℕ) * 512 + y0 = 512 * t + y0 by omega, show 0 * 512 + (y1 : ℕ) = y1 by omega]

end kernel

open Cert.Reference19Ideal Cert.Reference19Ideal.Read in
/-- The reference's gradient at an index. -/
theorem ref (x0 : Vec Ideal S512x1024 .bf16) (x1 : Vec Ideal S512x512 .bf16) (A B : ℕ → ℕ → EReal)
    (hA : ∀ (a : Fin 512) (b : Fin 1024), x0 (ix2 a b) = A a b) (hB : ∀ (a : Fin 512) (b : Fin 512), x1 (ix2 a b) = B a b) (i : Fin 1024) (j : Fin 512) :
    val_main_v6 x0 x1 (ix2 i j) = ∑ k : Fin 512, A k i * B k j := by
  pointwise [val_main_v6, val_main_v5, val_main_v4, val_main_v3, val_main_v1]
  simp only [hA, hB]
  exact Finset.sum_congr rfl fun k _ => mul_comm _ _

/-- The kernel's result is the reference's, for all arguments. -/
theorem algebraic : Cert.algebraic_Kernel19Ideal_Reference19Ideal := by
  pair_intro
  · run_from Cert.Kernel19Ideal.Gen.run_main m g
  · run_from Cert.Reference19Ideal.Value.run m' g'
    obtain ⟨A, hA⟩ := mat_of (R := 512) (C := 1024) fun a b => m ((c.tc : Thread Cert.Kernel19Ideal.nD Cert.Kernel19Ideal.τ).loc Cert.Kernel19Ideal.main_arg0) (ix2 a b)
    obtain ⟨B, hB⟩ := mat_of (R := 512) (C := 512) fun a b => m ((c.tc : Thread Cert.Kernel19Ideal.nD Cert.Kernel19Ideal.τ).loc Cert.Kernel19Ideal.main_arg1) (ix2 a b)
    rw [Reference19Ideal.Read.val_main_v6_eq, final2 m c A B hA hB]
    funext i
    idx_vars i
    rw [ref _ _ A B hA hB]

end Cert.WmkvClaim
end
-- ==== Proof.MemFwdClaim.lean ====
/- The memory attention, forwards: from finite arguments the kernel fills the memory's columns with what the reference has
   there, and leaves the others as they came in. -/
module

public import proofs.«01_k».proof.Proof.MemSpec
public import proofs.«01_k».proof.Proof.MemFinal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Pre_mem_fwd_finite
public import proofs.«01_k».proof.Defs
public import Idealize.ShloMosaic.Lib.Claim

@[expose] public section
set_option maxRecDepth 16384
noncomputable section
namespace Cert.MemFwdClaim
open Idealize.ShloMosaic Idealize.ShloMosaic.TcCoe Idealize.SL.Sem
open Cert.Coe Cert.MemSpec
open scoped BigOperators

/-- The attention's result at row `i`, column `c`: the softmax of the column's head times the values. -/
def av (Q K : ℕ → ℕ → ℝ) (i c : ℕ) : ℝ := ∑ n : Fin 256, pr Q K (c / 64) i n * K n (256 + c)

/-- The same with the normaliser taken out of the sum, for a given head. -/
def hv (Q K : ℕ → ℕ → ℝ) (h i c : ℕ) : ℝ := (∑ n : Fin 256, ex Q K h i n * K n (256 + c)) * (1 / ∑ k : Fin 256, ex Q K h i k)

/-- Both are the same number. -/
theorem hv_eq (Q K : ℕ → ℕ → ℝ) (h i c : ℕ) (e : c / 64 = h) : hv Q K h i c = av Q K i c := by
  unfold hv av
  rw [e, Finset.sum_mul]
  exact Finset.sum_congr rfl fun n _ => by rw [pr]; ring

/-- The result of sequence `s` from whole arrays. -/
def avAt (Z KV : ℕ → ℕ → ℝ) (s i c : ℕ) : ℝ := av (sect Z 2048 768 s) (sect KV 256 0 s) i c

/-- Column arithmetic of the second pair of heads. -/
theorem c2 (e : ℕ) : 128 + e = 64 * 2 + e := by omega
theorem c3 (e : ℕ) : 128 + (64 + e) = 64 * 3 + e := by omega
theorem cv (c : ℕ) : 256 + (128 + c) = 384 + c := by omega
theorem cv2 (c : ℕ) : 256 + (64 * 2 + c) = 384 + c := by omega

section kernel
open Cert.Kernel20Ideal Cert.Kernel20Ideal.Gen
open Idealize.ShloMosaic.Pipeline (Dat)

section block
variable (x0 : Vec Ideal S2048x256 .bf16) (x1 : Vec Ideal S256x512 .bf16) (Q K : ℕ → ℕ → ℝ)
variable (h0 : ∀ (a : Fin 2048) (b : Fin 256), x0 (ix2 a b) = ((Q a b : ℝ) : EReal))
  (h1 : ∀ (a : Fin 256) (b : Fin 512), x1 (ix2 a b) = ((K a b : ℝ) : EReal))

include h0 in
/-- The scaled queries of the first pair of heads. -/
theorem q4 (a : Fin 2048) (c : Fin 128) : k0_pay4 x0 (ix2 a c) = ((Q a c * (1 / 8) : ℝ) : EReal) := by
  pointwise [k0_pay4]
  simp only [h0, ← EReal.coe_mul, eighth_bf16]

include h0 in
/-- The scaled queries of the second pair of heads. -/
theorem q11 (a : Fin 2048) (c : Fin 128) : k0_pay11 x0 (ix2 a c) = ((Q a (128 + c) * (1 / 8) : ℝ) : EReal) := by
  pointwise [k0_pay11]
  simp only [h0, ← EReal.coe_mul, eighth_bf16]

include h1 in
/-- The keys of the first pair of heads. -/
theorem k5 (n : Fin 256) (c : Fin 128) : k0_pay5 x1 (ix2 n c) = ((K n c : ℝ) : EReal) := by
  pointwise [k0_pay5]
  simp only [h1]

include h1 in
/-- The values of the first pair of heads. -/
theorem k6 (n : Fin 256) (c : Fin 128) : k0_pay6 x1 (ix2 n c) = ((K n (256 + c) : ℝ) : EReal) := by
  pointwise [k0_pay6]
  simp only [h1]

include h1 in
/-- The keys of the second pair of heads. -/
theorem k12 (n : Fin 256) (c : Fin 128) : k0_pay12 x1 (ix2 n c) = ((K n (128 + c) : ℝ) : EReal) := by
  pointwise [k0_pay12]
  simp only [h1]

include h1 in
/-- The values of the second pair of heads. -/
theorem k13 (n : Fin 256) (c : Fin 128) : k0_pay13 x1 (ix2 n c) = ((K n (384 + c) : ℝ) : EReal) := by
  pointwise [k0_pay13]
  simp only [h1]

include h0 h1 in
/-- The scores of head 1. -/
theorem s1 (a : Fin 2048) (b : Fin 256) : k0_pay8 x0 x1 (ix2 a b) = ((sc Q K 1 a b : ℝ) : EReal) := by
  pointwise [k0_pay8, k0_pay3]
  simp only [select_ge, q4 x0 Q h0, k5 x1 K h1, ← EReal.coe_mul, ← EReal.coe_add, ← EReal.coe_sub, ite_zero_coe, ite_coe_zero, sum_coe, ite_mul, zero_mul, sum_hi, sc, Nat.mul_one]

include h0 h1 in
/-- Their greatest. -/
theorem m1 (a : Fin 2048) (b : Fin 1) : k0_pay9 x0 x1 (ix2 a b) = ((mx (n := 255) (fun n => sc Q K 1 a n) : ℝ) : EReal) := by
  pointwise [k0_pay9]
  simp only [s1 x0 x1 Q K h0 h1, bot_f32, fold_max_coe]

include h0 h1 in
/-- Head 0. -/
theorem o0 (a : Fin 2048) (c : Fin 128) : k0_pay7 x0 x1 (ix2 a c) = ((hv Q K 0 a c : ℝ) : EReal) := by
  pointwise [k0_pay7, k0_pay3]
  simp only [select_lt, q4 x0 Q h0, k5 x1 K h1, k6 x1 K h1, ← EReal.coe_mul, ← EReal.coe_add, ← EReal.coe_sub, ite_zero_coe, ite_coe_zero, sum_coe, ite_mul, zero_mul, sum_lo, bot_f32, fold_max_coe, Ideal.exp_coe, one_div_sum_exp, hv, ex, sc, Nat.mul_zero, Nat.zero_add]

include h0 h1 in
/-- Head 1. -/
theorem o1 (a : Fin 2048) (c : Fin 128) : k0_pay10 (k0_pay6 x1) (k0_pay8 x0 x1) (k0_pay9 x0 x1) (ix2 a c) = ((hv Q K 1 a c : ℝ) : EReal) := by
  pointwise [k0_pay10]
  simp only [s1 x0 x1 Q K h0 h1, m1 x0 x1 Q K h0 h1, k6 x1 K h1, ← EReal.coe_mul, ← EReal.coe_add, ← EReal.coe_sub, ite_zero_coe, ite_coe_zero, sum_coe, ite_mul, zero_mul, bot_f32, fold_max_coe, Ideal.exp_coe, one_div_sum_exp, hv, ex]

include h0 h1 in
/-- Head 2. -/
theorem o2 (a : Fin 2048) (c : Fin 128) : k0_pay14 x0 x1 k0_pay3 (ix2 a c) = ((hv Q K 2 a (128 + c) : ℝ) : EReal) := by
  pointwise [k0_pay14, k0_pay3]
  simp only [select_lt, q11 x0 Q h0, k12 x1 K h1, k13 x1 K h1, ← EReal.coe_mul, ← EReal.coe_add, ← EReal.coe_sub, ite_zero_coe, ite_coe_zero, sum_coe, ite_mul, zero_mul, sum_lo, bot_f32, fold_max_coe, Ideal.exp_coe, one_div_sum_exp, hv, ex, sc, c2, cv2]

include h0 h1 in
/-- The scores of head 3, less their greatest. -/
theorem s3 (a : Fin 2048) (b : Fin 256) : k0_pay15 x0 x1 k0_pay3 (ix2 a b) = ((sc Q K 3 a b - mx (n := 255) (fun n => sc Q K 3 a n) : ℝ) : EReal) := by
  pointwise [k0_pay15, k0_pay3]
  simp only [select_ge, q11 x0 Q h0, k12 x1 K h1, ← EReal.coe_mul, ← EReal.coe_add, ← EReal.coe_sub, ite_zero_coe, ite_coe_zero, sum_coe, ite_mul, zero_mul, sum_hi, bot_f32, fold_max_coe, Ideal.exp_coe, one_div_sum_exp, sc, c3]

include h0 h1 in
/-- The block the body stores. -/
theorem out (a : Fin 2048) (c : Fin 256) : k0_pay1 k0_pay2 (k0_pay7 x0 x1) (k0_pay10 (k0_pay6 x1) (k0_pay8 x0 x1) (k0_pay9 x0 x1)) (k0_pay13 x1)
    (k0_pay14 x0 x1 k0_pay3) (k0_pay15 x0 x1 k0_pay3) (ix2 a c) = ((av Q K a c : ℝ) : EReal) := by
  have e3 : ∀ c : Fin 128, ((((∑ n : Fin 256, ex Q K 3 a n * K n (384 + c)) * (1 / ∑ k : Fin 256, ex Q K 3 a k) : ℝ)) : EReal) = ((hv Q K 3 a (128 + c) : ℝ) : EReal) := by
    intro c
    simp only [hv, cv]
  pointwise [k0_pay1, k0_pay2]
  by_cases hc : (c : ℕ) < 128
  · rw [dif_pos hc, select_lt_nat _ hc, o0 x0 x1 Q K h0 h1, o1 x0 x1 Q K h0 h1, ite_coe, EReal.coe_eq_coe_iff]
    split
    · exact hv_eq Q K 0 a c (by omega)
    · exact hv_eq Q K 1 a c (by omega)
  · have hk : 128 + ((c : ℕ) - 128) = c := by omega
    rw [dif_neg hc, select_lt_nat _ (by omega), o2 x0 x1 Q K h0 h1]
    split
    · rw [hk, EReal.coe_eq_coe_iff]
      exact hv_eq Q K 2 a c (by omega)
    · refine Eq.trans ?_ ((e3 ⟨(c : ℕ) - 128, by omega⟩).trans (by simp only [hk]; rw [hv_eq Q K 3 a c (by omega)]))
      simp only [s3 x0 x1 Q K h0 h1, k13 x1 K h1, ← EReal.coe_mul, ← EReal.coe_add, ← EReal.coe_sub, ite_zero_coe, ite_coe_zero, sum_coe, ite_mul, zero_mul, bot_f32, fold_max_coe, Ideal.exp_coe, one_div_sum_exp, ex]

end block

/-- The block indices of every window at point `t`. -/
theorem idx : ∀ t : Fin cfg0.N, win0_0.index t = ![(t : ℕ), 3] ∧ win0_1.index t = ![(t : ℕ), 0] ∧ win0_2.index t = ![(t : ℕ), 3] :=
  (by decide +kernel : ∀ t : Fin grid0.N, win0_0.index t = ![(t : ℕ), 3] ∧ win0_1.index t = ![(t : ℕ), 0] ∧ win0_2.index t = ![(t : ℕ), 3])

variable (m : (ℓ : Loc nD τ sig) → Buf (Elt Ideal) ℓ) (c : Dev nD) (Z KV : ℕ → ℕ → ℝ)
variable (hz : ∀ (a : Fin 4096) (b : Fin 1024), m ((c : Thread nD τ).loc main_arg0) (ix2 a b) = ((Z a b : ℝ) : EReal))
  (hk : ∀ (a : Fin 512) (b : Fin 512), m ((c : Thread nD τ).loc main_arg1) (ix2 a b) = ((KV a b : ℝ) : EReal))

/-- Two grid points. -/
theorem t_lt (t : Fin cfg0.N) : (t : ℕ) < 2 := lt_of_lt_of_eq t.isLt (by decide : grid0.N = 2)

include hz in
/-- The block of queries at a point. -/
theorem blk_z (t : Fin cfg0.N) (a : Fin 2048) (b : Fin 256) : iblk m c 0 t (ix2 a b) = ((sect Z 2048 768 t a b : ℝ) : EReal) := by
  have ht := t_lt t
  rw [sect, ← hz ⟨2048 * t + a, by omega⟩ ⟨768 + b, by omega⟩]
  blk_ext [iblk, V, idx t]

include hk in
/-- The block of keys and values at a point. -/
theorem blk_k (t : Fin cfg0.N) (a : Fin 256) (b : Fin 512) : iblk m c 1 t (ix2 a b) = ((sect KV 256 0 t a b : ℝ) : EReal) := by
  have ht := t_lt t
  rw [sect, ← hk ⟨256 * t + a, by omega⟩ ⟨0 + b, by omega⟩]
  blk_ext [iblk, V, idx t]

include hz hk in
/-- The array the kernel leaves: the memory's columns are filled, the others are as they came in. -/
theorem final2 : (dats m 0 c).arrAt 2 cfg0.N = fun i : S4096x1024.Idx => if (i 1 : ℕ) < 768 then m ((c : Thread nD τ).loc main_arg2) i
    else ((avAt Z KV ((i 0 : ℕ) / 2048) ((i 0 : ℕ) % 2048) ((i 1 : ℕ) - 768) : ℝ) : EReal) := by
  refine (dats m 0 c).arrAt_eq_of_coversWhere_of_agree 2 _ (fun β => β (1 : Fin _) = 3) (by decide +kernel) (fun t hf y => ?_) (fun j hj => ?_)
  · blk_simp
    rw [after0_2]; unfold outsAt0; frame_out
    have ht := t_lt t
    idx_vars y
    refine (out _ _ _ _ (blk_z m c Z hz t) (blk_k m c KV hk t) _ _).trans ?_
    rw [(idx t).2.2]
    show _ = if 3 * 256 + (y1 : ℕ) < 768 then _ else
      ((avAt Z KV (((t : ℕ) * 2048 + y0) / 2048) (((t : ℕ) * 2048 + y0) % 2048) (3 * 256 + (y1 : ℕ) - 768) : ℝ) : EReal)
    rw [if_neg (by omega), show ((t : ℕ) * 2048 + y0) / 2048 = t by omega, show ((t : ℕ) * 2048 + y0) % 2048 = y0 by omega,
      show 3 * 256 + (y1 : ℕ) - 768 = y1 by omega, avAt]
  · blk_simp [Pipeline.Window.cell_apply] at hj ⊢
    have hb : (j 1 : ℕ) < 1024 := (j 1).isLt
    refine Eq.trans ?_ (if_pos (show (j 1 : ℕ) < 768 by omega)).symm
    show V m c main_v0 j = _
    unfold V
    after_results; try rfl

end kernel

section reference
open Cert.Reference20Ideal Cert.Reference20Ideal.Gen Cert.Reference20Ideal.Read
variable (x0 : Vec Ideal S4096x1024 .bf16) (x1 : Vec Ideal S512x512 .bf16) (x2 : Vec Ideal S4096x1024 .bf16) (Z KV : ℕ → ℕ → ℝ)
variable (hz : ∀ (a : Fin 4096) (b : Fin 1024), x0 (ix2 a b) = ((Z a b : ℝ) : EReal))
  (hk : ∀ (a : Fin 512) (b : Fin 512), x1 (ix2 a b) = ((KV a b : ℝ) : EReal))

/-- The softmax's normaliser is positive. -/
theorem den (Q K : ℕ → ℕ → ℝ) (h i : ℕ) : 0 < ∑ k : Fin 256, ex Q K h i k := by
  simp only [ex]
  exact sum_exp_pos (n := 255) _

include hz in
/-- The queries by sequence, position, head and lane. -/
theorem r5 (s : Fin 2) (i : Fin 2048) (h : Fin 4) (e : Fin 64) :
    val_main_v5 x0 (ix4 s i h e) = (((sect Z 2048 768 s) i (64 * h + e) : ℝ) : EReal) := by
  rw [sect, ← hz ⟨2048 * s + i, by omega⟩ ⟨768 + (64 * h + e), by omega⟩]
  pointwise [val_main_v5, val_main_v2, val_main_v1, val_main_v0]
  blk_ext

include hk in
/-- The keys by sequence, row, head and lane. -/
theorem r7 (s : Fin 2) (n : Fin 256) (h : Fin 4) (e : Fin 64) :
    val_main_v7 x1 (ix4 s n h e) = (((sect KV 256 0 s) n (64 * h + e) : ℝ) : EReal) := by
  rw [sect, ← hk ⟨256 * s + n, by omega⟩ ⟨0 + (64 * h + e), by omega⟩]
  pointwise [val_main_v7, val_main_v6, val_main_v4, val_main_v3]
  blk_ext

include hk in
/-- The values by sequence, row, head and lane. -/
theorem r9 (s : Fin 2) (n : Fin 256) (h : Fin 4) (e : Fin 64) :
    val_main_v9 x1 (ix4 s n h e) = (((sect KV 256 0 s) n (256 + (64 * h + e)) : ℝ) : EReal) := by
  rw [sect, ← hk ⟨256 * s + n, by omega⟩ ⟨0 + (256 + (64 * h + e)), by omega⟩]
  pointwise [val_main_v9, val_main_v8, val_main_v4, val_main_v3]
  blk_ext

include hz hk in
/-- The scaled scores. -/
theorem r12 (s : Fin 2) (h : Fin 4) (i : Fin 2048) (n : Fin 256) :
    val_main_v12 x0 x1 (ix4 s h i n) = ((sc (sect Z 2048 768 s) (sect KV 256 0 s) h i n : ℝ) : EReal) := by
  unfold val_main_v12 val_main_v10 val_main_v11
  pointwise [val_main_cst]
  simp only [r5 x0 Z hz, r7 x1 KV hk, ← EReal.coe_mul, sum_coe, eighth_f32]
  rw [EReal.coe_eq_coe_iff, Finset.sum_mul]
  exact Finset.sum_congr rfl fun e _ => by ring

/-- The greatest score of a query. -/
theorem r13 (s : Fin 2) (h : Fin 4) (i : Fin 2048) :
    val_main_v13 x0 x1 (ix3 s h i) = Finset.fold max (⊥ : EReal) (fun n : Fin 256 => val_main_v12 x0 x1 (ix4 s h i n)) Finset.univ := by
  unfold val_main_v13
  generalize val_main_v12 x0 x1 = y
  pointwise [val_main_cst_0]
  rw [bot_f32]

/-- It is not below `-∞`. -/
theorem r15 (i : S2x4x2048.Idx) : val_main_v15 x0 x1 i = val_main_v13 x0 x1 i := by
  rw [val_main_v15_apply]
  generalize val_main_v13 x0 x1 i = y
  rw [val_main_v14_apply, val_main_cst_1_apply]
  exact (congrArg (max · y) bot_f32).trans (max_eq_right bot_le)

/-- The greatest score, spread over the keys. -/
theorem r17 (s : Fin 2) (h : Fin 4) (i : Fin 2048) (n : Fin 256) :
    val_main_v17 x0 x1 (ix4 s h i n) = val_main_v13 x0 x1 (ix3 s h i) := by
  rw [← r15]
  unfold val_main_v17 val_main_v16
  generalize val_main_v15 x0 x1 = y
  pointwise

include hz hk in
/-- The numerators of the softmax. -/
theorem r19 (s : Fin 2) (h : Fin 4) (i : Fin 2048) (n : Fin 256) :
    val_main_v19 x0 x1 (ix4 s h i n) = ((ex (sect Z 2048 768 s) (sect KV 256 0 s) h i n : ℝ) : EReal) := by
  unfold val_main_v19 val_main_v18
  pointwise
  rw [r17, r13]
  simp only [r12 x0 x1 Z KV hz hk]
  rw [fold_max_coe (n := 255) fun k => sc (sect Z 2048 768 s) (sect KV 256 0 s) h i k, ← EReal.coe_sub, Ideal.exp_coe, ex]

include hz hk in
/-- The normalisers of the softmax. -/
theorem r20 (s : Fin 2) (h : Fin 4) (i : Fin 2048) :
    val_main_v20 x0 x1 (ix3 s h i) = ((∑ k : Fin 256, ex (sect Z 2048 768 s) (sect KV 256 0 s) h i k : ℝ) : EReal) := by
  have e := r19 x0 x1 Z KV hz hk s h i
  unfold val_main_v20
  revert e
  generalize val_main_v19 x0 x1 = y
  intro e
  pointwise [val_main_cst_2]
  simp only [e, sum_coe]

include hz hk in
/-- The softmax. -/
theorem r23 (s : Fin 2) (h : Fin 4) (i : Fin 2048) (n : Fin 256) :
    val_main_v23 x0 x1 (ix4 s h i n) = ((pr (sect Z 2048 768 s) (sect KV 256 0 s) h i n : ℝ) : EReal) := by
  have e := r20 x0 x1 Z KV hz hk s h i
  unfold val_main_v23 val_main_v22 val_main_v21
  revert e
  generalize val_main_v20 x0 x1 = y
  intro e
  pointwise
  rw [e, r19 x0 x1 Z KV hz hk, div_real _ _ (den _ _ _ _).ne', pr, mul_one_div]

include hz hk in
/-- The softmax times the values. -/
theorem r24 (s : Fin 2) (h : Fin 4) (e : Fin 64) (i : Fin 2048) :
    val_main_v24 x0 x1 (ix4 s h e i) = ((av (sect Z 2048 768 s) (sect KV 256 0 s) i (64 * h + e) : ℝ) : EReal) := by
  have e23 := r23 x0 x1 Z KV hz hk
  unfold val_main_v24
  revert e23
  generalize val_main_v23 x0 x1 = y
  intro e23
  pointwise
  simp only [e23, r9 x1 KV hk, ← EReal.coe_mul, sum_coe]
  rw [EReal.coe_eq_coe_iff, av, show (64 * (h : ℕ) + e) / 64 = h by omega]
  exact Finset.sum_congr rfl fun n _ => mul_comm _ _

include hz hk in
/-- The filled columns. -/
theorem r29 (i : Fin 4096) (c : Fin 256) :
    val_main_v29 x0 x1 (ix2 i c) = ((avAt Z KV ((i : ℕ) / 2048) ((i : ℕ) % 2048) c : ℝ) : EReal) := by
  have e24 := r24 x0 x1 Z KV hz hk
  unfold val_main_v29 val_main_v28 val_main_v26 val_main_v25
  revert e24
  generalize val_main_v24 x0 x1 = y
  intro e24
  pointwise
  simp only [e24, Nat.div_add_mod]
  rfl

/-- The reference's result at an index. -/
theorem r30 (i : Fin 4096) (c : Fin 1024) :
    val_main_v30 x0 x1 x2 (ix2 i c) = if h : (c : ℕ) < 768 then x2 (ix2 i c) else val_main_v29 x0 x1 (ix2 i ⟨(c : ℕ) - 768, by omega⟩) := by
  unfold val_main_v30
  generalize val_main_v29 x0 x1 = y
  pointwise [val_main_v27]

end reference

/-- Finite arguments are real numbers. -/
theorem reals (x0 x2 : Vec Ideal Cert.Pre_mem_fwd_finite.S4096x1024 .bf16) (x1 : Vec Ideal Cert.Pre_mem_fwd_finite.S512x512 .bf16)
    (h : (Cert.Pre_mem_fwd_finite.fn (F := Ideal) x0 x1 x2).1 = (fun _ => 1#1) ∧ (Cert.Pre_mem_fwd_finite.fn (F := Ideal) x0 x1 x2).2 = (fun _ => 1#1)) :
    ∃ Z KV : ℕ → ℕ → ℝ, (∀ (a : Fin 4096) (b : Fin 1024), x0 (ix2 a b) = ((Z a b : ℝ) : EReal))
      ∧ (∀ (a : Fin 512) (b : Fin 512), x1 (ix2 a b) = ((KV a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2 (ix2 a b)
    rw [← top_f32]
    exact this)
  obtain ⟨Z, hZ⟩ := real_mat (fun a b => x0 (ix2 a b)) e0
  obtain ⟨KV, hKV⟩ := real_mat (fun a b => x1 (ix2 a b)) e1
  exact ⟨Z, KV, hZ, hKV⟩

set_option maxHeartbeats 800000 in
/-- The kernel's result is the reference's. -/
theorem algebraic : Cert.algebraic_Kernel20Ideal_Reference20Ideal_pre_mem_fwd_finite := by
  pair_intro
  · run_from Cert.Kernel20Ideal.Gen.run_main m g
  · refine (θ_run _ _ _).mono (fun r h c => ?_) (Cert.Reference20Ideal.Value.run m' g')
    obtain ⟨Z, KV, hZ, hKV⟩ := reals _ _ _ (hpre c)
    obtain ⟨a0, a1, a2⟩ := hagree c
    refine ⟨(h c).1.trans ?_, (h c).2⟩
    refine (Cert.Reference20Ideal.Read.val_main_v30_eq m' c).trans ?_
    rw [a0, a1, a2]
    refine Eq.trans ?_ (final2 m c Z KV hZ hKV).symm
    funext i
    idx_vars i
    rw [r30]
    split
    · exact (if_pos ‹_›).symm
    · refine Eq.trans ?_ (if_neg ‹_›).symm
      rw [r29 _ _ Z KV hZ hKV]

end Cert.MemFwdClaim
end
-- ==== Proof.DmnRef.lean ====
/- The reference's gradients of the memory's projection, from finite arguments, as the real formulas of `RmsSpec`. -/
module

public import proofs.«01_k».proof.Proof.RmsSpec
public import proofs.«01_k».proof.Proof.Gen.Reference21Ideal.Run
public import proofs.«01_k».proof.Proof.Gen.Reference21Ideal.Read

@[expose] public section
set_option maxRecDepth 16384
noncomputable section
namespace Cert.Reference21Ideal.Val
open Cert.Reference21Ideal Cert.Reference21Ideal.Gen Cert.Reference21Ideal.Read Idealize.ShloMosaic Idealize.ShloMosaic.TcCoe Idealize.SL.Sem
open Cert.Coe Cert.RmsSpec
open scoped BigOperators

variable (x0 : Vec Ideal S512x512 .bf16) (x1 : Vec Ideal S1024x512 .bf16) (x2 : Vec Ideal S512x1024 .f32) (x3 : Vec Ideal S1x1024 .f32)
  (x4 : Vec Ideal S512x1024 .f32) (A W X G D : ℕ → ℕ → ℝ)

variable (hA : ∀ (a : Fin 512) (b : Fin 512), x0 (ix2 a b) = ((A a b : ℝ) : EReal))
  (hW : ∀ (a : Fin 1024) (b : Fin 512), x1 (ix2 a b) = ((W b a : ℝ) : EReal))
  (hX : ∀ (a : Fin 512) (b : Fin 1024), x2 (ix2 a b) = ((X a b : ℝ) : EReal))
  (hG : ∀ (a : Fin 1) (b : Fin 1024), x3 (ix2 a b) = ((G 0 b : ℝ) : EReal))
  (hD : ∀ (a : Fin 512) (b : Fin 1024), x4 (ix2 a b) = ((D a b : ℝ) : EReal))

include hX in
/-- A row's sum of squares. -/
theorem r1 (i : Fin 512) : val_main_v1 x2 (ix1 i) = ((∑ k : Fin 1024, X i k * X i k : ℝ) : EReal) := by
  have e : ∀ (a : Fin 512) (b : Fin 1024), val_main_v0 x2 (ix2 a b) = ((X a b * X a b : ℝ) : EReal) := by
    intro a b
    pointwise [val_main_v0]
    rw [hX, ← EReal.coe_mul]
  unfold val_main_v1
  revert e
  generalize val_main_v0 x2 = y
  intro e
  pointwise [val_main_cst]
  simp only [e, sum_coe]

include hX in
/-- The mean square, moved away from zero. -/
theorem r6 (i : Fin 512) (j : Fin 1) : val_main_v6 x2 (ix2 i j) = ((ms X i : ℝ) : EReal) := by
  have e := r1 x2 X hX
  unfold val_main_v6 val_main_v4 val_main_v2
  revert e
  generalize val_main_v1 x2 = y
  intro e
  pointwise [val_main_v5, val_main_cst_1, val_main_v3, val_main_cst_0]
  rw [e, eps_f32, len_f32, div_real _ _ (by norm_num), ← EReal.coe_add]
  rfl

include hX in
/-- The norm's scale. -/
theorem r7 (i : Fin 512) (j : Fin 1) : val_main_v7 x2 (ix2 i j) = ((rr X i : ℝ) : EReal) := by
  have e := r6 x2 X hX
  unfold val_main_v7
  revert e
  generalize val_main_v6 x2 = y
  intro e
  pointwise
  rw [e]
  exact rsqrt_pos _ (ms_pos X i)

include hX in
/-- The derivative of the norm's scale by the mean square. -/
theorem r10 (i : Fin 512) (j : Fin 1) : val_main_v10 x2 (ix2 i j) = ((-(1 / 2) * (rr X i * rr X i * rr X i) : ℝ) : EReal) := by
  have e8 := r6 x2 X hX
  have e9 := r7 x2 X hX
  unfold val_main_v10 val_main_v8
  revert e8 e9
  generalize val_main_v6 x2 = y
  generalize val_main_v7 x2 = z
  intro e8 e9
  pointwise [val_main_v9, val_main_cst_2]
  rw [e8, e9, neg_half_f32, div_real _ _ (ms_pos X i).ne', rr_div, ← EReal.coe_mul]

include hX in
/-- The scaled rows. -/
theorem r12 (i : Fin 512) (k : Fin 1024) : val_main_v12 x2 (ix2 i k) = ((X i k * rr X i : ℝ) : EReal) := by
  have e := r7 x2 X hX
  unfold val_main_v12 val_main_v11
  revert e
  generalize val_main_v7 x2 = y
  intro e
  pointwise
  rw [e, hX, ← EReal.coe_mul]

include hA hW in
/-- The cotangent of the norm. -/
theorem r18 (i : Fin 512) (k : Fin 1024) : val_main_v18 x0 x1 (ix2 i k) = ((mm 512 A W i k : ℝ) : EReal) := by
  pointwise [val_main_v18, val_main_v17, val_main_v15]
  simp only [hA, hW, ← EReal.coe_mul, sum_coe]
  rfl

include hA hW hX in
/-- The gradient at the gain. -/
theorem r21 (j : Fin 1) (k : Fin 1024) : val_main_v21 x0 x1 x2 (ix2 j k) = ((dg 512 X (mm 512 A W) k : ℝ) : EReal) := by
  have e14 := r12 x2 X hX
  have e19 := r18 x0 x1 A W hA hW
  unfold val_main_v21 val_main_v20 val_main_v19
  revert e14 e19
  generalize val_main_v12 x2 = y
  generalize val_main_v18 x0 x1 = z
  intro e14 e19
  pointwise [val_main_cst_3]
  simp only [e14, e19, ← EReal.coe_mul, sum_coe]
  rw [EReal.coe_eq_coe_iff, dg]
  exact Finset.sum_congr rfl fun i _ => by rw [dgRow]; ring

include hA hW hG in
/-- The cotangent times the gain. -/
theorem r23 (i : Fin 512) (k : Fin 1024) : val_main_v23 x0 x1 x3 (ix2 i k) = ((mm 512 A W i k * G 0 k : ℝ) : EReal) := by
  have e := r18 x0 x1 A W hA hW
  unfold val_main_v23
  revert e
  generalize val_main_v18 x0 x1 = y
  intro e
  pointwise [val_main_v22]
  rw [e, hG, ← EReal.coe_mul]

include hA hW hX hG in
/-- The inner product of a row with its cotangent. -/
theorem r25 (i : Fin 512) : val_main_v25 x0 x1 x2 x3 (ix1 i) = ((∑ k : Fin 1024, X i k * (mm 512 A W i k * G 0 k) : ℝ) : EReal) := by
  have e := r23 x0 x1 x3 A W G hA hW hG
  unfold val_main_v25 val_main_v24
  revert e
  generalize val_main_v23 x0 x1 x3 = y
  intro e
  pointwise [val_main_cst_4]
  simp only [e, hX, ← EReal.coe_mul, sum_coe]

include hA hW hX hG in
/-- The share that comes through the mean square. -/
theorem r34 (i : Fin 512) (k : Fin 1024) : val_main_v34 x0 x1 x2 x3 (ix2 i k)
    = (((∑ k : Fin 1024, X i k * (mm 512 A W i k * G 0 k)) * (-(1 / 2) * (rr X i * rr X i * rr X i)) / 1024 : ℝ) : EReal) := by
  have e26 := r25 x0 x1 x2 x3 A W X G hA hW hX hG
  have e12 := r10 x2 X hX
  unfold val_main_v34 val_main_v33 val_main_v32 val_main_v30 val_main_v26
  revert e26 e12
  generalize val_main_v25 x0 x1 x2 x3 = y
  generalize val_main_v10 x2 = z
  intro e26 e12
  pointwise [val_main_v31, val_main_cst_5, val_main_cst_6]
  simp only [e26, e12, len_f32, ← EReal.coe_mul]
  rw [div_real _ _ (by norm_num)]
  exact Finset.sum_singleton _ _

include hA hW hX hG hD in
/-- The gradient at the norm's argument, with the residual's. -/
theorem r38 (i : Fin 512) (k : Fin 1024) : val_main_v38 x0 x1 x2 x3 x4 (ix2 i k) = ((dx X G (mm 512 A W) i k + D i k : ℝ) : EReal) := by
  have e9 := r7 x2 X hX
  have e24 := r23 x0 x1 x3 A W G hA hW hG
  have e35 := r34 x0 x1 x2 x3 A W X G hA hW hX hG
  unfold val_main_v38 val_main_v37 val_main_v36 val_main_v35 val_main_v29 val_main_v28 val_main_v27
  revert e9 e24 e35
  generalize val_main_v7 x2 = y
  generalize val_main_v23 x0 x1 x3 = z
  generalize val_main_v34 x0 x1 x2 x3 = w
  intro e9 e24 e35
  pointwise
  rw [e9, e24, e35, hX, hD]
  simp only [← EReal.coe_mul, ← EReal.coe_add]
  rw [EReal.coe_eq_coe_iff, dx, proj]
  have s : ∑ k : Fin 1024, X i k * (mm 512 A W i k * G 0 k) = ∑ k : Fin 1024, mm 512 A W i k * G 0 k * X i k :=
    Finset.sum_congr rfl fun k _ => mul_comm _ _
  rw [s]
  ring

end Cert.Reference21Ideal.Val
end
-- ==== Proof.DmnVal.lean ====
/- The kernel of the memory norm's gradient: the two arrays it leaves, from finite arguments. -/
module

public import proofs.«01_k».proof.Proof.RmsSpec
public import proofs.«01_k».proof.Proof.Gen.Kernel21Ideal.Value

@[expose] public section
set_option maxRecDepth 16384
noncomputable section
namespace Cert.Kernel21Ideal.Val
open Cert.Kernel21Ideal Cert.Kernel21Ideal.Gen Idealize.ShloMosaic Idealize.ShloMosaic.TcCoe Idealize.SL.Sem
open Idealize.ShloMosaic.Pipeline (Dat)
open Cert.Coe Cert.RmsSpec
open scoped BigOperators

section block
variable (x0 : Vec Ideal S256x512 .bf16) (x1 : Vec Ideal S1024x512 .bf16) (x2 : Vec Ideal S256x1024 .f32) (x3 : Vec Ideal S1x1024 .f32)
  (x4 : Vec Ideal S256x1024 .f32) (A W X G D : ℕ → ℕ → ℝ)

variable (h0 : ∀ (a : Fin 256) (b : Fin 512), x0 (ix2 a b) = ((A a b : ℝ) : EReal))
  (h1 : ∀ (a : Fin 1024) (b : Fin 512), x1 (ix2 a b) = ((W b a : ℝ) : EReal))
  (h2 : ∀ (a : Fin 256) (b : Fin 1024), x2 (ix2 a b) = ((X a b : ℝ) : EReal))
  (h3 : ∀ (a : Fin 1) (b : Fin 1024), x3 (ix2 a b) = ((G 0 b : ℝ) : EReal))
  (h4 : ∀ (a : Fin 256) (b : Fin 1024), x4 (ix2 a b) = ((D a b : ℝ) : EReal))

include h0 h1 in
/-- The cotangent of the norm: a product. -/
theorem p3 (a : Fin 256) (b : Fin 1024) : k0_pay3 x0 x1 (ix2 a b) = ((mm 512 A W a b : ℝ) : EReal) := by
  pointwise [k0_pay3]
  simp only [h0, h1, ← EReal.coe_mul, sum_coe]
  rfl

include h0 h1 in
theorem p4 (a : Fin 256) (b : Fin 1024) : k0_pay4 x0 x1 (ix2 a b) = ((mm 512 A W a b : ℝ) : EReal) := by
  pointwise [k0_pay4]
  simp only [h0, h1, ← EReal.coe_mul, sum_coe]
  rfl

include h2 in
/-- The norm's scale of a row. -/
theorem p5 (a : Fin 256) (b : Fin 1) : k0_pay5 x2 (ix2 a b) = ((rr X a : ℝ) : EReal) := by
  pointwise [k0_pay5]
  simp only [h2, ← EReal.coe_mul, sum_coe, eps_f32, len_f32]
  exact rsqrt_ms X a

include h2 in
theorem p9 (a : Fin 256) (b : Fin 1) : k0_pay9 x2 (ix2 a b) = ((rr X a : ℝ) : EReal) := by
  pointwise [k0_pay9]
  simp only [h2, ← EReal.coe_mul, sum_coe, eps_f32, len_f32]
  exact rsqrt_ms X a

include h0 h1 h2 h3 in
/-- The first half's gradient of the norm. -/
theorem p6 (a : Fin 256) (b : Fin 1024) : k0_pay6 x0 x1 x2 x3 (ix2 a b) = ((dx X G (mm 512 A W) a b : ℝ) : EReal) := by
  pointwise [k0_pay6]
  simp only [p3 x0 x1 A W h0 h1, p5 x2 X h2, h2, h3, ← EReal.coe_mul, sum_coe, len_f32]
  rw [div_real _ _ (by norm_num), ← EReal.coe_mul, ← EReal.coe_sub]
  rfl

include h0 h1 h2 in
/-- The first half's share of the gradient at the gain. -/
theorem p7 (a : Fin 1) (b : Fin 1024) : k0_pay7 x0 x1 x2 (ix2 a b) = ((∑ i : Fin 256, dgRow X (mm 512 A W) i b : ℝ) : EReal) := by
  pointwise [k0_pay7]
  simp only [p3 x0 x1 A W h0 h1, p5 x2 X h2, h2, ← EReal.coe_mul, sum_coe]
  rfl

include h4 in
/-- The first half's result: the residual's gradient is added. -/
theorem p8 (v : FVec Ideal S256x1024 .f32) (N : ℕ → ℕ → ℝ) (hv : ∀ (a : Fin 256) (b : Fin 1024), v (ix2 a b) = ((N a b : ℝ) : EReal)) (a : Fin 256) (b : Fin 1024) :
    k0_pay8 v x4 (ix2 a b) = ((N a b + D a b : ℝ) : EReal) := by
  pointwise [k0_pay8]
  simp only [hv, h4, ← EReal.coe_add]

include h2 h3 h4 in
/-- The second half's result. -/
theorem p10 (v : FVec Ideal S256x1024 .f32) (N : ℕ → ℕ → ℝ) (hv : ∀ (a : Fin 256) (b : Fin 1024), v (ix2 a b) = ((N a b : ℝ) : EReal)) (a : Fin 256) (b : Fin 1024) :
    k0_pay10 v x2 x3 x4 (ix2 a b) = ((dx X G N a b + D a b : ℝ) : EReal) := by
  pointwise [k0_pay10]
  simp only [hv, p9 x2 X h2, h2, h3, h4, ← EReal.coe_mul, sum_coe, len_f32]
  rw [div_real _ _ (by norm_num), ← EReal.coe_mul, ← EReal.coe_sub, ← EReal.coe_add]
  rfl

include h2 in
/-- Both halves' share of the gradient at the gain. -/
theorem p11 (v : FVec Ideal S256x1024 .f32) (N : ℕ → ℕ → ℝ) (hv : ∀ (a : Fin 256) (b : Fin 1024), v (ix2 a b) = ((N a b : ℝ) : EReal))
    (w : FVec Ideal S1x1024 .f32) (z : ℕ → ℝ) (hw : ∀ (a : Fin 1) (b : Fin 1024), w (ix2 a b) = ((z b : ℝ) : EReal)) (a : Fin 1) (b : Fin 1024) :
    k0_pay11 v w x2 (ix2 a b) = ((z b + ∑ i : Fin 256, dgRow X N i b : ℝ) : EReal) := by
  pointwise [k0_pay11]
  simp only [hv, hw, p9 x2 X h2, h2, ← EReal.coe_mul, sum_coe, zero_f32, ← EReal.coe_add, zero_add]
  rfl

end block

/-- The gain's gradient starts at zero. -/
theorem p1 (a : Fin 1) (b : Fin 1024) : (k0_pay1 : FVec Ideal S1x1024 .f32) (ix2 a b) = 0 := by
  pointwise [k0_pay1]

/-- A tile's share is added to what is there. -/
theorem p2 (v : FVec Ideal S1x1024 .f32) (w : Vec Ideal S1x1024 .f32) (a : Fin 1) (b : Fin 1024) : k0_pay2 v w (ix2 a b) = w (ix2 a b) + v (ix2 a b) := by
  pointwise [k0_pay2]

/-- The block indices at point `t`. -/
theorem idx : ∀ t : Fin cfg0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0] :=
  (by decide +kernel : ∀ t : Fin grid0.N, win0_0.index t = ![(t : ℕ), 0] ∧ win0_1.index t = ![0, 0] ∧ win0_2.index t = ![(t : ℕ), 0] ∧ win0_3.index t = ![0, 0]
    ∧ win0_4.index t = ![(t : ℕ), 0] ∧ win0_5.index t = ![(t : ℕ), 0] ∧ win0_6.index t = ![0, 0])

/-- One grid point. -/
theorem t_lt (t : Fin cfg0.N) : (t : ℕ) < 1 := lt_of_lt_of_eq t.isLt (by decide : grid0.N = 1)

variable (m : (ℓ : Loc nD τ sig) → Buf (Elt Ideal) ℓ) (c : Dev nD) (A W X G D : ℕ → ℕ → ℝ)

variable (hA : ∀ (a : Fin 512) (b : Fin 512), m ((c : Thread nD τ).loc main_arg0) (ix2 a b) = ((A a b : ℝ) : EReal))
  (hW : ∀ (a : Fin 1024) (b : Fin 512), m ((c : Thread nD τ).loc main_arg1) (ix2 a b) = ((W b a : ℝ) : EReal))
  (hX : ∀ (a : Fin 512) (b : Fin 1024), m ((c : Thread nD τ).loc main_arg2) (ix2 a b) = ((X a b : ℝ) : EReal))
  (hG : ∀ (a : Fin 1) (b : Fin 1024), m ((c : Thread nD τ).loc main_arg3) (ix2 a b) = ((G 0 b : ℝ) : EReal))
  (hD : ∀ (a : Fin 512) (b : Fin 1024), m ((c : Thread nD τ).loc main_arg4) (ix2 a b) = ((D a b : ℝ) : EReal))

include hA in
theorem blk0 (t : Fin cfg0.N) (a : Fin 512) (b : Fin 512) : iblk m c 0 t (ix2 a b) = ((rows A (512 * t) a b : ℝ) : EReal) := by
  have ht := t_lt t
  rw [rows, ← hA ⟨512 * t + a, by omega⟩ b]
  blk_ext [iblk, V, idx t]

include hW in
theorem blk1 (t : Fin cfg0.N) (a : Fin 1024) (b : Fin 512) : iblk m c 1 t (ix2 a b) = ((W b a : ℝ) : EReal) := by
  rw [← hW a b]
  blk_ext [iblk, V, idx t]

include hX in
theorem blk2 (t : Fin cfg0.N) (a : Fin 512) (b : Fin 1024) : iblk m c 2 t (ix2 a b) = ((rows X (512 * t) a b : ℝ) : EReal) := by
  have ht := t_lt t
  rw [rows, ← hX ⟨512 * t + a, by omega⟩ b]
  blk_ext [iblk, V, idx t]

include hG in
theorem blk3 (t : Fin cfg0.N) (a : Fin 1) (b : Fin 1024) : iblk m c 3 t (ix2 a b) = ((G 0 b : ℝ) : EReal) := by
  rw [← hG a b]
  blk_ext [iblk, V, idx t]

include hD in
theorem blk4 (t : Fin cfg0.N) (a : Fin 512) (b : Fin 1024) : iblk m c 4 t (ix2 a b) = ((rows D (512 * t) a b : ℝ) : EReal) := by
  have ht := t_lt t
  rw [rows, ← hD ⟨512 * t + a, by omega⟩ b]
  blk_ext [iblk, V, idx t]

include hA in
theorem blk0l (t : Fin cfg0.N) (a : Fin 256) (b : Fin 512) :
    View.ld (iblk m c 0 t) (Rect.unit (s := S512x512) ![0, 0] ![256, 512] inb_S512x512_S256x512_0_0) (ix2 a b) = ((rows A (512 * t + 0) a b : ℝ) : EReal) := by
  have e := blk0 m c A hA t ⟨0 + a, by omega⟩ b
  rw [rows] at e ⊢
  rw [Nat.add_assoc, ← e]
  clear e
  generalize iblk m c _ t = u
  pointwise
  try blk_ext

include hA in
theorem blk0h (t : Fin cfg0.N) (a : Fin 256) (b : Fin 512) :
    View.ld (iblk m c 0 t) (Rect.unit (s := S512x512) ![256, 0] ![256, 512] inb_S512x512_S256x512_256_0) (ix2 a b) = ((rows A (512 * t + 256) a b : ℝ) : EReal) := by
  have e := blk0 m c A hA t ⟨256 + a, by omega⟩ b
  rw [rows] at e ⊢
  rw [Nat.add_assoc, ← e]
  clear e
  generalize iblk m c _ t = u
  pointwise
  try blk_ext

include hX in
theorem blk2l (t : Fin cfg0.N) (a : Fin 256) (b : Fin 1024) :
    View.ld (iblk m c 2 t) (Rect.unit (s := S512x1024) ![0, 0] ![256, 1024] inb_S512x1024_S256x1024_0_0) (ix2 a b) = ((rows X (512 * t + 0) a b : ℝ) : EReal) := by
  have e := blk2 m c X hX t ⟨0 + a, by omega⟩ b
  rw [rows] at e ⊢
  rw [Nat.add_assoc, ← e]
  clear e
  generalize iblk m c _ t = u
  pointwise
  try blk_ext

include hX in
theorem blk2h (t : Fin cfg0.N) (a : Fin 256) (b : Fin 1024) :
    View.ld (iblk m c 2 t) (Rect.unit (s := S512x1024) ![256, 0] ![256, 1024] inb_S512x1024_S256x1024_256_0) (ix2 a b) = ((rows X (512 * t + 256) a b : ℝ) : EReal) := by
  have e := blk2 m c X hX t ⟨256 + a, by omega⟩ b
  rw [rows] at e ⊢
  rw [Nat.add_assoc, ← e]
  clear e
  generalize iblk m c _ t = u
  pointwise
  try blk_ext

include hD in
theorem blk4l (t : Fin cfg0.N) (a : Fin 256) (b : Fin 1024) :
    View.ld (iblk m c 4 t) (Rect.unit (s := S512x1024) ![0, 0] ![256, 1024] inb_S512x1024_S256x1024_0_0) (ix2 a b) = ((rows D (512 * t + 0) a b : ℝ) : EReal) := by
  have e := blk4 m c D hD t ⟨0 + a, by omega⟩ b
  rw [rows] at e ⊢
  rw [Nat.add_assoc, ← e]
  clear e
  generalize iblk m c _ t = u
  pointwise
  try blk_ext

include hD in
theorem blk4h (t : Fin cfg0.N) (a : Fin 256) (b : Fin 1024) :
    View.ld (iblk m c 4 t) (Rect.unit (s := S512x1024) ![256, 0] ![256, 1024] inb_S512x1024_S256x1024_256_0) (ix2 a b) = ((rows D (512 * t + 256) a b : ℝ) : EReal) := by
  have e := blk4 m c D hD t ⟨256 + a, by omega⟩ b
  rw [rows] at e ⊢
  rw [Nat.add_assoc, ← e]
  clear e
  generalize iblk m c _ t = u
  pointwise
  try blk_ext

/-- One tile's share of the gradient at the gain. -/
def part (n : ℕ) (k : ℕ) : ℝ := (∑ i : Fin 256, dgRow X (mm 512 A W) (512 * n + i) k) + ∑ i : Fin 256, dgRow X (mm 512 A W) (512 * n + 256 + i) k

include hA hW hX in
theorem part_pay (t : Fin cfg0.N) (w : Vec Ideal S1x1024 .f32) (a : Fin 1) (b : Fin 1024) : k0_pay2
      (k0_pay11
        (k0_pay4 (View.ld (iblk m c 0 t) (Rect.unit ![256, 0] ![256, 512] inb_S512x512_S256x512_256_0))
          (iblk m c 1 t))
        (k0_pay7 (View.ld (iblk m c 0 t) (Rect.unit ![0, 0] ![256, 512] inb_S512x512_S256x512_0_0)) (iblk m c 1 t)
          (View.ld (iblk m c 2 t) (Rect.unit ![0, 0] ![256, 1024] inb_S512x1024_S256x1024_0_0)))
        (View.ld (iblk m c 2 t) (Rect.unit ![256, 0] ![256, 1024] inb_S512x1024_S256x1024_256_0)))
      w (ix2 a b) = w (ix2 a b) + ((part A W X t b : ℝ) : EReal) := by
  have e4 := p4 _ _ _ _ (blk0h m c A hA t) (blk1 m c W hW t)
  have e7 := p7 _ _ _ _ _ _ (blk0l m c A hA t) (blk1 m c W hW t) (blk2l m c X hX t)
  have e := p11 _ _ (blk2h m c X hX t) _ _ e4 _ (fun b => ∑ i : Fin 256, dgRow (rows X (512 * t + 0)) (mm 512 (rows A (512 * t + 0)) W) i b) e7 a b
  exact (p2 _ w a b).trans (congrArg (w (ix2 a b) + ·) e)

include hA hW hX in
/-- The gradient at the gain. -/
theorem final6 : (dats m 0 c).arrAt 6 cfg0.N = fun i : S1x1024.Idx => ((dg 512 X (mm 512 A W) (i 1 : ℕ) : ℝ) : EReal) := by
  refine (dats m 0 c).arrAt_eq_of_covers 6 _ (by decide +kernel) fun t hf y => ?_
  blk_simp
  rw [after0_6]; unfold outsAt0; frame_out
  have ht := t_lt t
  idx_vars y
  refine ((part_pay m c A W X hA hW hX t _ y0 y1).trans (congrArg (· + _) (p1 y0 y1))).trans ((zero_add _).trans ?_)
  rw [(idx t).2.2.2.2.2.2]
  show (_ : EReal) = ((dg 512 X (mm 512 A W) (0 * 1024 + (y1 : ℕ)) : ℝ) : EReal)
  rw [dg, show 0 * 1024 + (y1 : ℕ) = y1 by omega, show (t : ℕ) = 0 by omega, EReal.coe_eq_coe_iff]
  refine Eq.trans ?_ (sum_tiles 1 256 fun i => dgRow X (mm 512 A W) i y1)
  rw [Fin.sum_univ_one]
  rfl

include hA hW hX hG hD in
/-- The gradient at the norm's argument, with the residual's. -/
theorem final5 : (dats m 0 c).arrAt 5 cfg0.N = fun i : S512x1024.Idx => ((dx X G (mm 512 A W) (i 0 : ℕ) (i 1 : ℕ) + D (i 0 : ℕ) (i 1 : ℕ) : ℝ) : EReal) := by
  refine (dats m 0 c).arrAt_eq_of_covers 5 _ (by decide +kernel) fun t hf y => ?_
  blk_simp
  rw [after0_5, (idx t).2.2.2.2.2.1]
  show _ = ((dx X G (mm 512 A W) ((t : ℕ) * 512 + (y 0 : ℕ)) (0 * 1024 + (y 1 : ℕ)) + D ((t : ℕ) * 512 + (y 0 : ℕ)) (0 * 1024 + (y 1 : ℕ)) : ℝ) : EReal)
  rw [show (t : ℕ) * 512 + (y 0 : ℕ) = 512 * t + y 0 by omega, show 0 * 1024 + (y 1 : ℕ) = y 1 by omega]
  have lo : ∀ (x : S256x1024.Idx) (h0 : (y 0 : ℕ) = x 0) (h1 : (y 1 : ℕ) = x 1), k0_pay8 (k0_pay6 (View.ld (iblk m c 0 t) (Rect.unit ![0, 0] ![256, 512] inb_S512x512_S256x512_0_0))
      (iblk m c 1 t) (View.ld (iblk m c 2 t) (Rect.unit ![0, 0] ![256, 1024] inb_S512x1024_S256x1024_0_0)) (iblk m c 3 t))
      (View.ld (iblk m c 4 t) (Rect.unit ![0, 0] ![256, 1024] inb_S512x1024_S256x1024_0_0)) x
      = ((dx X G (mm 512 A W) (512 * (t : ℕ) + (y 0 : ℕ)) (y 1 : ℕ) + D (512 * (t : ℕ) + (y 0 : ℕ)) (y 1 : ℕ) : ℝ) : EReal) := by
    intro x h0 h1
    rw [h0, h1]
    idx_vars x
    exact p8 _ _ (blk4l m c D hD t) _ _ (p6 _ _ _ _ _ _ _ _ (blk0l m c A hA t) (blk1 m c W hW t) (blk2l m c X hX t) (blk3 m c G hG t)) x0 x1
  have hi : ∀ (x : S256x1024.Idx) (h0 : (y 0 : ℕ) = 256 + x 0) (h1 : (y 1 : ℕ) = x 1), k0_pay10
      (k0_pay4 (View.ld (iblk m c 0 t) (Rect.unit ![256, 0] ![256, 512] inb_S512x512_S256x512_256_0)) (iblk m c 1 t))
      (View.ld (iblk m c 2 t) (Rect.unit ![256, 0] ![256, 1024] inb_S512x1024_S256x1024_256_0)) (iblk m c 3 t)
      (View.ld (iblk m c 4 t) (Rect.unit ![256, 0] ![256, 1024] inb_S512x1024_S256x1024_256_0)) x
      = ((dx X G (mm 512 A W) (512 * (t : ℕ) + (y 0 : ℕ)) (y 1 : ℕ) + D (512 * (t : ℕ) + (y 0 : ℕ)) (y 1 : ℕ) : ℝ) : EReal) := by
    intro x h0 h1
    rw [h0, h1, ← Nat.add_assoc]
    idx_vars x
    exact p10 _ _ _ _ _ _ (blk2h m c X hX t) (blk3 m c G hG t) (blk4h m c D hD t) _ _ (p4 _ _ _ _ (blk0h m c A hA t) (blk1 m c W hW t)) x0 x1
  unfold outsAt0; frame_out
  canon_tiles x h
  · exact hi x (by omega) (by omega)
  · exact lo x (by omega) (by omega)

end Cert.Kernel21Ideal.Val
end
-- ==== Proof.DmnClaim.lean ====
/- The gradient of the memory's projection and its norm: the kernel's results are the reference's, from finite arguments. -/
module

public import proofs.«01_k».proof.Proof.DmnRef
public import proofs.«01_k».proof.Proof.DmnVal
public import proofs.«01_k».proof.Proof.Gen.Pre_dmn_finite
public import proofs.«01_k».proof.Defs
public import Idealize.ShloMosaic.Lib.Claim

@[expose] public section
set_option maxRecDepth 16384
noncomputable section
namespace Cert.DmnClaim
open Idealize.ShloMosaic Idealize.ShloMosaic.TcCoe Idealize.SL.Sem
open Cert.Coe

/-- Finite arguments are real numbers. -/
theorem reals (x0 : Vec Ideal Cert.Pre_dmn_finite.S512x512 .bf16) (x1 : Vec Ideal Cert.Pre_dmn_finite.S1024x512 .bf16) (x2 : Vec Ideal Cert.Pre_dmn_finite.S512x1024 .f32) (x3 : Vec Ideal Cert.Pre_dmn_finite.S1x1024 .f32) (x4 : Vec Ideal Cert.Pre_dmn_finite.S512x1024 .f32)
    (h : (Cert.Pre_dmn_finite.fn (F := Ideal) x0 x1 x2 x3 x4).1 = (fun _ => 1#1)
      ∧ (Cert.Pre_dmn_finite.fn (F := Ideal) x0 x1 x2 x3 x4).2.1 = (fun _ => 1#1)
      ∧ (Cert.Pre_dmn_finite.fn (F := Ideal) x0 x1 x2 x3 x4).2.2.1 = (fun _ => 1#1)
      ∧ (Cert.Pre_dmn_finite.fn (F := Ideal) x0 x1 x2 x3 x4).2.2.2.1 = (fun _ => 1#1)
      ∧ (Cert.Pre_dmn_finite.fn (F := Ideal) x0 x1 x2 x3 x4).2.2.2.2 = (fun _ => 1#1)) :
    ∃ A W X G D : ℕ → ℕ → ℝ, (∀ (a : Fin 512) (b : Fin 512), x0 (ix2 a b) = ((A a b : ℝ) : EReal))
      ∧ (∀ (a : Fin 1024) (b : Fin 512), x1 (ix2 a b) = ((W a b : ℝ) : EReal))
      ∧ (∀ (a : Fin 512) (b : Fin 1024), x2 (ix2 a b) = ((X a b : ℝ) : EReal))
      ∧ (∀ (a : Fin 1) (b : Fin 1024), x3 (ix2 a b) = ((G 0 b : ℝ) : EReal))
      ∧ (∀ (a : Fin 512) (b : Fin 1024), x4 (ix2 a b) = ((D a b : ℝ) : EReal)) := by
  have e0 : ∀ a b, ∃ r : ℝ, x0 (ix2 a b) = (r : EReal) := fun a b => real_of_cmpf (φ := .f32) (x0 (ix2 a b)) (by
    have := congrFun h.1 (ix2 a b)
    rw [← top_f32]
    exact this)
  have e1 : ∀ a b, ∃ r : ℝ, x1 (ix2 a b) = (r : EReal) := fun a b => real_of_cmpf (φ := .f32) (x1 (ix2 a b)) (by
    have := congrFun h.2.1 (ix2 a b)
    rw [← top_f32]
    exact this)
  have e2 : ∀ a b, ∃ r : ℝ, x2 (ix2 a b) = (r : EReal) := fun a b => real_of_cmpf (φ := .f32) (x2 (ix2 a b)) (by
    have := congrFun h.2.2.1 (ix2 a b)
    rw [← top_f32]
    exact this)
  have e3 : ∀ a b, ∃ r : ℝ, x3 (ix2 a b) = (r : EReal) := fun a b => real_of_cmpf (φ := .f32) (x3 (ix2 a b)) (by
    have := congrFun h.2.2.2.1 (ix2 a b)
    rw [← top_f32]
    exact this)
  have e4 : ∀ a b, ∃ r : ℝ, x4 (ix2 a b) = (r : EReal) := fun a b => real_of_cmpf (φ := .f32) (x4 (ix2 a b)) (by
    have := congrFun h.2.2.2.2 (ix2 a b)
    rw [← top_f32]
    exact this)
  obtain ⟨A, hA⟩ := real_mat (fun a b => x0 (ix2 a b)) e0
  obtain ⟨W, hW⟩ := real_mat (fun a b => x1 (ix2 a b)) e1
  obtain ⟨X, hX⟩ := real_mat (fun a b => x2 (ix2 a b)) e2
  obtain ⟨G, hG⟩ := real_mat (fun a b => x3 (ix2 a b)) e3
  obtain ⟨D, hD⟩ := real_mat (fun a b => x4 (ix2 a b)) e4
  exact ⟨A, W, X, G, D, hA, hW, hX, fun a b => (congrArg (fun a => x3 (ix2 a b)) (Subsingleton.elim a 0)).trans (hG 0 b), hD⟩

set_option maxHeartbeats 1600000 in
/-- The kernel's results are the reference's. -/
theorem algebraic : Cert.algebraic_Kernel21Ideal_Reference21Ideal_pre_dmn_finite := by
  pair_intro
  · run_from Cert.Kernel21Ideal.Gen.run_main m g
  · refine (θ_run _ _ _).mono (fun r h c => ?_) (Cert.Reference21Ideal.Value.run m' g')
    obtain ⟨A, W, X, G, D, hA, hW, hX, hG, hD⟩ := reals _ _ _ _ _ (hpre c)
    obtain ⟨a0, a1, a2, a3, a4⟩ := hagree c
    refine ⟨(h c).1.trans ?_, (h c).2.1.trans ?_, (h c).2.2⟩
    · refine (Reference21Ideal.Read.val_main_v38_eq m' c).trans ?_
      rw [a0, a1, a2, a3, a4]
      refine Eq.trans ?_ (Kernel21Ideal.Val.final5 m c A (fun i j => W j i) X G D hA (fun a b => hW a b) hX hG hD).symm
      funext i
      idx_vars i
      exact Reference21Ideal.Val.r38 _ _ _ _ _ A (fun i j => W j i) X G D hA (fun a b => hW a b) hX hG hD i0 i1
    · refine (Reference21Ideal.Read.val_main_v21_eq _ _ _ ).trans ?_
      rw [a0, a1, a2]
      refine Eq.trans ?_ (Kernel21Ideal.Val.final6 m c A (fun i j => W j i) X hA (fun a b => hW a b) hX).symm
      funext i
      idx_vars i
      exact Reference21Ideal.Val.r21 _ _ _ A (fun i j => W j i) X hA (fun a b => hW a b) hX i0 i1

end Cert.DmnClaim
end
-- ==== Proof.AdamwSpec.lean ====
/- The sum of the partial gradients and the AdamW update, entry by entry. -/
module

public import proofs.«01_k».proof.Proof.Coe

@[expose] public section
set_option maxRecDepth 16384
noncomputable section
namespace Cert.AdamwClaim
open Idealize.ShloMosaic Idealize.ShloMosaic.TcCoe Idealize.SL.Sem
open Cert.Coe
open scoped BigOperators

/-- The sum of the eight devices' partial gradients. -/
def gE (P : ℕ → ℕ → ℕ → EReal) (a b : ℕ) : EReal := ∑ k : Fin 8, P k a b

/-- The new first moment. -/
def mE (g m : EReal) : EReal := Ideal.ofBits .f32 0x3F666666#32 * m + Ideal.ofBits .f32 0x3DCCCCCD#32 * g

/-- The new second moment. -/
def vE (g v : EReal) : EReal := Ideal.ofBits .f32 0x3F7FBE77#32 * v + Ideal.ofBits .f32 0x3A83126F#32 * (g * g)

/-- The step: the corrected first moment over the root of the corrected second, and the decay of the weight. -/
def dE (g w m v : EReal) : EReal := Ideal.ofBits .f32 0xBA83126F#32 *
  (Ideal.div (Ideal.div (mE g m) (Ideal.ofBits .f32 0x3F26BD02#32))
      (Ideal.sqrt (Ideal.div (vE g v) (Ideal.ofBits .f32 0x3C231ACC#32)) + Ideal.ofBits .f32 0x322BCC77#32)
    + Ideal.ofBits .f32 0x3C23D70A#32 * w)

/-- Arrays of extended reals as functions of natural numbers, three indices. -/
theorem cube_of {A B C : ℕ} (f : Fin A → Fin B → Fin C → EReal) :
    ∃ Z : ℕ → ℕ → ℕ → EReal, ∀ (k : Fin A) (a : Fin B) (b : Fin C), f k a b = Z k a b :=
  ⟨fun k a b => if h : k < A ∧ a < B ∧ b < C then f ⟨k, h.1⟩ ⟨a, h.2.1⟩ ⟨b, h.2.2⟩ else 0, fun k a b => by simp [k.isLt, a.isLt, b.isLt]⟩

end Cert.AdamwClaim
end
-- ==== Proof.AdamwGrid.lean ====
/- The grid of the optimiser's call. -/
module

public import proofs.«01_k».proof.Proof.AdamwSpec
public import proofs.«01_k».proof.Proof.Gen.Kernel22Ideal.Value

@[expose] public section
set_option maxRecDepth 16384
noncomputable section
namespace Cert.AdamwClaim
open Idealize.ShloMosaic Idealize.ShloMosaic.TcCoe Idealize.SL.Sem
open Cert.Coe
open scoped BigOperators

section kernel
open Cert.Kernel22Ideal Cert.Kernel22Ideal.Gen
open Idealize.ShloMosaic.Pipeline (Dat)

/-- The block indices at point `t`. -/
theorem idx : ∀ t : Fin cfg0.N, win0_0.index t = ![0, (t : ℕ), 0] ∧ win0_1.index t = ![0, (t : ℕ), 0] ∧ win0_2.index t = ![0, (t : ℕ), 0] ∧ win0_3.index t = ![0, (t : ℕ), 0] ∧ win0_4.index t = ![0, (t : ℕ), 0] ∧ win0_5.index t = ![0, (t : ℕ), 0] ∧ win0_6.index t = ![0, (t : ℕ), 0] ∧ win0_7.index t = ![0, (t : ℕ), 0] ∧ win0_8.index t = ![0, (t : ℕ), 0] ∧ win0_9.index t = ![0, (t : ℕ), 0] ∧ win0_10.index t = ![0, (t : ℕ), 0] ∧ win0_11.index t = ![0, (t : ℕ), 0] ∧ win0_12.index t = ![0, (t : ℕ), 0] ∧ win0_13.index t = ![0, (t : ℕ), 0] ∧ win0_14.index t = ![0, (t : ℕ), 0] ∧ win0_15.index t = ![0, (t : ℕ), 0] :=
  (by decide +kernel : ∀ t : Fin grid0.N, win0_0.index t = ![0, (t : ℕ), 0] ∧ win0_1.index t = ![0, (t : ℕ), 0] ∧ win0_2.index t = ![0, (t : ℕ), 0] ∧ win0_3.index t = ![0, (t : ℕ), 0] ∧ win0_4.index t = ![0, (t : ℕ), 0] ∧ win0_5.index t = ![0, (t : ℕ), 0] ∧ win0_6.index t = ![0, (t : ℕ), 0] ∧ win0_7.index t = ![0, (t : ℕ), 0] ∧ win0_8.index t = ![0, (t : ℕ), 0] ∧ win0_9.index t = ![0, (t : ℕ), 0] ∧ win0_10.index t = ![0, (t : ℕ), 0] ∧ win0_11.index t = ![0, (t : ℕ), 0] ∧ win0_12.index t = ![0, (t : ℕ), 0] ∧ win0_13.index t = ![0, (t : ℕ), 0] ∧ win0_14.index t = ![0, (t : ℕ), 0] ∧ win0_15.index t = ![0, (t : ℕ), 0])

/-- The number of grid points. -/
theorem t_lt (t : Fin cfg0.N) : (t : ℕ) < 11 := lt_of_lt_of_eq t.isLt (by decide : grid0.N = 11)

end kernel

end Cert.AdamwClaim
end
-- ==== Proof.AdamwUp.lean ====
/- The optimiser's call: what it leaves for the gate/up weight. -/
module

public import proofs.«01_k».proof.Proof.AdamwGrid

@[expose] public section
set_option maxRecDepth 16384
noncomputable section
namespace Cert.AdamwClaim
open Idealize.ShloMosaic Idealize.ShloMosaic.TcCoe Idealize.SL.Sem
open Cert.Coe
open scoped BigOperators

section kernel
open Cert.Kernel22Ideal Cert.Kernel22Ideal.Gen
open Idealize.ShloMosaic.Pipeline (Dat)

section ublock
variable (y0 y1 y2 y3 y4 y5 y6 y7 : Vec Ideal S1x64x1024 .bf16) (P : ℕ → ℕ → ℕ → EReal)
variable (h0 : ∀ (z : Fin 1) (a : Fin 64) (b : Fin 1024), y0 (ix3 z a b) = P 0 a b) (h1 : ∀ (z : Fin 1) (a : Fin 64) (b : Fin 1024), y1 (ix3 z a b) = P 1 a b) (h2 : ∀ (z : Fin 1) (a : Fin 64) (b : Fin 1024), y2 (ix3 z a b) = P 2 a b) (h3 : ∀ (z : Fin 1) (a : Fin 64) (b : Fin 1024), y3 (ix3 z a b) = P 3 a b) (h4 : ∀ (z : Fin 1) (a : Fin 64) (b : Fin 1024), y4 (ix3 z a b) = P 4 a b) (h5 : ∀ (z : Fin 1) (a : Fin 64) (b : Fin 1024), y5 (ix3 z a b) = P 5 a b) (h6 : ∀ (z : Fin 1) (a : Fin 64) (b : Fin 1024), y6 (ix3 z a b) = P 6 a b) (h7 : ∀ (z : Fin 1) (a : Fin 64) (b : Fin 1024), y7 (ix3 z a b) = P 7 a b)

include h0 h1 h2 h3 h4 h5 h6 h7 in
/-- Gate and up: the sum of the partial gradients. -/
theorem ug (a : Fin 64) (b : Fin 1024) : k0_pay3 y0 y1 y2 y3 y4 y5 y6 y7 (ix2 a b) = gE P a b := by
  pointwise [k0_pay3]
  simp only [h0, h1, h2, h3, h4, h5, h6, h7]
  rw [gE, Fin.sum_univ_eight]
  rfl

variable (g : FVec Ideal S64x1024 .f32) (x w v : Vec Ideal S1x64x1024 .f32) (G X W V : ℕ → ℕ → EReal)
variable (hg : ∀ (a : Fin 64) (b : Fin 1024), g (ix2 a b) = G a b) (hx : ∀ (z : Fin 1) (a : Fin 64) (b : Fin 1024), x (ix3 z a b) = X a b)
  (hw : ∀ (z : Fin 1) (a : Fin 64) (b : Fin 1024), w (ix3 z a b) = W a b) (hv : ∀ (z : Fin 1) (a : Fin 64) (b : Fin 1024), v (ix3 z a b) = V a b)

include hg in
/-- Gate and up: the gradient is stored. -/
theorem uo0 (z : Fin 1) (a : Fin 64) (b : Fin 1024) : k0_pay7 g (ix3 z a b) = G a b := by
  pointwise [k0_pay7]
  simp only [hg]

include hg hx in
theorem um (a : Fin 64) (b : Fin 1024) : k0_pay5 g (k0_pay4 x) (ix2 a b) = mE (G a b) (X a b) := by
  pointwise [k0_pay5, k0_pay4]
  simp only [hg, hx]
  rfl

include hg hv in
theorem uv (a : Fin 64) (b : Fin 1024) : k0_pay6 g v (ix2 a b) = vE (G a b) (V a b) := by
  pointwise [k0_pay6]
  simp only [hg, hv]
  rfl

include hg hx in
/-- Gate and up: the new first moment. -/
theorem uo2 (z : Fin 1) (a : Fin 64) (b : Fin 1024) : k0_pay8 g (k0_pay4 x) (ix3 z a b) = mE (G a b) (X a b) := by
  pointwise [k0_pay8]
  exact um g x G X hg hx a b

include hg hv in
/-- Gate and up: the new second moment. -/
theorem uo3 (z : Fin 1) (a : Fin 64) (b : Fin 1024) : k0_pay9 g v (ix3 z a b) = vE (G a b) (V a b) := by
  pointwise [k0_pay9]
  exact uv g v G V hg hv a b

include hg hx hw hv in
/-- Gate and up: the step. -/
theorem uo1 (z : Fin 1) (a : Fin 64) (b : Fin 1024) :
    k0_pay1 (k0_pay10 g (k0_pay4 x) v) (k0_pay11 w) (ix3 z a b) = dE (G a b) (W a b) (X a b) (V a b) := by
  pointwise [k0_pay1, k0_pay10, k0_pay11]
  simp only [um g x G X hg hx, uv g v G V hg hv, hw]
  rfl

end ublock

/-- Device 0's part of a loaded block. -/
theorem uld0 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![0, 0, 0] ![1, 64, 1024] inb_S8x64x1024_S1x64x1024_0_0_0) (ix3 z a b) = P 0 a b := by
  refine Eq.trans ?_ (e (0 : Fin 8) a b)
  clear e
  pointwise
  try blk_ext

/-- Device 1's part of a loaded block. -/
theorem uld1 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![1, 0, 0] ![1, 64, 1024] inb_S8x64x1024_S1x64x1024_1_0_0) (ix3 z a b) = P 1 a b := by
  refine Eq.trans ?_ (e (1 : Fin 8) a b)
  clear e
  pointwise
  try blk_ext

/-- Device 2's part of a loaded block. -/
theorem uld2 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![2, 0, 0] ![1, 64, 1024] inb_S8x64x1024_S1x64x1024_2_0_0) (ix3 z a b) = P 2 a b := by
  refine Eq.trans ?_ (e (2 : Fin 8) a b)
  clear e
  pointwise
  try blk_ext

/-- Device 3's part of a loaded block. -/
theorem uld3 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![3, 0, 0] ![1, 64, 1024] inb_S8x64x1024_S1x64x1024_3_0_0) (ix3 z a b) = P 3 a b := by
  refine Eq.trans ?_ (e (3 : Fin 8) a b)
  clear e
  pointwise
  try blk_ext

/-- Device 4's part of a loaded block. -/
theorem uld4 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![4, 0, 0] ![1, 64, 1024] inb_S8x64x1024_S1x64x1024_4_0_0) (ix3 z a b) = P 4 a b := by
  refine Eq.trans ?_ (e (4 : Fin 8) a b)
  clear e
  pointwise
  try blk_ext

/-- Device 5's part of a loaded block. -/
theorem uld5 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![5, 0, 0] ![1, 64, 1024] inb_S8x64x1024_S1x64x1024_5_0_0) (ix3 z a b) = P 5 a b := by
  refine Eq.trans ?_ (e (5 : Fin 8) a b)
  clear e
  pointwise
  try blk_ext

/-- Device 6's part of a loaded block. -/
theorem uld6 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![6, 0, 0] ![1, 64, 1024] inb_S8x64x1024_S1x64x1024_6_0_0) (ix3 z a b) = P 6 a b := by
  refine Eq.trans ?_ (e (6 : Fin 8) a b)
  clear e
  pointwise
  try blk_ext

/-- Device 7's part of a loaded block. -/
theorem uld7 (u : Vec Ideal S8x64x1024 .bf16) (P : ℕ → ℕ → ℕ → EReal) (e : ∀ (k : Fin 8) (a : Fin 64) (b : Fin 1024), u (ix3 k a b) = P k a b)
    (z : Fin 1) (a : Fin 64) (b : Fin 1024) :
    View.ld u (Rect.unit (s := S8x64x1024) ![7, 0, 0] ![1, 64, 1024] inb_S8x64x1024_S1x64x1024_7_0_0) (ix3 z a b) = P 7 a b := by
  refine Eq.trans ?_ (e (7 : Fin 8) a b)
  clear e
  pointwise
  try blk_ext

section ufinal
variable (m : (ℓ : Loc nD τ sig) → Buf (Elt Ideal) ℓ) (c : Dev nD) (P : ℕ → ℕ → ℕ → EReal) (W X V : ℕ → ℕ → EReal)
variable (hP : ∀ (k : Fin 8) (a : Fin 704) (b : Fin 1024), m ((c : Thread nD τ).loc main_arg0) (ix3 k a b) = P k a b)
variable (hW : ∀ (a : Fin 704) (b : Fin 1024), m ((c : Thread nD τ).loc main_arg1) (ix3 0 a b) = W a b)
variable (hX : ∀ (a : Fin 704) (b : Fin 1024), m ((c : Thread nD τ).loc main_arg2) (ix3 0 a b) = X a b)
variable (hV : ∀ (a : Fin 704) (b : Fin 1024), m ((c : Thread nD τ).loc main_arg3) (ix3 0 a b) = V a b)

include hP in
theorem ublk0 (t : Fin cfg0.N) (k : Fin 8) (a : Fin 64) (b : Fin 1024) : iblk m c 0 t (ix3 k a b) = P k (64 * t + a) b := by
  have ht := t_lt t
  refine Eq.trans ?_ (hP k ⟨64 * t + a, by omega⟩ b)
  blk_ext [iblk, Gen.V, idx t]

include hW in
theorem ublk1 (t : Fin cfg0.N) (z : Fin 1) (a : Fin 64) (b : Fin 1024) : iblk m c 1 t (ix3 z a b) = W (64 * t + a) b := by
  have ht := t_lt t
  have hz : z = 0 := Subsingleton.elim z 0
  subst hz
  refine Eq.trans ?_ (hW ⟨64 * t + a, by omega⟩ b)
  blk_ext [iblk, Gen.V, idx t]

include hX in
theorem ublk2 (t : Fin cfg0.N) (z : Fin 1) (a : Fin 64) (b : Fin 1024) : iblk m c 2 t (ix3 z a b) = X (64 * t + a) b := by
  have ht := t_lt t
  have hz : z = 0 := Subsingleton.elim z 0
  subst hz
  refine Eq.trans ?_ (hX ⟨64 * t + a, by omega⟩ b)
  blk_ext [iblk, Gen.V, idx t]

include hV in
theorem ublk3 (t : Fin cfg0.N) (z : Fin 1) (a : Fin 64) (b : Fin 1024) : iblk m c 3 t (ix3 z a b) = V (64 * t + a) b := by
  have ht := t_lt t
  have hz : z = 0 := Subsingleton.elim z 0
  subst hz
  refine Eq.trans ?_ (hV ⟨64 * t + a, by omega⟩ b)
  blk_ext [iblk, Gen.V, idx t]

set_option maxHeartbeats 800000 in
include hP in
/-- Gate and up: the array with the gradient. -/
theorem final8 : (dats m 0 c).arrAt 8 cfg0.N = fun i : S4x704x1024.Idx => if (i 0 : ℕ) = 0 then gE P (i 1 : ℕ) (i 2 : ℕ) else m ((c : Thread nD τ).loc main_arg8) i := by
  refine (dats m 0 c).arrAt_eq_of_coversWhere_of_agree 8 _ (fun β => β (0 : Fin _) = 0) (by decide +kernel) (fun t hf y => ?_) (fun j hj => ?_)
  · blk_simp
    rw [after0_8]; unfold outsAt0; frame_out
    have ht := t_lt t
    idx_vars y
    refine (uo0 _ (fun a b => gE P (64 * t + a) b) (ug _ _ _ _ _ _ _ _ (fun k a b => P k (64 * t + a) b) (uld0 _ (fun k a b => P k (64 * t + a) b) (ublk0 m c P hP t)) (uld1 _ (fun k a b => P k (64 * t + a) b) (ublk0 m c P hP t)) (uld2 _ (fun k a b => P k (64 * t + a) b) (ublk0 m c P hP t)) (uld3 _ (fun k a b => P k (64 * t + a) b) (ublk0 m c P hP t)) (uld4 _ (fun k a b => P k (64 * t + a) b) (ublk0 m c P hP t)) (uld5 _ (fun k a b => P k (64 * t + a) b) (ublk0 m c P hP t)) (uld6 _ (fun k a b => P k (64 * t + a) b) (ublk0 m c P hP t)) (uld7 _ (fun k a b => P k (64 * t + a) b) (ublk0 m c P hP t))) y0 y1 y2).trans ?_
    rw [(idx t).2.2.2.2.2.2.2.2.1]
    have e1 : (t : ℕ) * 64 + (y1 : ℕ) = 64 * t + y1 := by rw [Nat.mul_comm]
    have e2 : 0 * 1024 + (y2 : ℕ) = y2 := by rw [Nat.zero_mul, Nat.zero_add]
    show _ = if (0 : ℕ) = 0 then gE P ((t : ℕ) * 64 + (y1 : ℕ)) (0 * 1024 + (y2 : ℕ)) else _
    rw [if_pos rfl, e1, e2]
  · blk_simp [Pipeline.Window.cell_apply] at hj ⊢
    refine Eq.trans ?_ (if_neg (show ¬ (j 0 : ℕ) = 0 by omega)).symm
    show Gen.V m c main_v0_0 j = _
    unfold Gen.V
    after_results; try rfl

set_option maxHeartbeats 800000 in
include hP hW hX hV in
/-- Gate and up: the array with the step. -/
theorem final9 : (dats m 0 c).arrAt 9 cfg0.N = fun i : S4x704x1024.Idx => if (i 0 : ℕ) = 0 then dE (gE P (i 1 : ℕ) (i 2 : ℕ)) (W (i 1 : ℕ) (i 2 : ℕ)) (X (i 1 : ℕ) (i 2 : ℕ)) (V (i 1 : ℕ) (i 2 : ℕ)) else m ((c : Thread nD τ).loc main_arg9) i := by
  refine (dats m 0 c).arrAt_eq_of_coversWhere_of_agree 9 _ (fun β => β (0 : Fin _) = 0) (by decide +kernel) (fun t hf y => ?_) (fun j hj => ?_)
  · blk_simp
    rw [after0_9]; unfold outsAt0; frame_out
    have ht := t_lt t
    idx_vars y
    refine (uo1 _ _ _ _ (fun a b => gE P (64 * t + a) b) (fun a b => X (64 * t + a) b) (fun a b => W (64 * t + a) b) (fun a b => V (64 * t + a) b) (ug _ _ _ _ _ _ _ _ (fun k a b => P k (64 * t + a) b) (uld0 _ (fun k a b => P k (64 * t + a) b) (ublk0 m c P hP t)) (uld1 _ (fun k a b => P k (64 * t + a) b) (ublk0 m c P hP t)) (uld2 _ (fun k a b => P k (64 * t + a) b) (ublk0 m c P hP t)) (uld3 _ (fun k a b => P k (64 * t + a) b) (ublk0 m c P hP t)) (uld4 _ (fun k a b => P k (64 * t + a) b) (ublk0 m c P hP t)) (uld5 _ (fun k a b => P k (64 * t + a) b) (ublk0 m c P hP t)) (uld6 _ (fun k a b => P k (64 * t + a) b) (ublk0 m c P hP t)) (uld7 _ (fun k a b => P k (64 * t + a) b) (ublk0 m c P hP t))) (ublk2 m c X hX t) (ublk1 m c W hW t) (ublk3 m c V hV t) y0 y1 y2).trans ?_
    rw [(idx t).2.2.2.2.2.2.2.2.2.1]
    have e1 : (t : ℕ) * 64 + (y1 : ℕ) = 64 * t + y1 := by rw [Nat.mul_comm]
    have e2 : 0 * 1024 + (y2 : ℕ) = y2 := by rw [Nat.zero_mul, Nat.zero_add]
    show _ = if (0 : ℕ) = 0 then dE (gE P ((t : ℕ) * 64 + (y1 : ℕ)) (0 * 1024 + (y2 : ℕ))) (W ((t : ℕ) * 64 + (y1 : ℕ)) (0 * 1024 + (y2 : ℕ))) (X ((t : ℕ) * 64 + (y1 : ℕ)) (0 * 1024 + (y2 : ℕ))) (V ((t : ℕ) * 64 + (y1 : ℕ)) (0 * 1024 + (y2 : ℕ))) else _
    rw [if_pos rfl, e1, e2]
  · blk_simp [Pipeline.Window.cell_apply] at hj ⊢
    refine Eq.trans ?_ (if_neg (show ¬ (j 0 : ℕ) = 0 by omega)).symm
    show Gen.V m c main_v0_1 j = _
    unfold Gen.V
    after_results; try rfl

set_option maxHeartbeats 800000 in
include hP hX in
/-- Gate and up: the array with the new first moment. -/
theorem final10 : (dats m 0 c).arrAt 10 cfg0.N = fun i : S4x704x1024.Idx => if (i 0 : ℕ) = 0 then mE (gE P (i 1 : ℕ) (i 2 : ℕ)) (X (i 1 : ℕ) (i 2 : ℕ)) else m ((c : Thread nD τ).loc main_arg10) i := by
  refine (dats m 0 c).arrAt_eq_of_coversWhere_of_agree 10 _ (fun β => β (0 : Fin _) = 0) (by decide +kernel) (fun t hf y => ?_) (fun j hj => ?_)
  · blk_simp
    rw [after0_10]; unfold outsAt0; frame_out
    have ht := t_lt t
    idx_vars y
    refine (uo2 _ _ (fun a b => gE P (64 * t + a) b) (fun a b => X (64 * t + a) b) (ug _ _ _ _ _ _ _ _ (fun k a b => P k (64 * t + a) b) (uld0 _ (fun k a b => P k (64 * t + a) b) (ublk0 m c P hP t)) (uld1 _ (fun k a b => P k (64 * t + a) b) (ublk0 m c P hP t)) (uld2 _ (fun k a b => P k (64 * t + a) b) (ublk0 m c P hP t)) (uld3 _ (fun k a b => P k (64 * t + a) b) (ublk0 m c P hP t)) (uld4 _ (fun k a b => P k (64 * t + a) b) (ublk0 m c P hP t)) (uld5 _ (fun k a b => P k (64 * t + a) b) (ublk0 m c P hP t)) (uld6 _ (fun k a b => P k (64 * t + a) b) (ublk0 m c P hP t)) (uld7 _ (fun k a b => P k (64 * t + a) b) (ublk0 m c P hP t))) (ublk2 m c X hX t) y0 y1 y2).trans ?_
    rw [(idx t).2.2.2.2.2.2.2.2.2.2.1]
    have e1 : (t : ℕ) * 64 + (y1 : ℕ) = 64 * t + y1 := by rw [Nat.mul_comm]
    have e2 : 0 * 1024 + (y2 : ℕ) = y2 := by rw [Nat.zero_mul, Nat.zero_add]
    show _ = if (0 : ℕ) = 0 then mE (gE P ((t : ℕ) * 64 + (y1 : ℕ)) (0 * 1024 + (y2 : ℕ))) (X ((t : ℕ) * 64 + (y1 : ℕ)) (0 * 1024 + (y2 : ℕ))) else _
    rw [if_pos rfl, e1, e2]
  · blk_simp [Pipeline.Window.cell_apply] at hj ⊢
    refine Eq.trans ?_ (if_neg (show ¬ (j 0 : ℕ) = 0 by omega)).symm
    show Gen.V m c main_v0_2 j = _
    unfold Gen.V
    after_results; try rfl

set_option maxHeartbeats 800000 in
include hP hV in
/-- Gate and up: the array with the new second moment. -/
theorem final11 : (dats m 0 c).arrAt 11 cfg0.N = fun i : S4x704x1024.Idx => if (i 0 : ℕ) = 0 then vE (gE P (i 1 : ℕ) (i 2 : ℕ)) (V (i 1 : ℕ) (i 2 : ℕ)) else m ((c : Thread nD τ).loc main_arg11) i := by
  refine (dats m 0 c).arrAt_eq_of_coversWhere_of_agree 11 _ (fun β => β (0 : Fin _) = 0) (by decide +kernel) (fun t hf y => ?_) (fun j hj => ?_)
  · blk_simp
    rw [after0_11]; unfold outsAt0; frame_out
    have ht := t_lt t
    idx_vars y
    refine (uo3 _ _ (fun a b => gE P (64 * t + a) b) (fun a b => V (64 * t + a) b) (ug _ _ _ _ _ _ _ _ (fun k a b => P k (64 * t + a) b) (uld0 _ (fun k a b => P k (64 * t + a) b) (ublk0 m c P hP t)) (uld1 _ (fun k a b => P k (64 * t + a) b) (ublk0 m c P hP t)) (uld2 _ (fun k a b => P k (64 * t + a) b) (ublk0 m c P hP t)) (uld3 _ (fun k a b => P k (64 * t + a) b) (ublk0 m c P hP t)) (uld4 _ (fun k a b => P k (64 * t + a) b) (ublk0 m c P hP t)) (uld5 _ (fun k a b => P k (64 * t + a) b) (ublk0 m c P hP t)) (uld6 _ (fun k a b => P k (64 * t + a) b) (ublk0 m c P hP t)) (uld7 _ (fun k a b => P k (64 * t + a) b) (ublk0 m c P hP t))) (ublk3 m c V hV t) y0 y1 y2).trans ?_
    rw [(idx t).2.2.2.2.2.2.2.2.2.2.2.1]
    have e1 : (t : ℕ) * 64 + (y1 : ℕ) = 64 * t + y1 := by rw [Nat.mul_comm]
    have e2 : 0 * 1024 + (y2 : ℕ) = y2 := by rw [Nat.zero_mul, Nat.zero_add]
    show _ = if (0 : ℕ) = 0 then vE (gE P ((t : ℕ) * 64 + (y1 : ℕ)) (0 * 1024 + (y2 : ℕ))) (V ((t : ℕ) * 64 + (y1 : ℕ)) (0 * 1024 + (y2 : ℕ))) else _
    rw [if_pos rfl, e1, e2]
  · blk_simp [Pipeline.Window.cell_apply] at hj ⊢
    refine Eq.trans ?_ (if_neg (show ¬ (j 0 : ℕ) = 0 by omega)).symm
    show Gen.V m c main_v0_3 j = _
    unfold Gen.V
    after_results; try rfl

end ufinal

end kernel

end Cert.AdamwClaim
end
-- ==== Proof.AdamwDown.lean ====
/- The optimiser's call: what it leaves for the down weight. -/
module

public import proofs.«01_k».proof.Proof.AdamwGrid

@[expose] public section
set_option maxRecDepth 16384
noncomputable section
namespace Cert.AdamwClaim
open Idealize.ShloMosaic Idealize.ShloMosaic.TcCoe Idealize.SL.Sem
open Cert.Coe
open scoped BigOperators

section kernel
open Cert.Kernel22Ideal Cert.Kernel22Ideal.Gen
open Idealize.ShloMosaic.Pipeline (Dat)

section dblock
variable (y0 y1 y2 y3 y4 y5 y6 y7 : Vec Ideal S1x32x1024 .bf16) (P : ℕ → ℕ → ℕ → EReal)
variable (h0 : ∀ (z : Fin 1) (a : Fin 32) (b : Fin 1024), y0 (ix3 z a b) = P 0 a b) (h1 : ∀ (z : Fin 1) (a : Fin 32) (b : Fin 1024), y1 (ix3 z a b) = P 1 a b) (h2 : ∀ (z : Fin 1) (a : Fin 32) (b : Fin 1024), y2 (ix3 z a b) = P 2 a b) (h3 : ∀ (z : Fin 1) (a : Fin 32) (b : Fin 1024), y3 (ix3 z a b) = P 3 a b) (h4 : ∀ (z : Fin 1) (a : Fin 32) (b : Fin 1024), y4 (ix3 z a b) = P 4 a b) (h5 : ∀ (z : Fin 1) (a : Fin 32) (b : Fin 1024), y5 (ix3 z a b) = P 5 a b) (h6 : ∀ (z : Fin 1) (a : Fin 32) (b : Fin 1024), y6 (ix3 z a b) = P 6 a b) (h7 : ∀ (z : Fin 1) (a : Fin 32) (b : Fin 1024), y7 (ix3 z a b) = P 7 a b)

include h0 h1 h2 h3 h4 h5 h6 h7 in
/-- Down: the sum of the partial gradients. -/
theorem dg (a : Fin 32) (b : Fin 1024) : k0_pay12 y0 y1 y2 y3 y4 y5 y6 y7 (ix2 a b) = gE P a b := by
  pointwise [k0_pay12]
  simp only [h0, h1, h2, h3, h4, h5, h6, h7]
  rw [gE, Fin.sum_univ_eight]
  rfl

variable (g : FVec Ideal S32x1024 .f32) (x w v : Vec Ideal S1x32x1024 .f32) (G X W V : ℕ → ℕ → EReal)
variable (hg : ∀ (a : Fin 32) (b : Fin 1024), g (ix2 a b) = G a b) (hx : ∀ (z : Fin 1) (a : Fin 32) (b : Fin 1024), x (ix3 z a b) = X a b)
  (hw : ∀ (z : Fin 1) (a : Fin 32) (b : Fin 1024), w (ix3 z a b) = W a b) (hv : ∀ (z : Fin 1) (a : Fin 32) (b : Fin 1024), v (ix3 z a b) = V a b)

include hg in
/-- Down: the gradient is stored. -/
theorem do0 (z : Fin 1) (a : Fin 32) (b : Fin 1024) : k0_pay16 g (ix3 z a b) = G a b := by
  pointwise [k0_pay16]
  simp only [hg]

include hg hx in
theorem dm (a : Fin 32) (b : Fin 1024) : k0_pay14 g (k0_pay13 x) (ix2 a b) = mE (G a b) (X a b) := by
  pointwise [k0_pay14, k0_pay13]
  simp only [hg, hx]
  rfl

include hg hv in
theorem dv (a : Fin 32) (b : Fin 1024) : k0_pay15 g v (ix2 a b) = vE (G a b) (V a b) := by
  pointwise [k0_pay15]
  simp only [hg, hv]
  rfl

include hg hx in
/-- Down: the new first moment. -/
theorem do2 (z : Fin 1) (a : Fin 32) (b : Fin 1024) : k0_pay17 g (k0_pay13 x) (ix3 z a b) = mE (G a b) (X a b) := by
  pointwise [k0_pay17]
  exact dm g x G X hg hx a b

include hg hv in
/-- Down: the new second moment. -/
theorem do3 (z : Fin 1) (a : Fin 32) (b : Fin 1024) : k0_pay18 g v (ix3 z a b) = vE (G a b) (V a b) := by
  pointwise [k0_pay18]
  exact dv g v G V hg hv a b

include hg hx hw hv in
/-- Down: the step. -/
theorem do1 (z : Fin 1) (a : Fin 32) (b : Fin 1024) :
    k0_pay2 (k0_pay19 g (k0_pay13 x) v) (k0_pay20 w) (ix3 z a b) = dE (G a b) (W a b) (X a b) (V a b) := by
  pointwise [k0_pay2, k0_pay19, k0_pay20]
  simp only [dm g x G X hg hx, dv g v G V hg hv, hw]
  rfl

end dblock

/-- Device 0's part of a loaded block. -/
theorem dld0 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![0, 0, 0] ![1, 32, 1024] inb_S8x32x1024_S1x32x1024_0_0_0) (ix3 z a b) = P 0 a b := by
  refine Eq.trans ?_ (e (0 : Fin 8) a b)
  clear e
  pointwise
  try blk_ext

/-- Device 1's part of a loaded block. -/
theorem dld1 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![1, 0, 0] ![1, 32, 1024] inb_S8x32x1024_S1x32x1024_1_0_0) (ix3 z a b) = P 1 a b := by
  refine Eq.trans ?_ (e (1 : Fin 8) a b)
  clear e
  pointwise
  try blk_ext

/-- Device 2's part of a loaded block. -/
theorem dld2 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![2, 0, 0] ![1, 32, 1024] inb_S8x32x1024_S1x32x1024_2_0_0) (ix3 z a b) = P 2 a b := by
  refine Eq.trans ?_ (e (2 : Fin 8) a b)
  clear e
  pointwise
  try blk_ext

/-- Device 3's part of a loaded block. -/
theorem dld3 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![3, 0, 0] ![1, 32, 1024] inb_S8x32x1024_S1x32x1024_3_0_0) (ix3 z a b) = P 3 a b := by
  refine Eq.trans ?_ (e (3 : Fin 8) a b)
  clear e
  pointwise
  try blk_ext

/-- Device 4's part of a loaded block. -/
theorem dld4 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![4, 0, 0] ![1, 32, 1024] inb_S8x32x1024_S1x32x1024_4_0_0) (ix3 z a b) = P 4 a b := by
  refine Eq.trans ?_ (e (4 : Fin 8) a b)
  clear e
  pointwise
  try blk_ext

/-- Device 5's part of a loaded block. -/
theorem dld5 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![5, 0, 0] ![1, 32, 1024] inb_S8x32x1024_S1x32x1024_5_0_0) (ix3 z a b) = P 5 a b := by
  refine Eq.trans ?_ (e (5 : Fin 8) a b)
  clear e
  pointwise
  try blk_ext

/-- Device 6's part of a loaded block. -/
theorem dld6 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![6, 0, 0] ![1, 32, 1024] inb_S8x32x1024_S1x32x1024_6_0_0) (ix3 z a b) = P 6 a b := by
  refine Eq.trans ?_ (e (6 : Fin 8) a b)
  clear e
  pointwise
  try blk_ext

/-- Device 7's part of a loaded block. -/
theorem dld7 (u : Vec Ideal S8x32x1024 .bf16) (P : ℕ → ℕ → ℕ → EReal) (e : ∀ (k : Fin 8) (a : Fin 32) (b : Fin 1024), u (ix3 k a b) = P k a b)
    (z : Fin 1) (a : Fin 32) (b : Fin 1024) :
    View.ld u (Rect.unit (s := S8x32x1024) ![7, 0, 0] ![1, 32, 1024] inb_S8x32x1024_S1x32x1024_7_0_0) (ix3 z a b) = P 7 a b := by
  refine Eq.trans ?_ (e (7 : Fin 8) a b)
  clear e
  pointwise
  try blk_ext

section dfinal
variable (m : (ℓ : Loc nD τ sig) → Buf (Elt Ideal) ℓ) (c : Dev nD) (P : ℕ → ℕ → ℕ → EReal) (W X V : ℕ → ℕ → EReal)
variable (hP : ∀ (k : Fin 8) (a : Fin 352) (b : Fin 1024), m ((c : Thread nD τ).loc main_arg4) (ix3 k a b) = P k a b)
variable (hW : ∀ (a : Fin 352) (b : Fin 1024), m ((c : Thread nD τ).loc main_arg5) (ix3 0 a b) = W a b)
variable (hX : ∀ (a : Fin 352) (b : Fin 1024), m ((c : Thread nD τ).loc main_arg6) (ix3 0 a b) = X a b)
variable (hV : ∀ (a : Fin 352) (b : Fin 1024), m ((c : Thread nD τ).loc main_arg7) (ix3 0 a b) = V a b)

include hP in
theorem dblk0 (t : Fin cfg0.N) (k : Fin 8) (a : Fin 32) (b : Fin 1024) : iblk m c 4 t (ix3 k a b) = P k (32 * t + a) b := by
  have ht := t_lt t
  refine Eq.trans ?_ (hP k ⟨32 * t + a, by omega⟩ b)
  blk_ext [iblk, Gen.V, idx t]

include hW in
theorem dblk1 (t : Fin cfg0.N) (z : Fin 1) (a : Fin 32) (b : Fin 1024) : iblk m c 5 t (ix3 z a b) = W (32 * t + a) b := by
  have ht := t_lt t
  have hz : z = 0 := Subsingleton.elim z 0
  subst hz
  refine Eq.trans ?_ (hW ⟨32 * t + a, by omega⟩ b)
  blk_ext [iblk, Gen.V, idx t]

include hX in
theorem dblk2 (t : Fin cfg0.N) (z : Fin 1) (a : Fin 32) (b : Fin 1024) : iblk m c 6 t (ix3 z a b) = X (32 * t + a) b := by
  have ht := t_lt t
  have hz : z = 0 := Subsingleton.elim z 0
  subst hz
  refine Eq.trans ?_ (hX ⟨32 * t + a, by omega⟩ b)
  blk_ext [iblk, Gen.V, idx t]

include hV in
theorem dblk3 (t : Fin cfg0.N) (z : Fin 1) (a : Fin 32) (b : Fin 1024) : iblk m c 7 t (ix3 z a b) = V (32 * t + a) b := by
  have ht := t_lt t
  have hz : z = 0 := Subsingleton.elim z 0
  subst hz
  refine Eq.trans ?_ (hV ⟨32 * t + a, by omega⟩ b)
  blk_ext [iblk, Gen.V, idx t]

include hP in
/-- Down: the array with the gradient. -/
theorem final12 : (dats m 0 c).arrAt 12 cfg0.N = fun i : S4x352x1024.Idx => if (i 0 : ℕ) = 0 then gE P (i 1 : ℕ) (i 2 : ℕ) else m ((c : Thread nD τ).loc main_arg12) i := by
  refine (dats m 0 c).arrAt_eq_of_coversWhere_of_agree 12 _ (fun β => β (0 : Fin _) = 0) (by decide +kernel) (fun t hf y => ?_) (fun j hj => ?_)
  · blk_simp
    rw [after0_12]; unfold outsAt0; frame_out
    have ht := t_lt t
    idx_vars y
    refine (do0 _ (fun a b => gE P (32 * t + a) b) (dg _ _ _ _ _ _ _ _ (fun k a b => P k (32 * t + a) b) (dld0 _ (fun k a b => P k (32 * t + a) b) (dblk0 m c P hP t)) (dld1 _ (fun k a b => P k (32 * t + a) b) (dblk0 m c P hP t)) (dld2 _ (fun k a b => P k (32 * t + a) b) (dblk0 m c P hP t)) (dld3 _ (fun k a b => P k (32 * t + a) b) (dblk0 m c P hP t)) (dld4 _ (fun k a b => P k (32 * t + a) b) (dblk0 m c P hP t)) (dld5 _ (fun k a b => P k (32 * t + a) b) (dblk0 m c P hP t)) (dld6 _ (fun k a b => P k (32 * t + a) b) (dblk0 m c P hP t)) (dld7 _ (fun k a b => P k (32 * t + a) b) (dblk0 m c P hP t))) y0 y1 y2).trans ?_
    rw [(idx t).2.2.2.2.2.2.2.2.2.2.2.2.1]
    have e1 : (t : ℕ) * 32 + (y1 : ℕ) = 32 * t + y1 := by rw [Nat.mul_comm]
    have e2 : 0 * 1024 + (y2 : ℕ) = y2 := by rw [Nat.zero_mul, Nat.zero_add]
    show _ = if (0 : ℕ) = 0 then gE P ((t : ℕ) * 32 + (y1 : ℕ)) (0 * 1024 + (y2 : ℕ)) else _
    rw [if_pos rfl, e1, e2]
  · blk_simp [Pipeline.Window.cell_apply] at hj ⊢
    refine Eq.trans ?_ (if_neg (show ¬ (j 0 : ℕ) = 0 by omega)).symm
    show Gen.V m c main_v0_4 j = _
    unfold Gen.V
    after_results; try rfl

include hP hW hX hV in
/-- Down: the array with the step. -/
theorem final13 : (dats m 0 c).arrAt 13 cfg0.N = fun i : S4x352x1024.Idx => if (i 0 : ℕ) = 0 then dE (gE P (i 1 : ℕ) (i 2 : ℕ)) (W (i 1 : ℕ) (i 2 : ℕ)) (X (i 1 : ℕ) (i 2 : ℕ)) (V (i 1 : ℕ) (i 2 : ℕ)) else m ((c : Thread nD τ).loc main_arg13) i := by
  refine (dats m 0 c).arrAt_eq_of_coversWhere_of_agree 13 _ (fun β => β (0 : Fin _) = 0) (by decide +kernel) (fun t hf y => ?_) (fun j hj => ?_)
  · blk_simp
    rw [after0_13]; unfold outsAt0; frame_out
    have ht := t_lt t
    idx_vars y
    refine (do1 _ _ _ _ (fun a b => gE P (32 * t + a) b) (fun a b => X (32 * t + a) b) (fun a b => W (32 * t + a) b) (fun a b => V (32 * t + a) b) (dg _ _ _ _ _ _ _ _ (fun k a b => P k (32 * t + a) b) (dld0 _ (fun k a b => P k (32 * t + a) b) (dblk0 m c P hP t)) (dld1 _ (fun k a b => P k (32 * t + a) b) (dblk0 m c P hP t)) (dld2 _ (fun k a b => P k (32 * t + a) b) (dblk0 m c P hP t)) (dld3 _ (fun k a b => P k (32 * t + a) b) (dblk0 m c P hP t)) (dld4 _ (fun k a b => P k (32 * t + a) b) (dblk0 m c P hP t)) (dld5 _ (fun k a b => P k (32 * t + a) b) (dblk0 m c P hP t)) (dld6 _ (fun k a b => P k (32 * t + a) b) (dblk0 m c P hP t)) (dld7 _ (fun k a b => P k (32 * t + a) b) (dblk0 m c P hP t))) (dblk2 m c X hX t) (dblk1 m c W hW t) (dblk3 m c V hV t) y0 y1 y2).trans ?_
    rw [(idx t).2.2.2.2.2.2.2.2.2.2.2.2.2.1]
    have e1 : (t : ℕ) * 32 + (y1 : ℕ) = 32 * t + y1 := by rw [Nat.mul_comm]
    have e2 : 0 * 1024 + (y2 : ℕ) = y2 := by rw [Nat.zero_mul, Nat.zero_add]
    show _ = if (0 : ℕ) = 0 then dE (gE P ((t : ℕ) * 32 + (y1 : ℕ)) (0 * 1024 + (y2 : ℕ))) (W ((t : ℕ) * 32 + (y1 : ℕ)) (0 * 1024 + (y2 : ℕ))) (X ((t : ℕ) * 32 + (y1 : ℕ)) (0 * 1024 + (y2 : ℕ))) (V ((t : ℕ) * 32 + (y1 : ℕ)) (0 * 1024 + (y2 : ℕ))) else _
    rw [if_pos rfl, e1, e2]
  · blk_simp [Pipeline.Window.cell_apply] at hj ⊢
    refine Eq.trans ?_ (if_neg (show ¬ (j 0 : ℕ) = 0 by omega)).symm
    show Gen.V m c main_v0_5 j = _
    unfold Gen.V
    after_results; try rfl

include hP hX in
/-- Down: the array with the new first moment. -/
theorem final14 : (dats m 0 c).arrAt 14 cfg0.N = fun i : S4x352x1024.Idx => if (i 0 : ℕ) = 0 then mE (gE P (i 1 : ℕ) (i 2 : ℕ)) (X (i 1 : ℕ) (i 2 : ℕ)) else m ((c : Thread nD τ).loc main_arg14) i := by
  refine (dats m 0 c).arrAt_eq_of_coversWhere_of_agree 14 _ (fun β => β (0 : Fin _) = 0) (by decide +kernel) (fun t hf y => ?_) (fun j hj => ?_)
  · blk_simp
    rw [after0_14]; unfold outsAt0; frame_out
    have ht := t_lt t
    idx_vars y
    refine (do2 _ _ (fun a b => gE P (32 * t + a) b) (fun a b => X (32 * t + a) b) (dg _ _ _ _ _ _ _ _ (fun k a b => P k (32 * t + a) b) (dld0 _ (fun k a b => P k (32 * t + a) b) (dblk0 m c P hP t)) (dld1 _ (fun k a b => P k (32 * t + a) b) (dblk0 m c P hP t)) (dld2 _ (fun k a b => P k (32 * t + a) b) (dblk0 m c P hP t)) (dld3 _ (fun k a b => P k (32 * t + a) b) (dblk0 m c P hP t)) (dld4 _ (fun k a b => P k (32 * t + a) b) (dblk0 m c P hP t)) (dld5 _ (fun k a b => P k (32 * t + a) b) (dblk0 m c P hP t)) (dld6 _ (fun k a b => P k (32 * t + a) b) (dblk0 m c P hP t)) (dld7 _ (fun k a b => P k (32 * t + a) b) (dblk0 m c P hP t))) (dblk2 m c X hX t) y0 y1 y2).trans ?_
    rw [(idx t).2.2.2.2.2.2.2.2.2.2.2.2.2.2.1]
    have e1 : (t : ℕ) * 32 + (y1 : ℕ) = 32 * t + y1 := by rw [Nat.mul_comm]
    have e2 : 0 * 1024 + (y2 : ℕ) = y2 := by rw [Nat.zero_mul, Nat.zero_add]
    show _ = if (0 : ℕ) = 0 then mE (gE P ((t : ℕ) * 32 + (y1 : ℕ)) (0 * 1024 + (y2 : ℕ))) (X ((t : ℕ) * 32 + (y1 : ℕ)) (0 * 1024 + (y2 : ℕ))) else _
    rw [if_pos rfl, e1, e2]
  · blk_simp [Pipeline.Window.cell_apply] at hj ⊢
    refine Eq.trans ?_ (if_neg (show ¬ (j 0 : ℕ) = 0 by omega)).symm
    show Gen.V m c main_v0_6 j = _
    unfold Gen.V
    after_results; try rfl

include hP hV in
/-- Down: the array with the new second moment. -/
theorem final15 : (dats m 0 c).arrAt 15 cfg0.N = fun i : S4x352x1024.Idx => if (i 0 : ℕ) = 0 then vE (gE P (i 1 : ℕ) (i 2 : ℕ)) (V (i 1 : ℕ) (i 2 : ℕ)) else m ((c : Thread nD τ).loc main_arg15) i := by
  refine (dats m 0 c).arrAt_eq_of_coversWhere_of_agree 15 _ (fun β => β (0 : Fin _) = 0) (by decide +kernel) (fun t hf y => ?_) (fun j hj => ?_)
  · blk_simp
    rw [after0_15]; unfold outsAt0; frame_out
    have ht := t_lt t
    idx_vars y
    refine (do3 _ _ (fun a b => gE P (32 * t + a) b) (fun a b => V (32 * t + a) b) (dg _ _ _ _ _ _ _ _ (fun k a b => P k (32 * t + a) b) (dld0 _ (fun k a b => P k (32 * t + a) b) (dblk0 m c P hP t)) (dld1 _ (fun k a b => P k (32 * t + a) b) (dblk0 m c P hP t)) (dld2 _ (fun k a b => P k (32 * t + a) b) (dblk0 m c P hP t)) (dld3 _ (fun k a b => P k (32 * t + a) b) (dblk0 m c P hP t)) (dld4 _ (fun k a b => P k (32 * t + a) b) (dblk0 m c P hP t)) (dld5 _ (fun k a b => P k (32 * t + a) b) (dblk0 m c P hP t)) (dld6 _ (fun k a b => P k (32 * t + a) b) (dblk0 m c P hP t)) (dld7 _ (fun k a b => P k (32 * t + a) b) (dblk0 m c P hP t))) (dblk3 m c V hV t) y0 y1 y2).trans ?_
    rw [(idx t).2.2.2.2.2.2.2.2.2.2.2.2.2.2.2]
    have e1 : (t : ℕ) * 32 + (y1 : ℕ) = 32 * t + y1 := by rw [Nat.mul_comm]
    have e2 : 0 * 1024 + (y2 : ℕ) = y2 := by rw [Nat.zero_mul, Nat.zero_add]
    show _ = if (0 : ℕ) = 0 then vE (gE P ((t : ℕ) * 32 + (y1 : ℕ)) (0 * 1024 + (y2 : ℕ))) (V ((t : ℕ) * 32 + (y1 : ℕ)) (0 * 1024 + (y2 : ℕ))) else _
    rw [if_pos rfl, e1, e2]
  · blk_simp [Pipeline.Window.cell_apply] at hj ⊢
    refine Eq.trans ?_ (if_neg (show ¬ (j 0 : ℕ) = 0 by omega)).symm
    show Gen.V m c main_v0_7 j = _
    unfold Gen.V
    after_results; try rfl

end dfinal

end kernel

end Cert.AdamwClaim
end
-- ==== Proof.AdamwRef.lean ====
/- The reference of the optimiser's step, entry by entry. -/
module

public import proofs.«01_k».proof.Proof.AdamwSpec
public import proofs.«01_k».proof.Proof.Gen.Reference22Ideal.Run
public import proofs.«01_k».proof.Proof.Gen.Reference22Ideal.Read

@[expose] public section
set_option maxRecDepth 16384
noncomputable section
namespace Cert.AdamwClaim
open Idealize.ShloMosaic Idealize.ShloMosaic.TcCoe Idealize.SL.Sem
open Cert.Coe
open scoped BigOperators

section reference
open Cert.Reference22Ideal Cert.Reference22Ideal.Gen Cert.Reference22Ideal.Read

section uref
variable (x0 : Vec Ideal S8x704x1024 .bf16) (x1 x2 x3 x8 x9 x10 x11 : Vec Ideal S4x704x1024 .f32) (P : ℕ → ℕ → ℕ → EReal) (W X V : ℕ → ℕ → EReal)
variable (hP : ∀ (k : Fin 8) (a : Fin 704) (b : Fin 1024), x0 (ix3 k a b) = P k a b) (hW : ∀ (a : Fin 704) (b : Fin 1024), x1 (ix3 0 a b) = W a b)
  (hX : ∀ (a : Fin 704) (b : Fin 1024), x2 (ix3 0 a b) = X a b) (hV : ∀ (a : Fin 704) (b : Fin 1024), x3 (ix3 0 a b) = V a b)

include hP in
/-- Gate and up: the sum of the partial gradients. -/
theorem ur1 (a : Fin 704) (b : Fin 1024) : val_main_v1 x0 (ix2 a b) = gE P a b := by
  have e : ∀ (k : Fin 8) (a : Fin 704) (b : Fin 1024), val_main_v0 x0 (ix3 k a b) = P k a b := by
    intro k a b
    exact hP k a b
  unfold val_main_v1
  revert e
  generalize val_main_v0 x0 = y
  intro e
  pointwise [val_main_cst]
  simp only [e]
  rfl

include hW in
theorem ur3 (a : Fin 704) (b : Fin 1024) : val_main_v3 x1 (ix2 a b) = W a b := by
  refine Eq.trans ?_ (hW a b)
  pointwise [val_main_v3, val_main_v2]
  try blk_ext

include hX in
theorem ur5 (a : Fin 704) (b : Fin 1024) : val_main_v5 x2 (ix2 a b) = X a b := by
  refine Eq.trans ?_ (hX a b)
  pointwise [val_main_v5, val_main_v4]
  try blk_ext

include hV in
theorem ur7 (a : Fin 704) (b : Fin 1024) : val_main_v7 x3 (ix2 a b) = V a b := by
  refine Eq.trans ?_ (hV a b)
  pointwise [val_main_v7, val_main_v6]
  try blk_ext

include hP hX in
/-- Gate and up: the new first moment. -/
theorem ur12 (a : Fin 704) (b : Fin 1024) : val_main_v12 x0 x2 (ix2 a b) = mE (gE P a b) (X a b) := by
  have e1 := ur1 x0 P hP a b
  have e5 := ur5 x2 X hX a b
  unfold val_main_v12 val_main_v11 val_main_v9
  revert e1 e5
  generalize val_main_v1 x0 = y
  generalize val_main_v5 x2 = z
  intro e1 e5
  pointwise [val_main_v10, val_main_v8, val_main_cst_1, val_main_cst_2]
  rw [e1, e5]
  rfl

include hP hV in
/-- Gate and up: the new second moment. -/
theorem ur18 (a : Fin 704) (b : Fin 1024) : val_main_v18 x0 x3 (ix2 a b) = vE (gE P a b) (V a b) := by
  have e1 := ur1 x0 P hP a b
  have e7 := ur7 x3 V hV a b
  unfold val_main_v18 val_main_v17 val_main_v15 val_main_v14
  revert e1 e7
  generalize val_main_v1 x0 = y
  generalize val_main_v7 x3 = z
  intro e1 e7
  pointwise [val_main_v16, val_main_v13, val_main_cst_3, val_main_cst_4]
  rw [e1, e7]
  rfl

include hP hW hX hV in
/-- Gate and up: the step. -/
theorem ur31 (a : Fin 704) (b : Fin 1024) : val_main_v31 x0 x1 x2 x3 (ix2 a b) = dE (gE P a b) (W a b) (X a b) (V a b) := by
  have e3 := ur3 x1 W hW a b
  have e12 := ur12 x0 x2 P X hP hX a b
  have e18 := ur18 x0 x3 P V hP hV a b
  unfold val_main_v31 val_main_v29 val_main_v28 val_main_v26 val_main_v25 val_main_v23 val_main_v22 val_main_v20
  revert e3 e12 e18
  generalize val_main_v3 x1 = y
  generalize val_main_v12 x0 x2 = z
  generalize val_main_v18 x0 x3 = u
  intro e3 e12 e18
  pointwise [val_main_v30, val_main_v27, val_main_v24, val_main_v21, val_main_v19, val_main_cst_5, val_main_cst_6, val_main_cst_7, val_main_cst_8, val_main_cst_9]
  rw [e3, e12, e18]
  rfl

include hP in
/-- Gate and up: result 0, layer 0 in front of the other layers. -/
theorem ur34 (z : Fin 4) (a : Fin 704) (b : Fin 1024) : val_main_v34 x0 x8 (ix3 z a b) = if (z : ℕ) = 0 then gE P a b else x8 (ix3 z a b) := by
  have e := ur1 x0 P hP a b
  unfold val_main_v34 val_main_v32
  revert e
  generalize val_main_v1 x0 = y
  intro e
  pointwise [val_main_v33]
  by_cases h : (z : ℕ) = 0
  · rw [if_pos h, dif_pos (by omega)]
    exact e
  · rw [if_neg h, dif_neg (by omega)]
    try blk_ext
    try omega

include hP hW hX hV in
/-- Gate and up: result 1, layer 0 in front of the other layers. -/
theorem ur37 (z : Fin 4) (a : Fin 704) (b : Fin 1024) : val_main_v37 x0 x1 x2 x3 x9 (ix3 z a b) = if (z : ℕ) = 0 then dE (gE P a b) (W a b) (X a b) (V a b) else x9 (ix3 z a b) := by
  have e := ur31 x0 x1 x2 x3 P W X V hP hW hX hV a b
  unfold val_main_v37 val_main_v35
  revert e
  generalize val_main_v31 x0 x1 x2 x3 = y
  intro e
  pointwise [val_main_v36]
  by_cases h : (z : ℕ) = 0
  · rw [if_pos h, dif_pos (by omega)]
    exact e
  · rw [if_neg h, dif_neg (by omega)]
    try blk_ext
    try omega

include hP hX in
/-- Gate and up: result 2, layer 0 in front of the other layers. -/
theorem ur40 (z : Fin 4) (a : Fin 704) (b : Fin 1024) : val_main_v40 x0 x2 x10 (ix3 z a b) = if (z : ℕ) = 0 then mE (gE P a b) (X a b) else x10 (ix3 z a b) := by
  have e := ur12 x0 x2 P X hP hX a b
  unfold val_main_v40 val_main_v38
  revert e
  generalize val_main_v12 x0 x2 = y
  intro e
  pointwise [val_main_v39]
  by_cases h : (z : ℕ) = 0
  · rw [if_pos h, dif_pos (by omega)]
    exact e
  · rw [if_neg h, dif_neg (by omega)]
    try blk_ext
    try omega

include hP hV in
/-- Gate and up: result 3, layer 0 in front of the other layers. -/
theorem ur43 (z : Fin 4) (a : Fin 704) (b : Fin 1024) : val_main_v43 x0 x3 x11 (ix3 z a b) = if (z : ℕ) = 0 then vE (gE P a b) (V a b) else x11 (ix3 z a b) := by
  have e := ur18 x0 x3 P V hP hV a b
  unfold val_main_v43 val_main_v41
  revert e
  generalize val_main_v18 x0 x3 = y
  intro e
  pointwise [val_main_v42]
  by_cases h : (z : ℕ) = 0
  · rw [if_pos h, dif_pos (by omega)]
    exact e
  · rw [if_neg h, dif_neg (by omega)]
    try blk_ext
    try omega

end uref

section dref
variable (x4 : Vec Ideal S8x352x1024 .bf16) (x5 x6 x7 x12 x13 x14 x15 : Vec Ideal S4x352x1024 .f32) (P : ℕ → ℕ → ℕ → EReal) (W X V : ℕ → ℕ → EReal)
variable (hP : ∀ (k : Fin 8) (a : Fin 352) (b : Fin 1024), x4 (ix3 k a b) = P k a b) (hW : ∀ (a : Fin 352) (b : Fin 1024), x5 (ix3 0 a b) = W a b)
  (hX : ∀ (a : Fin 352) (b : Fin 1024), x6 (ix3 0 a b) = X a b) (hV : ∀ (a : Fin 352) (b : Fin 1024), x7 (ix3 0 a b) = V a b)

include hP in
/-- Down: the sum of the partial gradients. -/
theorem dr1 (a : Fin 352) (b : Fin 1024) : val_main_v45 x4 (ix2 a b) = gE P a b := by
  have e : ∀ (k : Fin 8) (a : Fin 352) (b : Fin 1024), val_main_v44 x4 (ix3 k a b) = P k a b := by
    intro k a b
    exact hP k a b
  unfold val_main_v45
  revert e
  generalize val_main_v44 x4 = y
  intro e
  pointwise [val_main_cst_9]
  simp only [e]
  rfl

include hW in
theorem dr3 (a : Fin 352) (b : Fin 1024) : val_main_v47 x5 (ix2 a b) = W a b := by
  refine Eq.trans ?_ (hW a b)
  pointwise [val_main_v47, val_main_v46]
  try blk_ext

include hX in
theorem dr5 (a : Fin 352) (b : Fin 1024) : val_main_v49 x6 (ix2 a b) = X a b := by
  refine Eq.trans ?_ (hX a b)
  pointwise [val_main_v49, val_main_v48]
  try blk_ext

include hV in
theorem dr7 (a : Fin 352) (b : Fin 1024) : val_main_v51 x7 (ix2 a b) = V a b := by
  refine Eq.trans ?_ (hV a b)
  pointwise [val_main_v51, val_main_v50]
  try blk_ext

include hP hX in
/-- Down: the new first moment. -/
theorem dr12 (a : Fin 352) (b : Fin 1024) : val_main_v56 x4 x6 (ix2 a b) = mE (gE P a b) (X a b) := by
  have e1 := dr1 x4 P hP a b
  have e5 := dr5 x6 X hX a b
  unfold val_main_v56 val_main_v55 val_main_v53
  revert e1 e5
  generalize val_main_v45 x4 = y
  generalize val_main_v49 x6 = z
  intro e1 e5
  pointwise [val_main_v54, val_main_v52, val_main_cst_10, val_main_cst_11]
  rw [e1, e5]
  rfl

include hP hV in
/-- Down: the new second moment. -/
theorem dr18 (a : Fin 352) (b : Fin 1024) : val_main_v62 x4 x7 (ix2 a b) = vE (gE P a b) (V a b) := by
  have e1 := dr1 x4 P hP a b
  have e7 := dr7 x7 V hV a b
  unfold val_main_v62 val_main_v61 val_main_v59 val_main_v58
  revert e1 e7
  generalize val_main_v45 x4 = y
  generalize val_main_v51 x7 = z
  intro e1 e7
  pointwise [val_main_v60, val_main_v57, val_main_cst_12, val_main_cst_13]
  rw [e1, e7]
  rfl

include hP hW hX hV in
/-- Down: the step. -/
theorem dr31 (a : Fin 352) (b : Fin 1024) : val_main_v75 x4 x5 x6 x7 (ix2 a b) = dE (gE P a b) (W a b) (X a b) (V a b) := by
  have e3 := dr3 x5 W hW a b
  have e12 := dr12 x4 x6 P X hP hX a b
  have e18 := dr18 x4 x7 P V hP hV a b
  unfold val_main_v75 val_main_v73 val_main_v72 val_main_v70 val_main_v69 val_main_v67 val_main_v66 val_main_v64
  revert e3 e12 e18
  generalize val_main_v47 x5 = y
  generalize val_main_v56 x4 x6 = z
  generalize val_main_v62 x4 x7 = u
  intro e3 e12 e18
  pointwise [val_main_v74, val_main_v71, val_main_v68, val_main_v65, val_main_v63, val_main_cst_14, val_main_cst_15, val_main_cst_16, val_main_cst_17, val_main_cst_18]
  rw [e3, e12, e18]
  rfl

include hP in
/-- Down: result 0, layer 0 in front of the other layers. -/
theorem dr34 (z : Fin 4) (a : Fin 352) (b : Fin 1024) : val_main_v78 x4 x12 (ix3 z a b) = if (z : ℕ) = 0 then gE P a b else x12 (ix3 z a b) := by
  have e := dr1 x4 P hP a b
  unfold val_main_v78 val_main_v76
  revert e
  generalize val_main_v45 x4 = y
  intro e
  pointwise [val_main_v77]
  by_cases h : (z : ℕ) = 0
  · rw [if_pos h, dif_pos (by omega)]
    exact e
  · rw [if_neg h, dif_neg (by omega)]
    try blk_ext
    try omega

include hP hW hX hV in
/-- Down: result 1, layer 0 in front of the other layers. -/
theorem dr37 (z : Fin 4) (a : Fin 352) (b : Fin 1024) : val_main_v81 x4 x5 x6 x7 x13 (ix3 z a b) = if (z : ℕ) = 0 then dE (gE P a b) (W a b) (X a b) (V a b) else x13 (ix3 z a b) := by
  have e := dr31 x4 x5 x6 x7 P W X V hP hW hX hV a b
  unfold val_main_v81 val_main_v79
  revert e
  generalize val_main_v75 x4 x5 x6 x7 = y
  intro e
  pointwise [val_main_v80]
  by_cases h : (z : ℕ) = 0
  · rw [if_pos h, dif_pos (by omega)]
    exact e
  · rw [if_neg h, dif_neg (by omega)]
    try blk_ext
    try omega

include hP hX in
/-- Down: result 2, layer 0 in front of the other layers. -/
theorem dr40 (z : Fin 4) (a : Fin 352) (b : Fin 1024) : val_main_v84 x4 x6 x14 (ix3 z a b) = if (z : ℕ) = 0 then mE (gE P a b) (X a b) else x14 (ix3 z a b) := by
  have e := dr12 x4 x6 P X hP hX a b
  unfold val_main_v84 val_main_v82
  revert e
  generalize val_main_v56 x4 x6 = y
  intro e
  pointwise [val_main_v83]
  by_cases h : (z : ℕ) = 0
  · rw [if_pos h, dif_pos (by omega)]
    exact e
  · rw [if_neg h, dif_neg (by omega)]
    try blk_ext
    try omega

include hP hV in
/-- Down: result 3, layer 0 in front of the other layers. -/
theorem dr43 (z : Fin 4) (a : Fin 352) (b : Fin 1024) : val_main_v87 x4 x7 x15 (ix3 z a b) = if (z : ℕ) = 0 then vE (gE P a b) (V a b) else x15 (ix3 z a b) := by
  have e := dr18 x4 x7 P V hP hV a b
  unfold val_main_v87 val_main_v85
  revert e
  generalize val_main_v62 x4 x7 = y
  intro e
  pointwise [val_main_v86]
  by_cases h : (z : ℕ) = 0
  · rw [if_pos h, dif_pos (by omega)]
    exact e
  · rw [if_neg h, dif_neg (by omega)]
    try blk_ext
    try omega

end dref

end reference

end Cert.AdamwClaim
end
-- ==== Proof.AdamwClaim.lean ====
/- The optimiser's step for the gate/up and down projections' weights in layer 0: the kernel's tiles are the reference's sum of the
   devices' partial gradients and its AdamW update; the other layers' results are left as they came in. -/
module

public import proofs.«01_k».proof.Proof.AdamwUp
public import proofs.«01_k».proof.Proof.AdamwDown
public import proofs.«01_k».proof.Proof.AdamwRef
public import proofs.«01_k».proof.Defs
public import Idealize.ShloMosaic.Lib.Claim

@[expose] public section
set_option maxRecDepth 16384
noncomputable section
namespace Cert.AdamwClaim
open Idealize.ShloMosaic Idealize.ShloMosaic.TcCoe Idealize.SL.Sem
open Cert.Coe
open scoped BigOperators

set_option maxHeartbeats 1600000 in
/-- The kernel's results are the reference's, for all arguments. -/
theorem algebraic : Cert.algebraic_Kernel22Ideal_Reference22Ideal := by
  pair_intro
  · run_from Cert.Kernel22Ideal.Gen.run_main m g
  · refine (θ_run _ _ _).mono (fun r h c => ?_) (Cert.Reference22Ideal.Value.run m' g')
    obtain ⟨uP, huP⟩ := cube_of (A := 8) (B := 704) (C := 1024) fun k a b => m ((c.tc : Thread Cert.Kernel22Ideal.nD Cert.Kernel22Ideal.τ).loc Cert.Kernel22Ideal.main_arg0) (ix3 k a b)
    obtain ⟨uW, huW⟩ := mat_of (R := 704) (C := 1024) fun a b => m ((c.tc : Thread Cert.Kernel22Ideal.nD Cert.Kernel22Ideal.τ).loc Cert.Kernel22Ideal.main_arg1) (ix3 0 a b)
    obtain ⟨uX, huX⟩ := mat_of (R := 704) (C := 1024) fun a b => m ((c.tc : Thread Cert.Kernel22Ideal.nD Cert.Kernel22Ideal.τ).loc Cert.Kernel22Ideal.main_arg2) (ix3 0 a b)
    obtain ⟨uV, huV⟩ := mat_of (R := 704) (C := 1024) fun a b => m ((c.tc : Thread Cert.Kernel22Ideal.nD Cert.Kernel22Ideal.τ).loc Cert.Kernel22Ideal.main_arg3) (ix3 0 a b)
    obtain ⟨dP, hdP⟩ := cube_of (A := 8) (B := 352) (C := 1024) fun k a b => m ((c.tc : Thread Cert.Kernel22Ideal.nD Cert.Kernel22Ideal.τ).loc Cert.Kernel22Ideal.main_arg4) (ix3 k a b)
    obtain ⟨dW, hdW⟩ := mat_of (R := 352) (C := 1024) fun a b => m ((c.tc : Thread Cert.Kernel22Ideal.nD Cert.Kernel22Ideal.τ).loc Cert.Kernel22Ideal.main_arg5) (ix3 0 a b)
    obtain ⟨dX, hdX⟩ := mat_of (R := 352) (C := 1024) fun a b => m ((c.tc : Thread Cert.Kernel22Ideal.nD Cert.Kernel22Ideal.τ).loc Cert.Kernel22Ideal.main_arg6) (ix3 0 a b)
    obtain ⟨dV, hdV⟩ := mat_of (R := 352) (C := 1024) fun a b => m ((c.tc : Thread Cert.Kernel22Ideal.nD Cert.Kernel22Ideal.τ).loc Cert.Kernel22Ideal.main_arg7) (ix3 0 a b)
    obtain ⟨a0, a1, a2, a3, a4, a5, a6, a7, a8, a9, a10, a11, a12, a13, a14, a15⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
    · refine (Reference22Ideal.Read.val_main_v34_eq _ _ ).trans ?_
      rw [a0, a8]
      refine Eq.trans ?_ (final8 m c uP huP).symm
      funext i
      idx_vars i
      exact ur34 _ _ uP huP i0 i1 i2
    · refine (Reference22Ideal.Read.val_main_v37_eq _ _ _ _ _ ).trans ?_
      rw [a0, a1, a2, a3, a9]
      refine Eq.trans ?_ (final9 m c uP uW uX uV huP huW huX huV).symm
      funext i
      idx_vars i
      exact ur37 _ _ _ _ _ uP uW uX uV huP huW huX huV i0 i1 i2
    · refine (Reference22Ideal.Read.val_main_v40_eq _ _ _ ).trans ?_
      rw [a0, a2, a10]
      refine Eq.trans ?_ (final10 m c uP uX huP huX).symm
      funext i
      idx_vars i
      exact ur40 _ _ _ uP uX huP huX i0 i1 i2
    · refine (Reference22Ideal.Read.val_main_v43_eq _ _ _ ).trans ?_
      rw [a0, a3, a11]
      refine Eq.trans ?_ (final11 m c uP uV huP huV).symm
      funext i
      idx_vars i
      exact ur43 _ _ _ uP uV huP huV i0 i1 i2
    · refine (Reference22Ideal.Read.val_main_v78_eq _ _ ).trans ?_
      rw [a4, a12]
      refine Eq.trans ?_ (final12 m c dP hdP).symm
      funext i
      idx_vars i
      exact dr34 _ _ dP hdP i0 i1 i2
    · refine (Reference22Ideal.Read.val_main_v81_eq _ _ _ _ _ ).trans ?_
      rw [a4, a5, a6, a7, a13]
      refine Eq.trans ?_ (final13 m c dP dW dX dV hdP hdW hdX hdV).symm
      funext i
      idx_vars i
      exact dr37 _ _ _ _ _ dP dW dX dV hdP hdW hdX hdV i0 i1 i2
    · refine (Reference22Ideal.Read.val_main_v84_eq _ _ _ ).trans ?_
      rw [a4, a6, a14]
      refine Eq.trans ?_ (final14 m c dP dX hdP hdX).symm
      funext i
      idx_vars i
      exact dr40 _ _ _ dP dX hdP hdX i0 i1 i2
    · refine (Reference22Ideal.Read.val_main_v87_eq _ _ _ ).trans ?_
      rw [a4, a7, a15]
      refine Eq.trans ?_ (final15 m c dP dV hdP hdV).symm
      funext i
      idx_vars i
      exact dr43 _ _ _ dP dV hdP hdV i0 i1 i2

end Cert.AdamwClaim
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_mem_finite
public import proofs.«01_k».proof.Proof.MemClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_down_finite
public import proofs.«01_k».proof.Proof.DownClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_gate_up_finite
public import proofs.«01_k».proof.Proof.GateUpClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.WdClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.WguClaim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.GuFrame
public import proofs.«01_k».proof.Proof.GuFrameIdeal
public import proofs.«01_k».proof.Proof.Gen.Reference6Ideal.Run
public import proofs.«01_k».proof.Proof.Gen.Reference6Ideal.Read
public import proofs.«01_k».proof.Proof.GateUpFwdClaim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.DownFwdClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.OutFwdClaim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.InFwdClaim
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Pre_out_finite
public import proofs.«01_k».proof.Proof.OutClaim
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_in_finite
public import proofs.«01_k».proof.Proof.InClaim
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.WmixClaim
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.LossClaim
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.WkvClaim
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_kv_finite
public import proofs.«01_k».proof.Proof.KvClaim
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.InRopeClaim
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.KvFwdClaim
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.MemkvClaim
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.WmkvClaim
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Pre_mem_fwd_finite
public import proofs.«01_k».proof.Proof.MemFwdClaim
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Pre_dmn_finite
public import proofs.«01_k».proof.Proof.DmnClaim
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.AdamwClaim
public import Idealize.ShloMosaic.Adequacy
public import Idealize.ShloMosaic.Init

@[expose] public section

noncomputable section

namespace Cert.Proof

open Idealize.ShloMosaic Idealize.SL.Sem

/-- The reference of the memory attention's gradient runs, leaves its arguments and ends quiescent. -/
theorem frame_reference : Cert.quiescent_ReferenceIdeal := fun m g _ =>
  (θ_run _ _ _).mono (fun r h => ⟨fun c => (h c).2.2, sem_eq_zero_of_no_sems (by decide) r.2⟩) (Cert.ReferenceIdeal.Value.run m g)

/-- The reference of the down projection's gradient runs, leaves its arguments and ends quiescent. -/
theorem frame_reference2 : Cert.quiescent_Reference2Ideal := fun m g _ =>
  (θ_run _ _ _).mono (fun r h => ⟨fun c => (h c).2.2.2, sem_eq_zero_of_no_sems (by decide) r.2⟩) (Cert.Reference2Ideal.Value.run m g)

/-- The reference of the gate/up projection's gradient runs, leaves its arguments and ends quiescent. -/
theorem frame_reference3 : Cert.quiescent_Reference3Ideal := fun m g _ =>
  (θ_run _ _ _).mono (fun r h => ⟨fun c => (h c).2.2, sem_eq_zero_of_no_sems (by decide) r.2⟩) (Cert.Reference3Ideal.Value.run m g)

/-- The reference of the down projection's weight gradient runs, leaves its arguments and ends quiescent. -/
theorem frame_reference4 : Cert.quiescent_Reference4Ideal := fun m g _ =>
  (θ_run _ _ _).mono (fun r h => ⟨fun c => (h c).2, sem_eq_zero_of_no_sems (by decide) r.2⟩) (Cert.Reference4Ideal.Value.run m g)

/-- The reference of the gate/up projection's weight gradient runs, leaves its arguments and ends quiescent. -/
theorem frame_reference5 : Cert.quiescent_Reference5Ideal := fun m g _ =>
  (θ_run _ _ _).mono (fun r h => ⟨fun c => (h c).2, sem_eq_zero_of_no_sems (by decide) r.2⟩) (Cert.Reference5Ideal.Value.run m g)

/-- The reference of the gate/up projection runs, leaves its arguments and ends quiescent. -/
theorem frame_reference6 : Cert.quiescent_Reference6Ideal := fun m g _ =>
  (θ_run _ _ _).mono (fun r h => ⟨fun c => (h c).2.2.2.2, sem_eq_zero_of_no_sems (by decide) r.2⟩) (Cert.Reference6Ideal.Value.run m g)

/-- The reference of the down projection runs, leaves its arguments and ends quiescent. -/
theorem frame_reference7 : Cert.quiescent_Reference7Ideal := fun m g _ =>
  (θ_run _ _ _).mono (fun r h => ⟨fun c => (h c).2.2, sem_eq_zero_of_no_sems (by decide) r.2⟩) (Cert.Reference7Ideal.Value.run m g)

/-- The reference of the mixer's output projection runs, leaves its arguments and ends quiescent. -/
theorem frame_reference8 : Cert.quiescent_Reference8Ideal := fun m g _ =>
  (θ_run _ _ _).mono (fun r h => ⟨fun c => (h c).2.2, sem_eq_zero_of_no_sems (by decide) r.2⟩) (Cert.Reference8Ideal.Value.run m g)

/-- The reference of the mixer's input projection runs, leaves its arguments and ends quiescent. -/
theorem frame_reference9 : Cert.quiescent_Reference9Ideal := fun m g _ =>
  (θ_run _ _ _).mono (fun r h => ⟨fun c => (h c).2.2, sem_eq_zero_of_no_sems (by decide) r.2⟩) (Cert.Reference9Ideal.Value.run m g)

/-- The reference of the mixer's output projection's gradient runs, leaves its arguments and ends quiescent. -/
theorem frame_reference10 : Cert.quiescent_Reference10Ideal := fun m g _ =>
  (θ_run _ _ _).mono (fun r h => ⟨fun c => (h c).2.2.2, sem_eq_zero_of_no_sems (by decide) r.2⟩) (Cert.Reference10Ideal.Value.run m g)

/-- The reference of the mixer's input projection's gradient runs, leaves its arguments and ends quiescent. -/
theorem frame_reference11 : Cert.quiescent_Reference11Ideal := fun m g _ =>
  (θ_run _ _ _).mono (fun r h => ⟨fun c => (h c).2.2, sem_eq_zero_of_no_sems (by decide) r.2⟩) (Cert.Reference11Ideal.Value.run m g)

/-- The reference of the mixer's weight gradients runs, leaves its arguments and ends quiescent. -/
theorem frame_reference12 : Cert.quiescent_Reference12Ideal := fun m g _ =>
  (θ_run _ _ _).mono (fun r h => ⟨fun c => (h c).2, sem_eq_zero_of_no_sems (by decide) r.2⟩) (Cert.Reference12Ideal.Value.run m g)

/-- The reference of the loss runs, leaves its arguments and ends quiescent. -/
theorem frame_reference13 : Cert.quiescent_Reference13Ideal := fun m g _ =>
  (θ_run _ _ _).mono (fun r h => ⟨fun c => (h c).2.2.2, sem_eq_zero_of_no_sems (by decide) r.2⟩) (Cert.Reference13Ideal.Value.run m g)

/-- The reference of the shared key/value projection's weight gradient runs, leaves its arguments and ends quiescent. -/
theorem frame_reference14 : Cert.quiescent_Reference14Ideal := fun m g _ =>
  (θ_run _ _ _).mono (fun r h => ⟨fun c => (h c).2, sem_eq_zero_of_no_sems (by decide) r.2⟩) (Cert.Reference14Ideal.Value.run m g)

/-- The reference of the shared key/value projection's gradient runs, leaves its arguments and ends quiescent. -/
theorem frame_reference15 : Cert.quiescent_Reference15Ideal := fun m g _ =>
  (θ_run _ _ _).mono (fun r h => ⟨fun c => (h c).2.2, sem_eq_zero_of_no_sems (by decide) r.2⟩) (Cert.Reference15Ideal.Value.run m g)

/-- The reference of the mixer's input projection with the rotated queries runs, leaves its arguments and ends quiescent. -/
theorem frame_reference16 : Cert.quiescent_Reference16Ideal := fun m g _ =>
  (θ_run _ _ _).mono (fun r h => ⟨fun c => (h c).2.2.2, sem_eq_zero_of_no_sems (by decide) r.2⟩) (Cert.Reference16Ideal.Value.run m g)

/-- The reference of the shared key/value projection runs, leaves its arguments and ends quiescent. -/
theorem frame_reference17 : Cert.quiescent_Reference17Ideal := fun m g _ =>
  (θ_run _ _ _).mono (fun r h => ⟨fun c => (h c).2.2.2, sem_eq_zero_of_no_sems (by decide) r.2⟩) (Cert.Reference17Ideal.Value.run m g)

/-- The reference of the memory's key/value projection runs, leaves its arguments and ends quiescent. -/
theorem frame_reference18 : Cert.quiescent_Reference18Ideal := fun m g _ =>
  (θ_run _ _ _).mono (fun r h => ⟨fun c => (h c).2.2, sem_eq_zero_of_no_sems (by decide) r.2⟩) (Cert.Reference18Ideal.Value.run m g)

/-- The reference of the memory's key/value projection's weight gradient runs, leaves its arguments and ends quiescent. -/
theorem frame_reference19 : Cert.quiescent_Reference19Ideal := fun m g _ =>
  (θ_run _ _ _).mono (fun r h => ⟨fun c => (h c).2, sem_eq_zero_of_no_sems (by decide) r.2⟩) (Cert.Reference19Ideal.Value.run m g)

/-- The reference of the memory attention runs, leaves its arguments and ends quiescent. -/
theorem frame_reference20 : Cert.quiescent_Reference20Ideal := fun m g _ =>
  (θ_run _ _ _).mono (fun r h => ⟨fun c => (h c).2, sem_eq_zero_of_no_sems (by decide) r.2⟩) (Cert.Reference20Ideal.Value.run m g)

/-- The reference of the memory norm's gradient runs, leaves its arguments and ends quiescent. -/
theorem frame_reference21 : Cert.quiescent_Reference21Ideal := fun m g _ =>
  (θ_run _ _ _).mono (fun r h => ⟨fun c => (h c).2.2, sem_eq_zero_of_no_sems (by decide) r.2⟩) (Cert.Reference21Ideal.Value.run m g)

/-- The reference of the optimiser's step runs, leaves its arguments and ends quiescent. -/
theorem frame_reference22 : Cert.quiescent_Reference22Ideal := fun m g _ =>
  (θ_run _ _ _).mono (fun r h => ⟨fun c => (h c).2.2.2.2.2.2.2.2, sem_eq_zero_of_no_sems (by decide) r.2⟩) (Cert.Reference22Ideal.Value.run m g)

/-- All claims of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Pre_mem_finite.Gen.facts, Cert.Pre_down_finite.Gen.facts, Cert.Pre_gate_up_finite.Gen.facts, Cert.Pre_out_finite.Gen.facts, Cert.Pre_in_finite.Gen.facts, Cert.Pre_kv_finite.Gen.facts, Cert.Pre_mem_fwd_finite.Gen.facts, Cert.Pre_dmn_finite.Gen.facts,
  fun m ρ _ => Cert.Kernel.Gen.frame m ρ,
  fun m ρ _ => Cert.KernelIdeal.Gen.frame m ρ,
  fun m ρ _ => Cert.KernelIdeal.Gen.frame m ρ,
  frame_reference,
  fun m g _ => frame_reference m g trivial,
  fun m ρ _ => Cert.Kernel2.Gen.frame m ρ,
  fun m ρ _ => Cert.Kernel2Ideal.Gen.frame m ρ,
  fun m ρ _ => Cert.Kernel2Ideal.Gen.frame m ρ,
  frame_reference2,
  fun m g _ => frame_reference2 m g trivial,
  fun m ρ _ => Cert.Kernel3.Gen.frame m ρ,
  fun m ρ _ => Cert.Kernel3Ideal.Gen.frame m ρ,
  fun m ρ _ => Cert.Kernel3Ideal.Gen.frame m ρ,
  frame_reference3,
  fun m g _ => frame_reference3 m g trivial,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.GuFrame.frame m ρ,
  fun m ρ _ => Cert.GuFrameIdeal.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  fun m ρ _ => Cert.Kernel10Ideal.Gen.frame m ρ,
  frame_reference10,
  fun m g _ => frame_reference10 m g trivial,
  fun m ρ _ => Cert.Kernel11.Gen.frame m ρ,
  fun m ρ _ => Cert.Kernel11Ideal.Gen.frame m ρ,
  fun m ρ _ => Cert.Kernel11Ideal.Gen.frame m ρ,
  frame_reference11,
  fun m g _ => frame_reference11 m g trivial,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  fun m ρ _ => Cert.Kernel15Ideal.Gen.frame m ρ,
  frame_reference15,
  fun m g _ => frame_reference15 m g trivial,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  fun m ρ _ => Cert.Kernel20Ideal.Gen.frame m ρ,
  frame_reference20,
  fun m g _ => frame_reference20 m g trivial,
  fun m ρ _ => Cert.Kernel21.Gen.frame m ρ,
  fun m ρ _ => Cert.Kernel21Ideal.Gen.frame m ρ,
  fun m ρ _ => Cert.Kernel21Ideal.Gen.frame m ρ,
  frame_reference21,
  fun m g _ => frame_reference21 m g trivial,
  fun m ρ _ => Cert.Kernel22.Gen.frame m ρ,
  fun m ρ _ => Cert.Kernel22Ideal.Gen.frame m ρ,
  frame_reference22,
  trivial,
  Cert.MemClaim.algebraic,
  trivial,
  Cert.DownClaim.algebraic,
  trivial,
  Cert.GateUpClaim.algebraic,
  trivial,
  Cert.WdClaim.algebraic,
  trivial,
  Cert.WguClaim.algebraic,
  trivial,
  Cert.GateUpFwdClaim.algebraic,
  trivial,
  Cert.DownFwdClaim.algebraic,
  trivial,
  Cert.OutFwdClaim.algebraic,
  trivial,
  Cert.InFwdClaim.algebraic,
  trivial,
  Cert.OutClaim.algebraic,
  trivial,
  Cert.InClaim.algebraic,
  trivial,
  Cert.WmixClaim.algebraic,
  trivial,
  Cert.LossClaim.algebraic,
  trivial,
  Cert.WkvClaim.algebraic,
  trivial,
  Cert.KvClaim.algebraic,
  trivial,
  Cert.InRopeClaim.algebraic,
  trivial,
  Cert.KvFwdClaim.algebraic,
  trivial,
  Cert.MemkvClaim.algebraic,
  trivial,
  Cert.WmkvClaim.algebraic,
  trivial,
  Cert.MemFwdClaim.algebraic,
  trivial,
  Cert.DmnClaim.algebraic,
  trivial,
  Cert.AdamwClaim.algebraic⟩

end Cert.Proof

end
